-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjCDx (m : (ℓ : Loc Cert.ProjCDx.nD Cert.ProjCDx.τ Cert.ProjCDx.sig) → Buf (Elt Bits) ℓ) : Prop :=
  True

def Pre_ProjCDxIdeal (m : (ℓ : Loc Cert.ProjCDxIdeal.nD Cert.ProjCDxIdeal.τ Cert.ProjCDxIdeal.sig) → Buf (Elt Ideal) ℓ) : Prop :=
  True

def Pre_ProjCDxRefIdeal (m : (ℓ : Loc Cert.ProjCDxRefIdeal.nD Cert.ProjCDxRefIdeal.τ Cert.ProjCDxRefIdeal.sig) → Buf (Elt Ideal) ℓ) : Prop :=
  True

def Pre_ProjCDw (m : (ℓ : Loc Cert.ProjCDw.nD Cert.ProjCDw.τ Cert.ProjCDw.sig) → Buf (Elt Bits) ℓ) : Prop :=
  True

def Pre_ProjCDwIdeal (m : (ℓ : Loc Cert.ProjCDwIdeal.nD Cert.ProjCDwIdeal.τ Cert.ProjCDwIdeal.sig) → Buf (Elt Ideal) ℓ) : Prop :=
  True

def Pre_ProjCDwRefIdeal (m : (ℓ : Loc Cert.ProjCDwRefIdeal.nD Cert.ProjCDwRefIdeal.τ Cert.ProjCDwRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_QUpFwd (m : (ℓ : Loc Cert.QUpFwd.nD Cert.QUpFwd.τ Cert.QUpFwd.sig) → Buf (Elt Bits) ℓ) : Prop :=
  True

def Pre_QUpFwdIdeal (m : (ℓ : Loc Cert.QUpFwdIdeal.nD Cert.QUpFwdIdeal.τ Cert.QUpFwdIdeal.sig) → Buf (Elt Ideal) ℓ) : Prop :=
  True

def Pre_QUpFwdRefIdeal (m : (ℓ : Loc Cert.QUpFwdRefIdeal.nD Cert.QUpFwdRefIdeal.τ Cert.QUpFwdRefIdeal.sig) → Buf (Elt Ideal) ℓ) : Prop :=
  True

def Pre_KvUpFwd (m : (ℓ : Loc Cert.KvUpFwd.nD Cert.KvUpFwd.τ Cert.KvUpFwd.sig) → Buf (Elt Bits) ℓ) : Prop :=
  True

def Pre_KvUpFwdIdeal (m : (ℓ : Loc Cert.KvUpFwdIdeal.nD Cert.KvUpFwdIdeal.τ Cert.KvUpFwdIdeal.sig) → Buf (Elt Ideal) ℓ) : Prop :=
  True

def Pre_KvUpFwdRefIdeal (m : (ℓ : Loc Cert.KvUpFwdRefIdeal.nD Cert.KvUpFwdRefIdeal.τ Cert.KvUpFwdRefIdeal.sig) → Buf (Elt Ideal) ℓ) : Prop :=
  True

def Pre_ProjAFwd (m : (ℓ : Loc Cert.ProjAFwd.nD Cert.ProjAFwd.τ Cert.ProjAFwd.sig) → Buf (Elt Bits) ℓ) : Prop :=
  True

def Pre_ProjAFwdIdeal (m : (ℓ : Loc Cert.ProjAFwdIdeal.nD Cert.ProjAFwdIdeal.τ Cert.ProjAFwdIdeal.sig) → Buf (Elt Ideal) ℓ) : Prop :=
  True

def Pre_ProjAFwdRefIdeal (m : (ℓ : Loc Cert.ProjAFwdRefIdeal.nD Cert.ProjAFwdRefIdeal.τ Cert.ProjAFwdRefIdeal.sig) → Buf (Elt Ideal) ℓ) : Prop :=
  True

def Pre_ProjCFwd (m : (ℓ : Loc Cert.ProjCFwd.nD Cert.ProjCFwd.τ Cert.ProjCFwd.sig) → Buf (Elt Bits) ℓ) : Prop :=
  True

def Pre_ProjCFwdIdeal (m : (ℓ : Loc Cert.ProjCFwdIdeal.nD Cert.ProjCFwdIdeal.τ Cert.ProjCFwdIdeal.sig) → Buf (Elt Ideal) ℓ) : Prop :=
  True

def Pre_ProjCFwdRefIdeal (m : (ℓ : Loc Cert.ProjCFwdRefIdeal.nD Cert.ProjCFwdRefIdeal.τ Cert.ProjCFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_heads [hPre_finite_heads : Cert.Pre_finite_heads.Facts] (m : (ℓ : Loc Cert.AttendIdeal.nD Cert.AttendIdeal.τ Cert.AttendIdeal.sig) → Buf (Elt Ideal) ℓ) : Prop :=
  ∀ c : Dev Cert.AttendIdeal.nD,
    (Cert.Pre_finite_heads.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite_heads [hPre_finite_heads : Cert.Pre_finite_heads.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite_heads.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MulB (m : (ℓ : Loc Cert.MulB.nD Cert.MulB.τ Cert.MulB.sig) → Buf (Elt Bits) ℓ) : Prop :=
  True

def Pre_MulBIdeal (m : (ℓ : Loc Cert.MulBIdeal.nD Cert.MulBIdeal.τ Cert.MulBIdeal.sig) → Buf (Elt Ideal) ℓ) : Prop :=
  True

def Pre_MulBRefIdeal (m : (ℓ : Loc Cert.MulBRefIdeal.nD Cert.MulBRefIdeal.τ Cert.MulBRefIdeal.sig) → Buf (Elt Ideal) ℓ) : Prop :=
  True

def Pre_MulC (m : (ℓ : Loc Cert.MulC.nD Cert.MulC.τ Cert.MulC.sig) → Buf (Elt Bits) ℓ) : Prop :=
  True

def Pre_MulCIdeal (m : (ℓ : Loc Cert.MulCIdeal.nD Cert.MulCIdeal.τ Cert.MulCIdeal.sig) → Buf (Elt Ideal) ℓ) : Prop :=
  True

def Pre_MulCRefIdeal (m : (ℓ : Loc Cert.MulCRefIdeal.nD Cert.MulCRefIdeal.τ Cert.MulCRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjCDx [hProjCDx : Cert.ProjCDx.Facts] : Prop :=
  ∀ (m : (ℓ : Loc Cert.ProjCDx.nD Cert.ProjCDx.τ Cert.ProjCDx.sig) → Buf (Elt Bits) ℓ) (g : Dev Cert.ProjCDx.nD → PrngReg), Pre_ProjCDx m →
    θ_run (Cert.ProjCDx.defs (F := Bits)) (onTc (τ := Cert.ProjCDx.τ) (Cert.ProjCDx.main (F := Bits))) ⟨m, fun _ => 0, g⟩ (fun r => (∀ c : Dev Cert.ProjCDx.nD,
      r.2.mem ((c.tc : Thread Cert.ProjCDx.nD Cert.ProjCDx.τ).loc Cert.ProjCDx.main_arg0) = m ((c.tc : Thread Cert.ProjCDx.nD Cert.ProjCDx.τ).loc Cert.ProjCDx.main_arg0)
      ∧ r.2.mem ((c.tc : Thread Cert.ProjCDx.nD Cert.ProjCDx.τ).loc Cert.ProjCDx.main_arg1) = m ((c.tc : Thread Cert.ProjCDx.nD Cert.ProjCDx.τ).loc Cert.ProjCDx.main_arg1))
      ∧ r.2.sem = fun _ => 0)

def quiescent_ProjCDxIdeal [hProjCDxIdeal : Cert.ProjCDxIdeal.Facts] : Prop :=
  ∀ (m : (ℓ : Loc Cert.ProjCDxIdeal.nD Cert.ProjCDxIdeal.τ Cert.ProjCDxIdeal.sig) → Buf (Elt Ideal) ℓ) (g : Dev Cert.ProjCDxIdeal.nD → PrngReg), Pre_ProjCDxIdeal m →
    θ_run (Cert.ProjCDxIdeal.defs (F := Ideal)) (onTc (τ := Cert.ProjCDxIdeal.τ) (Cert.ProjCDxIdeal.main (F := Ideal))) ⟨m, fun _ => 0, g⟩ (fun r => (∀ c : Dev Cert.ProjCDxIdeal.nD,
      r.2.mem ((c.tc : Thread Cert.ProjCDxIdeal.nD Cert.ProjCDxIdeal.τ).loc Cert.ProjCDxIdeal.main_arg0) = m ((c.tc : Thread Cert.ProjCDxIdeal.nD Cert.ProjCDxIdeal.τ).loc Cert.ProjCDxIdeal.main_arg0)
      ∧ r.2.mem ((c.tc : Thread Cert.ProjCDxIdeal.nD Cert.ProjCDxIdeal.τ).loc Cert.ProjCDxIdeal.main_arg1) = m ((c.tc : Thread Cert.ProjCDxIdeal.nD Cert.ProjCDxIdeal.τ).loc Cert.ProjCDxIdeal.main_arg1))
      ∧ r.2.sem = fun _ => 0)

def quiescent_ProjCDxRefIdeal [hProjCDxRefIdeal : Cert.ProjCDxRefIdeal.Facts] : Prop :=
  ∀ (m : (ℓ : Loc Cert.ProjCDxRefIdeal.nD Cert.ProjCDxRefIdeal.τ Cert.ProjCDxRefIdeal.sig) → Buf (Elt Ideal) ℓ) (g : Dev Cert.ProjCDxRefIdeal.nD → PrngReg), Pre_ProjCDxRefIdeal m →
    θ_run (Cert.ProjCDxRefIdeal.defs (F := Ideal)) (onTc (τ := Cert.ProjCDxRefIdeal.τ) (Cert.ProjCDxRefIdeal.main (F := Ideal))) ⟨m, fun _ => 0, g⟩ (fun r => (∀ c : Dev Cert.ProjCDxRefIdeal.nD,
      r.2.mem ((c.tc : Thread Cert.ProjCDxRefIdeal.nD Cert.ProjCDxRefIdeal.τ).loc Cert.ProjCDxRefIdeal.main_arg0) = m ((c.tc : Thread Cert.ProjCDxRefIdeal.nD Cert.ProjCDxRefIdeal.τ).loc Cert.ProjCDxRefIdeal.main_arg0)
      ∧ r.2.mem ((c.tc : Thread Cert.ProjCDxRefIdeal.nD Cert.ProjCDxRefIdeal.τ).loc Cert.ProjCDxRefIdeal.main_arg1) = m ((c.tc : Thread Cert.ProjCDxRefIdeal.nD Cert.ProjCDxRefIdeal.τ).loc Cert.ProjCDxRefIdeal.main_arg1))
      ∧ r.2.sem = fun _ => 0)

def quiescent_ProjCDw [hProjCDw : Cert.ProjCDw.Facts] : Prop :=
  ∀ (m : (ℓ : Loc Cert.ProjCDw.nD Cert.ProjCDw.τ Cert.ProjCDw.sig) → Buf (Elt Bits) ℓ) (g : Dev Cert.ProjCDw.nD → PrngReg), Pre_ProjCDw m →
    θ_run (Cert.ProjCDw.defs (F := Bits)) (onTc (τ := Cert.ProjCDw.τ) (Cert.ProjCDw.main (F := Bits))) ⟨m, fun _ => 0, g⟩ (fun r => (∀ c : Dev Cert.ProjCDw.nD,
      r.2.mem ((c.tc : Thread Cert.ProjCDw.nD Cert.ProjCDw.τ).loc Cert.ProjCDw.main_arg0) = m ((c.tc : Thread Cert.ProjCDw.nD Cert.ProjCDw.τ).loc Cert.ProjCDw.main_arg0)
      ∧ r.2.mem ((c.tc : Thread Cert.ProjCDw.nD Cert.ProjCDw.τ).loc Cert.ProjCDw.main_arg1) = m ((c.tc : Thread Cert.ProjCDw.nD Cert.ProjCDw.τ).loc Cert.ProjCDw.main_arg1))
      ∧ r.2.sem = fun _ => 0)

def quiescent_ProjCDwIdeal [hProjCDwIdeal : Cert.ProjCDwIdeal.Facts] : Prop :=
  ∀ (m : (ℓ : Loc Cert.ProjCDwIdeal.nD Cert.ProjCDwIdeal.τ Cert.ProjCDwIdeal.sig) → Buf (Elt Ideal) ℓ) (g : Dev Cert.ProjCDwIdeal.nD → PrngReg), Pre_ProjCDwIdeal m →
    θ_run (Cert.ProjCDwIdeal.defs (F := Ideal)) (onTc (τ := Cert.ProjCDwIdeal.τ) (Cert.ProjCDwIdeal.main (F := Ideal))) ⟨m, fun _ => 0, g⟩ (fun r => (∀ c : Dev Cert.ProjCDwIdeal.nD,
      r.2.mem ((c.tc : Thread Cert.ProjCDwIdeal.nD Cert.ProjCDwIdeal.τ).loc Cert.ProjCDwIdeal.main_arg0) = m ((c.tc : Thread Cert.ProjCDwIdeal.nD Cert.ProjCDwIdeal.τ).loc Cert.ProjCDwIdeal.main_arg0)
      ∧ r.2.mem ((c.tc : Thread Cert.ProjCDwIdeal.nD Cert.ProjCDwIdeal.τ).loc Cert.ProjCDwIdeal.main_arg1) = m ((c.tc : Thread Cert.ProjCDwIdeal.nD Cert.ProjCDwIdeal.τ).loc Cert.ProjCDwIdeal.main_arg1))
      ∧ r.2.sem = fun _ => 0)

def quiescent_ProjCDwRefIdeal [hProjCDwRefIdeal : Cert.ProjCDwRefIdeal.Facts] : Prop :=
  ∀ (m : (ℓ : Loc Cert.ProjCDwRefIdeal.nD Cert.ProjCDwRefIdeal.τ Cert.ProjCDwRefIdeal.sig) → Buf (Elt Ideal) ℓ) (g : Dev Cert.ProjCDwRefIdeal.nD → PrngReg), Pre_ProjCDwRefIdeal m →
    θ_run (Cert.ProjCDwRefIdeal.defs (F := Ideal)) (onTc (τ := Cert.ProjCDwRefIdeal.τ) (Cert.ProjCDwRefIdeal.main (F := Ideal))) ⟨m, fun _ => 0, g⟩ (fun r => (∀ c : Dev Cert.ProjCDwRefIdeal.nD,
      r.2.mem ((c.tc : Thread Cert.ProjCDwRefIdeal.nD Cert.ProjCDwRefIdeal.τ).loc Cert.ProjCDwRefIdeal.main_arg0) = m ((c.tc : Thread Cert.ProjCDwRefIdeal.nD Cert.ProjCDwRefIdeal.τ).loc Cert.ProjCDwRefIdeal.main_arg0)
      ∧ r.2.mem ((c.tc : Thread Cert.ProjCDwRefIdeal.nD Cert.ProjCDwRefIdeal.τ).loc Cert.ProjCDwRefIdeal.main_arg1) = m ((c.tc : Thread Cert.ProjCDwRefIdeal.nD Cert.ProjCDwRefIdeal.τ).loc Cert.ProjCDwRefIdeal.main_arg1))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_QUpFwd [hQUpFwd : Cert.QUpFwd.Facts] : Prop :=
  ∀ (m : (ℓ : Loc Cert.QUpFwd.nD Cert.QUpFwd.τ Cert.QUpFwd.sig) → Buf (Elt Bits) ℓ) (g : Dev Cert.QUpFwd.nD → PrngReg), Pre_QUpFwd m →
    θ_run (Cert.QUpFwd.defs (F := Bits)) (onTc (τ := Cert.QUpFwd.τ) (Cert.QUpFwd.main (F := Bits))) ⟨m, fun _ => 0, g⟩ (fun r => (∀ c : Dev Cert.QUpFwd.nD,
      r.2.mem ((c.tc : Thread Cert.QUpFwd.nD Cert.QUpFwd.τ).loc Cert.QUpFwd.main_arg0) = m ((c.tc : Thread Cert.QUpFwd.nD Cert.QUpFwd.τ).loc Cert.QUpFwd.main_arg0)
      ∧ r.2.mem ((c.tc : Thread Cert.QUpFwd.nD Cert.QUpFwd.τ).loc Cert.QUpFwd.main_arg1) = m ((c.tc : Thread Cert.QUpFwd.nD Cert.QUpFwd.τ).loc Cert.QUpFwd.main_arg1))
      ∧ r.2.sem = fun _ => 0)

def quiescent_QUpFwdIdeal [hQUpFwdIdeal : Cert.QUpFwdIdeal.Facts] : Prop :=
  ∀ (m : (ℓ : Loc Cert.QUpFwdIdeal.nD Cert.QUpFwdIdeal.τ Cert.QUpFwdIdeal.sig) → Buf (Elt Ideal) ℓ) (g : Dev Cert.QUpFwdIdeal.nD → PrngReg), Pre_QUpFwdIdeal m →
    θ_run (Cert.QUpFwdIdeal.defs (F := Ideal)) (onTc (τ := Cert.QUpFwdIdeal.τ) (Cert.QUpFwdIdeal.main (F := Ideal))) ⟨m, fun _ => 0, g⟩ (fun r => (∀ c : Dev Cert.QUpFwdIdeal.nD,
      r.2.mem ((c.tc : Thread Cert.QUpFwdIdeal.nD Cert.QUpFwdIdeal.τ).loc Cert.QUpFwdIdeal.main_arg0) = m ((c.tc : Thread Cert.QUpFwdIdeal.nD Cert.QUpFwdIdeal.τ).loc Cert.QUpFwdIdeal.main_arg0)
      ∧ r.2.mem ((c.tc : Thread Cert.QUpFwdIdeal.nD Cert.QUpFwdIdeal.τ).loc Cert.QUpFwdIdeal.main_arg1) = m ((c.tc : Thread Cert.QUpFwdIdeal.nD Cert.QUpFwdIdeal.τ).loc Cert.QUpFwdIdeal.main_arg1))
      ∧ r.2.sem = fun _ => 0)

def quiescent_QUpFwdRefIdeal [hQUpFwdRefIdeal : Cert.QUpFwdRefIdeal.Facts] : Prop :=
  ∀ (m : (ℓ : Loc Cert.QUpFwdRefIdeal.nD Cert.QUpFwdRefIdeal.τ Cert.QUpFwdRefIdeal.sig) → Buf (Elt Ideal) ℓ) (g : Dev Cert.QUpFwdRefIdeal.nD → PrngReg), Pre_QUpFwdRefIdeal m →
    θ_run (Cert.QUpFwdRefIdeal.defs (F := Ideal)) (onTc (τ := Cert.QUpFwdRefIdeal.τ) (Cert.QUpFwdRefIdeal.main (F := Ideal))) ⟨m, fun _ => 0, g⟩ (fun r => (∀ c : Dev Cert.QUpFwdRefIdeal.nD,
      r.2.mem ((c.tc : Thread Cert.QUpFwdRefIdeal.nD Cert.QUpFwdRefIdeal.τ).loc Cert.QUpFwdRefIdeal.main_arg0) = m ((c.tc : Thread Cert.QUpFwdRefIdeal.nD Cert.QUpFwdRefIdeal.τ).loc Cert.QUpFwdRefIdeal.main_arg0)
      ∧ r.2.mem ((c.tc : Thread Cert.QUpFwdRefIdeal.nD Cert.QUpFwdRefIdeal.τ).loc Cert.QUpFwdRefIdeal.main_arg1) = m ((c.tc : Thread Cert.QUpFwdRefIdeal.nD Cert.QUpFwdRefIdeal.τ).loc Cert.QUpFwdRefIdeal.main_arg1))
      ∧ r.2.sem = fun _ => 0)

def quiescent_KvUpFwd [hKvUpFwd : Cert.KvUpFwd.Facts] : Prop :=
  ∀ (m : (ℓ : Loc Cert.KvUpFwd.nD Cert.KvUpFwd.τ Cert.KvUpFwd.sig) → Buf (Elt Bits) ℓ) (g : Dev Cert.KvUpFwd.nD → PrngReg), Pre_KvUpFwd m →
    θ_run (Cert.KvUpFwd.defs (F := Bits)) (onTc (τ := Cert.KvUpFwd.τ) (Cert.KvUpFwd.main (F := Bits))) ⟨m, fun _ => 0, g⟩ (fun r => (∀ c : Dev Cert.KvUpFwd.nD,
      r.2.mem ((c.tc : Thread Cert.KvUpFwd.nD Cert.KvUpFwd.τ).loc Cert.KvUpFwd.main_arg0) = m ((c.tc : Thread Cert.KvUpFwd.nD Cert.KvUpFwd.τ).loc Cert.KvUpFwd.main_arg0)
      ∧ r.2.mem ((c.tc : Thread Cert.KvUpFwd.nD Cert.KvUpFwd.τ).loc Cert.KvUpFwd.main_arg1) = m ((c.tc : Thread Cert.KvUpFwd.nD Cert.KvUpFwd.τ).loc Cert.KvUpFwd.main_arg1))
      ∧ r.2.sem = fun _ => 0)

def quiescent_KvUpFwdIdeal [hKvUpFwdIdeal : Cert.KvUpFwdIdeal.Facts] : Prop :=
  ∀ (m : (ℓ : Loc Cert.KvUpFwdIdeal.nD Cert.KvUpFwdIdeal.τ Cert.KvUpFwdIdeal.sig) → Buf (Elt Ideal) ℓ) (g : Dev Cert.KvUpFwdIdeal.nD → PrngReg), Pre_KvUpFwdIdeal m →
    θ_run (Cert.KvUpFwdIdeal.defs (F := Ideal)) (onTc (τ := Cert.KvUpFwdIdeal.τ) (Cert.KvUpFwdIdeal.main (F := Ideal))) ⟨m, fun _ => 0, g⟩ (fun r => (∀ c : Dev Cert.KvUpFwdIdeal.nD,
      r.2.mem ((c.tc : Thread Cert.KvUpFwdIdeal.nD Cert.KvUpFwdIdeal.τ).loc Cert.KvUpFwdIdeal.main_arg0) = m ((c.tc : Thread Cert.KvUpFwdIdeal.nD Cert.KvUpFwdIdeal.τ).loc Cert.KvUpFwdIdeal.main_arg0)
      ∧ r.2.mem ((c.tc : Thread Cert.KvUpFwdIdeal.nD Cert.KvUpFwdIdeal.τ).loc Cert.KvUpFwdIdeal.main_arg1) = m ((c.tc : Thread Cert.KvUpFwdIdeal.nD Cert.KvUpFwdIdeal.τ).loc Cert.KvUpFwdIdeal.main_arg1))
      ∧ r.2.sem = fun _ => 0)

def quiescent_KvUpFwdRefIdeal [hKvUpFwdRefIdeal : Cert.KvUpFwdRefIdeal.Facts] : Prop :=
  ∀ (m : (ℓ : Loc Cert.KvUpFwdRefIdeal.nD Cert.KvUpFwdRefIdeal.τ Cert.KvUpFwdRefIdeal.sig) → Buf (Elt Ideal) ℓ) (g : Dev Cert.KvUpFwdRefIdeal.nD → PrngReg), Pre_KvUpFwdRefIdeal m →
    θ_run (Cert.KvUpFwdRefIdeal.defs (F := Ideal)) (onTc (τ := Cert.KvUpFwdRefIdeal.τ) (Cert.KvUpFwdRefIdeal.main (F := Ideal))) ⟨m, fun _ => 0, g⟩ (fun r => (∀ c : Dev Cert.KvUpFwdRefIdeal.nD,
      r.2.mem ((c.tc : Thread Cert.KvUpFwdRefIdeal.nD Cert.KvUpFwdRefIdeal.τ).loc Cert.KvUpFwdRefIdeal.main_arg0) = m ((c.tc : Thread Cert.KvUpFwdRefIdeal.nD Cert.KvUpFwdRefIdeal.τ).loc Cert.KvUpFwdRefIdeal.main_arg0)
      ∧ r.2.mem ((c.tc : Thread Cert.KvUpFwdRefIdeal.nD Cert.KvUpFwdRefIdeal.τ).loc Cert.KvUpFwdRefIdeal.main_arg1) = m ((c.tc : Thread Cert.KvUpFwdRefIdeal.nD Cert.KvUpFwdRefIdeal.τ).loc Cert.KvUpFwdRefIdeal.main_arg1))
      ∧ r.2.sem = fun _ => 0)

def quiescent_ProjAFwd [hProjAFwd : Cert.ProjAFwd.Facts] : Prop :=
  ∀ (m : (ℓ : Loc Cert.ProjAFwd.nD Cert.ProjAFwd.τ Cert.ProjAFwd.sig) → Buf (Elt Bits) ℓ) (g : Dev Cert.ProjAFwd.nD → PrngReg), Pre_ProjAFwd m →
    θ_run (Cert.ProjAFwd.defs (F := Bits)) (onTc (τ := Cert.ProjAFwd.τ) (Cert.ProjAFwd.main (F := Bits))) ⟨m, fun _ => 0, g⟩ (fun r => (∀ c : Dev Cert.ProjAFwd.nD,
      r.2.mem ((c.tc : Thread Cert.ProjAFwd.nD Cert.ProjAFwd.τ).loc Cert.ProjAFwd.main_arg0) = m ((c.tc : Thread Cert.ProjAFwd.nD Cert.ProjAFwd.τ).loc Cert.ProjAFwd.main_arg0)
      ∧ r.2.mem ((c.tc : Thread Cert.ProjAFwd.nD Cert.ProjAFwd.τ).loc Cert.ProjAFwd.main_arg1) = m ((c.tc : Thread Cert.ProjAFwd.nD Cert.ProjAFwd.τ).loc Cert.ProjAFwd.main_arg1))
      ∧ r.2.sem = fun _ => 0)

def quiescent_ProjAFwdIdeal [hProjAFwdIdeal : Cert.ProjAFwdIdeal.Facts] : Prop :=
  ∀ (m : (ℓ : Loc Cert.ProjAFwdIdeal.nD Cert.ProjAFwdIdeal.τ Cert.ProjAFwdIdeal.sig) → Buf (Elt Ideal) ℓ) (g : Dev Cert.ProjAFwdIdeal.nD → PrngReg), Pre_ProjAFwdIdeal m →
    θ_run (Cert.ProjAFwdIdeal.defs (F := Ideal)) (onTc (τ := Cert.ProjAFwdIdeal.τ) (Cert.ProjAFwdIdeal.main (F := Ideal))) ⟨m, fun _ => 0, g⟩ (fun r => (∀ c : Dev Cert.ProjAFwdIdeal.nD,
      r.2.mem ((c.tc : Thread Cert.ProjAFwdIdeal.nD Cert.ProjAFwdIdeal.τ).loc Cert.ProjAFwdIdeal.main_arg0) = m ((c.tc : Thread Cert.ProjAFwdIdeal.nD Cert.ProjAFwdIdeal.τ).loc Cert.ProjAFwdIdeal.main_arg0)
      ∧ r.2.mem ((c.tc : Thread Cert.ProjAFwdIdeal.nD Cert.ProjAFwdIdeal.τ).loc Cert.ProjAFwdIdeal.main_arg1) = m ((c.tc : Thread Cert.ProjAFwdIdeal.nD Cert.ProjAFwdIdeal.τ).loc Cert.ProjAFwdIdeal.main_arg1))
      ∧ r.2.sem = fun _ => 0)

def quiescent_ProjAFwdRefIdeal [hProjAFwdRefIdeal : Cert.ProjAFwdRefIdeal.Facts] : Prop :=
  ∀ (m : (ℓ : Loc Cert.ProjAFwdRefIdeal.nD Cert.ProjAFwdRefIdeal.τ Cert.ProjAFwdRefIdeal.sig) → Buf (Elt Ideal) ℓ) (g : Dev Cert.ProjAFwdRefIdeal.nD → PrngReg), Pre_ProjAFwdRefIdeal m →
    θ_run (Cert.ProjAFwdRefIdeal.defs (F := Ideal)) (onTc (τ := Cert.ProjAFwdRefIdeal.τ) (Cert.ProjAFwdRefIdeal.main (F := Ideal))) ⟨m, fun _ => 0, g⟩ (fun r => (∀ c : Dev Cert.ProjAFwdRefIdeal.nD,
      r.2.mem ((c.tc : Thread Cert.ProjAFwdRefIdeal.nD Cert.ProjAFwdRefIdeal.τ).loc Cert.ProjAFwdRefIdeal.main_arg0) = m ((c.tc : Thread Cert.ProjAFwdRefIdeal.nD Cert.ProjAFwdRefIdeal.τ).loc Cert.ProjAFwdRefIdeal.main_arg0)
      ∧ r.2.mem ((c.tc : Thread Cert.ProjAFwdRefIdeal.nD Cert.ProjAFwdRefIdeal.τ).loc Cert.ProjAFwdRefIdeal.main_arg1) = m ((c.tc : Thread Cert.ProjAFwdRefIdeal.nD Cert.ProjAFwdRefIdeal.τ).loc Cert.ProjAFwdRefIdeal.main_arg1))
      ∧ r.2.sem = fun _ => 0)

def quiescent_ProjCFwd [hProjCFwd : Cert.ProjCFwd.Facts] : Prop :=
  ∀ (m : (ℓ : Loc Cert.ProjCFwd.nD Cert.ProjCFwd.τ Cert.ProjCFwd.sig) → Buf (Elt Bits) ℓ) (g : Dev Cert.ProjCFwd.nD → PrngReg), Pre_ProjCFwd m →
    θ_run (Cert.ProjCFwd.defs (F := Bits)) (onTc (τ := Cert.ProjCFwd.τ) (Cert.ProjCFwd.main (F := Bits))) ⟨m, fun _ => 0, g⟩ (fun r => (∀ c : Dev Cert.ProjCFwd.nD,
      r.2.mem ((c.tc : Thread Cert.ProjCFwd.nD Cert.ProjCFwd.τ).loc Cert.ProjCFwd.main_arg0) = m ((c.tc : Thread Cert.ProjCFwd.nD Cert.ProjCFwd.τ).loc Cert.ProjCFwd.main_arg0)
      ∧ r.2.mem ((c.tc : Thread Cert.ProjCFwd.nD Cert.ProjCFwd.τ).loc Cert.ProjCFwd.main_arg1) = m ((c.tc : Thread Cert.ProjCFwd.nD Cert.ProjCFwd.τ).loc Cert.ProjCFwd.main_arg1))
      ∧ r.2.sem = fun _ => 0)

def quiescent_ProjCFwdIdeal [hProjCFwdIdeal : Cert.ProjCFwdIdeal.Facts] : Prop :=
  ∀ (m : (ℓ : Loc Cert.ProjCFwdIdeal.nD Cert.ProjCFwdIdeal.τ Cert.ProjCFwdIdeal.sig) → Buf (Elt Ideal) ℓ) (g : Dev Cert.ProjCFwdIdeal.nD → PrngReg), Pre_ProjCFwdIdeal m →
    θ_run (Cert.ProjCFwdIdeal.defs (F := Ideal)) (onTc (τ := Cert.ProjCFwdIdeal.τ) (Cert.ProjCFwdIdeal.main (F := Ideal))) ⟨m, fun _ => 0, g⟩ (fun r => (∀ c : Dev Cert.ProjCFwdIdeal.nD,
      r.2.mem ((c.tc : Thread Cert.ProjCFwdIdeal.nD Cert.ProjCFwdIdeal.τ).loc Cert.ProjCFwdIdeal.main_arg0) = m ((c.tc : Thread Cert.ProjCFwdIdeal.nD Cert.ProjCFwdIdeal.τ).loc Cert.ProjCFwdIdeal.main_arg0)
      ∧ r.2.mem ((c.tc : Thread Cert.ProjCFwdIdeal.nD Cert.ProjCFwdIdeal.τ).loc Cert.ProjCFwdIdeal.main_arg1) = m ((c.tc : Thread Cert.ProjCFwdIdeal.nD Cert.ProjCFwdIdeal.τ).loc Cert.ProjCFwdIdeal.main_arg1))
      ∧ r.2.sem = fun _ => 0)

def quiescent_ProjCFwdRefIdeal [hProjCFwdRefIdeal : Cert.ProjCFwdRefIdeal.Facts] : Prop :=
  ∀ (m : (ℓ : Loc Cert.ProjCFwdRefIdeal.nD Cert.ProjCFwdRefIdeal.τ Cert.ProjCFwdRefIdeal.sig) → Buf (Elt Ideal) ℓ) (g : Dev Cert.ProjCFwdRefIdeal.nD → PrngReg), Pre_ProjCFwdRefIdeal m →
    θ_run (Cert.ProjCFwdRefIdeal.defs (F := Ideal)) (onTc (τ := Cert.ProjCFwdRefIdeal.τ) (Cert.ProjCFwdRefIdeal.main (F := Ideal))) ⟨m, fun _ => 0, g⟩ (fun r => (∀ c : Dev Cert.ProjCFwdRefIdeal.nD,
      r.2.mem ((c.tc : Thread Cert.ProjCFwdRefIdeal.nD Cert.ProjCFwdRefIdeal.τ).loc Cert.ProjCFwdRefIdeal.main_arg0) = m ((c.tc : Thread Cert.ProjCFwdRefIdeal.nD Cert.ProjCFwdRefIdeal.τ).loc Cert.ProjCFwdRefIdeal.main_arg0)
      ∧ r.2.mem ((c.tc : Thread Cert.ProjCFwdRefIdeal.nD Cert.ProjCFwdRefIdeal.τ).loc Cert.ProjCFwdRefIdeal.main_arg1) = m ((c.tc : Thread Cert.ProjCFwdRefIdeal.nD Cert.ProjCFwdRefIdeal.τ).loc Cert.ProjCFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendIdeal_pre_finite_heads [hAttendIdeal : Cert.AttendIdeal.Facts] [hPre_finite_heads : Cert.Pre_finite_heads.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_heads m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2))
      ∧ r.2.sem = fun _ => 0)

def quiescent_AttendRefIdeal_pre_finite_heads [hAttendRefIdeal : Cert.AttendRefIdeal.Facts] [hPre_finite_heads : Cert.Pre_finite_heads.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite_heads m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MulB [hMulB : Cert.MulB.Facts] : Prop :=
  ∀ (m : (ℓ : Loc Cert.MulB.nD Cert.MulB.τ Cert.MulB.sig) → Buf (Elt Bits) ℓ) (g : Dev Cert.MulB.nD → PrngReg), Pre_MulB m →
    θ_run (Cert.MulB.defs (F := Bits)) (onTc (τ := Cert.MulB.τ) (Cert.MulB.main (F := Bits))) ⟨m, fun _ => 0, g⟩ (fun r => (∀ c : Dev Cert.MulB.nD,
      r.2.mem ((c.tc : Thread Cert.MulB.nD Cert.MulB.τ).loc Cert.MulB.main_arg0) = m ((c.tc : Thread Cert.MulB.nD Cert.MulB.τ).loc Cert.MulB.main_arg0)
      ∧ r.2.mem ((c.tc : Thread Cert.MulB.nD Cert.MulB.τ).loc Cert.MulB.main_arg1) = m ((c.tc : Thread Cert.MulB.nD Cert.MulB.τ).loc Cert.MulB.main_arg1))
      ∧ r.2.sem = fun _ => 0)

def quiescent_MulBIdeal [hMulBIdeal : Cert.MulBIdeal.Facts] : Prop :=
  ∀ (m : (ℓ : Loc Cert.MulBIdeal.nD Cert.MulBIdeal.τ Cert.MulBIdeal.sig) → Buf (Elt Ideal) ℓ) (g : Dev Cert.MulBIdeal.nD → PrngReg), Pre_MulBIdeal m →
    θ_run (Cert.MulBIdeal.defs (F := Ideal)) (onTc (τ := Cert.MulBIdeal.τ) (Cert.MulBIdeal.main (F := Ideal))) ⟨m, fun _ => 0, g⟩ (fun r => (∀ c : Dev Cert.MulBIdeal.nD,
      r.2.mem ((c.tc : Thread Cert.MulBIdeal.nD Cert.MulBIdeal.τ).loc Cert.MulBIdeal.main_arg0) = m ((c.tc : Thread Cert.MulBIdeal.nD Cert.MulBIdeal.τ).loc Cert.MulBIdeal.main_arg0)
      ∧ r.2.mem ((c.tc : Thread Cert.MulBIdeal.nD Cert.MulBIdeal.τ).loc Cert.MulBIdeal.main_arg1) = m ((c.tc : Thread Cert.MulBIdeal.nD Cert.MulBIdeal.τ).loc Cert.MulBIdeal.main_arg1))
      ∧ r.2.sem = fun _ => 0)

def quiescent_MulBRefIdeal [hMulBRefIdeal : Cert.MulBRefIdeal.Facts] : Prop :=
  ∀ (m : (ℓ : Loc Cert.MulBRefIdeal.nD Cert.MulBRefIdeal.τ Cert.MulBRefIdeal.sig) → Buf (Elt Ideal) ℓ) (g : Dev Cert.MulBRefIdeal.nD → PrngReg), Pre_MulBRefIdeal m →
    θ_run (Cert.MulBRefIdeal.defs (F := Ideal)) (onTc (τ := Cert.MulBRefIdeal.τ) (Cert.MulBRefIdeal.main (F := Ideal))) ⟨m, fun _ => 0, g⟩ (fun r => (∀ c : Dev Cert.MulBRefIdeal.nD,
      r.2.mem ((c.tc : Thread Cert.MulBRefIdeal.nD Cert.MulBRefIdeal.τ).loc Cert.MulBRefIdeal.main_arg0) = m ((c.tc : Thread Cert.MulBRefIdeal.nD Cert.MulBRefIdeal.τ).loc Cert.MulBRefIdeal.main_arg0)
      ∧ r.2.mem ((c.tc : Thread Cert.MulBRefIdeal.nD Cert.MulBRefIdeal.τ).loc Cert.MulBRefIdeal.main_arg1) = m ((c.tc : Thread Cert.MulBRefIdeal.nD Cert.MulBRefIdeal.τ).loc Cert.MulBRefIdeal.main_arg1))
      ∧ r.2.sem = fun _ => 0)

def quiescent_MulC [hMulC : Cert.MulC.Facts] : Prop :=
  ∀ (m : (ℓ : Loc Cert.MulC.nD Cert.MulC.τ Cert.MulC.sig) → Buf (Elt Bits) ℓ) (g : Dev Cert.MulC.nD → PrngReg), Pre_MulC m →
    θ_run (Cert.MulC.defs (F := Bits)) (onTc (τ := Cert.MulC.τ) (Cert.MulC.main (F := Bits))) ⟨m, fun _ => 0, g⟩ (fun r => (∀ c : Dev Cert.MulC.nD,
      r.2.mem ((c.tc : Thread Cert.MulC.nD Cert.MulC.τ).loc Cert.MulC.main_arg0) = m ((c.tc : Thread Cert.MulC.nD Cert.MulC.τ).loc Cert.MulC.main_arg0)
      ∧ r.2.mem ((c.tc : Thread Cert.MulC.nD Cert.MulC.τ).loc Cert.MulC.main_arg1) = m ((c.tc : Thread Cert.MulC.nD Cert.MulC.τ).loc Cert.MulC.main_arg1))
      ∧ r.2.sem = fun _ => 0)

def quiescent_MulCIdeal [hMulCIdeal : Cert.MulCIdeal.Facts] : Prop :=
  ∀ (m : (ℓ : Loc Cert.MulCIdeal.nD Cert.MulCIdeal.τ Cert.MulCIdeal.sig) → Buf (Elt Ideal) ℓ) (g : Dev Cert.MulCIdeal.nD → PrngReg), Pre_MulCIdeal m →
    θ_run (Cert.MulCIdeal.defs (F := Ideal)) (onTc (τ := Cert.MulCIdeal.τ) (Cert.MulCIdeal.main (F := Ideal))) ⟨m, fun _ => 0, g⟩ (fun r => (∀ c : Dev Cert.MulCIdeal.nD,
      r.2.mem ((c.tc : Thread Cert.MulCIdeal.nD Cert.MulCIdeal.τ).loc Cert.MulCIdeal.main_arg0) = m ((c.tc : Thread Cert.MulCIdeal.nD Cert.MulCIdeal.τ).loc Cert.MulCIdeal.main_arg0)
      ∧ r.2.mem ((c.tc : Thread Cert.MulCIdeal.nD Cert.MulCIdeal.τ).loc Cert.MulCIdeal.main_arg1) = m ((c.tc : Thread Cert.MulCIdeal.nD Cert.MulCIdeal.τ).loc Cert.MulCIdeal.main_arg1))
      ∧ r.2.sem = fun _ => 0)

def quiescent_MulCRefIdeal [hMulCRefIdeal : Cert.MulCRefIdeal.Facts] : Prop :=
  ∀ (m : (ℓ : Loc Cert.MulCRefIdeal.nD Cert.MulCRefIdeal.τ Cert.MulCRefIdeal.sig) → Buf (Elt Ideal) ℓ) (g : Dev Cert.MulCRefIdeal.nD → PrngReg), Pre_MulCRefIdeal m →
    θ_run (Cert.MulCRefIdeal.defs (F := Ideal)) (onTc (τ := Cert.MulCRefIdeal.τ) (Cert.MulCRefIdeal.main (F := Ideal))) ⟨m, fun _ => 0, g⟩ (fun r => (∀ c : Dev Cert.MulCRefIdeal.nD,
      r.2.mem ((c.tc : Thread Cert.MulCRefIdeal.nD Cert.MulCRefIdeal.τ).loc Cert.MulCRefIdeal.main_arg0) = m ((c.tc : Thread Cert.MulCRefIdeal.nD Cert.MulCRefIdeal.τ).loc Cert.MulCRefIdeal.main_arg0)
      ∧ r.2.mem ((c.tc : Thread Cert.MulCRefIdeal.nD Cert.MulCRefIdeal.τ).loc Cert.MulCRefIdeal.main_arg1) = m ((c.tc : Thread Cert.MulCRefIdeal.nD Cert.MulCRefIdeal.τ).loc Cert.MulCRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjCDx_ProjCDxIdeal : Prop :=
  True

def algebraic_ProjCDxIdeal_ProjCDxRefIdeal [hProjCDxIdeal : Cert.ProjCDxIdeal.Facts] [hProjCDxRefIdeal : Cert.ProjCDxRefIdeal.Facts] : Prop :=
  ∀ (m : (ℓ : Loc Cert.ProjCDxIdeal.nD Cert.ProjCDxIdeal.τ Cert.ProjCDxIdeal.sig) → Buf (Elt Ideal) ℓ) (g : Dev Cert.ProjCDxIdeal.nD → PrngReg)
    (m' : (ℓ : Loc Cert.ProjCDxRefIdeal.nD Cert.ProjCDxRefIdeal.τ Cert.ProjCDxRefIdeal.sig) → Buf (Elt Ideal) ℓ) (g' : Dev Cert.ProjCDxRefIdeal.nD → PrngReg), Pre_ProjCDxIdeal m →
    (∀ c : Dev Cert.ProjCDxIdeal.nD,
      m' ((c.tc : Thread Cert.ProjCDxRefIdeal.nD Cert.ProjCDxRefIdeal.τ).loc Cert.ProjCDxRefIdeal.main_arg0) = m ((c.tc : Thread Cert.ProjCDxIdeal.nD Cert.ProjCDxIdeal.τ).loc Cert.ProjCDxIdeal.main_arg0)
      ∧ m' ((c.tc : Thread Cert.ProjCDxRefIdeal.nD Cert.ProjCDxRefIdeal.τ).loc Cert.ProjCDxRefIdeal.main_arg1) = m ((c.tc : Thread Cert.ProjCDxIdeal.nD Cert.ProjCDxIdeal.τ).loc Cert.ProjCDxIdeal.main_arg1)) →
    ∃ (v0 : (c : Dev Cert.ProjCDxIdeal.nD) → Buf (Elt Ideal) ((c.tc : Thread Cert.ProjCDxIdeal.nD Cert.ProjCDxIdeal.τ).loc Cert.ProjCDxIdeal.main_v0)),
      θ_run (Cert.ProjCDxIdeal.defs (F := Ideal)) (onTc (τ := Cert.ProjCDxIdeal.τ) (Cert.ProjCDxIdeal.main (F := Ideal))) ⟨m, fun _ => 0, g⟩ (fun r => ∀ c : Dev Cert.ProjCDxIdeal.nD,
          r.2.mem ((c.tc : Thread Cert.ProjCDxIdeal.nD Cert.ProjCDxIdeal.τ).loc Cert.ProjCDxIdeal.main_v0) = v0 c
          ∧ r.2.mem ((c.tc : Thread Cert.ProjCDxIdeal.nD Cert.ProjCDxIdeal.τ).loc Cert.ProjCDxIdeal.main_arg0) = m ((c.tc : Thread Cert.ProjCDxIdeal.nD Cert.ProjCDxIdeal.τ).loc Cert.ProjCDxIdeal.main_arg0)
          ∧ r.2.mem ((c.tc : Thread Cert.ProjCDxIdeal.nD Cert.ProjCDxIdeal.τ).loc Cert.ProjCDxIdeal.main_arg1) = m ((c.tc : Thread Cert.ProjCDxIdeal.nD Cert.ProjCDxIdeal.τ).loc Cert.ProjCDxIdeal.main_arg1))
      ∧ θ_run (Cert.ProjCDxRefIdeal.defs (F := Ideal)) (onTc (τ := Cert.ProjCDxRefIdeal.τ) (Cert.ProjCDxRefIdeal.main (F := Ideal))) ⟨m', fun _ => 0, g'⟩ (fun r => ∀ c : Dev Cert.ProjCDxRefIdeal.nD,
          r.2.mem ((c.tc : Thread Cert.ProjCDxRefIdeal.nD Cert.ProjCDxRefIdeal.τ).loc Cert.ProjCDxRefIdeal.main_v5) = v0 c
          ∧ r.2.mem ((c.tc : Thread Cert.ProjCDxRefIdeal.nD Cert.ProjCDxRefIdeal.τ).loc Cert.ProjCDxRefIdeal.main_arg0) = m' ((c.tc : Thread Cert.ProjCDxRefIdeal.nD Cert.ProjCDxRefIdeal.τ).loc Cert.ProjCDxRefIdeal.main_arg0)
          ∧ r.2.mem ((c.tc : Thread Cert.ProjCDxRefIdeal.nD Cert.ProjCDxRefIdeal.τ).loc Cert.ProjCDxRefIdeal.main_arg1) = m' ((c.tc : Thread Cert.ProjCDxRefIdeal.nD Cert.ProjCDxRefIdeal.τ).loc Cert.ProjCDxRefIdeal.main_arg1))

def preserves_ProjCDw_ProjCDwIdeal : Prop :=
  True

def algebraic_ProjCDwIdeal_ProjCDwRefIdeal [hProjCDwIdeal : Cert.ProjCDwIdeal.Facts] [hProjCDwRefIdeal : Cert.ProjCDwRefIdeal.Facts] : Prop :=
  ∀ (m : (ℓ : Loc Cert.ProjCDwIdeal.nD Cert.ProjCDwIdeal.τ Cert.ProjCDwIdeal.sig) → Buf (Elt Ideal) ℓ) (g : Dev Cert.ProjCDwIdeal.nD → PrngReg)
    (m' : (ℓ : Loc Cert.ProjCDwRefIdeal.nD Cert.ProjCDwRefIdeal.τ Cert.ProjCDwRefIdeal.sig) → Buf (Elt Ideal) ℓ) (g' : Dev Cert.ProjCDwRefIdeal.nD → PrngReg), Pre_ProjCDwIdeal m →
    (∀ c : Dev Cert.ProjCDwIdeal.nD,
      m' ((c.tc : Thread Cert.ProjCDwRefIdeal.nD Cert.ProjCDwRefIdeal.τ).loc Cert.ProjCDwRefIdeal.main_arg0) = m ((c.tc : Thread Cert.ProjCDwIdeal.nD Cert.ProjCDwIdeal.τ).loc Cert.ProjCDwIdeal.main_arg0)
      ∧ m' ((c.tc : Thread Cert.ProjCDwRefIdeal.nD Cert.ProjCDwRefIdeal.τ).loc Cert.ProjCDwRefIdeal.main_arg1) = m ((c.tc : Thread Cert.ProjCDwIdeal.nD Cert.ProjCDwIdeal.τ).loc Cert.ProjCDwIdeal.main_arg1)) →
    ∃ (v0 : (c : Dev Cert.ProjCDwIdeal.nD) → Buf (Elt Ideal) ((c.tc : Thread Cert.ProjCDwIdeal.nD Cert.ProjCDwIdeal.τ).loc Cert.ProjCDwIdeal.main_v0)),
      θ_run (Cert.ProjCDwIdeal.defs (F := Ideal)) (onTc (τ := Cert.ProjCDwIdeal.τ) (Cert.ProjCDwIdeal.main (F := Ideal))) ⟨m, fun _ => 0, g⟩ (fun r => ∀ c : Dev Cert.ProjCDwIdeal.nD,
          r.2.mem ((c.tc : Thread Cert.ProjCDwIdeal.nD Cert.ProjCDwIdeal.τ).loc Cert.ProjCDwIdeal.main_v0) = v0 c
          ∧ r.2.mem ((c.tc : Thread Cert.ProjCDwIdeal.nD Cert.ProjCDwIdeal.τ).loc Cert.ProjCDwIdeal.main_arg0) = m ((c.tc : Thread Cert.ProjCDwIdeal.nD Cert.ProjCDwIdeal.τ).loc Cert.ProjCDwIdeal.main_arg0)
          ∧ r.2.mem ((c.tc : Thread Cert.ProjCDwIdeal.nD Cert.ProjCDwIdeal.τ).loc Cert.ProjCDwIdeal.main_arg1) = m ((c.tc : Thread Cert.ProjCDwIdeal.nD Cert.ProjCDwIdeal.τ).loc Cert.ProjCDwIdeal.main_arg1))
      ∧ θ_run (Cert.ProjCDwRefIdeal.defs (F := Ideal)) (onTc (τ := Cert.ProjCDwRefIdeal.τ) (Cert.ProjCDwRefIdeal.main (F := Ideal))) ⟨m', fun _ => 0, g'⟩ (fun r => ∀ c : Dev Cert.ProjCDwRefIdeal.nD,
          r.2.mem ((c.tc : Thread Cert.ProjCDwRefIdeal.nD Cert.ProjCDwRefIdeal.τ).loc Cert.ProjCDwRefIdeal.main_v6) = v0 c
          ∧ r.2.mem ((c.tc : Thread Cert.ProjCDwRefIdeal.nD Cert.ProjCDwRefIdeal.τ).loc Cert.ProjCDwRefIdeal.main_arg0) = m' ((c.tc : Thread Cert.ProjCDwRefIdeal.nD Cert.ProjCDwRefIdeal.τ).loc Cert.ProjCDwRefIdeal.main_arg0)
          ∧ r.2.mem ((c.tc : Thread Cert.ProjCDwRefIdeal.nD Cert.ProjCDwRefIdeal.τ).loc Cert.ProjCDwRefIdeal.main_arg1) = m' ((c.tc : Thread Cert.ProjCDwRefIdeal.nD Cert.ProjCDwRefIdeal.τ).loc Cert.ProjCDwRefIdeal.main_arg1))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)) →
    ∃ (v0 : (c : Dev Cert.QUpDxIdeal.nD) → Buf (Elt Ideal) ((c.tc : Thread Cert.QUpDxIdeal.nD Cert.QUpDxIdeal.τ).loc Cert.QUpDxIdeal.main_v0)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v0) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v6) = v0 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v8) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)) →
    ∃ (v0 : (c : Dev Cert.KvUpDxIdeal.nD) → Buf (Elt Ideal) ((c.tc : Thread Cert.KvUpDxIdeal.nD Cert.KvUpDxIdeal.τ).loc Cert.KvUpDxIdeal.main_v0)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v0) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v6) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)) →
    ∃ (v0 : (c : Dev Cert.KvUpDwIdeal.nD) → Buf (Elt Ideal) ((c.tc : Thread Cert.KvUpDwIdeal.nD Cert.KvUpDwIdeal.τ).loc Cert.KvUpDwIdeal.main_v0)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v0) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v8) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_QUpFwd_QUpFwdIdeal : Prop :=
  True

def algebraic_QUpFwdIdeal_QUpFwdRefIdeal [hQUpFwdIdeal : Cert.QUpFwdIdeal.Facts] [hQUpFwdRefIdeal : Cert.QUpFwdRefIdeal.Facts] : Prop :=
  ∀ (m : (ℓ : Loc Cert.QUpFwdIdeal.nD Cert.QUpFwdIdeal.τ Cert.QUpFwdIdeal.sig) → Buf (Elt Ideal) ℓ) (g : Dev Cert.QUpFwdIdeal.nD → PrngReg)
    (m' : (ℓ : Loc Cert.QUpFwdRefIdeal.nD Cert.QUpFwdRefIdeal.τ Cert.QUpFwdRefIdeal.sig) → Buf (Elt Ideal) ℓ) (g' : Dev Cert.QUpFwdRefIdeal.nD → PrngReg), Pre_QUpFwdIdeal m →
    (∀ c : Dev Cert.QUpFwdIdeal.nD,
      m' ((c.tc : Thread Cert.QUpFwdRefIdeal.nD Cert.QUpFwdRefIdeal.τ).loc Cert.QUpFwdRefIdeal.main_arg0) = m ((c.tc : Thread Cert.QUpFwdIdeal.nD Cert.QUpFwdIdeal.τ).loc Cert.QUpFwdIdeal.main_arg0)
      ∧ m' ((c.tc : Thread Cert.QUpFwdRefIdeal.nD Cert.QUpFwdRefIdeal.τ).loc Cert.QUpFwdRefIdeal.main_arg1) = m ((c.tc : Thread Cert.QUpFwdIdeal.nD Cert.QUpFwdIdeal.τ).loc Cert.QUpFwdIdeal.main_arg1)) →
    ∃ (v0 : (c : Dev Cert.QUpFwdIdeal.nD) → Buf (Elt Ideal) ((c.tc : Thread Cert.QUpFwdIdeal.nD Cert.QUpFwdIdeal.τ).loc Cert.QUpFwdIdeal.main_v0)),
      θ_run (Cert.QUpFwdIdeal.defs (F := Ideal)) (onTc (τ := Cert.QUpFwdIdeal.τ) (Cert.QUpFwdIdeal.main (F := Ideal))) ⟨m, fun _ => 0, g⟩ (fun r => ∀ c : Dev Cert.QUpFwdIdeal.nD,
          r.2.mem ((c.tc : Thread Cert.QUpFwdIdeal.nD Cert.QUpFwdIdeal.τ).loc Cert.QUpFwdIdeal.main_v0) = v0 c
          ∧ r.2.mem ((c.tc : Thread Cert.QUpFwdIdeal.nD Cert.QUpFwdIdeal.τ).loc Cert.QUpFwdIdeal.main_arg0) = m ((c.tc : Thread Cert.QUpFwdIdeal.nD Cert.QUpFwdIdeal.τ).loc Cert.QUpFwdIdeal.main_arg0)
          ∧ r.2.mem ((c.tc : Thread Cert.QUpFwdIdeal.nD Cert.QUpFwdIdeal.τ).loc Cert.QUpFwdIdeal.main_arg1) = m ((c.tc : Thread Cert.QUpFwdIdeal.nD Cert.QUpFwdIdeal.τ).loc Cert.QUpFwdIdeal.main_arg1))
      ∧ θ_run (Cert.QUpFwdRefIdeal.defs (F := Ideal)) (onTc (τ := Cert.QUpFwdRefIdeal.τ) (Cert.QUpFwdRefIdeal.main (F := Ideal))) ⟨m', fun _ => 0, g'⟩ (fun r => ∀ c : Dev Cert.QUpFwdRefIdeal.nD,
          r.2.mem ((c.tc : Thread Cert.QUpFwdRefIdeal.nD Cert.QUpFwdRefIdeal.τ).loc Cert.QUpFwdRefIdeal.main_v4) = v0 c
          ∧ r.2.mem ((c.tc : Thread Cert.QUpFwdRefIdeal.nD Cert.QUpFwdRefIdeal.τ).loc Cert.QUpFwdRefIdeal.main_arg0) = m' ((c.tc : Thread Cert.QUpFwdRefIdeal.nD Cert.QUpFwdRefIdeal.τ).loc Cert.QUpFwdRefIdeal.main_arg0)
          ∧ r.2.mem ((c.tc : Thread Cert.QUpFwdRefIdeal.nD Cert.QUpFwdRefIdeal.τ).loc Cert.QUpFwdRefIdeal.main_arg1) = m' ((c.tc : Thread Cert.QUpFwdRefIdeal.nD Cert.QUpFwdRefIdeal.τ).loc Cert.QUpFwdRefIdeal.main_arg1))

def preserves_KvUpFwd_KvUpFwdIdeal : Prop :=
  True

def algebraic_KvUpFwdIdeal_KvUpFwdRefIdeal [hKvUpFwdIdeal : Cert.KvUpFwdIdeal.Facts] [hKvUpFwdRefIdeal : Cert.KvUpFwdRefIdeal.Facts] : Prop :=
  ∀ (m : (ℓ : Loc Cert.KvUpFwdIdeal.nD Cert.KvUpFwdIdeal.τ Cert.KvUpFwdIdeal.sig) → Buf (Elt Ideal) ℓ) (g : Dev Cert.KvUpFwdIdeal.nD → PrngReg)
    (m' : (ℓ : Loc Cert.KvUpFwdRefIdeal.nD Cert.KvUpFwdRefIdeal.τ Cert.KvUpFwdRefIdeal.sig) → Buf (Elt Ideal) ℓ) (g' : Dev Cert.KvUpFwdRefIdeal.nD → PrngReg), Pre_KvUpFwdIdeal m →
    (∀ c : Dev Cert.KvUpFwdIdeal.nD,
      m' ((c.tc : Thread Cert.KvUpFwdRefIdeal.nD Cert.KvUpFwdRefIdeal.τ).loc Cert.KvUpFwdRefIdeal.main_arg0) = m ((c.tc : Thread Cert.KvUpFwdIdeal.nD Cert.KvUpFwdIdeal.τ).loc Cert.KvUpFwdIdeal.main_arg0)
      ∧ m' ((c.tc : Thread Cert.KvUpFwdRefIdeal.nD Cert.KvUpFwdRefIdeal.τ).loc Cert.KvUpFwdRefIdeal.main_arg1) = m ((c.tc : Thread Cert.KvUpFwdIdeal.nD Cert.KvUpFwdIdeal.τ).loc Cert.KvUpFwdIdeal.main_arg1)) →
    ∃ (v0 : (c : Dev Cert.KvUpFwdIdeal.nD) → Buf (Elt Ideal) ((c.tc : Thread Cert.KvUpFwdIdeal.nD Cert.KvUpFwdIdeal.τ).loc Cert.KvUpFwdIdeal.main_v0)),
      θ_run (Cert.KvUpFwdIdeal.defs (F := Ideal)) (onTc (τ := Cert.KvUpFwdIdeal.τ) (Cert.KvUpFwdIdeal.main (F := Ideal))) ⟨m, fun _ => 0, g⟩ (fun r => ∀ c : Dev Cert.KvUpFwdIdeal.nD,
          r.2.mem ((c.tc : Thread Cert.KvUpFwdIdeal.nD Cert.KvUpFwdIdeal.τ).loc Cert.KvUpFwdIdeal.main_v0) = v0 c
          ∧ r.2.mem ((c.tc : Thread Cert.KvUpFwdIdeal.nD Cert.KvUpFwdIdeal.τ).loc Cert.KvUpFwdIdeal.main_arg0) = m ((c.tc : Thread Cert.KvUpFwdIdeal.nD Cert.KvUpFwdIdeal.τ).loc Cert.KvUpFwdIdeal.main_arg0)
          ∧ r.2.mem ((c.tc : Thread Cert.KvUpFwdIdeal.nD Cert.KvUpFwdIdeal.τ).loc Cert.KvUpFwdIdeal.main_arg1) = m ((c.tc : Thread Cert.KvUpFwdIdeal.nD Cert.KvUpFwdIdeal.τ).loc Cert.KvUpFwdIdeal.main_arg1))
      ∧ θ_run (Cert.KvUpFwdRefIdeal.defs (F := Ideal)) (onTc (τ := Cert.KvUpFwdRefIdeal.τ) (Cert.KvUpFwdRefIdeal.main (F := Ideal))) ⟨m', fun _ => 0, g'⟩ (fun r => ∀ c : Dev Cert.KvUpFwdRefIdeal.nD,
          r.2.mem ((c.tc : Thread Cert.KvUpFwdRefIdeal.nD Cert.KvUpFwdRefIdeal.τ).loc Cert.KvUpFwdRefIdeal.main_v4) = v0 c
          ∧ r.2.mem ((c.tc : Thread Cert.KvUpFwdRefIdeal.nD Cert.KvUpFwdRefIdeal.τ).loc Cert.KvUpFwdRefIdeal.main_arg0) = m' ((c.tc : Thread Cert.KvUpFwdRefIdeal.nD Cert.KvUpFwdRefIdeal.τ).loc Cert.KvUpFwdRefIdeal.main_arg0)
          ∧ r.2.mem ((c.tc : Thread Cert.KvUpFwdRefIdeal.nD Cert.KvUpFwdRefIdeal.τ).loc Cert.KvUpFwdRefIdeal.main_arg1) = m' ((c.tc : Thread Cert.KvUpFwdRefIdeal.nD Cert.KvUpFwdRefIdeal.τ).loc Cert.KvUpFwdRefIdeal.main_arg1))

def preserves_ProjAFwd_ProjAFwdIdeal : Prop :=
  True

def algebraic_ProjAFwdIdeal_ProjAFwdRefIdeal [hProjAFwdIdeal : Cert.ProjAFwdIdeal.Facts] [hProjAFwdRefIdeal : Cert.ProjAFwdRefIdeal.Facts] : Prop :=
  ∀ (m : (ℓ : Loc Cert.ProjAFwdIdeal.nD Cert.ProjAFwdIdeal.τ Cert.ProjAFwdIdeal.sig) → Buf (Elt Ideal) ℓ) (g : Dev Cert.ProjAFwdIdeal.nD → PrngReg)
    (m' : (ℓ : Loc Cert.ProjAFwdRefIdeal.nD Cert.ProjAFwdRefIdeal.τ Cert.ProjAFwdRefIdeal.sig) → Buf (Elt Ideal) ℓ) (g' : Dev Cert.ProjAFwdRefIdeal.nD → PrngReg), Pre_ProjAFwdIdeal m →
    (∀ c : Dev Cert.ProjAFwdIdeal.nD,
      m' ((c.tc : Thread Cert.ProjAFwdRefIdeal.nD Cert.ProjAFwdRefIdeal.τ).loc Cert.ProjAFwdRefIdeal.main_arg0) = m ((c.tc : Thread Cert.ProjAFwdIdeal.nD Cert.ProjAFwdIdeal.τ).loc Cert.ProjAFwdIdeal.main_arg0)
      ∧ m' ((c.tc : Thread Cert.ProjAFwdRefIdeal.nD Cert.ProjAFwdRefIdeal.τ).loc Cert.ProjAFwdRefIdeal.main_arg1) = m ((c.tc : Thread Cert.ProjAFwdIdeal.nD Cert.ProjAFwdIdeal.τ).loc Cert.ProjAFwdIdeal.main_arg1)) →
    ∃ (v0 : (c : Dev Cert.ProjAFwdIdeal.nD) → Buf (Elt Ideal) ((c.tc : Thread Cert.ProjAFwdIdeal.nD Cert.ProjAFwdIdeal.τ).loc Cert.ProjAFwdIdeal.main_v0)),
      θ_run (Cert.ProjAFwdIdeal.defs (F := Ideal)) (onTc (τ := Cert.ProjAFwdIdeal.τ) (Cert.ProjAFwdIdeal.main (F := Ideal))) ⟨m, fun _ => 0, g⟩ (fun r => ∀ c : Dev Cert.ProjAFwdIdeal.nD,
          r.2.mem ((c.tc : Thread Cert.ProjAFwdIdeal.nD Cert.ProjAFwdIdeal.τ).loc Cert.ProjAFwdIdeal.main_v0) = v0 c
          ∧ r.2.mem ((c.tc : Thread Cert.ProjAFwdIdeal.nD Cert.ProjAFwdIdeal.τ).loc Cert.ProjAFwdIdeal.main_arg0) = m ((c.tc : Thread Cert.ProjAFwdIdeal.nD Cert.ProjAFwdIdeal.τ).loc Cert.ProjAFwdIdeal.main_arg0)
          ∧ r.2.mem ((c.tc : Thread Cert.ProjAFwdIdeal.nD Cert.ProjAFwdIdeal.τ).loc Cert.ProjAFwdIdeal.main_arg1) = m ((c.tc : Thread Cert.ProjAFwdIdeal.nD Cert.ProjAFwdIdeal.τ).loc Cert.ProjAFwdIdeal.main_arg1))
      ∧ θ_run (Cert.ProjAFwdRefIdeal.defs (F := Ideal)) (onTc (τ := Cert.ProjAFwdRefIdeal.τ) (Cert.ProjAFwdRefIdeal.main (F := Ideal))) ⟨m', fun _ => 0, g'⟩ (fun r => ∀ c : Dev Cert.ProjAFwdRefIdeal.nD,
          r.2.mem ((c.tc : Thread Cert.ProjAFwdRefIdeal.nD Cert.ProjAFwdRefIdeal.τ).loc Cert.ProjAFwdRefIdeal.main_v3) = v0 c
          ∧ r.2.mem ((c.tc : Thread Cert.ProjAFwdRefIdeal.nD Cert.ProjAFwdRefIdeal.τ).loc Cert.ProjAFwdRefIdeal.main_arg0) = m' ((c.tc : Thread Cert.ProjAFwdRefIdeal.nD Cert.ProjAFwdRefIdeal.τ).loc Cert.ProjAFwdRefIdeal.main_arg0)
          ∧ r.2.mem ((c.tc : Thread Cert.ProjAFwdRefIdeal.nD Cert.ProjAFwdRefIdeal.τ).loc Cert.ProjAFwdRefIdeal.main_arg1) = m' ((c.tc : Thread Cert.ProjAFwdRefIdeal.nD Cert.ProjAFwdRefIdeal.τ).loc Cert.ProjAFwdRefIdeal.main_arg1))

def preserves_ProjCFwd_ProjCFwdIdeal : Prop :=
  True

def algebraic_ProjCFwdIdeal_ProjCFwdRefIdeal [hProjCFwdIdeal : Cert.ProjCFwdIdeal.Facts] [hProjCFwdRefIdeal : Cert.ProjCFwdRefIdeal.Facts] : Prop :=
  ∀ (m : (ℓ : Loc Cert.ProjCFwdIdeal.nD Cert.ProjCFwdIdeal.τ Cert.ProjCFwdIdeal.sig) → Buf (Elt Ideal) ℓ) (g : Dev Cert.ProjCFwdIdeal.nD → PrngReg)
    (m' : (ℓ : Loc Cert.ProjCFwdRefIdeal.nD Cert.ProjCFwdRefIdeal.τ Cert.ProjCFwdRefIdeal.sig) → Buf (Elt Ideal) ℓ) (g' : Dev Cert.ProjCFwdRefIdeal.nD → PrngReg), Pre_ProjCFwdIdeal m →
    (∀ c : Dev Cert.ProjCFwdIdeal.nD,
      m' ((c.tc : Thread Cert.ProjCFwdRefIdeal.nD Cert.ProjCFwdRefIdeal.τ).loc Cert.ProjCFwdRefIdeal.main_arg0) = m ((c.tc : Thread Cert.ProjCFwdIdeal.nD Cert.ProjCFwdIdeal.τ).loc Cert.ProjCFwdIdeal.main_arg0)
      ∧ m' ((c.tc : Thread Cert.ProjCFwdRefIdeal.nD Cert.ProjCFwdRefIdeal.τ).loc Cert.ProjCFwdRefIdeal.main_arg1) = m ((c.tc : Thread Cert.ProjCFwdIdeal.nD Cert.ProjCFwdIdeal.τ).loc Cert.ProjCFwdIdeal.main_arg1)) →
    ∃ (v0 : (c : Dev Cert.ProjCFwdIdeal.nD) → Buf (Elt Ideal) ((c.tc : Thread Cert.ProjCFwdIdeal.nD Cert.ProjCFwdIdeal.τ).loc Cert.ProjCFwdIdeal.main_v0)),
      θ_run (Cert.ProjCFwdIdeal.defs (F := Ideal)) (onTc (τ := Cert.ProjCFwdIdeal.τ) (Cert.ProjCFwdIdeal.main (F := Ideal))) ⟨m, fun _ => 0, g⟩ (fun r => ∀ c : Dev Cert.ProjCFwdIdeal.nD,
          r.2.mem ((c.tc : Thread Cert.ProjCFwdIdeal.nD Cert.ProjCFwdIdeal.τ).loc Cert.ProjCFwdIdeal.main_v0) = v0 c
          ∧ r.2.mem ((c.tc : Thread Cert.ProjCFwdIdeal.nD Cert.ProjCFwdIdeal.τ).loc Cert.ProjCFwdIdeal.main_arg0) = m ((c.tc : Thread Cert.ProjCFwdIdeal.nD Cert.ProjCFwdIdeal.τ).loc Cert.ProjCFwdIdeal.main_arg0)
          ∧ r.2.mem ((c.tc : Thread Cert.ProjCFwdIdeal.nD Cert.ProjCFwdIdeal.τ).loc Cert.ProjCFwdIdeal.main_arg1) = m ((c.tc : Thread Cert.ProjCFwdIdeal.nD Cert.ProjCFwdIdeal.τ).loc Cert.ProjCFwdIdeal.main_arg1))
      ∧ θ_run (Cert.ProjCFwdRefIdeal.defs (F := Ideal)) (onTc (τ := Cert.ProjCFwdRefIdeal.τ) (Cert.ProjCFwdRefIdeal.main (F := Ideal))) ⟨m', fun _ => 0, g'⟩ (fun r => ∀ c : Dev Cert.ProjCFwdRefIdeal.nD,
          r.2.mem ((c.tc : Thread Cert.ProjCFwdRefIdeal.nD Cert.ProjCFwdRefIdeal.τ).loc Cert.ProjCFwdRefIdeal.main_v3) = v0 c
          ∧ r.2.mem ((c.tc : Thread Cert.ProjCFwdRefIdeal.nD Cert.ProjCFwdRefIdeal.τ).loc Cert.ProjCFwdRefIdeal.main_arg0) = m' ((c.tc : Thread Cert.ProjCFwdRefIdeal.nD Cert.ProjCFwdRefIdeal.τ).loc Cert.ProjCFwdRefIdeal.main_arg0)
          ∧ r.2.mem ((c.tc : Thread Cert.ProjCFwdRefIdeal.nD Cert.ProjCFwdRefIdeal.τ).loc Cert.ProjCFwdRefIdeal.main_arg1) = m' ((c.tc : Thread Cert.ProjCFwdRefIdeal.nD Cert.ProjCFwdRefIdeal.τ).loc Cert.ProjCFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_Attend_AttendIdeal : Prop :=
  IdealRules.named_const.Statement Cert.AttendIdeal.κ "mask" .f32 0xF149F2CA#32 ⊥

def algebraic_AttendIdeal_AttendRefIdeal_pre_finite_heads [hAttendIdeal : Cert.AttendIdeal.Facts] [hAttendRefIdeal : Cert.AttendRefIdeal.Facts] [hPre_finite_heads : Cert.Pre_finite_heads.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite_heads m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v1_0)) (v1 : (c : Dev Cert.AttendIdeal.nD) → Buf (Elt Ideal) ((c.tc : Thread Cert.AttendIdeal.nD Cert.AttendIdeal.τ).loc Cert.AttendIdeal.main_v1_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v1_0) = v0 c
          ∧ r.2.mem ((c.tc : Thread Cert.AttendIdeal.nD Cert.AttendIdeal.τ).loc Cert.AttendIdeal.main_v1_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v44) = v0 c
          ∧ r.2.mem ((c.tc : Thread Cert.AttendRefIdeal.nD Cert.AttendRefIdeal.τ).loc Cert.AttendRefIdeal.main_v45) = v1 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v9) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v27) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v12) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MulB_MulBIdeal : Prop :=
  True

def algebraic_MulBIdeal_MulBRefIdeal [hMulBIdeal : Cert.MulBIdeal.Facts] [hMulBRefIdeal : Cert.MulBRefIdeal.Facts] : Prop :=
  ∀ (m : (ℓ : Loc Cert.MulBIdeal.nD Cert.MulBIdeal.τ Cert.MulBIdeal.sig) → Buf (Elt Ideal) ℓ) (g : Dev Cert.MulBIdeal.nD → PrngReg)
    (m' : (ℓ : Loc Cert.MulBRefIdeal.nD Cert.MulBRefIdeal.τ Cert.MulBRefIdeal.sig) → Buf (Elt Ideal) ℓ) (g' : Dev Cert.MulBRefIdeal.nD → PrngReg), Pre_MulBIdeal m →
    (∀ c : Dev Cert.MulBIdeal.nD,
      m' ((c.tc : Thread Cert.MulBRefIdeal.nD Cert.MulBRefIdeal.τ).loc Cert.MulBRefIdeal.main_arg0) = m ((c.tc : Thread Cert.MulBIdeal.nD Cert.MulBIdeal.τ).loc Cert.MulBIdeal.main_arg0)
      ∧ m' ((c.tc : Thread Cert.MulBRefIdeal.nD Cert.MulBRefIdeal.τ).loc Cert.MulBRefIdeal.main_arg1) = m ((c.tc : Thread Cert.MulBIdeal.nD Cert.MulBIdeal.τ).loc Cert.MulBIdeal.main_arg1)) →
    ∃ (v0 : (c : Dev Cert.MulBIdeal.nD) → Buf (Elt Ideal) ((c.tc : Thread Cert.MulBIdeal.nD Cert.MulBIdeal.τ).loc Cert.MulBIdeal.main_v0)),
      θ_run (Cert.MulBIdeal.defs (F := Ideal)) (onTc (τ := Cert.MulBIdeal.τ) (Cert.MulBIdeal.main (F := Ideal))) ⟨m, fun _ => 0, g⟩ (fun r => ∀ c : Dev Cert.MulBIdeal.nD,
          r.2.mem ((c.tc : Thread Cert.MulBIdeal.nD Cert.MulBIdeal.τ).loc Cert.MulBIdeal.main_v0) = v0 c
          ∧ r.2.mem ((c.tc : Thread Cert.MulBIdeal.nD Cert.MulBIdeal.τ).loc Cert.MulBIdeal.main_arg0) = m ((c.tc : Thread Cert.MulBIdeal.nD Cert.MulBIdeal.τ).loc Cert.MulBIdeal.main_arg0)
          ∧ r.2.mem ((c.tc : Thread Cert.MulBIdeal.nD Cert.MulBIdeal.τ).loc Cert.MulBIdeal.main_arg1) = m ((c.tc : Thread Cert.MulBIdeal.nD Cert.MulBIdeal.τ).loc Cert.MulBIdeal.main_arg1))
      ∧ θ_run (Cert.MulBRefIdeal.defs (F := Ideal)) (onTc (τ := Cert.MulBRefIdeal.τ) (Cert.MulBRefIdeal.main (F := Ideal))) ⟨m', fun _ => 0, g'⟩ (fun r => ∀ c : Dev Cert.MulBRefIdeal.nD,
          r.2.mem ((c.tc : Thread Cert.MulBRefIdeal.nD Cert.MulBRefIdeal.τ).loc Cert.MulBRefIdeal.main_v4) = v0 c
          ∧ r.2.mem ((c.tc : Thread Cert.MulBRefIdeal.nD Cert.MulBRefIdeal.τ).loc Cert.MulBRefIdeal.main_arg0) = m' ((c.tc : Thread Cert.MulBRefIdeal.nD Cert.MulBRefIdeal.τ).loc Cert.MulBRefIdeal.main_arg0)
          ∧ r.2.mem ((c.tc : Thread Cert.MulBRefIdeal.nD Cert.MulBRefIdeal.τ).loc Cert.MulBRefIdeal.main_arg1) = m' ((c.tc : Thread Cert.MulBRefIdeal.nD Cert.MulBRefIdeal.τ).loc Cert.MulBRefIdeal.main_arg1))

def preserves_MulC_MulCIdeal : Prop :=
  True

def algebraic_MulCIdeal_MulCRefIdeal [hMulCIdeal : Cert.MulCIdeal.Facts] [hMulCRefIdeal : Cert.MulCRefIdeal.Facts] : Prop :=
  ∀ (m : (ℓ : Loc Cert.MulCIdeal.nD Cert.MulCIdeal.τ Cert.MulCIdeal.sig) → Buf (Elt Ideal) ℓ) (g : Dev Cert.MulCIdeal.nD → PrngReg)
    (m' : (ℓ : Loc Cert.MulCRefIdeal.nD Cert.MulCRefIdeal.τ Cert.MulCRefIdeal.sig) → Buf (Elt Ideal) ℓ) (g' : Dev Cert.MulCRefIdeal.nD → PrngReg), Pre_MulCIdeal m →
    (∀ c : Dev Cert.MulCIdeal.nD,
      m' ((c.tc : Thread Cert.MulCRefIdeal.nD Cert.MulCRefIdeal.τ).loc Cert.MulCRefIdeal.main_arg0) = m ((c.tc : Thread Cert.MulCIdeal.nD Cert.MulCIdeal.τ).loc Cert.MulCIdeal.main_arg0)
      ∧ m' ((c.tc : Thread Cert.MulCRefIdeal.nD Cert.MulCRefIdeal.τ).loc Cert.MulCRefIdeal.main_arg1) = m ((c.tc : Thread Cert.MulCIdeal.nD Cert.MulCIdeal.τ).loc Cert.MulCIdeal.main_arg1)) →
    ∃ (v0 : (c : Dev Cert.MulCIdeal.nD) → Buf (Elt Ideal) ((c.tc : Thread Cert.MulCIdeal.nD Cert.MulCIdeal.τ).loc Cert.MulCIdeal.main_v0)),
      θ_run (Cert.MulCIdeal.defs (F := Ideal)) (onTc (τ := Cert.MulCIdeal.τ) (Cert.MulCIdeal.main (F := Ideal))) ⟨m, fun _ => 0, g⟩ (fun r => ∀ c : Dev Cert.MulCIdeal.nD,
          r.2.mem ((c.tc : Thread Cert.MulCIdeal.nD Cert.MulCIdeal.τ).loc Cert.MulCIdeal.main_v0) = v0 c
          ∧ r.2.mem ((c.tc : Thread Cert.MulCIdeal.nD Cert.MulCIdeal.τ).loc Cert.MulCIdeal.main_arg0) = m ((c.tc : Thread Cert.MulCIdeal.nD Cert.MulCIdeal.τ).loc Cert.MulCIdeal.main_arg0)
          ∧ r.2.mem ((c.tc : Thread Cert.MulCIdeal.nD Cert.MulCIdeal.τ).loc Cert.MulCIdeal.main_arg1) = m ((c.tc : Thread Cert.MulCIdeal.nD Cert.MulCIdeal.τ).loc Cert.MulCIdeal.main_arg1))
      ∧ θ_run (Cert.MulCRefIdeal.defs (F := Ideal)) (onTc (τ := Cert.MulCRefIdeal.τ) (Cert.MulCRefIdeal.main (F := Ideal))) ⟨m', fun _ => 0, g'⟩ (fun r => ∀ c : Dev Cert.MulCRefIdeal.nD,
          r.2.mem ((c.tc : Thread Cert.MulCRefIdeal.nD Cert.MulCRefIdeal.τ).loc Cert.MulCRefIdeal.main_v4) = v0 c
          ∧ r.2.mem ((c.tc : Thread Cert.MulCRefIdeal.nD Cert.MulCRefIdeal.τ).loc Cert.MulCRefIdeal.main_arg0) = m' ((c.tc : Thread Cert.MulCRefIdeal.nD Cert.MulCRefIdeal.τ).loc Cert.MulCRefIdeal.main_arg0)
          ∧ r.2.mem ((c.tc : Thread Cert.MulCRefIdeal.nD Cert.MulCRefIdeal.τ).loc Cert.MulCRefIdeal.main_arg1) = m' ((c.tc : Thread Cert.MulCRefIdeal.nD Cert.MulCRefIdeal.τ).loc Cert.MulCRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v12) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hKernel : Cert.Kernel.Facts) (hKernelIdeal : Cert.KernelIdeal.Facts) (hReferenceIdeal : Cert.ReferenceIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hProjCDx : Cert.ProjCDx.Facts) (hProjCDxIdeal : Cert.ProjCDxIdeal.Facts) (hProjCDxRefIdeal : Cert.ProjCDxRefIdeal.Facts) (hProjCDw : Cert.ProjCDw.Facts) (hProjCDwIdeal : Cert.ProjCDwIdeal.Facts) (hProjCDwRefIdeal : Cert.ProjCDwRefIdeal.Facts) (hQUpDx : Cert.QUpDx.Facts) (hQUpDxIdeal : Cert.QUpDxIdeal.Facts) (hQUpDxRefIdeal : Cert.QUpDxRefIdeal.Facts) (hQUpDw : Cert.QUpDw.Facts) (hQUpDwIdeal : Cert.QUpDwIdeal.Facts) (hQUpDwRefIdeal : Cert.QUpDwRefIdeal.Facts) (hKvUpDx : Cert.KvUpDx.Facts) (hKvUpDxIdeal : Cert.KvUpDxIdeal.Facts) (hKvUpDxRefIdeal : Cert.KvUpDxRefIdeal.Facts) (hKvUpDw : Cert.KvUpDw.Facts) (hKvUpDwIdeal : Cert.KvUpDwIdeal.Facts) (hKvUpDwRefIdeal : Cert.KvUpDwRefIdeal.Facts) (hInFwd : Cert.InFwd.Facts) (hInFwdIdeal : Cert.InFwdIdeal.Facts) (hInFwdRefIdeal : Cert.InFwdRefIdeal.Facts) (hQUpFwd : Cert.QUpFwd.Facts) (hQUpFwdIdeal : Cert.QUpFwdIdeal.Facts) (hQUpFwdRefIdeal : Cert.QUpFwdRefIdeal.Facts) (hKvUpFwd : Cert.KvUpFwd.Facts) (hKvUpFwdIdeal : Cert.KvUpFwdIdeal.Facts) (hKvUpFwdRefIdeal : Cert.KvUpFwdRefIdeal.Facts) (hProjAFwd : Cert.ProjAFwd.Facts) (hProjAFwdIdeal : Cert.ProjAFwdIdeal.Facts) (hProjAFwdRefIdeal : Cert.ProjAFwdRefIdeal.Facts) (hProjCFwd : Cert.ProjCFwd.Facts) (hProjCFwdIdeal : Cert.ProjCFwdIdeal.Facts) (hProjCFwdRefIdeal : Cert.ProjCFwdRefIdeal.Facts) (hOutFwd : Cert.OutFwd.Facts) (hOutFwdIdeal : Cert.OutFwdIdeal.Facts) (hOutFwdRefIdeal : Cert.OutFwdRefIdeal.Facts) (hAttend : Cert.Attend.Facts) (hAttendIdeal : Cert.AttendIdeal.Facts) (hAttendRefIdeal : Cert.AttendRefIdeal.Facts) (hGateFwd : Cert.GateFwd.Facts) (hGateFwdIdeal : Cert.GateFwdIdeal.Facts) (hGateFwdRefIdeal : Cert.GateFwdRefIdeal.Facts) (hGateDx : Cert.GateDx.Facts) (hGateDxIdeal : Cert.GateDxIdeal.Facts) (hGateDxRefIdeal : Cert.GateDxRefIdeal.Facts) (hGateDw : Cert.GateDw.Facts) (hGateDwIdeal : Cert.GateDwIdeal.Facts) (hGateDwRefIdeal : Cert.GateDwRefIdeal.Facts) (hMerge : Cert.Merge.Facts) (hMergeIdeal : Cert.MergeIdeal.Facts) (hMergeRefIdeal : Cert.MergeRefIdeal.Facts) (hMulB : Cert.MulB.Facts) (hMulBIdeal : Cert.MulBIdeal.Facts) (hMulBRefIdeal : Cert.MulBRefIdeal.Facts) (hMulC : Cert.MulC.Facts) (hMulCIdeal : Cert.MulCIdeal.Facts) (hMulCRefIdeal : Cert.MulCRefIdeal.Facts) (hPost : Cert.Post.Facts) (hPostIdeal : Cert.PostIdeal.Facts) (hPostRefIdeal : Cert.PostRefIdeal.Facts) (hAdam : Cert.Adam.Facts) (hAdamIdeal : Cert.AdamIdeal.Facts) (hAdamRefIdeal : Cert.AdamRefIdeal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjCDx (hProjCDx := hProjCDx)
    ∧ quiescent_ProjCDxIdeal (hProjCDxIdeal := hProjCDxIdeal)
    ∧ quiescent_ProjCDxRefIdeal (hProjCDxRefIdeal := hProjCDxRefIdeal)
    ∧ quiescent_ProjCDw (hProjCDw := hProjCDw)
    ∧ quiescent_ProjCDwIdeal (hProjCDwIdeal := hProjCDwIdeal)
    ∧ quiescent_ProjCDwRefIdeal (hProjCDwRefIdeal := hProjCDwRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_QUpFwd (hQUpFwd := hQUpFwd)
    ∧ quiescent_QUpFwdIdeal (hQUpFwdIdeal := hQUpFwdIdeal)
    ∧ quiescent_QUpFwdRefIdeal (hQUpFwdRefIdeal := hQUpFwdRefIdeal)
    ∧ quiescent_KvUpFwd (hKvUpFwd := hKvUpFwd)
    ∧ quiescent_KvUpFwdIdeal (hKvUpFwdIdeal := hKvUpFwdIdeal)
    ∧ quiescent_KvUpFwdRefIdeal (hKvUpFwdRefIdeal := hKvUpFwdRefIdeal)
    ∧ quiescent_ProjAFwd (hProjAFwd := hProjAFwd)
    ∧ quiescent_ProjAFwdIdeal (hProjAFwdIdeal := hProjAFwdIdeal)
    ∧ quiescent_ProjAFwdRefIdeal (hProjAFwdRefIdeal := hProjAFwdRefIdeal)
    ∧ quiescent_ProjCFwd (hProjCFwd := hProjCFwd)
    ∧ quiescent_ProjCFwdIdeal (hProjCFwdIdeal := hProjCFwdIdeal)
    ∧ quiescent_ProjCFwdRefIdeal (hProjCFwdRefIdeal := hProjCFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Attend (hAttend := hAttend)
    ∧ quiescent_AttendIdeal (hAttendIdeal := hAttendIdeal)
    ∧ quiescent_AttendIdeal_pre_finite_heads (hAttendIdeal := hAttendIdeal) (hPre_finite_heads := hPre_finite_heads)
    ∧ quiescent_AttendRefIdeal (hAttendRefIdeal := hAttendRefIdeal)
    ∧ quiescent_AttendRefIdeal_pre_finite_heads (hAttendRefIdeal := hAttendRefIdeal) (hPre_finite_heads := hPre_finite_heads)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_Merge (hMerge := hMerge)
    ∧ quiescent_MergeIdeal (hMergeIdeal := hMergeIdeal)
    ∧ quiescent_MergeRefIdeal (hMergeRefIdeal := hMergeRefIdeal)
    ∧ quiescent_MulB (hMulB := hMulB)
    ∧ quiescent_MulBIdeal (hMulBIdeal := hMulBIdeal)
    ∧ quiescent_MulBRefIdeal (hMulBRefIdeal := hMulBRefIdeal)
    ∧ quiescent_MulC (hMulC := hMulC)
    ∧ quiescent_MulCIdeal (hMulCIdeal := hMulCIdeal)
    ∧ quiescent_MulCRefIdeal (hMulCRefIdeal := hMulCRefIdeal)
    ∧ quiescent_Post (hPost := hPost)
    ∧ quiescent_PostIdeal (hPostIdeal := hPostIdeal)
    ∧ quiescent_PostRefIdeal (hPostRefIdeal := hPostRefIdeal)
    ∧ quiescent_Adam (hAdam := hAdam)
    ∧ quiescent_AdamIdeal (hAdamIdeal := hAdamIdeal)
    ∧ quiescent_AdamRefIdeal (hAdamRefIdeal := hAdamRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_ProjCDx_ProjCDxIdeal
    ∧ algebraic_ProjCDxIdeal_ProjCDxRefIdeal (hProjCDxIdeal := hProjCDxIdeal) (hProjCDxRefIdeal := hProjCDxRefIdeal)
    ∧ preserves_ProjCDw_ProjCDwIdeal
    ∧ algebraic_ProjCDwIdeal_ProjCDwRefIdeal (hProjCDwIdeal := hProjCDwIdeal) (hProjCDwRefIdeal := hProjCDwRefIdeal)
    ∧ preserves_QUpDx_QUpDxIdeal
    ∧ algebraic_QUpDxIdeal_QUpDxRefIdeal (hQUpDxIdeal := hQUpDxIdeal) (hQUpDxRefIdeal := hQUpDxRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_InFwd_InFwdIdeal
    ∧ algebraic_InFwdIdeal_InFwdRefIdeal (hInFwdIdeal := hInFwdIdeal) (hInFwdRefIdeal := hInFwdRefIdeal)
    ∧ preserves_QUpFwd_QUpFwdIdeal
    ∧ algebraic_QUpFwdIdeal_QUpFwdRefIdeal (hQUpFwdIdeal := hQUpFwdIdeal) (hQUpFwdRefIdeal := hQUpFwdRefIdeal)
    ∧ preserves_KvUpFwd_KvUpFwdIdeal
    ∧ algebraic_KvUpFwdIdeal_KvUpFwdRefIdeal (hKvUpFwdIdeal := hKvUpFwdIdeal) (hKvUpFwdRefIdeal := hKvUpFwdRefIdeal)
    ∧ preserves_ProjAFwd_ProjAFwdIdeal
    ∧ algebraic_ProjAFwdIdeal_ProjAFwdRefIdeal (hProjAFwdIdeal := hProjAFwdIdeal) (hProjAFwdRefIdeal := hProjAFwdRefIdeal)
    ∧ preserves_ProjCFwd_ProjCFwdIdeal
    ∧ algebraic_ProjCFwdIdeal_ProjCFwdRefIdeal (hProjCFwdIdeal := hProjCFwdIdeal) (hProjCFwdRefIdeal := hProjCFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Attend_AttendIdeal
    ∧ algebraic_AttendIdeal_AttendRefIdeal_pre_finite_heads (hAttendIdeal := hAttendIdeal) (hAttendRefIdeal := hAttendRefIdeal) (hPre_finite_heads := hPre_finite_heads)
    ∧ preserves_GateFwd_GateFwdIdeal
    ∧ algebraic_GateFwdIdeal_GateFwdRefIdeal (hGateFwdIdeal := hGateFwdIdeal) (hGateFwdRefIdeal := hGateFwdRefIdeal)
    ∧ preserves_GateDx_GateDxIdeal
    ∧ algebraic_GateDxIdeal_GateDxRefIdeal (hGateDxIdeal := hGateDxIdeal) (hGateDxRefIdeal := hGateDxRefIdeal)
    ∧ preserves_GateDw_GateDwIdeal
    ∧ algebraic_GateDwIdeal_GateDwRefIdeal (hGateDwIdeal := hGateDwIdeal) (hGateDwRefIdeal := hGateDwRefIdeal)
    ∧ preserves_Merge_MergeIdeal
    ∧ algebraic_MergeIdeal_MergeRefIdeal (hMergeIdeal := hMergeIdeal) (hMergeRefIdeal := hMergeRefIdeal)
    ∧ preserves_MulB_MulBIdeal
    ∧ algebraic_MulBIdeal_MulBRefIdeal (hMulBIdeal := hMulBIdeal) (hMulBRefIdeal := hMulBRefIdeal)
    ∧ preserves_MulC_MulCIdeal
    ∧ algebraic_MulCIdeal_MulCRefIdeal (hMulCIdeal := hMulCIdeal) (hMulCRefIdeal := hMulCRefIdeal)
    ∧ preserves_Post_PostIdeal
    ∧ algebraic_PostIdeal_PostRefIdeal (hPostIdeal := hPostIdeal) (hPostRefIdeal := hPostRefIdeal)
    ∧ preserves_Adam_AdamIdeal
    ∧ algebraic_AdamIdeal_AdamRefIdeal (hAdamIdeal := hAdamIdeal) (hAdamRefIdeal := hAdamRefIdeal)
-- ==== Pre_finite.lean ====
abbrev S2048x2048 : Shape := ⟨2, ![2048, 2048]⟩
abbrev S2048x1024 : Shape := ⟨2, ![2048, 1024]⟩
abbrev S_ : Shape := ⟨0, ![]⟩
abbrev S2048x3072 : Shape := ⟨2, ![2048, 3072]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  concatenates_S2048x2048_S2048x1024_S2048x3072_d1 : Shape.Concatenates [S2048x2048, S2048x1024] S2048x3072 1

variable [Facts]

def fn {F : FTy → Type} [FloatOps F] (main_arg0 : FVec F S2048x2048 .bf16) (main_arg1 : FVec F S2048x2048 .bf16) (main_arg2 : FVec F S2048x1024 .bf16) (main_arg3 : FVec F S2048x1024 .bf16) : IVec S2048x3072 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S2048x2048 .bf16 := Host.absf main_arg1
  let main_cst_0 : FVec F S_ .bf16 := constant S_ .bf16 0x7F80#16
  let main_v4 : FVec F S2048x2048 .bf16 := broadcastInDim S2048x2048 ![] bcast_S_S2048x2048 main_cst_0
  let main_v5 : IVec S2048x2048 1 := cmpf .olt main_v3 main_v4
  let main_v6 : IVec S2048x2048 1 := andi main_v2 main_v5
  let main_v7 : FVec F S2048x1024 .bf16 := Host.absf main_arg2
  let main_cst_1 : FVec F S_ .bf16 := constant S_ .bf16 0x7F80#16
  let main_v8 : FVec F S2048x1024 .bf16 := broadcastInDim S2048x1024 ![] bcast_S_S2048x1024 main_cst_1
  let main_v9 : IVec S2048x1024 1 := cmpf .olt main_v7 main_v8
  let main_v10 : FVec F S2048x1024 .bf16 := Host.absf main_arg3
  let main_cst_2 : FVec F S_ .bf16 := constant S_ .bf16 0x7F80#16
  let main_v11 : FVec F S2048x1024 .bf16 := broadcastInDim S2048x1024 ![] bcast_S_S2048x1024 main_cst_2
  let main_v12 : IVec S2048x1024 1 := cmpf .olt main_v10 main_v11
  let main_v13 : IVec S2048x1024 1 := andi main_v9 main_v12
  let main_v14 : IVec S2048x3072 1 := (fun a b => concatenate S2048x3072 1 [⟨S2048x2048, a⟩, ⟨S2048x1024, b⟩] concatenates_S2048x2048_S2048x1024_S2048x3072_d1) main_v6 main_v13
  main_v14
-- ==== Pre_finite_heads.lean ====
abbrev S2048x2048 : Shape := ⟨2, ![2048, 2048]⟩
abbrev S2048x1024 : Shape := ⟨2, ![2048, 1024]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .bf16) (main_arg1 : FVec F S2048x2048 .bf16) (main_arg2 : FVec F S2048x1024 .bf16) : IVec S2048x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S2048x2048 .bf16 := Host.absf main_arg1
  let main_cst_0 : FVec F S_ .bf16 := constant S_ .bf16 0x7F80#16
  let main_v4 : FVec F S2048x2048 .bf16 := broadcastInDim S2048x2048 ![] bcast_S_S2048x2048 main_cst_0
  let main_v5 : IVec S2048x2048 1 := cmpf .olt main_v3 main_v4
  let main_v6 : IVec S2048x2048 1 := andi main_v2 main_v5
  main_v6
-- ==== Kernel.lean ====
abbrev S2048x2048 : Shape := ⟨2, ![2048, 2048]⟩
abbrev S2048x1024 : Shape := ⟨2, ![2048, 1024]⟩
abbrev S2048x8x256 : Shape := ⟨3, ![2048, 8, 256]⟩
abbrev S8x2048x2048 : Shape := ⟨3, ![8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S2048x8x128 : Shape := ⟨3, ![2048, 8, 128]⟩
abbrev S8x128x2048 : Shape := ⟨3, ![8, 128, 2048]⟩
abbrev S2048x8 : Shape := ⟨2, ![2048, 8]⟩
abbrev S2048x128 : Shape := ⟨2, ![2048, 128]⟩
abbrev S128x2048 : Shape := ⟨2, ![128, 2048]⟩
abbrev S512x256 : Shape := ⟨2, ![512, 256]⟩
abbrev S2048x256 : Shape := ⟨2, ![2048, 256]⟩
abbrev S256x2048 : Shape := ⟨2, ![256, 2048]⟩
abbrev S512x128 : Shape := ⟨2, ![512, 128]⟩
abbrev S1x1x512 : Shape := ⟨3, ![1, 1, 512]⟩
abbrev S8x512 : Shape := ⟨2, ![8, 512]⟩
abbrev S256x512 : Shape := ⟨2, ![256, 512]⟩
abbrev S1x512 : Shape := ⟨2, ![1, 512]⟩
abbrev S512x512 : Shape := ⟨2, ![512, 512]⟩

abbrev nBuf : Space → Nat
  | .hbm => 70
  | .vmem => 21
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S2048x1024, .bf16⟩
  | .hbm, ⟨4, _⟩ => ⟨S2048x2048, .f32⟩
  | .hbm, ⟨5, _⟩ => ⟨S2048x8x256, .f32⟩
  | .hbm, ⟨6, _⟩ => ⟨S2048x2048, .f32⟩
  | .hbm, ⟨7, _⟩ => ⟨S2048x8x256, .f32⟩
  | .hbm, ⟨8, _⟩ => ⟨S8x2048x2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S1x2048x2048, .i1⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x1x2048, .f32⟩
  | .hbm, ⟨51, _⟩ => ⟨S8x2048x2048, .f32⟩
  | .hbm, ⟨52, _⟩ => ⟨S8x2048x2048, .f32⟩
  | .hbm, ⟨53, _⟩ => ⟨S2048x1024, .f32⟩
  | .hbm, ⟨54, _⟩ => ⟨S2048x8x128, .f32⟩
  | .hbm, ⟨55, _⟩ => ⟨S8x128x2048, .f32⟩
  | .hbm, ⟨56, _⟩ => ⟨S2048x8x128, .f32⟩
  | .hbm, ⟨57, _⟩ => ⟨S2048x1024, .f32⟩
  | .hbm, ⟨58, _⟩ => ⟨S2048x8x128, .f32⟩
  | .hbm, ⟨59, _⟩ => ⟨S2048x8x128, .f32⟩
  | .hbm, ⟨60, _⟩ => ⟨S_, .f32⟩
  | .hbm, ⟨61, _⟩ => ⟨S2048x8, .f32⟩
  | .hbm, ⟨62, _⟩ => ⟨S_, .i32⟩
  | .hbm, ⟨63, _⟩ => ⟨S_, .f32⟩
  | .hbm, ⟨64, _⟩ => ⟨S2048x128, .f32⟩
  | .hbm, ⟨65, _⟩ => ⟨S128x2048, .f32⟩
  | .hbm, ⟨66, _⟩ => ⟨S2048x2048, .bf16⟩
  | .hbm, ⟨67, _⟩ => ⟨S2048x2048, .bf16⟩
  | .hbm, ⟨68, _⟩ => ⟨S2048x2048, .f32⟩
  | .hbm, ⟨69, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S256x2048, .bf16⟩
  | .local _ .vmem, ⟨5, _⟩ => ⟨S256x2048, .bf16⟩
  | .local _ .vmem, ⟨6, _⟩ => ⟨S2048x128, .bf16⟩
  | .local _ .vmem, ⟨7, _⟩ => ⟨S2048x128, .bf16⟩
  | .local _ .vmem, ⟨8, _⟩ => ⟨S512x128, .bf16⟩
  | .local _ .vmem, ⟨9, _⟩ => ⟨S512x128, .bf16⟩
  | .local _ .vmem, ⟨10, _⟩ => ⟨S1x1x512, .f32⟩
  | .local _ .vmem, ⟨11, _⟩ => ⟨S1x1x512, .f32⟩
  | .local _ .vmem, ⟨12, _⟩ => ⟨S8x512, .f32⟩
  | .local _ .vmem, ⟨13, _⟩ => ⟨S8x512, .f32⟩
  | .local _ .vmem, ⟨14, _⟩ => ⟨S512x256, .bf16⟩
  | .local _ .vmem, ⟨15, _⟩ => ⟨S512x256, .bf16⟩
  | .local _ .vmem, ⟨16, _⟩ => ⟨S2048x256, .f32⟩
  | .local _ .vmem, ⟨17, _⟩ => ⟨S2048x256, .f32⟩
  | .local _ .vmem, ⟨18, _⟩ => ⟨S2048x128, .f32⟩
  | .local _ .vmem, ⟨19, _⟩ => ⟨S2048x128, .f32⟩
  | .local _ .vmem, ⟨20, _⟩ => ⟨S256x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_c_3 : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37_0 : Ref sig .tc := ⟨.hbm, 67, rfl⟩
abbrev main_v37_1 : Ref sig .tc := ⟨.hbm, 68, rfl⟩
abbrev main_v37_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v7 : Index := Scalar.indexCast arg0
  let c0_7 : Index := 0#32
  ![v7.toNat, 0]
def k0_mult1 : BitVec 32 :=
  let c0_i32_20 : BitVec 32 := 0#32
  c0_i32_20
def k0_mult2 : BitVec 32 :=
  let c0_i32_23 : BitVec 32 := 0#32
  c0_i32_23
@[reducible] def k0_t1_loop (i : grid0.Coords) : Scf.Loop 32 :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_28 : BitVec 32 := 1#32
  ⟨c0_i32_26, v48, c1_i32_28⟩
def k0_mult3 (i : grid0.Coords) (k0_t1 : Fin (k0_t1_loop i).trips) : BitVec 32 :=
  let c0_i32_26 : BitVec 32 := 0#32
  let c1_i32_28 : BitVec 32 := 1#32
  let arg13 : BitVec 32 := Scf.iv c0_i32_26 c1_i32_28 k0_t1
  let c1_i32_68 : BitVec 32 := 1#32
  let v152 : BitVec 32 := Scalar.addi arg13 c1_i32_68
  let c1_i32_69 : BitVec 32 := 1#32
  let v153 : BitVec 32 := Scalar.muli v152 c1_i32_69
  let c0_i32_70 : BitVec 32 := 0#32
  let v154 : BitVec 32 := Scalar.addi v153 c0_i32_70
  let c512_i32_71 : BitVec 32 := 512#32
  let v155 : BitVec 32 := Scalar.muli v154 c512_i32_71
  v155
def k0_off2 (i : grid0.Coords) (k0_t1 : Fin (k0_t1_loop i).trips) : Fin 2 → Nat :=
  let c0_i32_26 : BitVec 32 := 0#32
  let c1_i32_28 : BitVec 32 := 1#32
  let arg13 : BitVec 32 := Scf.iv c0_i32_26 c1_i32_28 k0_t1
  let c1_i32_68 : BitVec 32 := 1#32
  let v152 : BitVec 32 := Scalar.addi arg13 c1_i32_68
  let c1_i32_69 : BitVec 32 := 1#32
  let v153 : BitVec 32 := Scalar.muli v152 c1_i32_69
  let c0_i32_70 : BitVec 32 := 0#32
  let v154 : BitVec 32 := Scalar.addi v153 c0_i32_70
  let c512_i32_71 : BitVec 32 := 512#32
  let v155 : BitVec 32 := Scalar.muli v154 c512_i32_71
  let v156 : BitVec 32 := v155
  let v157 : Index := Scalar.indexCast v156
  let c0_72 : Index := 0#32
  ![v157.toNat, 0]
def k0_mult4 (i : grid0.Coords) (k0_t1 : Fin (k0_t1_loop i).trips) : BitVec 32 :=
  let c0_i32_26 : BitVec 32 := 0#32
  let c1_i32_28 : BitVec 32 := 1#32
  let arg13 : BitVec 32 := Scf.iv c0_i32_26 c1_i32_28 k0_t1
  let c1_i32_68 : BitVec 32 := 1#32
  let v152 : BitVec 32 := Scalar.addi arg13 c1_i32_68
  let c1_i32_74 : BitVec 32 := 1#32
  let v160 : BitVec 32 := Scalar.muli v152 c1_i32_74
  let c0_i32_75 : BitVec 32 := 0#32
  let v161 : BitVec 32 := Scalar.addi v160 c0_i32_75
  let c512_i32_76 : BitVec 32 := 512#32
  let v162 : BitVec 32 := Scalar.muli v161 c512_i32_76
  v162
def k0_off3 (i : grid0.Coords) (k0_t1 : Fin (k0_t1_loop i).trips) : Fin 2 → Nat :=
  let c0_i32_26 : BitVec 32 := 0#32
  let c1_i32_28 : BitVec 32 := 1#32
  let arg13 : BitVec 32 := Scf.iv c0_i32_26 c1_i32_28 k0_t1
  let c1_i32_68 : BitVec 32 := 1#32
  let v152 : BitVec 32 := Scalar.addi arg13 c1_i32_68
  let c1_i32_74 : BitVec 32 := 1#32
  let v160 : BitVec 32 := Scalar.muli v152 c1_i32_74
  let c0_i32_75 : BitVec 32 := 0#32
  let v161 : BitVec 32 := Scalar.addi v160 c0_i32_75
  let c512_i32_76 : BitVec 32 := 512#32
  let v162 : BitVec 32 := Scalar.muli v161 c512_i32_76
  let v163 : BitVec 32 := v162
  let v164 : Index := Scalar.indexCast v163
  let c0_77 : Index := 0#32
  ![v164.toNat, 0]
def k0_mult5 (i : grid0.Coords) (k0_t1 : Fin (k0_t1_loop i).trips) : BitVec 32 :=
  let c0_i32_26 : BitVec 32 := 0#32
  let c1_i32_28 : BitVec 32 := 1#32
  let arg13 : BitVec 32 := Scf.iv c0_i32_26 c1_i32_28 k0_t1
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  v169
def k0_off4 (i : grid0.Coords) (k0_t1 : Fin (k0_t1_loop i).trips) : Fin 2 → Nat :=
  let c0_i32_26 : BitVec 32 := 0#32
  let c1_i32_28 : BitVec 32 := 1#32
  let arg13 : BitVec 32 := Scf.iv c0_i32_26 c1_i32_28 k0_t1
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v178 : Index := Scalar.indexCast v170
  let c0_82 : Index := 0#32
  ![v178.toNat, 0]
def k0_off5 (i : grid0.Coords) (k0_t1 : Fin (k0_t1_loop i).trips) : Fin 2 → Nat :=
  let c0_i32_26 : BitVec 32 := 0#32
  let c1_i32_28 : BitVec 32 := 1#32
  let arg13 : BitVec 32 := Scf.iv c0_i32_26 c1_i32_28 k0_t1
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v185 : Index := Scalar.indexCast v170
  let c0_85 : Index := 0#32
  ![v185.toNat, 0]
def k0_off6 (i : grid0.Coords) (k0_t1 : Fin (k0_t1_loop i).trips) : Fin 2 → Nat :=
  let c0_88 : Index := 0#32
  let c0_i32_26 : BitVec 32 := 0#32
  let c1_i32_28 : BitVec 32 := 1#32
  let arg13 : BitVec 32 := Scf.iv c0_i32_26 c1_i32_28 k0_t1
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v193 : Index := Scalar.indexCast v170
  ![0, v193.toNat]
@[reducible] def k0_t2_loop (i : grid0.Coords) : Scf.Loop 32 :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let v45 : BitVec 32 := Scalar.addi c0_i32_26 v44
  let c1_i32_29 : BitVec 32 := 1#32
  ⟨v48, v45, c1_i32_29⟩
def k0_mult6 (i : grid0.Coords) (k0_t2 : Fin (k0_t2_loop i).trips) : BitVec 32 :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_68 : BitVec 32 := 1#32
  let v152 : BitVec 32 := Scalar.addi arg13 c1_i32_68
  let c1_i32_69 : BitVec 32 := 1#32
  let v153 : BitVec 32 := Scalar.muli v152 c1_i32_69
  let c0_i32_70 : BitVec 32 := 0#32
  let v154 : BitVec 32 := Scalar.addi v153 c0_i32_70
  let c512_i32_71 : BitVec 32 := 512#32
  let v155 : BitVec 32 := Scalar.muli v154 c512_i32_71
  v155
def k0_off7 (i : grid0.Coords) (k0_t2 : Fin (k0_t2_loop i).trips) : Fin 2 → Nat :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_68 : BitVec 32 := 1#32
  let v152 : BitVec 32 := Scalar.addi arg13 c1_i32_68
  let c1_i32_69 : BitVec 32 := 1#32
  let v153 : BitVec 32 := Scalar.muli v152 c1_i32_69
  let c0_i32_70 : BitVec 32 := 0#32
  let v154 : BitVec 32 := Scalar.addi v153 c0_i32_70
  let c512_i32_71 : BitVec 32 := 512#32
  let v155 : BitVec 32 := Scalar.muli v154 c512_i32_71
  let v156 : BitVec 32 := v155
  let v157 : Index := Scalar.indexCast v156
  let c0_72 : Index := 0#32
  ![v157.toNat, 0]
def k0_mult7 (i : grid0.Coords) (k0_t2 : Fin (k0_t2_loop i).trips) : BitVec 32 :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_68 : BitVec 32 := 1#32
  let v152 : BitVec 32 := Scalar.addi arg13 c1_i32_68
  let c1_i32_74 : BitVec 32 := 1#32
  let v160 : BitVec 32 := Scalar.muli v152 c1_i32_74
  let c0_i32_75 : BitVec 32 := 0#32
  let v161 : BitVec 32 := Scalar.addi v160 c0_i32_75
  let c512_i32_76 : BitVec 32 := 512#32
  let v162 : BitVec 32 := Scalar.muli v161 c512_i32_76
  v162
def k0_off8 (i : grid0.Coords) (k0_t2 : Fin (k0_t2_loop i).trips) : Fin 2 → Nat :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_68 : BitVec 32 := 1#32
  let v152 : BitVec 32 := Scalar.addi arg13 c1_i32_68
  let c1_i32_74 : BitVec 32 := 1#32
  let v160 : BitVec 32 := Scalar.muli v152 c1_i32_74
  let c0_i32_75 : BitVec 32 := 0#32
  let v161 : BitVec 32 := Scalar.addi v160 c0_i32_75
  let c512_i32_76 : BitVec 32 := 512#32
  let v162 : BitVec 32 := Scalar.muli v161 c512_i32_76
  let v163 : BitVec 32 := v162
  let v164 : Index := Scalar.indexCast v163
  let c0_77 : Index := 0#32
  ![v164.toNat, 0]
def k0_mult8 (i : grid0.Coords) (k0_t2 : Fin (k0_t2_loop i).trips) : BitVec 32 :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  v169
def k0_off9 (i : grid0.Coords) (k0_t2 : Fin (k0_t2_loop i).trips) : Fin 2 → Nat :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v178 : Index := Scalar.indexCast v170
  let c0_82 : Index := 0#32
  ![v178.toNat, 0]
def k0_off10 (i : grid0.Coords) (k0_t2 : Fin (k0_t2_loop i).trips) : Fin 2 → Nat :=
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v185 : Index := Scalar.indexCast v170
  let c0_85 : Index := 0#32
  ![v185.toNat, 0]
def k0_off11 (i : grid0.Coords) (k0_t2 : Fin (k0_t2_loop i).trips) : Fin 2 → Nat :=
  let c0_88 : Index := 0#32
  let c0_i32_26 : BitVec 32 := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_19 : BitVec 32 := 1#32
  let v35 : BitVec 32 := Scalar.subi v34 c1_i32_19
  let v44 : BitVec 32 := Scalar.subi v35 c0_i32_26
  let c1_i32_27 : BitVec 32 := 1#32
  let v46 : BitVec 32 := Scalar.divsi v44 c1_i32_27
  let v47 : BitVec 32 := Scalar.muli v46 c1_i32_27
  let v48 : BitVec 32 := Scalar.addi c0_i32_26 v47
  let c1_i32_29 : BitVec 32 := 1#32
  let arg13 : BitVec 32 := Scf.iv v48 c1_i32_29 k0_t2
  let c1_i32_79 : BitVec 32 := 1#32
  let v167 : BitVec 32 := Scalar.muli arg13 c1_i32_79
  let c0_i32_80 : BitVec 32 := 0#32
  let v168 : BitVec 32 := Scalar.addi v167 c0_i32_80
  let c512_i32_81 : BitVec 32 := 512#32
  let v169 : BitVec 32 := Scalar.muli v168 c512_i32_81
  let v170 : BitVec 32 := v169
  let v193 : Index := Scalar.indexCast v170
  ![0, v193.toNat]
def k0_mult9 (i : grid0.Coords) : BitVec 32 :=
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_30 : BitVec 32 := 1#32
  let v51 : BitVec 32 := Scalar.subi v34 c1_i32_30
  let c1_i32_31 : BitVec 32 := 1#32
  let v52 : BitVec 32 := Scalar.muli v51 c1_i32_31
  let c0_i32_32 : BitVec 32 := 0#32
  let v53 : BitVec 32 := Scalar.addi v52 c0_i32_32
  let c512_i32_33 : BitVec 32 := 512#32
  let v54 : BitVec 32 := Scalar.muli v53 c512_i32_33
  v54
def k0_off12 (i : grid0.Coords) : Fin 2 → Nat :=
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_30 : BitVec 32 := 1#32
  let v51 : BitVec 32 := Scalar.subi v34 c1_i32_30
  let c1_i32_31 : BitVec 32 := 1#32
  let v52 : BitVec 32 := Scalar.muli v51 c1_i32_31
  let c0_i32_32 : BitVec 32 := 0#32
  let v53 : BitVec 32 := Scalar.addi v52 c0_i32_32
  let c512_i32_33 : BitVec 32 := 512#32
  let v54 : BitVec 32 := Scalar.muli v53 c512_i32_33
  let v55 : BitVec 32 := v54
  let v124 : Index := Scalar.indexCast v55
  let c0_52 : Index := 0#32
  ![v124.toNat, 0]
def k0_off13 (i : grid0.Coords) : Fin 2 → Nat :=
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_30 : BitVec 32 := 1#32
  let v51 : BitVec 32 := Scalar.subi v34 c1_i32_30
  let c1_i32_31 : BitVec 32 := 1#32
  let v52 : BitVec 32 := Scalar.muli v51 c1_i32_31
  let c0_i32_32 : BitVec 32 := 0#32
  let v53 : BitVec 32 := Scalar.addi v52 c0_i32_32
  let c512_i32_33 : BitVec 32 := 512#32
  let v54 : BitVec 32 := Scalar.muli v53 c512_i32_33
  let v55 : BitVec 32 := v54
  let v131 : Index := Scalar.indexCast v55
  let c0_55 : Index := 0#32
  ![v131.toNat, 0]
def k0_off14 (i : grid0.Coords) : Fin 2 → Nat :=
  let c0_58 : Index := 0#32
  let arg1 : BitVec 32 := BitVec.ofNat 32 (i 1).val
  let c1_i32 : BitVec 32 := 1#32
  let v14 : BitVec 32 := Scalar.addi arg1 c1_i32
  let c512_i32 : BitVec 32 := 512#32
  let v15 : BitVec 32 := Scalar.muli v14 c512_i32
  let c512_i32_10 : BitVec 32 := 512#32
  let v16 : BitVec 32 := Scalar.addi v15 c512_i32_10
  let c1_i32_11 : BitVec 32 := 1#32
  let v17 : BitVec 32 := Scalar.subi v16 c1_i32_11
  let c0_i32_13 : BitVec 32 := 0#32
  let v19 : BitVec 1 := Scalar.cmpi .sgt v17 c0_i32_13
  let v20 : BitVec 32 := Scalar.extui v19
  let c0_i32_14 : BitVec 32 := 0#32
  let v21 : BitVec 1 := Scalar.cmpi .slt v17 c0_i32_14
  let v22 : BitVec 32 := Scalar.extui v21
  let v23 : BitVec 32 := Scalar.subi v20 v22
  let c512_i32_12 : BitVec 32 := 512#32
  let c0_i32_15 : BitVec 32 := 0#32
  let v24 : BitVec 1 := Scalar.cmpi .sgt c512_i32_12 c0_i32_15
  let v25 : BitVec 32 := Scalar.extui v24
  let c0_i32_16 : BitVec 32 := 0#32
  let v26 : BitVec 1 := Scalar.cmpi .slt c512_i32_12 c0_i32_16
  let v27 : BitVec 32 := Scalar.extui v26
  let v28 : BitVec 32 := Scalar.subi v25 v27
  let v29 : BitVec 1 := Scalar.cmpi .ne v23 v28
  let v30 : BitVec 32 := Scalar.remsi v17 c512_i32_12
  let c0_i32_17 : BitVec 32 := 0#32
  let v31 : BitVec 1 := Scalar.cmpi .ne v30 c0_i32_17
  let v32 : BitVec 1 := Scalar.andi v29 v31
  let v18 : BitVec 32 := Scalar.divsi v17 c512_i32_12
  let c1_i32_18 : BitVec 32 := 1#32
  let v33 : BitVec 32 := Scalar.subi v18 c1_i32_18
  let v34 : BitVec 32 := Scalar.select v32 v33 v18
  let c1_i32_30 : BitVec 32 := 1#32
  let v51 : BitVec 32 := Scalar.subi v34 c1_i32_30
  let c1_i32_31 : BitVec 32 := 1#32
  let v52 : BitVec 32 := Scalar.muli v51 c1_i32_31
  let c0_i32_32 : BitVec 32 := 0#32
  let v53 : BitVec 32 := Scalar.addi v52 c0_i32_32
  let c512_i32_33 : BitVec 32 := 512#32
  let v54 : BitVec 32 := Scalar.muli v53 c512_i32_33
  let v55 : BitVec 32 := v54
  let v139 : Index := Scalar.indexCast v55
  ![0, v139.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2048x2048 : Shape := ⟨2, ![2048, 2048]⟩
abbrev S2048x1024 : Shape := ⟨2, ![2048, 1024]⟩
abbrev S2048x8x256 : Shape := ⟨3, ![2048, 8, 256]⟩
abbrev S8x2048x2048 : Shape := ⟨3, ![8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S1x2048x2048 : Shape := ⟨3, ![1, 2048, 2048]⟩
abbrev S8x2048 : Shape := ⟨2, ![8, 2048]⟩
abbrev S8x2048x1 : Shape := ⟨3, ![8, 2048, 1]⟩
abbrev S2048x8x128 : Shape := ⟨3, ![2048, 8, 128]⟩
abbrev S8x128x2048 : Shape := ⟨3, ![8, 128, 2048]⟩
abbrev S8x2048x256 : Shape := ⟨3, ![8, 2048, 256]⟩

abbrev nBuf : Space → Nat
  | .hbm => 115
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S2048x1024, .bf16⟩
  | .hbm, ⟨4, _⟩ => ⟨S2048x2048, .f32⟩
  | .hbm, ⟨5, _⟩ => ⟨S2048x2048, .f32⟩
  | .hbm, ⟨6, _⟩ => ⟨S2048x1024, .f32⟩
  | .hbm, ⟨7, _⟩ => ⟨S2048x8x256, .f32⟩
  | .hbm, ⟨8, _⟩ => ⟨S2048x8x256, .f32⟩
  | .hbm, ⟨9, _⟩ => ⟨S8x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .i1⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S8x2048, .i1⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S_, .f32⟩
  | .hbm, ⟨64, _⟩ => ⟨S8x2048, .f32⟩
  | .hbm, ⟨65, _⟩ => ⟨S8x2048, .f32⟩
  | .hbm, ⟨66, _⟩ => ⟨S8x2048, .f32⟩
  | .hbm, ⟨67, _⟩ => ⟨S8x2048x1, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S8x2048x2048, .f32⟩
  | .hbm, ⟨75, _⟩ => ⟨S8x2048x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S2048x8x128, .f32⟩
  | .hbm, ⟨81, _⟩ => ⟨S8x128x2048, .f32⟩
  | .hbm, ⟨82, _⟩ => ⟨S2048x8x128, .f32⟩
  | .hbm, ⟨83, _⟩ => ⟨S2048x1024, .f32⟩
  | .hbm, ⟨84, _⟩ => ⟨S2048x1024, .f32⟩
  | .hbm, ⟨85, _⟩ => ⟨S2048x8x128, .f32⟩
  | .hbm, ⟨86, _⟩ => ⟨S8x128x2048, .f32⟩
  | .hbm, ⟨87, _⟩ => ⟨S8x2048x2048, .f32⟩
  | .hbm, ⟨88, _⟩ => ⟨S8x128x2048, .f32⟩
  | .hbm, ⟨89, _⟩ => ⟨S2048x8x128, .f32⟩
  | .hbm, ⟨90, _⟩ => ⟨S2048x1024, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S8x2048x1, .f32⟩
  | .hbm, ⟨98, _⟩ => ⟨S8x2048x2048, .f32⟩
  | .hbm, ⟨99, _⟩ => ⟨S8x2048x2048, .f32⟩
  | .hbm, ⟨100, _⟩ => ⟨S_, .f32⟩
  | .hbm, ⟨101, _⟩ => ⟨S8x2048, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S_, .f32⟩
  | .hbm, ⟨106, _⟩ => ⟨S8x2048x2048, .f32⟩
  | .hbm, ⟨107, _⟩ => ⟨S8x2048x2048, .f32⟩
  | .hbm, ⟨108, _⟩ => ⟨S8x2048x256, .f32⟩
  | .hbm, ⟨109, _⟩ => ⟨S2048x8x256, .f32⟩
  | .hbm, ⟨110, _⟩ => ⟨S8x2048x256, .f32⟩
  | .hbm, ⟨111, _⟩ => ⟨S2048x8x256, .f32⟩
  | .hbm, ⟨112, _⟩ => ⟨S2048x2048, .f32⟩
  | .hbm, ⟨113, _⟩ => ⟨S2048x2048, .f32⟩
  | .hbm, ⟨114, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_call1_v0 : Ref sig .tc := ⟨.hbm, 36, rfl⟩
abbrev main_v14_1 : Ref sig .tc := ⟨.hbm, 37, rfl⟩
abbrev main_call1_v2 : Ref sig .tc := ⟨.hbm, 38, rfl⟩
abbrev main_v14_0 : Ref sig .tc := ⟨.hbm, 39, rfl⟩
abbrev main_call1_cst : Ref sig .tc := ⟨.hbm, 40, rfl⟩
abbrev main_v14_2 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call2_cst : Ref sig .tc := ⟨.hbm, 105, rfl⟩
abbrev main_call2_v0 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩

abbrev nD : Nat := 1
abbrev τ : Topo := Topo.v7x

variable {F : FTy → Type} [FloatOps F]
-- ==== InDx.lean ====
abbrev S2048x11264 : Shape := ⟨2, ![2048, 11264]⟩
abbrev S11264x1024 : Shape := ⟨2, ![11264, 1024]⟩
abbrev S8x128 : Shape := ⟨2, ![8, 128]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S11264x1024, .bf16⟩
  | .hbm, ⟨2, _⟩ => ⟨S8x128, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x11264 : Shape := ⟨2, ![2048, 11264]⟩
abbrev S11264x1024 : Shape := ⟨2, ![11264, 1024]⟩
abbrev S8x128 : Shape := ⟨2, ![8, 128]⟩
abbrev S_ : Shape := ⟨0, ![]⟩
abbrev S2048x1024 : Shape := ⟨2, ![2048, 1024]⟩
abbrev S1024x11264 : Shape := ⟨2, ![1024, 11264]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S11264x1024, .bf16⟩
  | .hbm, ⟨2, _⟩ => ⟨S8x128, .f32⟩
  | .hbm, ⟨3, _⟩ => ⟨S_, .f32⟩
  | .hbm, ⟨4, _⟩ => ⟨S2048x1024, .f32⟩
  | .hbm, ⟨5, _⟩ => ⟨S11264x1024, .f32⟩
  | .hbm, ⟨6, _⟩ => ⟨S1024x11264, .f32⟩
  | .hbm, ⟨7, _⟩ => ⟨S2048x11264, .f32⟩
  | .hbm, ⟨8, _⟩ => ⟨S2048x11264, .f32⟩
  | .hbm, ⟨9, _⟩ => ⟨S2048x1024, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDw.lean ====
abbrev S2048x11264 : Shape := ⟨2, ![2048, 11264]⟩
abbrev S2048x1024 : Shape := ⟨2, ![2048, 1024]⟩
abbrev S8x128 : Shape := ⟨2, ![8, 128]⟩
abbrev S11264x1024 : Shape := ⟨2, ![11264, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x1024, .bf16⟩
  | .hbm, ⟨2, _⟩ => ⟨S8x128, .f32⟩
  | .hbm, ⟨3, _⟩ => ⟨S11264x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x11264 : Shape := ⟨2, ![2048, 11264]⟩
abbrev S2048x1024 : Shape := ⟨2, ![2048, 1024]⟩
abbrev S8x128 : Shape := ⟨2, ![8, 128]⟩
abbrev S_ : Shape := ⟨0, ![]⟩
abbrev S11264x1024 : Shape := ⟨2, ![11264, 1024]⟩
abbrev S1024x11264 : Shape := ⟨2, ![1024, 11264]⟩

abbrev nBuf : Space → Nat
  | .hbm => 13
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x1024, .bf16⟩
  | .hbm, ⟨2, _⟩ => ⟨S8x128, .f32⟩
  | .hbm, ⟨3, _⟩ => ⟨S_, .f32⟩
  | .hbm, ⟨4, _⟩ => ⟨S11264x1024, .f32⟩
  | .hbm, ⟨5, _⟩ => ⟨S2048x1024, .f32⟩
  | .hbm, ⟨6, _⟩ => ⟨S1024x11264, .f32⟩
  | .hbm, ⟨7, _⟩ => ⟨S2048x11264, .f32⟩
  | .hbm, ⟨8, _⟩ => ⟨S2048x11264, .f32⟩
  | .hbm, ⟨9, _⟩ => ⟨S11264x1024, .f32⟩
  | .hbm, ⟨10, _⟩ => ⟨S1024x11264, .f32⟩
  | .hbm, ⟨11, _⟩ => ⟨S11264x1024, .f32⟩
  | .hbm, ⟨12, _⟩ => ⟨S11264x1024, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjCDx.lean ====
abbrev S2048x1024 : Shape := ⟨2, ![2048, 1024]⟩
abbrev S1280x1024 : Shape := ⟨2, ![1280, 1024]⟩
abbrev S2048x1280 : Shape := ⟨2, ![2048, 1280]⟩
abbrev S1024x1024 : Shape := ⟨2, ![1024, 1024]⟩
abbrev S640x1024 : Shape := ⟨2, ![640, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1280x1024, .bf16⟩
  | .hbm, ⟨2, _⟩ => ⟨S2048x1280, .bf16⟩
  | .local _ .vmem, ⟨0, _⟩ => ⟨S1024x1024, .bf16⟩
  | .local _ .vmem, ⟨1, _⟩ => ⟨S1024x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCDxRefIdeal.lean ====
abbrev S2048x1024 : Shape := ⟨2, ![2048, 1024]⟩
abbrev S1280x1024 : Shape := ⟨2, ![1280, 1024]⟩
abbrev S_ : Shape := ⟨0, ![]⟩
abbrev S2048x1280 : Shape := ⟨2, ![2048, 1280]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1280x1024, .bf16⟩
  | .hbm, ⟨2, _⟩ => ⟨S_, .f32⟩
  | .hbm, ⟨3, _⟩ => ⟨S2048x1280, .f32⟩
  | .hbm, ⟨4, _⟩ => ⟨S1280x1024, .f32⟩
  | .hbm, ⟨5, _⟩ => ⟨S2048x1024, .f32⟩
  | .hbm, ⟨6, _⟩ => ⟨S2048x1024, .f32⟩
  | .hbm, ⟨7, _⟩ => ⟨S2048x1280, .f32⟩
  | .hbm, ⟨8, _⟩ => ⟨S2048x1280, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjCDw.lean ====
abbrev S2048x1280 : Shape := ⟨2, ![2048, 1280]⟩
abbrev S2048x1024 : Shape := ⟨2, ![2048, 1024]⟩
abbrev S1280x1024 : Shape := ⟨2, ![1280, 1024]⟩
abbrev S1024x640 : Shape := ⟨2, ![1024, 640]⟩
abbrev S1024x1024 : Shape := ⟨2, ![1024, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S1280x1024, .bf16⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCDwRefIdeal.lean ====
abbrev S2048x1280 : Shape := ⟨2, ![2048, 1280]⟩
abbrev S2048x1024 : Shape := ⟨2, ![2048, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 10
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S_, .f32⟩
  | .hbm, ⟨3, _⟩ => ⟨S1280x1024, .f32⟩
  | .hbm, ⟨4, _⟩ => ⟨S2048x1280, .f32⟩
  | .hbm, ⟨5, _⟩ => ⟨S2048x1024, .f32⟩
  | .hbm, ⟨6, _⟩ => ⟨S2048x1024, .f32⟩
  | .hbm, ⟨7, _⟩ => ⟨S1024x1280, .f32⟩
  | .hbm, ⟨8, _⟩ => ⟨S1280x1024, .f32⟩
  | .hbm, ⟨9, _⟩ => ⟨S1280x1024, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QUpDx.lean ====
abbrev S2048x2048 : Shape := ⟨2, ![2048, 2048]⟩
abbrev S2048x384 : Shape := ⟨2, ![2048, 384]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x384, .bf16⟩
  | .hbm, ⟨2, _⟩ => ⟨S2048x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDxRefIdeal.lean ====
abbrev S2048x2048 : Shape := ⟨2, ![2048, 2048]⟩
abbrev S2048x384 : Shape := ⟨2, ![2048, 384]⟩
abbrev S_ : Shape := ⟨0, ![]⟩
abbrev S384x2048 : Shape := ⟨2, ![384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x384, .bf16⟩
  | .hbm, ⟨2, _⟩ => ⟨S_, .f32⟩
  | .hbm, ⟨3, _⟩ => ⟨S2048x384, .f32⟩
  | .hbm, ⟨4, _⟩ => ⟨S2048x384, .f32⟩
  | .hbm, ⟨5, _⟩ => ⟨S384x2048, .f32⟩
  | .hbm, ⟨6, _⟩ => ⟨S2048x2048, .f32⟩
  | .hbm, ⟨7, _⟩ => ⟨S2048x2048, .f32⟩
  | .hbm, ⟨8, _⟩ => ⟨S2048x384, .f32⟩
  | .hbm, ⟨9, _⟩ => ⟨S2048x384, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QUpDw.lean ====
abbrev S2048x2048 : Shape := ⟨2, ![2048, 2048]⟩
abbrev S2048x384 : Shape := ⟨2, ![2048, 384]⟩
abbrev S1024x1024 : Shape := ⟨2, ![1024, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x384, .bf16⟩
  | .hbm, ⟨2, _⟩ => ⟨S2048x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDwRefIdeal.lean ====
abbrev S2048x2048 : Shape := ⟨2, ![2048, 2048]⟩
abbrev S2048x384 : Shape := ⟨2, ![2048, 384]⟩
abbrev S_ : Shape := ⟨0, ![]⟩
abbrev S384x2048 : Shape := ⟨2, ![384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x384, .bf16⟩
  | .hbm, ⟨2, _⟩ => ⟨S_, .f32⟩
  | .hbm, ⟨3, _⟩ => ⟨S2048x384, .f32⟩
  | .hbm, ⟨4, _⟩ => ⟨S2048x384, .f32⟩
  | .hbm, ⟨5, _⟩ => ⟨S384x2048, .f32⟩
  | .hbm, ⟨6, _⟩ => ⟨S2048x2048, .f32⟩
  | .hbm, ⟨7, _⟩ => ⟨S2048x2048, .f32⟩
  | .hbm, ⟨8, _⟩ => ⟨S2048x384, .f32⟩
  | .hbm, ⟨9, _⟩ => ⟨S384x2048, .f32⟩
  | .hbm, ⟨10, _⟩ => ⟨S2048x384, .f32⟩
  | .hbm, ⟨11, _⟩ => ⟨S2048x384, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvUpDx.lean ====
abbrev S2048x2048 : Shape := ⟨2, ![2048, 2048]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x256, .bf16⟩
  | .hbm, ⟨2, _⟩ => ⟨S2048x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDxRefIdeal.lean ====
abbrev S2048x2048 : Shape := ⟨2, ![2048, 2048]⟩
abbrev S2048x256 : Shape := ⟨2, ![2048, 256]⟩
abbrev S_ : Shape := ⟨0, ![]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x256, .bf16⟩
  | .hbm, ⟨2, _⟩ => ⟨S_, .f32⟩
  | .hbm, ⟨3, _⟩ => ⟨S2048x256, .f32⟩
  | .hbm, ⟨4, _⟩ => ⟨S2048x256, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x256, .f32⟩
  | .hbm, ⟨9, _⟩ => ⟨S2048x256, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvUpDw.lean ====
abbrev S2048x2048 : Shape := ⟨2, ![2048, 2048]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x256, .bf16⟩
  | .hbm, ⟨2, _⟩ => ⟨S2048x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwRefIdeal.lean ====
abbrev S2048x2048 : Shape := ⟨2, ![2048, 2048]⟩
abbrev S2048x256 : Shape := ⟨2, ![2048, 256]⟩
abbrev S_ : Shape := ⟨0, ![]⟩
abbrev S256x2048 : Shape := ⟨2, ![256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x256, .bf16⟩
  | .hbm, ⟨2, _⟩ => ⟨S_, .f32⟩
  | .hbm, ⟨3, _⟩ => ⟨S2048x256, .f32⟩
  | .hbm, ⟨4, _⟩ => ⟨S2048x256, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x256, .f32⟩
  | .hbm, ⟨9, _⟩ => ⟨S256x2048, .f32⟩
  | .hbm, ⟨10, _⟩ => ⟨S2048x256, .f32⟩
  | .hbm, ⟨11, _⟩ => ⟨S2048x256, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwd.lean ====
abbrev S2048x1024 : Shape := ⟨2, ![2048, 1024]⟩
abbrev S11264x1024 : Shape := ⟨2, ![11264, 1024]⟩
abbrev S2048x11264 : Shape := ⟨2, ![2048, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S11264x1024, .bf16⟩
  | .hbm, ⟨2, _⟩ => ⟨S2048x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S2048x1024 : Shape := ⟨2, ![2048, 1024]⟩
abbrev S11264x1024 : Shape := ⟨2, ![11264, 1024]⟩
abbrev S1024x11264 : Shape := ⟨2, ![1024, 11264]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S11264x1024, .bf16⟩
  | .hbm, ⟨2, _⟩ => ⟨S2048x1024, .f32⟩
  | .hbm, ⟨3, _⟩ => ⟨S11264x1024, .f32⟩
  | .hbm, ⟨4, _⟩ => ⟨S1024x11264, .f32⟩
  | .hbm, ⟨5, _⟩ => ⟨S2048x11264, .f32⟩
  | .hbm, ⟨6, _⟩ => ⟨S2048x11264, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QUpFwd.lean ====
abbrev S2048x384 : Shape := ⟨2, ![2048, 384]⟩
abbrev S2048x2048 : Shape := ⟨2, ![2048, 2048]⟩
abbrev S1024x384 : Shape := ⟨2, ![1024, 384]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x384, .bf16⟩
  | .hbm, ⟨1, _⟩ => ⟨S2048x384, .bf16⟩
  | .hbm, ⟨2, _⟩ => ⟨S2048x2048, .bf16⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpFwdRefIdeal.lean ====
abbrev S2048x384 : Shape := ⟨2, ![2048, 384]⟩
abbrev S384x2048 : Shape := ⟨2, ![384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x384, .bf16⟩
  | .hbm, ⟨2, _⟩ => ⟨S2048x384, .f32⟩
  | .hbm, ⟨3, _⟩ => ⟨S2048x384, .f32⟩
  | .hbm, ⟨4, _⟩ => ⟨S384x2048, .f32⟩
  | .hbm, ⟨5, _⟩ => ⟨S2048x2048, .f32⟩
  | .hbm, ⟨6, _⟩ => ⟨S2048x2048, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvUpFwd.lean ====
abbrev S2048x256 : Shape := ⟨2, ![2048, 256]⟩
abbrev S2048x2048 : Shape := ⟨2, ![2048, 2048]⟩
abbrev S1024x256 : Shape := ⟨2, ![1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpFwdRefIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .f32⟩
  | .hbm, ⟨3, _⟩ => ⟨S2048x256, .f32⟩
  | .hbm, ⟨4, _⟩ => ⟨S256x2048, .f32⟩
  | .hbm, ⟨5, _⟩ => ⟨S2048x2048, .f32⟩
  | .hbm, ⟨6, _⟩ => ⟨S2048x2048, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjAFwd.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAFwdRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjCFwd.lean ====
abbrev S2048x1280 : Shape := ⟨2, ![2048, 1280]⟩
abbrev S1280x1024 : Shape := ⟨2, ![1280, 1024]⟩
abbrev S2048x1024 : Shape := ⟨2, ![2048, 1024]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1280, .bf16⟩
  | .hbm, ⟨1, _⟩ => ⟨S1280x1024, .bf16⟩
  | .hbm, ⟨2, _⟩ => ⟨S2048x1024, .bf16⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCFwdRefIdeal.lean ====
abbrev S2048x1280 : Shape := ⟨2, ![2048, 1280]⟩
abbrev S1280x1024 : Shape := ⟨2, ![1280, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S1280x1024, .bf16⟩
  | .hbm, ⟨2, _⟩ => ⟨S2048x1280, .f32⟩
  | .hbm, ⟨3, _⟩ => ⟨S1280x1024, .f32⟩
  | .hbm, ⟨4, _⟩ => ⟨S2048x1024, .f32⟩
  | .hbm, ⟨5, _⟩ => ⟨S2048x1024, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attend.lean ====
abbrev S2048x2048 : Shape := ⟨2, ![2048, 2048]⟩
abbrev S2048x1024 : Shape := ⟨2, ![2048, 1024]⟩
abbrev S1024x2048 : Shape := ⟨2, ![1024, 2048]⟩
abbrev S8x1x2048 : Shape := ⟨3, ![8, 1, 2048]⟩
abbrev S512x256 : Shape := ⟨2, ![512, 256]⟩
abbrev S2048x256 : Shape := ⟨2, ![2048, 256]⟩
abbrev S128x2048 : Shape := ⟨2, ![128, 2048]⟩
abbrev S512x128 : Shape := ⟨2, ![512, 128]⟩
abbrev S1x1x512 : Shape := ⟨3, ![1, 1, 512]⟩
abbrev S1x512 : Shape := ⟨2, ![1, 512]⟩
abbrev S128x512 : Shape := ⟨2, ![128, 512]⟩
abbrev S512x512 : Shape := ⟨2, ![512, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S1024x2048, .bf16⟩
  | .hbm, ⟨4, _⟩ => ⟨S2048x1024, .f32⟩
  | .hbm, ⟨5, _⟩ => ⟨S8x1x2048, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S128x2048, .bf16⟩
  | .local _ .vmem, ⟨5, _⟩ => ⟨S128x2048, .bf16⟩
  | .local _ .vmem, ⟨6, _⟩ => ⟨S512x128, .f32⟩
  | .local _ .vmem, ⟨7, _⟩ => ⟨S512x128, .f32⟩
  | .local _ .vmem, ⟨8, _⟩ => ⟨S1x1x512, .f32⟩
  | .local _ .vmem, ⟨9, _⟩ => ⟨S1x1x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32_12 : BitVec 32 := 0#32
  c0_i32_12
@[reducible] def k0_t1_loop (i : grid0.Coords) : Scf.Loop 32 :=
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_17 : BitVec 32 := 1#32
  ⟨c0_i32_15, v34, c1_i32_17⟩
def k0_mult2 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c1_i32_50 : BitVec 32 := 1#32
  let v132 : BitVec 32 := Scalar.addi arg7 c1_i32_50
  let c1_i32_51 : BitVec 32 := 1#32
  let v133 : BitVec 32 := Scalar.muli v132 c1_i32_51
  let c0_i32_52 : BitVec 32 := 0#32
  let v134 : BitVec 32 := Scalar.addi v133 c0_i32_52
  let c512_i32_53 : BitVec 32 := 512#32
  let v135 : BitVec 32 := Scalar.muli v134 c512_i32_53
  v135
def k0_off1 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1_i32_50 : BitVec 32 := 1#32
  let v132 : BitVec 32 := Scalar.addi arg7 c1_i32_50
  let c1_i32_51 : BitVec 32 := 1#32
  let v133 : BitVec 32 := Scalar.muli v132 c1_i32_51
  let c0_i32_52 : BitVec 32 := 0#32
  let v134 : BitVec 32 := Scalar.addi v133 c0_i32_52
  let c512_i32_53 : BitVec 32 := 512#32
  let v135 : BitVec 32 := Scalar.muli v134 c512_i32_53
  let v136 : BitVec 32 := v135
  let v137 : Index := Scalar.indexCast v136
  let c0_54 : Index := 0#32
  ![v137.toNat, 0]
def k0_mult3 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c1_i32_56 : BitVec 32 := 1#32
  let v140 : BitVec 32 := Scalar.muli arg7 c1_i32_56
  let c0_i32_57 : BitVec 32 := 0#32
  let v141 : BitVec 32 := Scalar.addi v140 c0_i32_57
  let c512_i32_58 : BitVec 32 := 512#32
  let v142 : BitVec 32 := Scalar.muli v141 c512_i32_58
  v142
def k0_off2 (i : grid0.Coords) (k0_t1 : Fin (k0_t1_loop i).trips) : Fin 2 → Nat :=
  let c0_61 : Index := 0#32
  let c0_i32_15 : BitVec 32 := 0#32
  let c1_i32_17 : BitVec 32 := 1#32
  let arg7 : BitVec 32 := Scf.iv c0_i32_15 c1_i32_17 k0_t1
  let c1_i32_56 : BitVec 32 := 1#32
  let v140 : BitVec 32 := Scalar.muli arg7 c1_i32_56
  let c0_i32_57 : BitVec 32 := 0#32
  let v141 : BitVec 32 := Scalar.addi v140 c0_i32_57
  let c512_i32_58 : BitVec 32 := 512#32
  let v142 : BitVec 32 := Scalar.muli v141 c512_i32_58
  let v143 : BitVec 32 := v142
  let v158 : Index := Scalar.indexCast v143
  ![0, v158.toNat]
@[reducible] def k0_t2_loop (i : grid0.Coords) : Scf.Loop 32 :=
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let v31 : BitVec 32 := Scalar.addi c0_i32_15 v30
  let c1_i32_18 : BitVec 32 := 1#32
  ⟨v34, v31, c1_i32_18⟩
def k0_mult4 (i : grid0.Coords) (k0_t2 : Fin (k0_t2_loop i).trips) : BitVec 32 :=
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg7 : BitVec 32 := Scf.iv v34 c1_i32_18 k0_t2
  let c1_i32_50 : BitVec 32 := 1#32
  let v132 : BitVec 32 := Scalar.addi arg7 c1_i32_50
  let c1_i32_51 : BitVec 32 := 1#32
  let v133 : BitVec 32 := Scalar.muli v132 c1_i32_51
  let c0_i32_52 : BitVec 32 := 0#32
  let v134 : BitVec 32 := Scalar.addi v133 c0_i32_52
  let c512_i32_53 : BitVec 32 := 512#32
  let v135 : BitVec 32 := Scalar.muli v134 c512_i32_53
  v135
def k0_off3 (i : grid0.Coords) (k0_t2 : Fin (k0_t2_loop i).trips) : Fin 2 → Nat :=
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg7 : BitVec 32 := Scf.iv v34 c1_i32_18 k0_t2
  let c1_i32_50 : BitVec 32 := 1#32
  let v132 : BitVec 32 := Scalar.addi arg7 c1_i32_50
  let c1_i32_51 : BitVec 32 := 1#32
  let v133 : BitVec 32 := Scalar.muli v132 c1_i32_51
  let c0_i32_52 : BitVec 32 := 0#32
  let v134 : BitVec 32 := Scalar.addi v133 c0_i32_52
  let c512_i32_53 : BitVec 32 := 512#32
  let v135 : BitVec 32 := Scalar.muli v134 c512_i32_53
  let v136 : BitVec 32 := v135
  let v137 : Index := Scalar.indexCast v136
  let c0_54 : Index := 0#32
  ![v137.toNat, 0]
def k0_mult5 (i : grid0.Coords) (k0_t2 : Fin (k0_t2_loop i).trips) : BitVec 32 :=
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg7 : BitVec 32 := Scf.iv v34 c1_i32_18 k0_t2
  let c1_i32_56 : BitVec 32 := 1#32
  let v140 : BitVec 32 := Scalar.muli arg7 c1_i32_56
  let c0_i32_57 : BitVec 32 := 0#32
  let v141 : BitVec 32 := Scalar.addi v140 c0_i32_57
  let c512_i32_58 : BitVec 32 := 512#32
  let v142 : BitVec 32 := Scalar.muli v141 c512_i32_58
  v142
def k0_off4 (i : grid0.Coords) (k0_t2 : Fin (k0_t2_loop i).trips) : Fin 2 → Nat :=
  let c0_61 : Index := 0#32
  let c0_i32_15 : BitVec 32 := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_11 : BitVec 32 := 1#32
  let v25 : BitVec 32 := Scalar.subi v21 c1_i32_11
  let v30 : BitVec 32 := Scalar.subi v25 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg7 : BitVec 32 := Scf.iv v34 c1_i32_18 k0_t2
  let c1_i32_56 : BitVec 32 := 1#32
  let v140 : BitVec 32 := Scalar.muli arg7 c1_i32_56
  let c0_i32_57 : BitVec 32 := 0#32
  let v141 : BitVec 32 := Scalar.addi v140 c0_i32_57
  let c512_i32_58 : BitVec 32 := 512#32
  let v142 : BitVec 32 := Scalar.muli v141 c512_i32_58
  let v143 : BitVec 32 := v142
  let v158 : Index := Scalar.indexCast v143
  ![0, v158.toNat]
def k0_mult6 (i : grid0.Coords) : BitVec 32 :=
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_19 : BitVec 32 := 1#32
  let v37 : BitVec 32 := Scalar.subi v21 c1_i32_19
  let c1_i32_20 : BitVec 32 := 1#32
  let v38 : BitVec 32 := Scalar.muli v37 c1_i32_20
  let c0_i32_21 : BitVec 32 := 0#32
  let v39 : BitVec 32 := Scalar.addi v38 c0_i32_21
  let c512_i32_22 : BitVec 32 := 512#32
  let v40 : BitVec 32 := Scalar.muli v39 c512_i32_22
  v40
def k0_off5 (i : grid0.Coords) : Fin 2 → Nat :=
  let c0_43 : Index := 0#32
  let arg1 : BitVec 32 := BitVec.ofNat 32 (i 1).val
  let c1_i32 : BitVec 32 := 1#32
  let v1 : BitVec 32 := Scalar.addi arg1 c1_i32
  let c512_i32 : BitVec 32 := 512#32
  let v2 : BitVec 32 := Scalar.muli v1 c512_i32
  let c512_i32_1 : BitVec 32 := 512#32
  let v3 : BitVec 32 := Scalar.addi v2 c512_i32_1
  let c1_i32_2 : BitVec 32 := 1#32
  let v4 : BitVec 32 := Scalar.subi v3 c1_i32_2
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c512_i32_3 : BitVec 32 := 512#32
  let c0_i32_5 : BitVec 32 := 0#32
  let v11 : BitVec 1 := Scalar.cmpi .sgt c512_i32_3 c0_i32_5
  let v12 : BitVec 32 := Scalar.extui v11
  let c0_i32_6 : BitVec 32 := 0#32
  let v13 : BitVec 1 := Scalar.cmpi .slt c512_i32_3 c0_i32_6
  let v14 : BitVec 32 := Scalar.extui v13
  let v15 : BitVec 32 := Scalar.subi v12 v14
  let v16 : BitVec 1 := Scalar.cmpi .ne v10 v15
  let v17 : BitVec 32 := Scalar.remsi v4 c512_i32_3
  let c0_i32_7 : BitVec 32 := 0#32
  let v18 : BitVec 1 := Scalar.cmpi .ne v17 c0_i32_7
  let v19 : BitVec 1 := Scalar.andi v16 v18
  let v5 : BitVec 32 := Scalar.divsi v4 c512_i32_3
  let c1_i32_8 : BitVec 32 := 1#32
  let v20 : BitVec 32 := Scalar.subi v5 c1_i32_8
  let v21 : BitVec 32 := Scalar.select v19 v20 v5
  let c1_i32_19 : BitVec 32 := 1#32
  let v37 : BitVec 32 := Scalar.subi v21 c1_i32_19
  let c1_i32_20 : BitVec 32 := 1#32
  let v38 : BitVec 32 := Scalar.muli v37 c1_i32_20
  let c0_i32_21 : BitVec 32 := 0#32
  let v39 : BitVec 32 := Scalar.addi v38 c0_i32_21
  let c512_i32_22 : BitVec 32 := 512#32
  let v40 : BitVec 32 := Scalar.muli v39 c512_i32_22
  let v41 : BitVec 32 := v40
  let v117 : Index := Scalar.indexCast v41
  ![0, v117.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttendIdeal.lean ====
variable {F : FTy → Type} [FloatOps F] [Named F]
def κ : String → Option EReal := fun
  | "mask" => some ⊥
  | _ => none
-- ==== AttendRefIdeal.lean ====
abbrev S2048x2048 : Shape := ⟨2, ![2048, 2048]⟩
abbrev S2048x1024 : Shape := ⟨2, ![2048, 1024]⟩
abbrev S2048x8x256 : Shape := ⟨3, ![2048, 8, 256]⟩
abbrev S8x2048x2048 : Shape := ⟨3, ![8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S1x2048x2048 : Shape := ⟨3, ![1, 2048, 2048]⟩
abbrev S8x2048 : Shape := ⟨2, ![8, 2048]⟩
abbrev S8x2048x1 : Shape := ⟨3, ![8, 2048, 1]⟩
abbrev S2048x8x128 : Shape := ⟨3, ![2048, 8, 128]⟩
abbrev S8x128x2048 : Shape := ⟨3, ![8, 128, 2048]⟩
abbrev S8x1x2048 : Shape := ⟨3, ![8, 1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x8x256, .f32⟩
  | .hbm, ⟨7, _⟩ => ⟨S2048x8x256, .f32⟩
  | .hbm, ⟨8, _⟩ => ⟨S8x2048x2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S1x2048x2048, .i1⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S2048x8x256, .f32⟩
  | .hbm, ⟨44, _⟩ => ⟨S2048x8x256, .f32⟩
  | .hbm, ⟨45, _⟩ => ⟨S8x2048x2048, .f32⟩
  | .hbm, ⟨46, _⟩ => ⟨S2048, .i32⟩
  | .hbm, ⟨47, _⟩ => ⟨S_, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S1x2048, .i32⟩
  | .hbm, ⟨66, _⟩ => ⟨S2048x1, .i32⟩
  | .hbm, ⟨67, _⟩ => ⟨S2048x2048, .i32⟩
  | .hbm, ⟨68, _⟩ => ⟨S2048x2048, .i32⟩
  | .hbm, ⟨69, _⟩ => ⟨S2048x2048, .i1⟩
  | .hbm, ⟨70, _⟩ => ⟨S1x2048x2048, .i1⟩
  | .hbm, ⟨71, _⟩ => ⟨S_, .f32⟩
  | .hbm, ⟨72, _⟩ => ⟨S_, .f32⟩
  | .hbm, ⟨73, _⟩ => ⟨S8x2048x2048, .i1⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048, .f32⟩
  | .hbm, ⟨78, _⟩ => ⟨S_, .f32⟩
  | .hbm, ⟨79, _⟩ => ⟨S8x2048, .f32⟩
  | .hbm, ⟨80, _⟩ => ⟨S8x2048, .f32⟩
  | .hbm, ⟨81, _⟩ => ⟨S8x2048x1, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S2048x8x128, .f32⟩
  | .hbm, ⟨91, _⟩ => ⟨S8x128x2048, .f32⟩
  | .hbm, ⟨92, _⟩ => ⟨S2048x8x128, .f32⟩
  | .hbm, ⟨93, _⟩ => ⟨S2048x1024, .f32⟩
  | .hbm, ⟨94, _⟩ => ⟨S8x1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v29 : Ref sig .tc := ⟨.hbm, 75, rfl⟩
abbrev main_cst_3 : Ref sig .tc := ⟨.hbm, 76, rfl⟩
abbrev main_v30 : Ref sig .tc := ⟨.hbm, 77, rfl⟩
abbrev main_cst_4 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_5 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩

abbrev nD : Nat := 1
abbrev τ : Topo := Topo.v7x

variable {F : FTy → Type} [FloatOps F]
-- ==== GateFwd.lean ====
abbrev S2048x1280 : Shape := ⟨2, ![2048, 1280]⟩
abbrev S2x4x640x640 : Shape := ⟨4, ![2, 4, 640, 640]⟩
abbrev S2048x2560 : Shape := ⟨2, ![2048, 2560]⟩
abbrev S512x640 : Shape := ⟨2, ![512, 640]⟩
abbrev S1x1x640x640 : Shape := ⟨4, ![1, 1, 640, 640]⟩
abbrev S640x640 : Shape := ⟨2, ![640, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x1280, .bf16⟩
  | .hbm, ⟨1, _⟩ => ⟨S2x4x640x640, .bf16⟩
  | .hbm, ⟨2, _⟩ => ⟨S2048x2560, .bf16⟩
  | .local _ .vmem, ⟨0, _⟩ => ⟨S512x640, .bf16⟩
  | .local _ .vmem, ⟨1, _⟩ => ⟨S512x640, .bf16⟩
  | .local _ .vmem, ⟨2, _⟩ => ⟨S1x1x640x640, .bf16⟩
  | .local _ .vmem, ⟨3, _⟩ => ⟨S1x1x640x640, .bf16⟩
  | .local _ .vmem, ⟨4, _⟩ => ⟨S512x640, .bf16⟩
  | .local _ .vmem, ⟨5, _⟩ => ⟨S512x640, .bf16⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x640x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateFwdRefIdeal.lean ====
abbrev S2048x1280 : Shape := ⟨2, ![2048, 1280]⟩
abbrev S2x4x640x640 : Shape := ⟨4, ![2, 4, 640, 640]⟩
abbrev S1x4x640x640 : Shape := ⟨4, ![1, 4, 640, 640]⟩
abbrev S4x640x640 : Shape := ⟨3, ![4, 640, 640]⟩
abbrev S2048x2x640 : Shape := ⟨3, ![2048, 2, 640]⟩
abbrev S2x2x640x640 : Shape := ⟨4, ![2, 2, 640, 640]⟩
abbrev S2x2x640x2048 : Shape := ⟨4, ![2, 2, 640, 2048]⟩
abbrev S2048x2x2x640 : Shape := ⟨4, ![2048, 2, 2, 640]⟩
abbrev S2048x2560 : Shape := ⟨2, ![2048, 2560]⟩

abbrev nBuf : Space → Nat
  | .hbm => 12
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2x4x640x640, .bf16⟩
  | .hbm, ⟨2, _⟩ => ⟨S2048x1280, .f32⟩
  | .hbm, ⟨3, _⟩ => ⟨S1x4x640x640, .bf16⟩
  | .hbm, ⟨4, _⟩ => ⟨S4x640x640, .bf16⟩
  | .hbm, ⟨5, _⟩ => ⟨S4x640x640, .f32⟩
  | .hbm, ⟨6, _⟩ => ⟨S2048x2x640, .f32⟩
  | .hbm, ⟨7, _⟩ => ⟨S2x2x640x640, .f32⟩
  | .hbm, ⟨8, _⟩ => ⟨S2x2x640x2048, .f32⟩
  | .hbm, ⟨9, _⟩ => ⟨S2048x2x2x640, .f32⟩
  | .hbm, ⟨10, _⟩ => ⟨S2048x2560, .f32⟩
  | .hbm, ⟨11, _⟩ => ⟨S2048x2560, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== GateDx.lean ====
abbrev S2048x2560 : Shape := ⟨2, ![2048, 2560]⟩
abbrev S2x4x640x640 : Shape := ⟨4, ![2, 4, 640, 640]⟩
abbrev S2048x1280 : Shape := ⟨2, ![2048, 1280]⟩
abbrev S512x640 : Shape := ⟨2, ![512, 640]⟩
abbrev S1x1x640x640 : Shape := ⟨4, ![1, 1, 640, 640]⟩
abbrev S640x640 : Shape := ⟨2, ![640, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x2560, .bf16⟩
  | .hbm, ⟨1, _⟩ => ⟨S2x4x640x640, .bf16⟩
  | .hbm, ⟨2, _⟩ => ⟨S2048x1280, .bf16⟩
  | .local _ .vmem, ⟨0, _⟩ => ⟨S512x640, .bf16⟩
  | .local _ .vmem, ⟨1, _⟩ => ⟨S512x640, .bf16⟩
  | .local _ .vmem, ⟨2, _⟩ => ⟨S1x1x640x640, .bf16⟩
  | .local _ .vmem, ⟨3, _⟩ => ⟨S1x1x640x640, .bf16⟩
  | .local _ .vmem, ⟨4, _⟩ => ⟨S512x640, .bf16⟩
  | .local _ .vmem, ⟨5, _⟩ => ⟨S512x640, .bf16⟩
  | .local _ .vmem, ⟨6, _⟩ => ⟨S512x640, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let v1 : BitVec 32 := Scalar.addi v0 arg1
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x640x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S2048x2560 : Shape := ⟨2, ![2048, 2560]⟩
abbrev S2x4x640x640 : Shape := ⟨4, ![2, 4, 640, 640]⟩
abbrev S1x4x640x640 : Shape := ⟨4, ![1, 4, 640, 640]⟩
abbrev S4x640x640 : Shape := ⟨3, ![4, 640, 640]⟩
abbrev S_ : Shape := ⟨0, ![]⟩
abbrev S2048x1280 : Shape := ⟨2, ![2048, 1280]⟩
abbrev S2048x2x640 : Shape := ⟨3, ![2048, 2, 640]⟩
abbrev S2x640x640 : Shape := ⟨3, ![2, 640, 640]⟩
abbrev S2x640x2048 : Shape := ⟨3, ![2, 640, 2048]⟩
abbrev S2x2048x640 : Shape := ⟨3, ![2, 2048, 640]⟩

abbrev nBuf : Space → Nat
  | .hbm => 31
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2x4x640x640, .bf16⟩
  | .hbm, ⟨2, _⟩ => ⟨S1x4x640x640, .bf16⟩
  | .hbm, ⟨3, _⟩ => ⟨S4x640x640, .bf16⟩
  | .hbm, ⟨4, _⟩ => ⟨S_, .f32⟩
  | .hbm, ⟨5, _⟩ => ⟨S2048x1280, .f32⟩
  | .hbm, ⟨6, _⟩ => ⟨S4x640x640, .f32⟩
  | .hbm, ⟨7, _⟩ => ⟨S2048x2x640, .f32⟩
  | .hbm, ⟨8, _⟩ => ⟨S2x640x640, .f32⟩
  | .hbm, ⟨9, _⟩ => ⟨S2x640x2048, .f32⟩
  | .hbm, ⟨10, _⟩ => ⟨S2048x2x640, .f32⟩
  | .hbm, ⟨11, _⟩ => ⟨S2048x1280, .f32⟩
  | .hbm, ⟨12, _⟩ => ⟨S2x640x640, .f32⟩
  | .hbm, ⟨13, _⟩ => ⟨S2x640x2048, .f32⟩
  | .hbm, ⟨14, _⟩ => ⟨S2048x2x640, .f32⟩
  | .hbm, ⟨15, _⟩ => ⟨S2048x1280, .f32⟩
  | .hbm, ⟨16, _⟩ => ⟨S2048x2560, .f32⟩
  | .hbm, ⟨17, _⟩ => ⟨S2048x2560, .f32⟩
  | .hbm, ⟨18, _⟩ => ⟨S2048x1280, .f32⟩
  | .hbm, ⟨19, _⟩ => ⟨S2048x1280, .f32⟩
  | .hbm, ⟨20, _⟩ => ⟨S2048x2x640, .f32⟩
  | .hbm, ⟨21, _⟩ => ⟨S2x640x2048, .f32⟩
  | .hbm, ⟨22, _⟩ => ⟨S2x2048x640, .f32⟩
  | .hbm, ⟨23, _⟩ => ⟨S2048x2x640, .f32⟩
  | .hbm, ⟨24, _⟩ => ⟨S2048x2x640, .f32⟩
  | .hbm, ⟨25, _⟩ => ⟨S2x640x2048, .f32⟩
  | .hbm, ⟨26, _⟩ => ⟨S2x2048x640, .f32⟩
  | .hbm, ⟨27, _⟩ => ⟨S2048x2x640, .f32⟩
  | .hbm, ⟨28, _⟩ => ⟨S2048x2x640, .f32⟩
  | .hbm, ⟨29, _⟩ => ⟨S2048x1280, .f32⟩
  | .hbm, ⟨30, _⟩ => ⟨S2048x1280, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== GateDw.lean ====
abbrev S2048x1280 : Shape := ⟨2, ![2048, 1280]⟩
abbrev S2048x2560 : Shape := ⟨2, ![2048, 2560]⟩
abbrev S4x640x640 : Shape := ⟨3, ![4, 640, 640]⟩
abbrev S1024x640 : Shape := ⟨2, ![1024, 640]⟩
abbrev S1x640x640 : Shape := ⟨3, ![1, 640, 640]⟩
abbrev S640x640 : Shape := ⟨2, ![640, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x1280, .bf16⟩
  | .hbm, ⟨1, _⟩ => ⟨S2048x2560, .bf16⟩
  | .hbm, ⟨2, _⟩ => ⟨S4x640x640, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1x640x640, .f32⟩
  | .local _ .vmem, ⟨5, _⟩ => ⟨S1x640x640, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateDwRefIdeal.lean ====
abbrev S2048x1280 : Shape := ⟨2, ![2048, 1280]⟩
abbrev S2048x2560 : Shape := ⟨2, ![2048, 2560]⟩
abbrev S_ : Shape := ⟨0, ![]⟩
abbrev S4x640x640 : Shape := ⟨3, ![4, 640, 640]⟩
abbrev S2048x2x640 : Shape := ⟨3, ![2048, 2, 640]⟩
abbrev S2x2x640x640 : Shape := ⟨4, ![2, 2, 640, 640]⟩
abbrev S2x2x640x2048 : Shape := ⟨4, ![2, 2, 640, 2048]⟩
abbrev S2048x2x2x640 : Shape := ⟨4, ![2048, 2, 2, 640]⟩

abbrev nBuf : Space → Nat
  | .hbm => 16
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x2560, .bf16⟩
  | .hbm, ⟨2, _⟩ => ⟨S_, .f32⟩
  | .hbm, ⟨3, _⟩ => ⟨S4x640x640, .f32⟩
  | .hbm, ⟨4, _⟩ => ⟨S2048x1280, .f32⟩
  | .hbm, ⟨5, _⟩ => ⟨S2048x2x640, .f32⟩
  | .hbm, ⟨6, _⟩ => ⟨S2x2x640x640, .f32⟩
  | .hbm, ⟨7, _⟩ => ⟨S2x2x640x2048, .f32⟩
  | .hbm, ⟨8, _⟩ => ⟨S2048x2x2x640, .f32⟩
  | .hbm, ⟨9, _⟩ => ⟨S2048x2560, .f32⟩
  | .hbm, ⟨10, _⟩ => ⟨S2048x2560, .f32⟩
  | .hbm, ⟨11, _⟩ => ⟨S2048x2x2x640, .f32⟩
  | .hbm, ⟨12, _⟩ => ⟨S2x2x640x2048, .f32⟩
  | .hbm, ⟨13, _⟩ => ⟨S2x2x640x640, .f32⟩
  | .hbm, ⟨14, _⟩ => ⟨S2x2x640x640, .f32⟩
  | .hbm, ⟨15, _⟩ => ⟨S4x640x640, .f32⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Merge.lean ====
abbrev S2048x1024 : Shape := ⟨2, ![2048, 1024]⟩
abbrev S2048x11264 : Shape := ⟨2, ![2048, 11264]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x11264, .bf16⟩
  | .hbm, ⟨4, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S2048x1024 : Shape := ⟨2, ![2048, 1024]⟩
abbrev S2048x11264 : Shape := ⟨2, ![2048, 11264]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x11264, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x11264, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== MulB.lean ====
abbrev S2048x1024 : Shape := ⟨2, ![2048, 1024]⟩
abbrev S2048x11264 : Shape := ⟨2, ![2048, 11264]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x11264, .bf16⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MulBRefIdeal.lean ====
abbrev S2048x1024 : Shape := ⟨2, ![2048, 1024]⟩
abbrev S2048x11264 : Shape := ⟨2, ![2048, 11264]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11264, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== MulC.lean ====
abbrev S2048x1280 : Shape := ⟨2, ![2048, 1280]⟩
abbrev S2048x11264 : Shape := ⟨2, ![2048, 11264]⟩
abbrev S256x1280 : Shape := ⟨2, ![256, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x1280, .f32⟩
  | .hbm, ⟨1, _⟩ => ⟨S2048x11264, .bf16⟩
  | .hbm, ⟨2, _⟩ => ⟨S2048x1280, .bf16⟩
  | .local _ .vmem, ⟨0, _⟩ => ⟨S256x1280, .f32⟩
  | .local _ .vmem, ⟨1, _⟩ => ⟨S256x1280, .f32⟩
  | .local _ .vmem, ⟨2, _⟩ => ⟨S256x1280, .bf16⟩
  | .local _ .vmem, ⟨3, _⟩ => ⟨S256x1280, .bf16⟩
  | .local _ .vmem, ⟨4, _⟩ => ⟨S256x1280, .bf16⟩
  | .local _ .vmem, ⟨5, _⟩ => ⟨S256x1280, .bf16⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MulCRefIdeal.lean ====
abbrev S2048x1280 : Shape := ⟨2, ![2048, 1280]⟩
abbrev S2048x11264 : Shape := ⟨2, ![2048, 11264]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x11264, .bf16⟩
  | .hbm, ⟨2, _⟩ => ⟨S2048x1280, .bf16⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S_, .f32⟩
  | .hbm, ⟨7, _⟩ => ⟨S2048x1280, .f32⟩
  | .hbm, ⟨8, _⟩ => ⟨S2048x1280, .f32⟩
  | .hbm, ⟨9, _⟩ => ⟨S_, .f32⟩
  | .hbm, ⟨10, _⟩ => ⟨S2048x1280, .f32⟩
  | .hbm, ⟨11, _⟩ => ⟨S2048x1280, .f32⟩
  | .hbm, ⟨12, _⟩ => ⟨S2048x1280, .f32⟩
  | .hbm, ⟨13, _⟩ => ⟨S2048x1280, .f32⟩
  | .hbm, ⟨14, _⟩ => ⟨S2048x1280, .bf16⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Post.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Adam.lean ====
abbrev S2x256x1024 : Shape := ⟨3, ![2, 256, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Grad.lean ====
/- The gradient of block-causal attention as functions of real matrices, and the facts about extended reals that
   carry a computation on finite values over to the reals. -/
module

public import Idealize.ShloMosaic.PureOps.Ideal

@[expose] public section

noncomputable section

namespace Cert.Grad

open Idealize.ShloMosaic
open scoped BigOperators

/-- The four real matrices the gradient is a function of: the queries, keys, values and the cotangent of the
    attention's output, by row and column. -/
structure In where
  /-- queries, eight heads of 256 columns side by side -/
  Q : ℕ → ℕ → ℝ
  /-- keys, eight heads of 256 columns side by side -/
  K : ℕ → ℕ → ℝ
  /-- values, eight heads of 128 columns side by side -/
  V : ℕ → ℕ → ℝ
  /-- the cotangent of the output, eight heads of 128 columns side by side -/
  O : ℕ → ℕ → ℝ

namespace In

variable (X : In)

/-- The score of query `q` against key `k` in head `h`. -/
def S (h q k : ℕ) : ℝ := ∑ e : Fin 256, X.Q q (256 * h + e.val) * X.K k (256 * h + e.val)

/-- The weight before normalising: the exponential of the score, zero where the key's chunk of 64 rows comes
    after the query's. -/
def E (h q k : ℕ) : ℝ := if k / 64 ≤ q / 64 then Real.exp (X.S h q k) else 0

/-- The normaliser of a query: the sum of its weights. -/
def L (h q : ℕ) : ℝ := ∑ k : Fin 2048, X.E h q k.val

/-- The attention probability. -/
def P (h q k : ℕ) : ℝ := X.E h q k / X.L h q

/-- The cotangent of the probability. -/
def dP (h q k : ℕ) : ℝ := ∑ d : Fin 128, X.O q (128 * h + d.val) * X.V k (128 * h + d.val)

/-- The mean of the probabilities' cotangents under the probabilities. -/
def Dl (h q : ℕ) : ℝ := ∑ k : Fin 2048, X.P h q k.val * X.dP h q k.val

/-- The cotangent of the score. -/
def dS (h q k : ℕ) : ℝ := X.P h q k * (X.dP h q k - X.Dl h q)

/-- The gradient of the values at row `k`, column `c`. -/
def gV (k c : ℕ) : ℝ := ∑ q : Fin 2048, X.P (c / 128) q.val k * X.O q.val c

/-- The gradient of the keys at row `k`, column `c`. -/
def gK (k c : ℕ) : ℝ := ∑ q : Fin 2048, X.dS (c / 256) q.val k * X.Q q.val c

/-- The gradient of the queries at row `q`, column `c`. -/
def gQ (q c : ℕ) : ℝ := ∑ k : Fin 2048, X.dS (c / 256) q k.val * X.K k.val c

/-- The score after the mask, as an extended real: `-∞` where the mask is false. -/
def SM (h q k : ℕ) : EReal := if k / 64 ≤ q / 64 then (X.S h q k : EReal) else ⊥

/-- A normaliser is positive: a query sees its own row. -/
theorem L_pos (h q : ℕ) (hq : q < 2048) : 0 < X.L h q := by
  unfold L
  refine Finset.sum_pos' (fun k _ => ?_) ⟨⟨q, hq⟩, Finset.mem_univ _, ?_⟩
  · unfold E; split
    · exact (Real.exp_pos _).le
    · exact le_refl _
  · simp only [E, le_refl, if_true]; exact Real.exp_pos _

/-- The exponential of a masked score shifted by a real. -/
theorem exp_SM (h q k : ℕ) (M : ℝ) : Ideal.exp (X.SM h q k - (M : EReal)) = ((X.E h q k / Real.exp M : ℝ) : EReal) := by
  unfold SM E
  split
  · rw [← EReal.coe_sub, Ideal.exp_coe, Real.exp_sub]
  · rw [EReal.bot_sub, Ideal.exp_bot, zero_div, EReal.coe_zero]

end In

/-- A finite sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real, taken among the extended reals. -/
theorem coe_div (x y : ℝ) (h : y ≠ 0) : Ideal.div (x : EReal) (y : EReal) = ((x / y : ℝ) : EReal) := by
  rw [Ideal.div_coe h, ← EReal.coe_mul, mul_one_div]

/-- A maximum over finitely many values, each a real or `-∞` and one a real, is a real. -/
theorem fold_max_real {n : ℕ} (f : Fin n → EReal) (hf : ∀ i, f i ≠ ⊤) (j : Fin n) (hj : f j ≠ ⊥) :
    ∃ r : ℝ, (Finset.univ : Finset (Fin n)).fold max ⊥ f = (r : EReal) := by
  have h1 : (Finset.univ : Finset (Fin n)).fold max ⊥ f < ⊤ := by
    rw [Finset.fold_max_lt]; exact ⟨bot_lt_top, fun i _ => lt_top_iff_ne_top.2 (hf i)⟩
  have h2 : ⊥ < (Finset.univ : Finset (Fin n)).fold max ⊥ f := by
    rw [Finset.lt_fold_max]; exact Or.inr ⟨j, Finset.mem_univ _, bot_lt_iff_ne_bot.2 hj⟩
  exact ⟨_, (EReal.coe_toReal h1.ne h2.ne').symm⟩

end Cert.Grad

end
-- ==== Proof.Chunk.lean ====
/- The floor division by 64 that the programs spell with signed words, at the row and column numbers they use. -/
module

public import Idealize.ShloMosaic.PureOps

@[expose] public section

set_option maxRecDepth 16384

noncomputable section

namespace Cert.Grad

open Idealize.ShloMosaic

/-- The sign of a word: zero, minus one or one. -/
@[reducible] def sgn (x : BitVec 32) : BitVec 32 := if x = 0 then 0 else if x.msb then -1 else 1

/-- Floor division by 64 as the programs spell it: the truncated quotient, less one where the signs differ and the
    remainder is not zero. -/
@[reducible] def fdiv64 (u : ArithUnit) (w : BitVec 32) : BitVec 32 :=
  Scalar.select (IntOp.andi (IntOp.cmpi .ne (sgn w) (sgn 64#32)) (IntOp.cmpi .ne (IntOp.remsi u w 64#32) 0#32))
    (IntOp.subi (IntOp.divsi u w 64#32) 1#32) (IntOp.divsi u w 64#32)

/-- On the host, at every row number. -/
theorem fdiv64_host : ∀ n : Fin 2048, fdiv64 .host (BitVec.ofNat 32 n.val) = BitVec.ofNat 32 (n.val / 64) := by
  decide +kernel

/-- On the vector unit, at every row number. -/
theorem fdiv64_vector : ∀ n : Fin 2048, fdiv64 .vector (BitVec.ofNat 32 n.val) = BitVec.ofNat 32 (n.val / 64) := by
  decide +kernel

/-- Two chunk numbers compared as signed words are compared as numbers. -/
theorem sle_chunk (a b : ℕ) (ha : a < 2048) (hb : b < 2048) :
    IntOp.cmpi .sle (BitVec.ofNat 32 (a / 64)) (BitVec.ofNat 32 (b / 64)) = if a / 64 ≤ b / 64 then 1#1 else 0#1 := by
  have h : ∀ x y : Fin 32, IntOp.cmpi .sle (BitVec.ofNat 32 x.val) (BitVec.ofNat 32 y.val)
      = if x.val ≤ y.val then 1#1 else 0#1 := by decide +kernel
  exact h ⟨a / 64, by omega⟩ ⟨b / 64, by omega⟩

end Cert.Grad

end
-- ==== Proof.Payload.lean ====
/- The values the kernel's body stores, when what it has loaded are reals: every payload, read at an index. -/
module

public import proofs.«01_k».proof.Proof.Grad
public import proofs.«01_k».proof.Proof.Chunk
public import proofs.«01_k».proof.Proof.Gen.KernelIdeal.Skeleton
public import Idealize.ShloMosaic.Lib.IdealHost
public import Idealize.ShloMosaic.Lib.ValueIdxCore
public import Idealize.ShloMosaic.Lib.Pipeline.Value
public import Idealize.ShloMosaic.Lib.Pointwise.ElementwiseCore

@[expose] public section

set_option maxRecDepth 16384

noncomputable section

namespace Cert.KernelIdeal.Payload

open Cert.KernelIdeal Cert.KernelIdeal.Gen Cert.Grad Idealize.ShloMosaic Idealize.ShloMosaic.ValueIdx
open scoped BigOperators

/-- A product of matrices with one contracted axis, its factors' entries real: the real sum of products. -/
theorem mm {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (f g : Fin n → ℝ) (j : so.Idx)
    (hl : ∀ e, l (D.lhsIdx j ((contrEquiv1 D n hr hs).symm e)) = (f e : EReal))
    (hr' : ∀ e, r (D.rhsIdx j ((contrEquiv1 D n hr hs).symm e)) = (g e : EReal)) :
    matmul D none l r (constant so .f32 0x00000000#32) j = ((∑ e, f e * g e : ℝ) : EReal) := by
  rw [matmul, Ideal.matmul_constant_zero_apply, ← Equiv.sum_comp (contrEquiv1 D n hr hs).symm, ← coe_sum]
  refine Finset.sum_congr rfl fun e _ => ?_
  rw [hl, hr', EReal.coe_mul]

/-- Rows of keys against the queries. -/
theorem pay7_at {v3 v158 : FVec Ideal S512x256 .bf16} {q a : ℕ → ℕ → ℝ} (h3 : ∀ i, v3 i = (q (i 0).val (i 1).val : EReal))
    (h : ∀ i, v158 i = (a (i 0).val (i 1).val : EReal)) (i : S512x512.Idx) :
    k0_pay7 (F := Ideal) v3 v158 i = ((∑ e : Fin 256, a (i 0).val e.val * q (i 1).val e.val : ℝ) : EReal) :=
  mm _ 256 rfl rfl _ _ _ _ i (fun _ => h _) (fun _ => h3 _)

/-- The first block's rows of keys against the queries. -/
theorem pay24_at {v3 v158 : FVec Ideal S512x256 .bf16} {q a : ℕ → ℕ → ℝ} (h3 : ∀ i, v3 i = (q (i 0).val (i 1).val : EReal))
    (h : ∀ i, v158 i = (a (i 0).val (i 1).val : EReal)) (i : S512x512.Idx) :
    k0_pay24 (F := Ideal) v3 v158 i = ((∑ e : Fin 256, a (i 0).val e.val * q (i 1).val e.val : ℝ) : EReal) :=
  mm _ 256 rfl rfl _ _ _ _ i (fun _ => h _) (fun _ => h3 _)

/-- Rows of values against the cotangents. -/
theorem pay8_at {v4 v165 : FVec Ideal S512x128 .bf16} {o a : ℕ → ℕ → ℝ} (h4 : ∀ i, v4 i = (o (i 0).val (i 1).val : EReal))
    (h : ∀ i, v165 i = (a (i 0).val (i 1).val : EReal)) (i : S512x512.Idx) :
    k0_pay8 (F := Ideal) v4 v165 i = ((∑ e : Fin 128, a (i 0).val e.val * o (i 1).val e.val : ℝ) : EReal) :=
  mm _ 128 rfl rfl _ _ _ _ i (fun _ => h _) (fun _ => h4 _)

/-- The first block's rows of values against the cotangents. -/
theorem pay25_at {v4 v165 : FVec Ideal S512x128 .bf16} {o a : ℕ → ℕ → ℝ} (h4 : ∀ i, v4 i = (o (i 0).val (i 1).val : EReal))
    (h : ∀ i, v165 i = (a (i 0).val (i 1).val : EReal)) (i : S512x512.Idx) :
    k0_pay25 (F := Ideal) v4 v165 i = ((∑ e : Fin 128, a (i 0).val e.val * o (i 1).val e.val : ℝ) : EReal) :=
  mm _ 128 rfl rfl _ _ _ _ i (fun _ => h _) (fun _ => h4 _)

/-- The row index a broadcast over rows reads. -/
abbrev rowIx (i : S512x512.Idx) : S1x512.Idx := fun a => match a with
  | ⟨0, _⟩ => ⟨0, Nat.one_pos⟩
  | ⟨1, _⟩ => ⟨(i 1).val, (i 1).isLt⟩

/-- A row spread over all rows. -/
theorem spread_at {v : FVec Ideal S1x512 .f32} {l : ℕ → ℝ} (h : ∀ i, v i = (l (i 1).val : EReal)) (i : S512x512.Idx) :
    broadcastTo S512x512 v broadcasts_S1x512_S512x512 i = (l (i 1).val : EReal) :=
  h _

/-- A difference of reals, element by element. -/
theorem sub_at {s : Shape} {φ : FTy} {x y : FVec Ideal s φ} {a b : ℝ} (i : s.Idx) (hx : x i = (a : EReal)) (hy : y i = (b : EReal)) :
    subf x y i = ((a - b : ℝ) : EReal) := by
  rw [subf_apply, hx, hy, EReal.coe_sub]

/-- A product of reals, element by element. -/
theorem mul_at {s : Shape} {φ : FTy} {x y : FVec Ideal s φ} {a b : ℝ} (i : s.Idx) (hx : x i = (a : EReal)) (hy : y i = (b : EReal)) :
    mulf x y i = ((a * b : ℝ) : EReal) := by
  rw [mulf_apply, hx, hy, EReal.coe_mul]

/-- A sum of reals, element by element. -/
theorem add_at {s : Shape} {φ : FTy} {x y : FVec Ideal s φ} {a b : ℝ} (i : s.Idx) (hx : x i = (a : EReal)) (hy : y i = (b : EReal)) :
    addf x y i = ((a + b : ℝ) : EReal) := by
  rw [addf_apply, hx, hy, EReal.coe_add]

/-- The exponential of a real. -/
theorem exp_at {s : Shape} {φ : FTy} {x : FVec Ideal s φ} {a : ℝ} (i : s.Idx) (hx : x i = (a : EReal)) :
    exp x i = ((Real.exp a : ℝ) : EReal) := by
  rw [exp_apply, hx, Ideal.exp_def, Ideal.exp_coe]

/-- Rounding to a narrower type changes no real. -/
theorem trunc_at {s : Shape} {x : FVec Ideal s .f32} {a : ℝ} (i : s.Idx) (hx : x i = (a : EReal)) :
    truncf .bf16 x bitsLt_bf16_f32 i = (a : EReal) := by
  rw [truncf_apply, hx]

/-- The unnormalised weights over the normalisers: the exponential of score less logarithm. -/
theorem pay9_at {v6 : FVec Ideal S1x512 .f32} {s : FVec Ideal S512x512 .f32} {l : ℕ → ℝ} {S : ℕ → ℕ → ℝ}
    (h6 : ∀ i, v6 i = (l (i 1).val : EReal)) (hs : ∀ i, s i = (S (i 0).val (i 1).val : EReal)) (i : S512x512.Idx) :
    k0_pay9 (F := Ideal) v6 s i = ((Real.exp (S (i 0).val (i 1).val - l (i 1).val) : ℝ) : EReal) :=
  exp_at i (sub_at i (hs i) (spread_at h6 i))

/-- The same for the last block. -/
theorem pay28_at {v6 : FVec Ideal S1x512 .f32} {s : FVec Ideal S512x512 .f32} {l : ℕ → ℝ} {S : ℕ → ℕ → ℝ}
    (h6 : ∀ i, v6 i = (l (i 1).val : EReal)) (hs : ∀ i, s i = (S (i 0).val (i 1).val : EReal)) (i : S512x512.Idx) :
    k0_pay28 (F := Ideal) v6 s i = ((Real.exp (S (i 0).val (i 1).val - l (i 1).val) : ℝ) : EReal) :=
  exp_at i (sub_at i (hs i) (spread_at h6 i))

/-- The scores' cotangents. -/
theorem pay10_at {v6 v9 : FVec Ideal S1x512 .f32} {s d : FVec Ideal S512x512 .f32} {l dl : ℕ → ℝ} {S D : ℕ → ℕ → ℝ}
    (h6 : ∀ i, v6 i = (l (i 1).val : EReal)) (h9 : ∀ i, v9 i = (dl (i 1).val : EReal))
    (hs : ∀ i, s i = (S (i 0).val (i 1).val : EReal)) (hd : ∀ i, d i = (D (i 0).val (i 1).val : EReal)) (i : S512x512.Idx) :
    k0_pay10 (F := Ideal) v6 v9 s d i = ((Real.exp (S (i 0).val (i 1).val - l (i 1).val) * (D (i 0).val (i 1).val - dl (i 1).val) : ℝ) : EReal) :=
  trunc_at i (mul_at i (pay9_at h6 hs i) (sub_at i (hd i) (spread_at h9 i)))

/-- Keys' gradient after one block: what it held plus the scores' cotangents times the queries. -/
theorem pay11_at {v3 : FVec Ideal S512x256 .bf16} {v6 v9 : FVec Ideal S1x512 .f32} {s d : FVec Ideal S512x512 .f32}
    {g : FVec Ideal S512x256 .f32} {q G W : ℕ → ℕ → ℝ} (h3 : ∀ i, v3 i = (q (i 0).val (i 1).val : EReal))
    (hw : ∀ i, k0_pay10 v6 v9 s d i = (W (i 0).val (i 1).val : EReal))
    (hg : ∀ i, g i = (G (i 0).val (i 1).val : EReal)) (i : S512x256.Idx) :
    k0_pay11 (F := Ideal) v3 v6 v9 s d g i = ((G (i 0).val (i 1).val + ∑ j : Fin 512, W (i 0).val j.val * q j.val (i 1).val : ℝ) : EReal) := by
  refine add_at i ?_ (mm _ 512 rfl rfl _ _ _ _ i (fun _ => hw _) (fun _ => h3 _))
  rw [shapeCast_self]; exact hg i

/-- Values' gradient after one block: what it held plus the weights times the cotangents. -/
theorem pay12_at {v4 : FVec Ideal S512x128 .bf16} {v6 : FVec Ideal S1x512 .f32} {s : FVec Ideal S512x512 .f32}
    {g : FVec Ideal S512x128 .f32} {o G W : ℕ → ℕ → ℝ} (h4 : ∀ i, v4 i = (o (i 0).val (i 1).val : EReal))
    (hw : ∀ i, k0_pay9 v6 s i = (W (i 0).val (i 1).val : EReal))
    (hg : ∀ i, g i = (G (i 0).val (i 1).val : EReal)) (i : S512x128.Idx) :
    k0_pay12 (F := Ideal) v4 v6 s g i = ((G (i 0).val (i 1).val + ∑ j : Fin 512, W (i 0).val j.val * o j.val (i 1).val : ℝ) : EReal) := by
  refine add_at i ?_ (mm _ 512 rfl rfl _ _ _ _ i (fun _ => trunc_at _ (hw _)) (fun _ => h4 _))
  rw [shapeCast_self]; exact hg i

/-- Queries' gradient, transposed, after one block: what it held plus the transposed keys times the scores' cotangents. -/
theorem pay26_at {w : FVec Ideal S512x512 .bf16} {kt : FVec Ideal S256x512 .bf16} {g : FVec Ideal S256x512 .f32}
    {W K G : ℕ → ℕ → ℝ} (hw : ∀ i, w i = (W (i 0).val (i 1).val : EReal)) (hk : ∀ i, kt i = (K (i 0).val (i 1).val : EReal))
    (hg : ∀ i, g i = (G (i 0).val (i 1).val : EReal)) (i : S256x512.Idx) :
    k0_pay26 (F := Ideal) w kt g i = ((G (i 0).val (i 1).val + ∑ r : Fin 512, K (i 0).val r.val * W r.val (i 1).val : ℝ) : EReal) := by
  unfold k0_pay26
  rw [shapeCast_self, shapeCast_self]
  exact add_at i (hg i) (mm _ 512 rfl rfl _ _ _ _ i (fun _ => hk _) (fun _ => hw _))

/-- The last block's weights after the mask. -/
theorem pay1_at {v58 : FVec Ideal S512x512 .f32} {v117 : IVec S512x512 1} {W : ℕ → ℕ → ℝ} {M : ℕ → ℕ → Prop} [∀ a b, Decidable (M a b)]
    (hw : ∀ i, v58 i = (W (i 0).val (i 1).val : EReal)) (hm : ∀ i, v117 i = if M (i 0).val (i 1).val then 1#1 else 0#1)
    (i : S512x512.Idx) :
    k0_pay1 (F := Ideal) v58 v117 (Scalar.ofBits .f32 0x00000000#32 : Ideal .f32) i
      = ((if M (i 0).val (i 1).val then W (i 0).val (i 1).val else 0 : ℝ) : EReal) := by
  have e : k0_pay1 v58 v117 (Scalar.ofBits .f32 0x00000000#32 : Ideal .f32) i
      = Scalar.select (v117 i) (v58 i) (Scalar.ofBits .f32 0x00000000#32 : Ideal .f32) := rfl
  rw [e, hm, hw]
  split
  · rfl
  · exact Ideal.ofBits_zero_f32

variable {v9 : FVec Ideal S1x512 .f32} {d v58 : FVec Ideal S512x512 .f32} {v117 : IVec S512x512 1} {z : Ideal .f32} {dl : ℕ → ℝ}
  {D W : ℕ → ℕ → ℝ}

/-- The last block's scores' cotangents. -/
theorem pay2_at (h9 : ∀ i, v9 i = (dl (i 1).val : EReal)) (hd : ∀ i, d i = (D (i 0).val (i 1).val : EReal))
    (hp : ∀ i, k0_pay1 v58 v117 z i = (W (i 0).val (i 1).val : EReal)) (i : S512x512.Idx) :
    k0_pay2 (F := Ideal) v9 d v58 v117 z i = ((W (i 0).val (i 1).val * (D (i 0).val (i 1).val - dl (i 1).val) : ℝ) : EReal) :=
  trunc_at i (mul_at i (hp i) (sub_at i (hd i) (spread_at h9 i)))

/-- Keys' gradient after the last block. -/
theorem pay3_at {v3 : FVec Ideal S512x256 .bf16} {g : FVec Ideal S512x256 .f32} {q G : ℕ → ℕ → ℝ}
    (h3 : ∀ i, v3 i = (q (i 0).val (i 1).val : EReal)) (hw : ∀ i, k0_pay2 v9 d v58 v117 z i = (W (i 0).val (i 1).val : EReal))
    (hg : ∀ i, g i = (G (i 0).val (i 1).val : EReal)) (i : S512x256.Idx) :
    k0_pay3 (F := Ideal) v3 v9 d v58 v117 z g i = ((G (i 0).val (i 1).val + ∑ j : Fin 512, W (i 0).val j.val * q j.val (i 1).val : ℝ) : EReal) := by
  refine add_at i ?_ (mm _ 512 rfl rfl _ _ _ _ i (fun _ => hw _) (fun _ => h3 _))
  rw [shapeCast_self]; exact hg i

/-- Values' gradient after the last block. -/
theorem pay4_at {v4 : FVec Ideal S512x128 .bf16} {g : FVec Ideal S512x128 .f32} {o G : ℕ → ℕ → ℝ}
    (h4 : ∀ i, v4 i = (o (i 0).val (i 1).val : EReal)) (hw : ∀ i, k0_pay1 v58 v117 z i = (W (i 0).val (i 1).val : EReal))
    (hg : ∀ i, g i = (G (i 0).val (i 1).val : EReal)) (i : S512x128.Idx) :
    k0_pay4 (F := Ideal) v4 v58 v117 z g i = ((G (i 0).val (i 1).val + ∑ j : Fin 512, W (i 0).val j.val * o j.val (i 1).val : ℝ) : EReal) := by
  refine add_at i ?_ (mm _ 512 rfl rfl _ _ _ _ i (fun _ => trunc_at _ (hw _)) (fun _ => h4 _))
  rw [shapeCast_self]; exact hg i

/-- Queries' gradient, transposed, after the last block. -/
theorem pay5_at {kt : FVec Ideal S256x512 .bf16} {g : FVec Ideal S256x512 .f32} {K G : ℕ → ℕ → ℝ}
    (hw : ∀ i, k0_pay2 v9 d v58 v117 z i = (W (i 0).val (i 1).val : EReal)) (hk : ∀ i, kt i = (K (i 0).val (i 1).val : EReal))
    (hg : ∀ i, g i = (G (i 0).val (i 1).val : EReal)) (i : S256x512.Idx) :
    k0_pay5 (F := Ideal) v9 d v58 v117 z kt g i = ((G (i 0).val (i 1).val + ∑ r : Fin 512, K (i 0).val r.val * W r.val (i 1).val : ℝ) : EReal) := by
  unfold k0_pay5
  rw [shapeCast_self, shapeCast_self]
  exact add_at i (hg i) (mm _ 512 rfl rfl _ _ _ _ i (fun _ => hk _) (fun _ => hw _))

/-- The transposed and rounded queries' gradient. -/
theorem pay6_at {g : FVec Ideal S256x512 .f32} {G : ℕ → ℕ → ℝ} (hg : ∀ i, g i = (G (i 0).val (i 1).val : EReal)) (i : S512x256.Idx) :
    k0_pay6 (F := Ideal) g i = (G (i 1).val (i 0).val : EReal) := by
  refine trunc_at i ?_
  rw [transpose_apply [1, 0] g transposes_S256x512_p1_0_S512x256 i
    (fun a => match a with | ⟨0, _⟩ => ⟨(i 1).val, (i 1).isLt⟩ | ⟨1, _⟩ => ⟨(i 0).val, (i 0).isLt⟩)
    (fun b => match b with | ⟨0, _⟩ => rfl | ⟨1, _⟩ => rfl), hg]

/-- The zeros the first point of a head stores. -/
theorem pay19_at (i : S2048x256.Idx) : k0_pay19 (F := Ideal) i = ((0 : ℝ) : EReal) := Ideal.ofBits_zero_f32
theorem pay20_at (i : S2048x128.Idx) : k0_pay20 (F := Ideal) i = ((0 : ℝ) : EReal) := Ideal.ofBits_zero_f32
theorem pay23_at (i : S256x512.Idx) : k0_pay23 (F := Ideal) i = ((0 : ℝ) : EReal) := by
  unfold k0_pay23; rw [shapeCast_self]; exact Ideal.ofBits_zero_f32

end Cert.KernelIdeal.Payload

end
-- ==== Proof.Loop.lean ====
/- The loop over the blocks of keys before the query's own block: what the carried scores and the three accumulators
   hold before every trip, when what the body has loaded are reals. -/
module

public import proofs.«01_k».proof.Proof.Payload
public import proofs.«01_k».proof.Proof.Gen.KernelIdeal.Loops
public import Idealize.ShloMosaic.Lib.WritesUnit

@[expose] public section

set_option maxRecDepth 16384

noncomputable section

namespace Cert.KernelIdeal.Body

open Cert.KernelIdeal Cert.KernelIdeal.Gen Cert.KernelIdeal.Payload Cert.Grad Idealize.ShloMosaic Idealize.ShloMosaic.TcCoe
open scoped BigOperators

/-- The reals one grid point reads: a block of 512 queries and their cotangents with the two rows of saved sums, and a
    head's keys, transposed keys and values. -/
structure Blk where
  /-- the block's queries -/
  q : ℕ → ℕ → ℝ
  /-- the head's keys -/
  kb : ℕ → ℕ → ℝ
  /-- the head's keys, transposed -/
  kt : ℕ → ℕ → ℝ
  /-- the head's values -/
  vb : ℕ → ℕ → ℝ
  /-- the block's cotangents -/
  o : ℕ → ℕ → ℝ
  /-- the logarithms of the block's normalisers -/
  ls : ℕ → ℝ
  /-- the block's sums of probability times cotangent -/
  dl : ℕ → ℝ

namespace Blk

variable (B : Blk)

/-- The score of key `r` and query `j`. -/
def S (r j : ℕ) : ℝ := ∑ e : Fin 256, B.kb r e.val * B.q j e.val

/-- The cotangent of the probability of key `r` and query `j`. -/
def D (r j : ℕ) : ℝ := ∑ e : Fin 128, B.vb r e.val * B.o j e.val

/-- The probability where the mask lets it stand. -/
def p (r j : ℕ) : ℝ := Real.exp (B.S r j - B.ls j)

/-- The cotangent of the score where the mask lets it stand. -/
def w (r j : ℕ) : ℝ := Real.exp (B.S r j - B.ls j) * (B.D r j - B.dl j)

/-- What the block adds to the keys' gradient. -/
def ck (r c : ℕ) : ℝ := ∑ j : Fin 512, B.w r j.val * B.q j.val c

/-- What the block adds to the values' gradient. -/
def cv (r c : ℕ) : ℝ := ∑ j : Fin 512, B.p r j.val * B.o j.val c

/-- What the `b`-th block of keys adds to the queries' gradient. -/
def cq (b d j : ℕ) : ℝ := ∑ r : Fin 512, B.kt d (512 * b + r.val) * B.w (512 * b + r.val) j

end Blk

/-- A load of a box of a matrix reads the matrix at the box's offsets. -/
theorem load_at {κ : Kind} {sp : Space} {e : EltTy} {d size off : Fin 2 → ℕ} (v : View sig κ sp (⟨2, d⟩ : Shape) e)
    (f : v.ty.Contents (Elt Ideal)) (co : ℝ → Elt Ideal e) {a : ℕ → ℕ → ℝ} (h : ∀ y, v.read (Elt Ideal) f y = co (a (y 0).val (y 1).val))
    (inb : ∀ a : Fin 2, off a + size a ≤ d a) {o₀ o₁ : ℕ} (hoff : off = ![o₀, o₁]) (x : (Rect.unit (s := ⟨2, d⟩) off size inb).shape.Idx) :
    v.readAt (Elt Ideal) (Rect.unit (s := ⟨2, d⟩) off size inb).toLoadRect f x = co (a (o₀ + (x (0 : Fin 2)).val) (o₁ + (x (1 : Fin 2)).val)) := by
  subst hoff
  refine (h _).trans (congrArg co (congrArg₂ a ?_ ?_))
  · show o₀ + 1 * (x (0 : Fin 2)).val = _; rw [Nat.one_mul]
  · show o₁ + 1 * (x (1 : Fin 2)).val = _; rw [Nat.one_mul]

section Loop

variable (c : Dev nD) (i : grid0.Coords) (arg2 : Memref sig .tc .vmem S512x256 .bf16) (harg2 : arg2.IsWhole)
  (arg3 : Memref sig .tc .vmem S2048x256 .bf16) (harg3 : arg3.IsWhole) (arg4 : Memref sig .tc .vmem S256x2048 .bf16) (harg4 : arg4.IsWhole)
  (arg5 : Memref sig .tc .vmem S2048x128 .bf16) (harg5 : arg5.IsWhole) (arg6 : Memref sig .tc .vmem S512x128 .bf16) (harg6 : arg6.IsWhole)
  (arg7 : Memref sig .tc .vmem S1x1x512 .f32) (harg7 : arg7.IsWhole) (arg8 : Memref sig .tc .vmem S8x512 .f32) (harg8 : arg8.IsWhole)
  (arg9 : Memref sig .tc .vmem S512x256 .bf16) (harg9 : arg9.IsWhole) (arg10 : Memref sig .tc .vmem S2048x256 .f32) (harg10 : arg10.IsWhole)
  (arg11 : Memref sig .tc .vmem S2048x128 .f32) (harg11 : arg11.IsWhole) (arg12 : Memref sig .tc .vmem S256x512 .f32) (harg12 : arg12.IsWhole)
  (v3 : Vec Ideal S512x256 .bf16) (v4 : Vec Ideal S512x128 .bf16) (v6 v9 : FVec Ideal S1x512 .f32) (arg1 v18 : BitVec 32) (v32 : BitVec 1)
  (X3 : BufTy.Contents (Elt Ideal) arg3.view.ty) (X4 : BufTy.Contents (Elt Ideal) arg4.view.ty) (X5 : BufTy.Contents (Elt Ideal) arg5.view.ty)
  (G10 : BufTy.Contents (Elt Ideal) arg10.view.ty) (G11 : BufTy.Contents (Elt Ideal) arg11.view.ty) (G12 : BufTy.Contents (Elt Ideal) arg12.view.ty)

  (B : Blk) (g10 g11 g12 : ℕ → ℕ → ℝ)

/-- What holds before trip `k`: the carried scores and cotangents are those of the `k`-th block of keys, and the three
    accumulators hold what they held at the loop's start plus what the first `k` blocks of keys add. -/
structure Holds (k : ℕ) (R : FVec Ideal S512x512 .f32 × FVec Ideal S512x512 .f32) (f10 : BufTy.Contents (Elt Ideal) arg10.view.ty)
    (f11 : BufTy.Contents (Elt Ideal) arg11.view.ty) (f12 : BufTy.Contents (Elt Ideal) arg12.view.ty) : Prop where
  s : ∀ x, R.1 x = (B.S (512 * k + (x 0).val) (x 1).val : EReal)
  d : ∀ x, R.2 x = (B.D (512 * k + (x 0).val) (x 1).val : EReal)
  a10 : ∀ y, arg10.view.read (Elt Ideal) f10 y = ((g10 (y 0).val (y 1).val + if (y 0).val < 512 * k then B.ck (y 0).val (y 1).val else 0 : ℝ) : EReal)
  a11 : ∀ y, arg11.view.read (Elt Ideal) f11 y = ((g11 (y 0).val (y 1).val + if (y 0).val < 512 * k then B.cv (y 0).val (y 1).val else 0 : ℝ) : EReal)
  a12 : ∀ y, arg12.view.read (Elt Ideal) f12 y = ((g12 (y 0).val (y 1).val + ∑ b ∈ Finset.range k, B.cq b (y 0).val (y 1).val : ℝ) : EReal)

variable (h3 : ∀ y, v3 y = (B.q (y 0).val (y 1).val : EReal)) (h4 : ∀ y, v4 y = (B.o (y 0).val (y 1).val : EReal))
  (h6 : ∀ y, v6 y = (B.ls (y 1).val : EReal)) (h9 : ∀ y, v9 y = (B.dl (y 1).val : EReal))
  (hk : ∀ y, arg3.view.read (Elt Ideal) X3 y = (B.kb (y 0).val (y 1).val : EReal))
  (ht : ∀ y, arg4.view.read (Elt Ideal) X4 y = (B.kt (y 0).val (y 1).val : EReal))
  (hv : ∀ y, arg5.view.read (Elt Ideal) X5 y = (B.vb (y 0).val (y 1).val : EReal))

include h3 h4 hk hv in
/-- The scores and cotangents a trip carries on. -/
theorem tripR_at (k : Fin (k0_t1_loop i).trips) (R f10 f11 f12) (x : S512x512.Idx) :
    (tripR_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 k R f10 f11 f12).1 x
        = (B.S (512 * (k.val + 1) + (x 0).val) (x 1).val : EReal)
      ∧ (tripR_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 k R f10 f11 f12).2 x
        = (B.D (512 * (k.val + 1) + (x 0).val) (x 1).val : EReal) := by
  unfold tripR_k0_t1 trip_k0_t1
  dsimp only
  unfold trip_k0_t1.sl.r trip_k0_t1.sl.r_1
  constructor
  · refine (pay7_at (a := fun a b => B.kb (512 * k.val + 512 + a) (0 + b)) h3 (fun y => (load_at arg3.view X3 Real.toEReal hk (k0_off2_inb i k) (k0_off2_eq i k) y)) x).trans ?_
    exact congrArg _ (by unfold Blk.S; refine Finset.sum_congr rfl fun e _ => ?_; rw [Nat.mul_succ, Nat.zero_add])
  · refine (pay8_at (a := fun a b => B.vb (512 * k.val + 512 + a) (0 + b)) h4 (fun y => (load_at arg5.view X5 Real.toEReal hv (k0_off3_inb i k) (k0_off3_eq i k) y)) x).trans ?_
    exact congrArg _ (by unfold Blk.D; refine Finset.sum_congr rfl fun e _ => ?_; rw [Nat.mul_succ, Nat.zero_add])

include h3 h4 h6 h9 ht in
/-- The three accumulators after a trip. -/
theorem tripL_at (k : Fin (k0_t1_loop i).trips) (R) (L10 L11 L12)
    (H : Holds arg10 arg11 arg12 B g10 g11 g12 k.val R (arg10.view.writes (Elt Ideal) G10 L10) (arg11.view.writes (Elt Ideal) G11 L11)
      (arg12.view.writes (Elt Ideal) G12 L12)) :
    (∀ y, arg10.view.read (Elt Ideal) (arg10.view.writes (Elt Ideal) G10 ((tripL_k0_t1 (F := Ideal) Variants.none c none i
        arg2 harg2 arg3 harg3 arg4 harg4 arg5 harg5 arg6 harg6 arg7 harg7 arg8 harg8 arg9 harg9 arg10 harg10 arg11 harg11 arg12 harg12 arg1 v3 v4 v6 v9 v18 v32 X3 X4 X5 k R
        (arg10.view.writes (Elt Ideal) G10 L10) (arg11.view.writes (Elt Ideal) G11 L11) (arg12.view.writes (Elt Ideal) G12 L12)).1 ++ L10)) y
        = ((g10 (y 0).val (y 1).val + if (y 0).val < 512 * (k.val + 1) then B.ck (y 0).val (y 1).val else 0 : ℝ) : EReal))
    ∧ (∀ y, arg11.view.read (Elt Ideal) (arg11.view.writes (Elt Ideal) G11 ((tripL_k0_t1 (F := Ideal) Variants.none c none i
        arg2 harg2 arg3 harg3 arg4 harg4 arg5 harg5 arg6 harg6 arg7 harg7 arg8 harg8 arg9 harg9 arg10 harg10 arg11 harg11 arg12 harg12 arg1 v3 v4 v6 v9 v18 v32 X3 X4 X5 k R
        (arg10.view.writes (Elt Ideal) G10 L10) (arg11.view.writes (Elt Ideal) G11 L11) (arg12.view.writes (Elt Ideal) G12 L12)).2.1 ++ L11)) y
        = ((g11 (y 0).val (y 1).val + if (y 0).val < 512 * (k.val + 1) then B.cv (y 0).val (y 1).val else 0 : ℝ) : EReal))
    ∧ (∀ y, arg12.view.read (Elt Ideal) (arg12.view.writes (Elt Ideal) G12 ((tripL_k0_t1 (F := Ideal) Variants.none c none i
        arg2 harg2 arg3 harg3 arg4 harg4 arg5 harg5 arg6 harg6 arg7 harg7 arg8 harg8 arg9 harg9 arg10 harg10 arg11 harg11 arg12 harg12 arg1 v3 v4 v6 v9 v18 v32 X3 X4 X5 k R
        (arg10.view.writes (Elt Ideal) G10 L10) (arg11.view.writes (Elt Ideal) G11 L11) (arg12.view.writes (Elt Ideal) G12 L12)).2.2 ++ L12)) y
        = ((g12 (y 0).val (y 1).val + ∑ b ∈ Finset.range (k.val + 1), B.cq b (y 0).val (y 1).val : ℝ) : EReal)) := by
  unfold tripL_k0_t1 trip_k0_t1
  dsimp only
  unfold trip_k0_t1.sl.r_2 trip_k0_t1.sl.r_3
  have hw : ∀ x, k0_pay10 v6 v9 R.1 R.2 x = (B.w (512 * k.val + (x 0).val) (x 1).val : EReal) := fun x =>
    pay10_at (S := fun a b => B.S (512 * k.val + a) b) (D := fun a b => B.D (512 * k.val + a) b) h6 h9 H.s H.d x
  have hp : ∀ x, k0_pay9 v6 R.1 x = (B.p (512 * k.val + (x 0).val) (x 1).val : EReal) := fun x =>
    pay9_at (S := fun a b => B.S (512 * k.val + a) b) h6 H.s x
  refine ⟨fun y => ?_, fun y => ?_, fun y => ?_⟩
  · by_cases hy : 512 * k.val ≤ (y 0).val ∧ (y 0).val < 512 * k.val + 512
    · have x1 : (y 1).val < 256 := (y 1).isLt
      let x : S512x256.Idx := fun a => match a with
        | ⟨0, _⟩ => ⟨(y 0).val - 512 * k.val, by show _ < 512; omega⟩
        | ⟨1, _⟩ => ⟨(y 1).val, x1⟩
      refine (View.read_writes_cons_rows_of_mem _ _ _ _ _ y x (k0_off4_eq i k)
        (by show (y 0).val = 512 * k.val + ((y 0).val - 512 * k.val); omega) rfl).trans ?_
      refine (pay11_at (W := fun a b => B.w (512 * k.val + a) b) (G := fun a b => g10 (512 * k.val + a) (0 + b) + if 512 * k.val + a < 512 * k.val then B.ck (512 * k.val + a) (0 + b) else 0)
        h3 hw (fun z => load_at (size := ![512, 256]) (a := fun a b => g10 a b + if a < 512 * k.val then B.ck a b else 0)
          arg10.view _ Real.toEReal H.a10 (k0_off4_inb i k) (k0_off4_eq i k) z) _).trans ?_
      refine congrArg _ ?_
      have e : 512 * k.val + ((y 0).val - 512 * k.val) = (y 0).val := by omega
      show ((_ + if _ then _ else _) + _ : ℝ) = _
      dsimp only [x]
      rw [e, Nat.zero_add, if_neg (by omega), if_pos (by omega), add_zero]
      rfl
    · refine (View.read_writes_cons_rows_of_not_mem _ _ _ _ _ (W := 512) y (k0_off4_eq i k) rfl (by omega)).trans ?_
      refine (H.a10 y).trans (congrArg _ (congrArg _ (if_congr (by omega) rfl rfl)))
  · by_cases hy : 512 * k.val ≤ (y 0).val ∧ (y 0).val < 512 * k.val + 512
    · have x1 : (y 1).val < 128 := (y 1).isLt
      let x : S512x128.Idx := fun a => match a with
        | ⟨0, _⟩ => ⟨(y 0).val - 512 * k.val, by show _ < 512; omega⟩
        | ⟨1, _⟩ => ⟨(y 1).val, x1⟩
      refine (View.read_writes_cons_rows_of_mem _ _ _ _ _ y x (k0_off5_eq i k)
        (by show (y 0).val = 512 * k.val + ((y 0).val - 512 * k.val); omega) rfl).trans ?_
      refine (pay12_at (W := fun a b => B.p (512 * k.val + a) b) (G := fun a b => g11 (512 * k.val + a) (0 + b) + if 512 * k.val + a < 512 * k.val then B.cv (512 * k.val + a) (0 + b) else 0)
        h4 hp (fun z => load_at (size := ![512, 128]) (a := fun a b => g11 a b + if a < 512 * k.val then B.cv a b else 0)
          arg11.view _ Real.toEReal H.a11 (k0_off5_inb i k) (k0_off5_eq i k) z) _).trans ?_
      refine congrArg _ ?_
      have e : 512 * k.val + ((y 0).val - 512 * k.val) = (y 0).val := by omega
      show ((_ + if _ then _ else _) + _ : ℝ) = _
      dsimp only [x]
      rw [e, Nat.zero_add, if_neg (by omega), if_pos (by omega), add_zero]
      rfl
    · refine (View.read_writes_cons_rows_of_not_mem _ _ _ _ _ (W := 512) y (k0_off5_eq i k) rfl (by omega)).trans ?_
      refine (H.a11 y).trans (congrArg _ (congrArg _ (if_congr (by omega) rfl rfl)))
  · refine (View.read_writes_cons_rows_of_mem _ _ _ _ _ y (y : S256x512.Idx) rfl (Nat.zero_add _).symm rfl).trans ?_
    refine (pay26_at (W := fun a b => B.w (512 * k.val + a) b) (K := fun a b => B.kt (0 + a) (512 * k.val + b))
      (G := fun a b => g12 (0 + a) (0 + b) + ∑ b' ∈ Finset.range k.val, B.cq b' (0 + a) (0 + b)) hw (fun z => load_at arg4.view X4 Real.toEReal ht (k0_off6_inb i k) (k0_off6_eq i k) z)
      (fun z => load_at (off := ![0, 0]) (size := ![256, 512])
        (a := fun a b => g12 a b + ∑ b' ∈ Finset.range k.val, B.cq b' a b) arg12.view _ Real.toEReal H.a12 _ rfl z) _).trans ?_
    refine congrArg _ ?_
    simp only [Nat.zero_add]
    rw [Finset.sum_range_succ, ← add_assoc]
    rfl

include h3 h4 h6 h9 hk ht hv in
/-- Before every trip, if before the first. -/
theorem st_at (init : FVec Ideal S512x512 .f32 × FVec Ideal S512x512 .f32)
    (H : Holds arg10 arg11 arg12 B g10 g11 g12 0 init G10 G11 G12) (k : ℕ) (hk' : k ≤ (k0_t1_loop i).trips) :
    Holds arg10 arg11 arg12 B g10 g11 g12 k
      (st_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init k).1
      (arg10.view.writes (Elt Ideal) G10 (st_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init k).2.1)
      (arg11.view.writes (Elt Ideal) G11 (st_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init k).2.2.1)
      (arg12.view.writes (Elt Ideal) G12 (st_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init k).2.2.2) := by
  induction k with
  | zero => exact H
  | succ k ih =>
    have e := st_k0_t1_succ (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init ⟨k, hk'⟩
    dsimp only at e
    have ih := ih (Nat.le_of_succ_le hk')
    rw [e]
    generalize st_k0_t1 (F := Ideal) Variants.none c none i arg2 harg2 arg3 harg3 arg4 harg4 arg5 harg5 arg6 harg6 arg7 harg7 arg8 harg8 arg9 harg9 arg10 harg10 arg11 harg11 arg12 harg12 arg1 v3 v4 v6 v9 v18 v32 X3 X4 X5 G10 G11 G12 init k = st at ih ⊢
    obtain ⟨R, L10, L11, L12⟩ := st
    have r := tripR_at c i arg2 harg2 arg3 harg3 arg4 harg4 arg5 harg5 arg6 harg6 arg7 harg7 arg8 harg8 arg9 harg9 arg10 harg10 arg11 harg11 arg12 harg12 v3 v4 v6 v9 arg1 v18 v32 X3 X4 X5 B h3 h4 hk hv ⟨k, hk'⟩ R
      (arg10.view.writes (Elt Ideal) G10 L10) (arg11.view.writes (Elt Ideal) G11 L11) (arg12.view.writes (Elt Ideal) G12 L12)
    have l := tripL_at c i arg2 harg2 arg3 harg3 arg4 harg4 arg5 harg5 arg6 harg6 arg7 harg7 arg8 harg8 arg9 harg9 arg10 harg10 arg11 harg11 arg12 harg12 v3 v4 v6 v9 arg1 v18 v32 X3 X4 X5 G10 G11 G12 B g10 g11 g12 h3 h4 h6 h9 ht ⟨k, hk'⟩ R
      L10 L11 L12 ih
    exact ⟨fun x => (r x).1, fun x => (r x).2, l.1, l.2.1, l.2.2⟩

end Loop

end Cert.KernelIdeal.Body

end
-- ==== Proof.Last.lean ====
/- What the body leaves in its outputs' blocks at a grid point: the loop, then the last block of keys, which the mask cuts. -/
module

public import proofs.«01_k».proof.Proof.Loop
public import Idealize.ShloMosaic.Lib.Pipeline.Value

@[expose] public section

set_option maxRecDepth 16384

noncomputable section

namespace Cert.KernelIdeal.Body

open Cert.KernelIdeal Cert.KernelIdeal.Gen Cert.KernelIdeal.Payload Cert.Grad Idealize.ShloMosaic Idealize.ShloMosaic.TcCoe
open scoped BigOperators

namespace Blk

variable (B : Blk)

/-- The probability of key `r` and the `j`-th query of query block `n`, zero where the key's chunk comes after the query's. -/
def pm (n r j : ℕ) : ℝ := if r / 64 ≤ (512 * n + j) / 64 then B.p r j else 0

/-- The cotangent of the score, zero there too. -/
def wm (n r j : ℕ) : ℝ := B.pm n r j * (B.D r j - B.dl j)

/-- What query block `n` adds to the keys' gradient. -/
def ckm (n r c : ℕ) : ℝ := ∑ j : Fin 512, B.wm n r j.val * B.q j.val c

/-- What query block `n` adds to the values' gradient. -/
def cvm (n r c : ℕ) : ℝ := ∑ j : Fin 512, B.pm n r j.val * B.o j.val c

/-- The queries' gradient. -/
def cqm (n d j : ℕ) : ℝ := ∑ r : Fin 2048, B.kt d r.val * B.wm n r.val j

variable {B}

theorem pm_before {n r : ℕ} (j : ℕ) (h : r < 512 * n) : B.pm n r j = B.p r j := if_pos (by omega)

theorem pm_after {n r j : ℕ} (hj : j < 512) (h : 512 * n + 512 ≤ r) : B.pm n r j = 0 := if_neg (by omega)

theorem wm_before {n r : ℕ} (j : ℕ) (h : r < 512 * n) : B.wm n r j = B.w r j := by unfold wm; rw [pm_before j h]; rfl

theorem wm_after {n r j : ℕ} (hj : j < 512) (h : 512 * n + 512 ≤ r) : B.wm n r j = 0 := by
  unfold wm; rw [pm_after hj h, zero_mul]

theorem ckm_before {n r : ℕ} (c : ℕ) (h : r < 512 * n) : B.ckm n r c = B.ck r c :=
  Finset.sum_congr rfl fun j _ => by rw [wm_before _ h]

theorem ckm_after {n r : ℕ} (c : ℕ) (h : 512 * n + 512 ≤ r) : B.ckm n r c = 0 :=
  Finset.sum_eq_zero fun j _ => by rw [wm_after j.isLt h, zero_mul]

theorem cvm_before {n r : ℕ} (c : ℕ) (h : r < 512 * n) : B.cvm n r c = B.cv r c :=
  Finset.sum_congr rfl fun j _ => by rw [pm_before _ h]

theorem cvm_after {n r : ℕ} (c : ℕ) (h : 512 * n + 512 ≤ r) : B.cvm n r c = 0 :=
  Finset.sum_eq_zero fun j _ => by rw [pm_after j.isLt h, zero_mul]

/-- A sum over the rows of the first `n` blocks, block by block. -/
theorem sum_blocks (f : ℕ → ℝ) (n : ℕ) :
    ∑ b ∈ Finset.range n, ∑ r : Fin 512, f (512 * b + r.val) = ∑ r ∈ Finset.range (512 * n), f r := by
  induction n with
  | zero => rfl
  | succ n ih =>
    rw [Finset.sum_range_succ, ih, Nat.mul_succ, Finset.sum_range_add, Finset.sum_range fun r => f (512 * n + r)]

/-- The blocks before the query's own and its own make up the queries' gradient. -/
theorem cq_last {n : ℕ} (hn : n < 4) (d : ℕ) {j : ℕ} (hj : j < 512) :
    ∑ b ∈ Finset.range n, B.cq b d j + ∑ r : Fin 512, B.kt d (512 * n + r.val) * B.wm n (512 * n + r.val) j = B.cqm n d j := by
  have e : ∑ b ∈ Finset.range n, B.cq b d j
      = ∑ b ∈ Finset.range n, ∑ r : Fin 512, B.kt d (512 * b + r.val) * B.wm n (512 * b + r.val) j := by
    refine Finset.sum_congr rfl fun b hb => Finset.sum_congr rfl fun r _ => ?_
    rw [wm_before]
    have := Finset.mem_range.1 hb; have := r.isLt; omega
  rw [e, ← Finset.sum_range_succ fun b => ∑ r : Fin 512, B.kt d (512 * b + r.val) * B.wm n (512 * b + r.val) j,
    sum_blocks fun r => B.kt d r * B.wm n r j]
  unfold cqm
  rw [← Finset.sum_range fun r => B.kt d r * B.wm n r j]
  refine Finset.sum_subset (Finset.range_mono (by omega)) fun r _ hr => ?_
  rw [wm_after hj, mul_zero]
  have : ¬ r < 512 * (n + 1) := fun h => hr (Finset.mem_range.2 h)
  omega

end Blk

/-- The sign of a word as the kernel spells it: whether it is positive less whether it is negative. -/
@[reducible] def vsgn (x : BitVec 32) : BitVec 32 :=
  IntOp.subi ((IntOp.cmpi .sgt x 0#32).setWidth 32) ((IntOp.cmpi .slt x 0#32).setWidth 32)

/-- Floor division by 64 as the kernel spells it. -/
@[reducible] def vdiv64 (x : BitVec 32) : BitVec 32 :=
  Scalar.select (IntOp.andi (IntOp.cmpi .ne (vsgn x) (vsgn 64#32)) (IntOp.cmpi .ne (IntOp.remsi .vector x 64#32) 0#32))
    (IntOp.subi (IntOp.divsi .vector x 64#32) 1#32) (IntOp.divsi .vector x 64#32)

/-- It is floor division at every row number. -/
theorem vdiv64_eq : ∀ n : Fin 2048, vdiv64 (BitVec.ofNat 32 n.val) = BitVec.ofNat 32 (n.val / 64) := by
  decide +kernel

/-- The last block's mask: a key's chunk of 64 rows no later than the query's. -/
theorem mask_at (i : grid0.Coords) (v18 : BitVec 32) (v32 : BitVec 1)
    (hv : Scalar.muli (Scalar.addi (Scalar.muli (Scalar.subi (Scalar.select v32 (Scalar.subi v18 1#32) v18) 1#32) 1#32) 0#32) 512#32
      = BitVec.ofNat 32 (512 * (i 1).val)) (x : S512x512.Idx) :
    k0_pay32 (k0_pay29 v18 v32) (k0_pay30 (BitVec.ofNat 32 (i 1).val)) 64#32 (k0_pay31 v18 v32) 0#32 x
      = if (512 * (i 1).val + (x 0).val) / 64 ≤ (512 * (i 1).val + (x 1).val) / 64 then 1#1 else 0#1 := by
  have i1 : (i 1).val < 4 := (i 1).isLt
  have x0 : (x 0).val < 512 := (x 0).isLt
  have x1 : (x 1).val < 512 := (x 1).isLt
  have ea : k0_pay29 v18 v32 x = BitVec.ofNat 32 (512 * (i 1).val + (x 0).val) := by
    have e : k0_pay29 v18 v32 x = IntOp.addi (Scalar.muli (Scalar.addi (Scalar.muli (Scalar.subi (Scalar.select v32 (Scalar.subi v18 1#32) v18) 1#32) 1#32) 0#32) 512#32)
      (iota .tc S512x512 32 [0] iota_S512x512_d0_w32 x) := by unfold k0_pay29; rfl
    rw [e, hv, iota_single_apply, BitVec.ofNat_add]; rfl
  have eb : k0_pay30 (BitVec.ofNat 32 (i 1).val) x = BitVec.ofNat 32 (512 * (i 1).val + (x 1).val) := by
    have e : k0_pay30 (BitVec.ofNat 32 (i 1).val) x = IntOp.addi (BitVec.ofNat 32 (i 1).val * BitVec.ofNat 32 512)
      (iota .tc S512x512 32 [1] iota_S512x512_d1_w32 x) := by unfold k0_pay30; rfl
    rw [e, iota_single_apply, BitVec.ofNat_add, Nat.mul_comm, BitVec.ofNat_mul]; rfl
  have e : k0_pay32 (k0_pay29 v18 v32) (k0_pay30 (BitVec.ofNat 32 (i 1).val)) 64#32 (k0_pay31 v18 v32) 0#32 x
      = IntOp.cmpi .sle (vdiv64 (k0_pay29 v18 v32 x)) (vdiv64 (k0_pay30 (BitVec.ofNat 32 (i 1).val) x)) := by
    unfold k0_pay32 k0_pay31; rfl
  have fa := vdiv64_eq ⟨512 * (i 1).val + (x 0).val, by omega⟩
  have fb := vdiv64_eq ⟨512 * (i 1).val + (x 1).val, by omega⟩
  rw [e, ea, eb]
  exact (congrArg₂ (IntOp.cmpi .sle) fa fb).trans (sle_chunk _ _ (by omega) (by omega))

section Last

variable {arg10 : Memref sig .tc .vmem S2048x256 .f32} {arg11 : Memref sig .tc .vmem S2048x128 .f32} {arg12 : Memref sig .tc .vmem S256x512 .f32}
  {v3 : Vec Ideal S512x256 .bf16} {v4 : Vec Ideal S512x128 .bf16} {v9 : FVec Ideal S1x512 .f32} {d v58 : FVec Ideal S512x512 .f32}
  {v117 : IVec S512x512 1} {z : Ideal .f32}
  (B : Blk) (g : ℕ → ℕ → ℝ) (n : ℕ)
  (h3 : ∀ y, v3 y = (B.q (y 0).val (y 1).val : EReal)) (h4 : ∀ y, v4 y = (B.o (y 0).val (y 1).val : EReal))
  (hw : ∀ x, k0_pay2 v9 d v58 v117 z x = (B.wm n (512 * n + (x 0).val) (x 1).val : EReal))
  (hp : ∀ x, k0_pay1 v58 v117 z x = (B.pm n (512 * n + (x 0).val) (x 1).val : EReal))

include h3 hw in
/-- The keys' gradient after the last block. -/
theorem last10 (G f : BufTy.Contents (Elt Ideal) arg10.view.ty) (L : List (View.Piece (Elt Ideal) S2048x256 .f32))
    (hf : arg10.view.writes (Elt Ideal) G L = f)
    (h : ∀ y, arg10.view.read (Elt Ideal) f y = ((g (y 0).val (y 1).val + if (y 0).val < 512 * n then B.ck (y 0).val (y 1).val else 0 : ℝ) : EReal))
    {off : Fin 2 → ℕ} (inb : ∀ a : Fin 2, off a + (![512, 256] : Fin 2 → ℕ) a ≤ S2048x256.size a) (hoff : off = ![512 * n, 0]) (y : S2048x256.Idx) :
    arg10.view.read (Elt Ideal) (arg10.view.writes (Elt Ideal) G (⟨Rect.unit (s := S2048x256) off ![512, 256] inb,
      k0_pay3 v3 v9 d v58 v117 z (View.readAt (Elt Ideal) arg10.view (Rect.unit (s := S2048x256) off ![512, 256] inb).toLoadRect f)⟩ :: L)) y
      = ((g (y 0).val (y 1).val + B.ckm n (y 0).val (y 1).val : ℝ) : EReal) := by
  by_cases hy : 512 * n ≤ (y 0).val ∧ (y 0).val < 512 * n + 512
  · have x1 : (y 1).val < 256 := (y 1).isLt
    let x : S512x256.Idx := fun a => match a with
      | ⟨0, _⟩ => ⟨(y 0).val - 512 * n, by show _ < 512; omega⟩
      | ⟨1, _⟩ => ⟨(y 1).val, x1⟩
    refine (View.read_writes_cons_rows_of_mem _ _ _ _ _ y x hoff
      (by show (y 0).val = 512 * n + ((y 0).val - 512 * n); omega) rfl).trans ?_
    refine (pay3_at (W := fun a b => B.wm n (512 * n + a) b) (G := fun a b => g (512 * n + a) (0 + b) + if 512 * n + a < 512 * n then B.ck (512 * n + a) (0 + b) else 0)
      h3 hw (fun w => load_at (size := ![512, 256]) (a := fun a b => g a b + if a < 512 * n then B.ck a b else 0)
        arg10.view _ Real.toEReal h inb hoff w) _).trans ?_
    refine congrArg _ ?_
    have e : 512 * n + ((y 0).val - 512 * n) = (y 0).val := by omega
    show ((_ + if _ then _ else _) + _ : ℝ) = _
    dsimp only [x]
    rw [e, Nat.zero_add, if_neg (by omega), add_zero]
    rfl
  · refine (View.read_writes_cons_rows_of_not_mem _ _ _ _ _ (W := 512) y hoff rfl (by omega)).trans ?_
    rw [hf]
    refine (h y).trans (congrArg _ (congrArg _ ?_))
    by_cases hb : (y 0).val < 512 * n
    · rw [if_pos hb, Blk.ckm_before _ hb]
    · rw [if_neg hb, Blk.ckm_after _ (by omega)]

include h4 hp in
/-- The values' gradient after the last block. -/
theorem last11 (G f : BufTy.Contents (Elt Ideal) arg11.view.ty) (L : List (View.Piece (Elt Ideal) S2048x128 .f32))
    (hf : arg11.view.writes (Elt Ideal) G L = f)
    (h : ∀ y, arg11.view.read (Elt Ideal) f y = ((g (y 0).val (y 1).val + if (y 0).val < 512 * n then B.cv (y 0).val (y 1).val else 0 : ℝ) : EReal))
    {off : Fin 2 → ℕ} (inb : ∀ a : Fin 2, off a + (![512, 128] : Fin 2 → ℕ) a ≤ S2048x128.size a) (hoff : off = ![512 * n, 0]) (y : S2048x128.Idx) :
    arg11.view.read (Elt Ideal) (arg11.view.writes (Elt Ideal) G (⟨Rect.unit (s := S2048x128) off ![512, 128] inb,
      k0_pay4 v4 v58 v117 z (View.readAt (Elt Ideal) arg11.view (Rect.unit (s := S2048x128) off ![512, 128] inb).toLoadRect f)⟩ :: L)) y
      = ((g (y 0).val (y 1).val + B.cvm n (y 0).val (y 1).val : ℝ) : EReal) := by
  by_cases hy : 512 * n ≤ (y 0).val ∧ (y 0).val < 512 * n + 512
  · have x1 : (y 1).val < 128 := (y 1).isLt
    let x : S512x128.Idx := fun a => match a with
      | ⟨0, _⟩ => ⟨(y 0).val - 512 * n, by show _ < 512; omega⟩
      | ⟨1, _⟩ => ⟨(y 1).val, x1⟩
    refine (View.read_writes_cons_rows_of_mem _ _ _ _ _ y x hoff
      (by show (y 0).val = 512 * n + ((y 0).val - 512 * n); omega) rfl).trans ?_
    refine (pay4_at (W := fun a b => B.pm n (512 * n + a) b) (G := fun a b => g (512 * n + a) (0 + b) + if 512 * n + a < 512 * n then B.cv (512 * n + a) (0 + b) else 0)
      h4 hp (fun w => load_at (size := ![512, 128]) (a := fun a b => g a b + if a < 512 * n then B.cv a b else 0)
        arg11.view _ Real.toEReal h inb hoff w) _).trans ?_
    refine congrArg _ ?_
    have e : 512 * n + ((y 0).val - 512 * n) = (y 0).val := by omega
    show ((_ + if _ then _ else _) + _ : ℝ) = _
    dsimp only [x]
    rw [e, Nat.zero_add, if_neg (by omega), add_zero]
    rfl
  · refine (View.read_writes_cons_rows_of_not_mem _ _ _ _ _ (W := 512) y hoff rfl (by omega)).trans ?_
    rw [hf]
    refine (h y).trans (congrArg _ (congrArg _ ?_))
    by_cases hb : (y 0).val < 512 * n
    · rw [if_pos hb, Blk.cvm_before _ hb]
    · rw [if_neg hb, Blk.cvm_after _ (by omega)]

include hw in
/-- The queries' gradient, transposed, after the last block. -/
theorem last12 (hn : n < 4) {arg4 : Memref sig .tc .vmem S256x2048 .bf16} (X4 : BufTy.Contents (Elt Ideal) arg4.view.ty)
    (f : BufTy.Contents (Elt Ideal) arg12.view.ty)
    (ht : ∀ y, arg4.view.read (Elt Ideal) X4 y = (B.kt (y 0).val (y 1).val : EReal))
    (h : ∀ y, arg12.view.read (Elt Ideal) f y = ((0 + ∑ b ∈ Finset.range n, B.cq b (y 0).val (y 1).val : ℝ) : EReal))
    {off : Fin 2 → ℕ} (inb : ∀ a : Fin 2, off a + (![256, 512] : Fin 2 → ℕ) a ≤ S256x2048.size a) (hoff : off = ![0, 512 * n])
    (inb' : ∀ a : Fin 2, (![0, 0] : Fin 2 → ℕ) a + (![256, 512] : Fin 2 → ℕ) a ≤ S256x512.size a) (y : S256x512.Idx) :
    k0_pay5 v9 d v58 v117 z (View.readAt (Elt Ideal) arg4.view (Rect.unit (s := S256x2048) off ![256, 512] inb).toLoadRect X4)
      (View.readAt (Elt Ideal) arg12.view (Rect.unit (s := S256x512) ![0, 0] ![256, 512] inb').toLoadRect f) y
      = (B.cqm n (y 0).val (y 1).val : EReal) := by
  refine (pay5_at (W := fun a b => B.wm n (512 * n + a) b) (K := fun a b => B.kt (0 + a) (512 * n + b))
    (G := fun a b => 0 + ∑ b' ∈ Finset.range n, B.cq b' (0 + a) (0 + b)) hw
    (fun w => load_at (size := ![256, 512]) arg4.view X4 Real.toEReal ht inb hoff w)
    (fun w => load_at (off := ![0, 0]) (size := ![256, 512]) (a := fun a b => 0 + ∑ b' ∈ Finset.range n, B.cq b' a b)
      arg12.view _ Real.toEReal h inb' rfl w) y).trans ?_
  refine congrArg _ ?_
  simp only [Nat.zero_add, zero_add]
  exact Blk.cq_last hn _ (y 1).isLt

end Last

end Cert.KernelIdeal.Body

end
-- ==== Proof.Point.lean ====
/- The outputs' blocks after a grid point. -/
module

public import proofs.«01_k».proof.Proof.Last
public import proofs.«01_k».proof.Proof.Gen.KernelIdeal.Frame

@[expose] public section

set_option maxRecDepth 16384

noncomputable section

namespace Cert.KernelIdeal.Body

open Cert.KernelIdeal Cert.KernelIdeal.Gen Cert.KernelIdeal.Payload Cert.Grad Idealize.ShloMosaic Idealize.ShloMosaic.TcCoe
open scoped BigOperators

/-- The loop runs once for each block of keys before the query's own. -/
theorem trips1 : ∀ i : grid0.Coords, Scf.trips (k0_t1_loop i).lb (k0_t1_loop i).ub (k0_t1_loop i).st = (i 1).val := by
  decide +kernel

/-- The unrolled loop's remainder is empty. -/
theorem trips2 : ∀ i : grid0.Coords, Scf.trips (k0_t2_loop i).lb (k0_t2_loop i).ub (k0_t2_loop i).st = 0 := by
  decide +kernel

theorem off12_last : ∀ i : grid0.Coords, k0_off12 i = ![512 * (i 1).val, 0] := k0_off12_eq
theorem off13_last : ∀ i : grid0.Coords, k0_off13 i = ![512 * (i 1).val, 0] := k0_off13_eq
theorem off14_last : ∀ i : grid0.Coords, k0_off14 i = ![0, 512 * (i 1).val] := k0_off14_eq

/-- One whole-block store is all a later read sees. -/
theorem read_one {κ : Kind} {sp : Space} {S : Shape} {e : EltTy} (v : View sig κ sp S e) {off : Fin S.rank → ℕ} (h : off = fun _ => 0)
    (inb : ∀ a, off a + S.size a ≤ S.size a) (w : S.Idx → Elt Ideal e) :
    v.read (Elt Ideal) (v.writes (Elt Ideal) v.junk [(⟨Rect.unit off S.size inb, w⟩ : View.Piece (Elt Ideal) S e)]) = w := by
  have r := View.readCov_unit_zero (Val := Elt Ideal) v h inb w
  unfold View.readCov at r
  rw [View.readAt_eq_ld, View.ld_unit_zero h] at r
  exact r

theorem off00 : (![0, 0] : Fin 2 → ℕ) = fun _ => 0 := by decide
theorem off000 : (![0, 0, 0] : Fin 3 → ℕ) = fun _ => 0 := by decide

/-- A whole-block store, last, is all a later read sees. -/
theorem whole_head {κ : Kind} {sp : Space} {S : Shape} {e : EltTy} (v : View sig κ sp S e) {off : Fin S.rank → ℕ} (h : off = fun _ => 0)
    (inb : ∀ a, off a + S.size a ≤ S.size a) (w : S.Idx → Elt Ideal e) (f : BufTy.Contents (Elt Ideal) v.ty) (L : List (View.Piece (Elt Ideal) S e)) :
    v.read (Elt Ideal) (v.writes (Elt Ideal) f ((⟨Rect.unit off S.size inb, w⟩ : View.Piece (Elt Ideal) S e) :: L)) = w := by
  rw [View.read_writes_eq_canon _ _ _ fun y => ⟨_, List.mem_cons_self, View.mem_set_unit_zero h inb y⟩, View.canon_cons_unit_zero h]

/-- A load of one row of a matrix. -/
theorem load_row {κ : Kind} {sp : Space} {e : EltTy} {d size off : Fin 2 → ℕ} (v : View sig κ sp (⟨2, d⟩ : Shape) e)
    (f : v.ty.Contents (Elt Ideal)) (co : ℝ → Elt Ideal e) {a : ℕ → ℝ} {r : ℕ}
    (h : ∀ y : (⟨2, d⟩ : Shape).Idx, (y (0 : Fin 2)).val = r → v.read (Elt Ideal) f y = co (a (y (1 : Fin 2)).val))
    (inb : ∀ a : Fin 2, off a + size a ≤ d a) (hoff : off = ![r, 0]) (x : (Rect.unit (s := ⟨2, d⟩) off size inb).shape.Idx) (hx : (x (0 : Fin 2)).val = 0) :
    v.readAt (Elt Ideal) (Rect.unit (s := ⟨2, d⟩) off size inb).toLoadRect f x = co (a (x (1 : Fin 2)).val) := by
  subst hoff
  refine (h _ ?_).trans (congrArg co (congrArg a ?_))
  · show r + 1 * (x (0 : Fin 2)).val = _; rw [hx]; rfl
  · show 0 + 1 * (x (1 : Fin 2)).val = _; rw [Nat.one_mul, Nat.zero_add]

/-- The number of the last block, as the kernel counts it. -/
theorem numberA : ∀ i : grid0.Coords, Scalar.muli (Scalar.addi (Scalar.muli (Scalar.subi (Scalar.select (kernelRun0_A.sl.v32 i) (Scalar.subi (kernelRun0_A.sl.v18 i) 1#32) (kernelRun0_A.sl.v18 i)) 1#32) 1#32) 0#32) 512#32
    = BitVec.ofNat 32 (512 * (i 1).val) := by
  decide +kernel

/-- The number of the last block, as the kernel counts it. -/
theorem numberB : ∀ i : grid0.Coords, Scalar.muli (Scalar.addi (Scalar.muli (Scalar.subi (Scalar.select (kernelRun0_B.sl.v32 i) (Scalar.subi (kernelRun0_B.sl.v18 i) 1#32) (kernelRun0_B.sl.v18 i)) 1#32) 1#32) 0#32) 512#32
    = BitVec.ofNat 32 (512 * (i 1).val) := by
  decide +kernel

section CaseA

variable (c : Dev nD) (i : grid0.Coords) (arg2 : Memref sig .tc .vmem S512x256 .bf16) (harg2 : arg2.IsWhole)
  (arg3 : Memref sig .tc .vmem S2048x256 .bf16) (harg3 : arg3.IsWhole) (arg4 : Memref sig .tc .vmem S256x2048 .bf16) (harg4 : arg4.IsWhole)
  (arg5 : Memref sig .tc .vmem S2048x128 .bf16) (harg5 : arg5.IsWhole) (arg6 : Memref sig .tc .vmem S512x128 .bf16) (harg6 : arg6.IsWhole)
  (arg7 : Memref sig .tc .vmem S1x1x512 .f32) (harg7 : arg7.IsWhole) (arg8 : Memref sig .tc .vmem S8x512 .f32) (harg8 : arg8.IsWhole)
  (arg9 : Memref sig .tc .vmem S512x256 .bf16) (harg9 : arg9.IsWhole) (arg10 : Memref sig .tc .vmem S2048x256 .f32) (harg10 : arg10.IsWhole)
  (arg11 : Memref sig .tc .vmem S2048x128 .f32) (harg11 : arg11.IsWhole) (arg12 : Memref sig .tc .vmem S256x512 .f32) (harg12 : arg12.IsWhole)
  (x0 : Vec Ideal S512x256 .bf16) (x1 : Vec Ideal S2048x256 .bf16) (x2 : Vec Ideal S256x2048 .bf16) (x3 : Vec Ideal S2048x128 .bf16)
  (x4 : Vec Ideal S512x128 .bf16) (x5 : Vec Ideal S1x1x512 .f32) (x6 : Vec Ideal S8x512 .f32)
variable (B : Blk) (hq : ∀ y, x0 y = (B.q (y 0).val (y 1).val : EReal)) (hkb : ∀ y, x1 y = (B.kb (y 0).val (y 1).val : EReal))
  (hkt : ∀ y, x2 y = (B.kt (y 0).val (y 1).val : EReal)) (hvb : ∀ y, x3 y = (B.vb (y 0).val (y 1).val : EReal))
  (ho : ∀ y, x4 y = (B.o (y 0).val (y 1).val : EReal)) (hls : ∀ y, x5 y = (B.ls (y 2).val : EReal))
  (hdl : ∀ y : S8x512.Idx, (y 0).val = (i 0).val → x6 y = (B.dl (y 1).val : EReal))

include hq in
theorem qA_at (y : S512x256.Idx) : (kernelRun0_A.sl.r (F := Ideal) c arg2 harg2 x0) y = (B.q (y 0).val (y 1).val : EReal) := by
  unfold kernelRun0_A.sl.r
  rw [View.readAt_eq_ld, View.ld_unit_zero off00, harg2.read_unread]; exact hq y

include ho in
theorem oA_at (y : S512x128.Idx) : (kernelRun0_A.sl.r_1 (F := Ideal) c arg6 harg6 x4) y = (B.o (y 0).val (y 1).val : EReal) := by
  unfold kernelRun0_A.sl.r_1
  rw [View.readAt_eq_ld, View.ld_unit_zero off00, harg6.read_unread]; exact ho y

include hls in
theorem lsA_at (y : S1x512.Idx) : (kernelRun0_A.sl.r_2 (F := Ideal) c arg7 harg7 x5) y = (B.ls (y 1).val : EReal) := by
  unfold kernelRun0_A.sl.r_2 k0_pay21
  rw [View.readAt_eq_ld, View.ld_unit_zero off000, harg7.read_unread]
  exact (shapeCast_dropUnit_apply ![1, 512] x5 _ y).trans (hls _)

include hdl in
theorem dlA_at (y : S1x512.Idx) : (kernelRun0_A.sl.r_3 (F := Ideal) c i arg8 harg8 x6) y = (B.dl (y 1).val : EReal) := by
  unfold kernelRun0_A.sl.r_3 k0_pay22
  rw [shapeCast_self]
  exact load_row (size := S1x512.size) arg8.view (harg8.unread x6) Real.toEReal (by rw [harg8.read_unread]; exact hdl) (k0_off1_inb i) (k0_off1_eq i) y (by have : (y 0).val < 1 := (y 0).isLt; omega)

/-- The mask of the last block. -/
theorem maskA_at (x : S512x512.Idx) : kernelRun0_A.sl.r_9 i x
    = if (512 * (i 1).val + (x 0).val) / 64 ≤ (512 * (i 1).val + (x 1).val) / 64 then 1#1 else 0#1 :=
  mask_at i (kernelRun0_A.sl.v18 i) (kernelRun0_A.sl.v32 i) (numberA i) x

include hq hkb hvb ho in
/-- Before the loop. -/
theorem initA : Holds arg10 arg11 arg12 B (fun _ _ => 0) (fun _ _ => 0) (fun _ _ => 0) 0
    (k0_pay24 (kernelRun0_A.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_A.sl.r_1 (F := Ideal) c arg6 harg6 x4) (View.readAt (Elt Ideal) arg5.view (Rect.unit (s := S2048x128) ![0, 0] ![512, 128] inb_S2048x128_S512x128_0_0).toLoadRect (harg5.unread x3)))
    (arg10.view.writes (Elt Ideal) arg10.view.junk kernelRun0_A.sl.H8_1) (arg11.view.writes (Elt Ideal) arg11.view.junk kernelRun0_A.sl.H9_1) (arg12.view.writes (Elt Ideal) arg12.view.junk kernelRun0_A.sl.HS0_1) where
  s := fun x => (pay24_at (q := B.q) (a := fun a b => B.kb (0 + a) (0 + b)) (qA_at c arg2 harg2 x0 B hq)
    (fun y => load_at (size := ![512, 256]) arg3.view (harg3.unread x1) Real.toEReal (by rw [harg3.read_unread]; exact hkb) _ rfl y) x).trans
      (by simp only [Nat.zero_add, Nat.mul_zero]; rfl)
  d := fun x => (pay25_at (o := B.o) (a := fun a b => B.vb (0 + a) (0 + b)) (oA_at c arg6 harg6 x4 B ho)
    (fun y => load_at (size := ![512, 128]) arg5.view (harg5.unread x3) Real.toEReal (by rw [harg5.read_unread]; exact hvb) _ rfl y) x).trans
      (by simp only [Nat.zero_add, Nat.mul_zero]; rfl)
  a10 := fun y => by
    unfold kernelRun0_A.sl.H8_1
    rw [read_one _ off00, pay19_at, if_neg (by omega), add_zero]
  a11 := fun y => by
    unfold kernelRun0_A.sl.H9_1
    rw [read_one _ off00, pay20_at, if_neg (by omega), add_zero]
  a12 := fun y => by
    unfold kernelRun0_A.sl.HS0_1
    rw [read_one _ off00, pay23_at, Finset.sum_range_zero, add_zero]

include hq hkb hkt hvb ho hls hdl in
/-- After the loop. -/
theorem loopA {st} (hs : st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (kernelRun0_A.sl.r (F := Ideal) c arg2 harg2 x0) (kernelRun0_A.sl.r_1 (F := Ideal) c arg6 harg6 x4) (kernelRun0_A.sl.r_2 (F := Ideal) c arg7 harg7 x5) (kernelRun0_A.sl.r_3 (F := Ideal) c i arg8 harg8 x6) (kernelRun0_A.sl.v18 i) (kernelRun0_A.sl.v32 i)
        (harg3.unread x1) (harg4.unread x2) (harg5.unread x3) (arg10.view.writes (Elt Ideal) arg10.view.junk kernelRun0_A.sl.H8_1) (arg11.view.writes (Elt Ideal) arg11.view.junk kernelRun0_A.sl.H9_1) (arg12.view.writes (Elt Ideal) arg12.view.junk kernelRun0_A.sl.HS0_1) (k0_pay24 (kernelRun0_A.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_A.sl.r_1 (F := Ideal) c arg6 harg6 x4) (View.readAt (Elt Ideal) arg5.view (Rect.unit (s := S2048x128) ![0, 0] ![512, 128] inb_S2048x128_S512x128_0_0).toLoadRect (harg5.unread x3))) (i 1).val = st) :
    Holds arg10 arg11 arg12 B (fun _ _ => 0) (fun _ _ => 0) (fun _ _ => 0) (i 1).val st.1 (arg10.view.writes (Elt Ideal) arg10.view.junk (st.2.1 ++ kernelRun0_A.sl.H8_1))
      (arg11.view.writes (Elt Ideal) arg11.view.junk (st.2.2.1 ++ kernelRun0_A.sl.H9_1)) (arg12.view.writes (Elt Ideal) arg12.view.junk (st.2.2.2 ++ kernelRun0_A.sl.HS0_1)) := by
  have h := st_at c i arg2 harg2 arg3 harg3 arg4 harg4 arg5 harg5 arg6 harg6 arg7 harg7 arg8 harg8 arg9 harg9 arg10 harg10 arg11 harg11 arg12 harg12 (kernelRun0_A.sl.r (F := Ideal) c arg2 harg2 x0) (kernelRun0_A.sl.r_1 (F := Ideal) c arg6 harg6 x4) (kernelRun0_A.sl.r_2 (F := Ideal) c arg7 harg7 x5) (kernelRun0_A.sl.r_3 (F := Ideal) c i arg8 harg8 x6) (BitVec.ofNat 32 (i 1).val) (kernelRun0_A.sl.v18 i) (kernelRun0_A.sl.v32 i)
    (harg3.unread x1) (harg4.unread x2) (harg5.unread x3) (arg10.view.writes (Elt Ideal) arg10.view.junk kernelRun0_A.sl.H8_1) (arg11.view.writes (Elt Ideal) arg11.view.junk kernelRun0_A.sl.H9_1) (arg12.view.writes (Elt Ideal) arg12.view.junk kernelRun0_A.sl.HS0_1)
    B (fun _ _ => 0) (fun _ _ => 0) (fun _ _ => 0) (qA_at c arg2 harg2 x0 B hq) (oA_at c arg6 harg6 x4 B ho) (lsA_at c arg7 harg7 x5 B hls) (dlA_at c i arg8 harg8 x6 B hdl)
    (by rw [harg3.read_unread]; exact hkb) (by rw [harg4.read_unread]; exact hkt) (by rw [harg5.read_unread]; exact hvb)
    (k0_pay24 (kernelRun0_A.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_A.sl.r_1 (F := Ideal) c arg6 harg6 x4) (View.readAt (Elt Ideal) arg5.view (Rect.unit (s := S2048x128) ![0, 0] ![512, 128] inb_S2048x128_S512x128_0_0).toLoadRect (harg5.unread x3))) (initA (hq := hq) (hkb := hkb) (hvb := hvb) (ho := ho) ..) (i 1).val (trips1 i).ge
  rw [hs] at h
  rw [View.writes_append, View.writes_append, View.writes_append]
  exact h

include hls in
/-- The last block's masked probabilities. -/
theorem pA_at {R} {f10 f11 f12} (H : Holds arg10 arg11 arg12 B (fun _ _ => 0) (fun _ _ => 0) (fun _ _ => 0) (i 1).val R f10 f11 f12) (x : S512x512.Idx) :
    k0_pay1 (k0_pay28 (kernelRun0_A.sl.r_2 (F := Ideal) c arg7 harg7 x5) R.1) (kernelRun0_A.sl.r_9 i) kernelRun0_A.sl.cst_51 x = (B.pm (i 1).val (512 * (i 1).val + (x 0).val) (x 1).val : EReal) :=
  pay1_at (W := fun a b => B.p (512 * (i 1).val + a) b) (M := fun a b => (512 * (i 1).val + a) / 64 ≤ (512 * (i 1).val + b) / 64)
    (pay28_at (S := fun a b => B.S (512 * (i 1).val + a) b) (lsA_at c arg7 harg7 x5 B hls) H.s) (maskA_at i) x

include hls hdl in
/-- The last block's masked cotangents of the scores. -/
theorem wA_at {R} {f10 f11 f12} (H : Holds arg10 arg11 arg12 B (fun _ _ => 0) (fun _ _ => 0) (fun _ _ => 0) (i 1).val R f10 f11 f12) (x : S512x512.Idx) :
    k0_pay2 (kernelRun0_A.sl.r_3 (F := Ideal) c i arg8 harg8 x6) R.2 (k0_pay28 (kernelRun0_A.sl.r_2 (F := Ideal) c arg7 harg7 x5) R.1) (kernelRun0_A.sl.r_9 i) kernelRun0_A.sl.cst_51 x = (B.wm (i 1).val (512 * (i 1).val + (x 0).val) (x 1).val : EReal) :=
  pay2_at (W := fun a b => B.pm (i 1).val (512 * (i 1).val + a) b) (D := fun a b => B.D (512 * (i 1).val + a) b)
    (dlA_at c i arg8 harg8 x6 B hdl) H.d (fun x => pA_at (c := c) (harg7 := harg7) (hls := hls) (H := H) (x := x) ..) x

include hq hkb hkt hvb ho hls hdl in
/-- What the point leaves in the block of output 8. -/
theorem outA8 (hc0 : cond0_0 i) (y : S2048x256.Idx) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 y = ((B.ckm (i 1).val (y 0).val (y 1).val : ℝ) : EReal) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6),
    ← View.read_writes_eq_canon arg10.view arg10.view.junk _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  unfold kernelRun0_A.sl.r_5 kernelRun0_A.sl.r_4 kernelRun0_A.sl.v125
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopA (hs := hs) (hq := hq) (hkb := hkb) (hkt := hkt) (hvb := hvb) (ho := ho) (hls := hls) (hdl := hdl) ..
  refine (last10 B (fun _ _ => 0) (i 1).val (qA_at c arg2 harg2 x0 B hq) (fun x => wA_at (c := c) (harg7 := harg7) (hls := hls) (harg8 := harg8) (hdl := hdl) (H := H) (x := x) ..) _ _ _ rfl H.a10 _ (off12_last i) y).trans ?_
  rw [zero_add]

include hq hkb hkt hvb ho hls hdl in
/-- What the point leaves in the block of output 9. -/
theorem outA9 (hc0 : cond0_0 i) (y : S2048x128.Idx) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 y = ((B.cvm (i 1).val (y 0).val (y 1).val : ℝ) : EReal) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6),
    ← View.read_writes_eq_canon arg11.view arg11.view.junk _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  unfold kernelRun0_A.sl.r_5 kernelRun0_A.sl.v132
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopA (hs := hs) (hq := hq) (hkb := hkb) (hkt := hkt) (hvb := hvb) (ho := ho) (hls := hls) (hdl := hdl) ..
  refine (last11 B (fun _ _ => 0) (i 1).val (oA_at c arg6 harg6 x4 B ho) (fun x => pA_at (c := c) (harg7 := harg7) (hls := hls) (H := H) (x := x) ..) _ _ _ rfl H.a11 _ (off13_last i) y).trans ?_
  rw [zero_add]

include hq hkb hkt hvb ho hls hdl in
/-- What the point leaves in the block of output 7. -/
theorem outA7 (hc0 : cond0_0 i) (y : S512x256.Idx) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 y = (B.cqm (i 1).val (y 1).val (y 0).val : EReal) := by
  unfold out0_A_7 kernelRun0_A
  dsimp only
  rw [read_one _ off00]
  unfold kernelRun0_A.sl.v148 kernelRun0_A.sl.HS0_1_1
  refine pay6_at (G := fun a b => B.cqm (i 1).val a b) (fun z => ?_) y
  unfold View.readCov
  rw [View.readAt_eq_ld, View.ld_unit_zero off00]
  unfold kernelRun0_A.sl.r_5 kernelRun0_A.sl.r_4 kernelRun0_A.sl.v143
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopA (hs := hs) (hq := hq) (hkb := hkb) (hkt := hkt) (hvb := hvb) (ho := ho) (hls := hls) (hdl := hdl) ..
  rw [whole_head _ off00]
  exact last12 B (i 1).val (fun x => wA_at (c := c) (harg7 := harg7) (harg8 := harg8) (hls := hls) (hdl := hdl) (H := H) (x := x) ..) (i 1).isLt (harg4.unread x2) _ (by rw [harg4.read_unread]; exact hkt) H.a12 _ (off14_last i) _ z

end CaseA

section CaseB

variable (c : Dev nD) (i : grid0.Coords) (arg2 : Memref sig .tc .vmem S512x256 .bf16) (harg2 : arg2.IsWhole)
  (arg3 : Memref sig .tc .vmem S2048x256 .bf16) (harg3 : arg3.IsWhole) (arg4 : Memref sig .tc .vmem S256x2048 .bf16) (harg4 : arg4.IsWhole)
  (arg5 : Memref sig .tc .vmem S2048x128 .bf16) (harg5 : arg5.IsWhole) (arg6 : Memref sig .tc .vmem S512x128 .bf16) (harg6 : arg6.IsWhole)
  (arg7 : Memref sig .tc .vmem S1x1x512 .f32) (harg7 : arg7.IsWhole) (arg8 : Memref sig .tc .vmem S8x512 .f32) (harg8 : arg8.IsWhole)
  (arg9 : Memref sig .tc .vmem S512x256 .bf16) (harg9 : arg9.IsWhole) (arg10 : Memref sig .tc .vmem S2048x256 .f32) (harg10 : arg10.IsWhole)
  (arg11 : Memref sig .tc .vmem S2048x128 .f32) (harg11 : arg11.IsWhole) (arg12 : Memref sig .tc .vmem S256x512 .f32) (harg12 : arg12.IsWhole)
  (x0 : Vec Ideal S512x256 .bf16) (x1 : Vec Ideal S2048x256 .bf16) (x2 : Vec Ideal S256x2048 .bf16) (x3 : Vec Ideal S2048x128 .bf16)
  (x4 : Vec Ideal S512x128 .bf16) (x5 : Vec Ideal S1x1x512 .f32) (x6 : Vec Ideal S8x512 .f32)
variable (B : Blk) (hq : ∀ y, x0 y = (B.q (y 0).val (y 1).val : EReal)) (hkb : ∀ y, x1 y = (B.kb (y 0).val (y 1).val : EReal))
  (hkt : ∀ y, x2 y = (B.kt (y 0).val (y 1).val : EReal)) (hvb : ∀ y, x3 y = (B.vb (y 0).val (y 1).val : EReal))
  (ho : ∀ y, x4 y = (B.o (y 0).val (y 1).val : EReal)) (hls : ∀ y, x5 y = (B.ls (y 2).val : EReal))
  (hdl : ∀ y : S8x512.Idx, (y 0).val = (i 0).val → x6 y = (B.dl (y 1).val : EReal))
  (xo8 : Vec Ideal S2048x256 .f32) (xo9 : Vec Ideal S2048x128 .f32) (g10 g11 : ℕ → ℕ → ℝ)
  (h8 : ∀ y, xo8 y = (g10 (y 0).val (y 1).val : EReal)) (h9 : ∀ y, xo9 y = (g11 (y 0).val (y 1).val : EReal))

include hq in
theorem qB_at (y : S512x256.Idx) : (kernelRun0_B.sl.r (F := Ideal) c arg2 harg2 x0) y = (B.q (y 0).val (y 1).val : EReal) := by
  unfold kernelRun0_B.sl.r
  rw [View.readAt_eq_ld, View.ld_unit_zero off00, harg2.read_unread]; exact hq y

include ho in
theorem oB_at (y : S512x128.Idx) : (kernelRun0_B.sl.r_1 (F := Ideal) c arg6 harg6 x4) y = (B.o (y 0).val (y 1).val : EReal) := by
  unfold kernelRun0_B.sl.r_1
  rw [View.readAt_eq_ld, View.ld_unit_zero off00, harg6.read_unread]; exact ho y

include hls in
theorem lsB_at (y : S1x512.Idx) : (kernelRun0_B.sl.r_2 (F := Ideal) c arg7 harg7 x5) y = (B.ls (y 1).val : EReal) := by
  unfold kernelRun0_B.sl.r_2 k0_pay21
  rw [View.readAt_eq_ld, View.ld_unit_zero off000, harg7.read_unread]
  exact (shapeCast_dropUnit_apply ![1, 512] x5 _ y).trans (hls _)

include hdl in
theorem dlB_at (y : S1x512.Idx) : (kernelRun0_B.sl.r_3 (F := Ideal) c i arg8 harg8 x6) y = (B.dl (y 1).val : EReal) := by
  unfold kernelRun0_B.sl.r_3 k0_pay22
  rw [shapeCast_self]
  exact load_row (size := S1x512.size) arg8.view (harg8.unread x6) Real.toEReal (by rw [harg8.read_unread]; exact hdl) (k0_off1_inb i) (k0_off1_eq i) y (by have : (y 0).val < 1 := (y 0).isLt; omega)

/-- The mask of the last block. -/
theorem maskB_at (x : S512x512.Idx) : kernelRun0_B.sl.r_9 i x
    = if (512 * (i 1).val + (x 0).val) / 64 ≤ (512 * (i 1).val + (x 1).val) / 64 then 1#1 else 0#1 :=
  mask_at i (kernelRun0_B.sl.v18 i) (kernelRun0_B.sl.v32 i) (numberB i) x

include hq hkb hvb ho h8 h9 in
/-- Before the loop. -/
theorem initB : Holds arg10 arg11 arg12 B g10 g11 (fun _ _ => 0) 0
    (k0_pay24 (kernelRun0_B.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_B.sl.r_1 (F := Ideal) c arg6 harg6 x4) (View.readAt (Elt Ideal) arg5.view (Rect.unit (s := S2048x128) ![0, 0] ![512, 128] inb_S2048x128_S512x128_0_0).toLoadRect (harg5.unread x3)))
    (harg10.unread xo8) (harg11.unread xo9) (arg12.view.writes (Elt Ideal) arg12.view.junk kernelRun0_B.sl.HS0_1) where
  s := fun x => (pay24_at (q := B.q) (a := fun a b => B.kb (0 + a) (0 + b)) (qB_at c arg2 harg2 x0 B hq)
    (fun y => load_at (size := ![512, 256]) arg3.view (harg3.unread x1) Real.toEReal (by rw [harg3.read_unread]; exact hkb) _ rfl y) x).trans
      (by simp only [Nat.zero_add, Nat.mul_zero]; rfl)
  d := fun x => (pay25_at (o := B.o) (a := fun a b => B.vb (0 + a) (0 + b)) (oB_at c arg6 harg6 x4 B ho)
    (fun y => load_at (size := ![512, 128]) arg5.view (harg5.unread x3) Real.toEReal (by rw [harg5.read_unread]; exact hvb) _ rfl y) x).trans
      (by simp only [Nat.zero_add, Nat.mul_zero]; rfl)
  a10 := fun y => by rw [harg10.read_unread, h8, if_neg (by omega), add_zero]
  a11 := fun y => by rw [harg11.read_unread, h9, if_neg (by omega), add_zero]
  a12 := fun y => by
    unfold kernelRun0_B.sl.HS0_1
    rw [read_one _ off00, pay23_at, Finset.sum_range_zero, add_zero]

include hq hkb hkt hvb ho hls hdl h8 h9 in
/-- After the loop. -/
theorem loopB {st} (hs : st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val) (kernelRun0_B.sl.r (F := Ideal) c arg2 harg2 x0) (kernelRun0_B.sl.r_1 (F := Ideal) c arg6 harg6 x4) (kernelRun0_B.sl.r_2 (F := Ideal) c arg7 harg7 x5) (kernelRun0_B.sl.r_3 (F := Ideal) c i arg8 harg8 x6) (kernelRun0_B.sl.v18 i) (kernelRun0_B.sl.v32 i)
        (harg3.unread x1) (harg4.unread x2) (harg5.unread x3) (harg10.unread xo8) (harg11.unread xo9) (arg12.view.writes (Elt Ideal) arg12.view.junk kernelRun0_B.sl.HS0_1) (k0_pay24 (kernelRun0_B.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_B.sl.r_1 (F := Ideal) c arg6 harg6 x4) (View.readAt (Elt Ideal) arg5.view (Rect.unit (s := S2048x128) ![0, 0] ![512, 128] inb_S2048x128_S512x128_0_0).toLoadRect (harg5.unread x3))) (i 1).val = st) :
    Holds arg10 arg11 arg12 B g10 g11 (fun _ _ => 0) (i 1).val st.1 (arg10.view.writes (Elt Ideal) (harg10.unread xo8) st.2.1)
      (arg11.view.writes (Elt Ideal) (harg11.unread xo9) st.2.2.1) (arg12.view.writes (Elt Ideal) arg12.view.junk (st.2.2.2 ++ kernelRun0_B.sl.HS0_1)) := by
  have h := st_at c i arg2 harg2 arg3 harg3 arg4 harg4 arg5 harg5 arg6 harg6 arg7 harg7 arg8 harg8 arg9 harg9 arg10 harg10 arg11 harg11 arg12 harg12 (kernelRun0_B.sl.r (F := Ideal) c arg2 harg2 x0) (kernelRun0_B.sl.r_1 (F := Ideal) c arg6 harg6 x4) (kernelRun0_B.sl.r_2 (F := Ideal) c arg7 harg7 x5) (kernelRun0_B.sl.r_3 (F := Ideal) c i arg8 harg8 x6) (BitVec.ofNat 32 (i 1).val) (kernelRun0_B.sl.v18 i) (kernelRun0_B.sl.v32 i)
    (harg3.unread x1) (harg4.unread x2) (harg5.unread x3) (harg10.unread xo8) (harg11.unread xo9) (arg12.view.writes (Elt Ideal) arg12.view.junk kernelRun0_B.sl.HS0_1)
    B g10 g11 (fun _ _ => 0) (qB_at c arg2 harg2 x0 B hq) (oB_at c arg6 harg6 x4 B ho) (lsB_at c arg7 harg7 x5 B hls) (dlB_at c i arg8 harg8 x6 B hdl)
    (by rw [harg3.read_unread]; exact hkb) (by rw [harg4.read_unread]; exact hkt) (by rw [harg5.read_unread]; exact hvb)
    (k0_pay24 (kernelRun0_B.sl.r (F := Ideal) c arg2 harg2 x0) (View.readAt (Elt Ideal) arg3.view (Rect.unit (s := S2048x256) ![0, 0] ![512, 256] inb_S2048x256_S512x256_0_0).toLoadRect (harg3.unread x1)),
          k0_pay25 (kernelRun0_B.sl.r_1 (F := Ideal) c arg6 harg6 x4) (View.readAt (Elt Ideal) arg5.view (Rect.unit (s := S2048x128) ![0, 0] ![512, 128] inb_S2048x128_S512x128_0_0).toLoadRect (harg5.unread x3))) (initB (hq := hq) (hkb := hkb) (hvb := hvb) (ho := ho) (h8 := h8) (h9 := h9) ..) (i 1).val (trips1 i).ge
  rw [hs] at h
  rw [View.writes_append]
  exact h

include hls in
/-- The last block's masked probabilities. -/
theorem pB_at {R} {f10 f11 f12} (H : Holds arg10 arg11 arg12 B g10 g11 (fun _ _ => 0) (i 1).val R f10 f11 f12) (x : S512x512.Idx) :
    k0_pay1 (k0_pay28 (kernelRun0_B.sl.r_2 (F := Ideal) c arg7 harg7 x5) R.1) (kernelRun0_B.sl.r_9 i) kernelRun0_B.sl.cst_51 x = (B.pm (i 1).val (512 * (i 1).val + (x 0).val) (x 1).val : EReal) :=
  pay1_at (W := fun a b => B.p (512 * (i 1).val + a) b) (M := fun a b => (512 * (i 1).val + a) / 64 ≤ (512 * (i 1).val + b) / 64)
    (pay28_at (S := fun a b => B.S (512 * (i 1).val + a) b) (lsB_at c arg7 harg7 x5 B hls) H.s) (maskB_at i) x

include hls hdl in
/-- The last block's masked cotangents of the scores. -/
theorem wB_at {R} {f10 f11 f12} (H : Holds arg10 arg11 arg12 B g10 g11 (fun _ _ => 0) (i 1).val R f10 f11 f12) (x : S512x512.Idx) :
    k0_pay2 (kernelRun0_B.sl.r_3 (F := Ideal) c i arg8 harg8 x6) R.2 (k0_pay28 (kernelRun0_B.sl.r_2 (F := Ideal) c arg7 harg7 x5) R.1) (kernelRun0_B.sl.r_9 i) kernelRun0_B.sl.cst_51 x = (B.wm (i 1).val (512 * (i 1).val + (x 0).val) (x 1).val : EReal) :=
  pay2_at (W := fun a b => B.pm (i 1).val (512 * (i 1).val + a) b) (D := fun a b => B.D (512 * (i 1).val + a) b)
    (dlB_at c i arg8 harg8 x6 B hdl) H.d (fun x => pB_at (c := c) (harg7 := harg7) (hls := hls) (H := H) (x := x) ..) x

include hq hkb hkt hvb ho hls hdl h8 h9 in
/-- What the point leaves in the block of output 8. -/
theorem outB8 (hc0 : ¬cond0_0 i) (y : S2048x256.Idx) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xo8 xo9 y = ((g10 (y 0).val (y 1).val + B.ckm (i 1).val (y 0).val (y 1).val : ℝ) : EReal) := by
  unfold out0_B_8
  unfold kernelRun0_B
  dsimp only
  unfold kernelRun0_B.sl.r_5 kernelRun0_B.sl.r_4 kernelRun0_B.sl.v125
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopB (hs := hs) (hq := hq) (hkb := hkb) (hkt := hkt) (hvb := hvb) (ho := ho) (hls := hls) (hdl := hdl) (h8 := h8) (h9 := h9) ..
  refine (last10 B g10 (i 1).val (qB_at c arg2 harg2 x0 B hq) (fun x => wB_at (c := c) (harg7 := harg7) (hls := hls) (harg8 := harg8) (hdl := hdl) (H := H) (x := x) ..) _ _ _ rfl H.a10 _ (off12_last i) y).trans ?_
  rfl

include hq hkb hkt hvb ho hls hdl h8 h9 in
/-- What the point leaves in the block of output 9. -/
theorem outB9 (hc0 : ¬cond0_0 i) (y : S2048x128.Idx) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 xo8 xo9 y = ((g11 (y 0).val (y 1).val + B.cvm (i 1).val (y 0).val (y 1).val : ℝ) : EReal) := by
  unfold out0_B_9
  unfold kernelRun0_B
  dsimp only
  unfold kernelRun0_B.sl.r_5 kernelRun0_B.sl.v132
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopB (hs := hs) (hq := hq) (hkb := hkb) (hkt := hkt) (hvb := hvb) (ho := ho) (hls := hls) (hdl := hdl) (h8 := h8) (h9 := h9) ..
  refine (last11 B g11 (i 1).val (oB_at c arg6 harg6 x4 B ho) (fun x => pB_at (c := c) (harg7 := harg7) (hls := hls) (H := H) (x := x) ..) _ _ _ rfl H.a11 _ (off13_last i) y).trans ?_
  rfl

include hq hkb hkt hvb ho hls hdl h8 h9 in
/-- What the point leaves in the block of output 7. -/
theorem outB7 (hc0 : ¬cond0_0 i) (y : S512x256.Idx) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xo8 xo9 y = (B.cqm (i 1).val (y 1).val (y 0).val : EReal) := by
  unfold out0_B_7 kernelRun0_B
  dsimp only
  rw [read_one _ off00]
  unfold kernelRun0_B.sl.v148 kernelRun0_B.sl.HS0_1_1
  refine pay6_at (G := fun a b => B.cqm (i 1).val a b) (fun z => ?_) y
  unfold View.readCov
  rw [View.readAt_eq_ld, View.ld_unit_zero off00]
  unfold kernelRun0_B.sl.r_5 kernelRun0_B.sl.r_4 kernelRun0_B.sl.v143
  rw [trips1, trips2]
  unfold st_k0_t2
  dsimp only
  rw [List.nil_append]
  generalize hs : st_k0_t1 (F := Ideal) Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ = st
  have H := loopB (hs := hs) (hq := hq) (hkb := hkb) (hkt := hkt) (hvb := hvb) (ho := ho) (hls := hls) (hdl := hdl) (h8 := h8) (h9 := h9) ..
  rw [whole_head _ off00]
  exact last12 B (i 1).val (fun x => wB_at (c := c) (harg7 := harg7) (harg8 := harg8) (hls := hls) (hdl := hdl) (H := H) (x := x) ..) (i 1).isLt (harg4.unread x2) _ (by rw [harg4.read_unread]; exact hkt) H.a12 _ (off14_last i) _ z

end CaseB

end Cert.KernelIdeal.Body

end
-- ==== Proof.RefValue.lean ====
/- The reference's three results as functions of real matrices: every line of the reference that its results rest on,
   read at an index, when its four arguments hold reals. -/
module

public import proofs.«01_k».proof.Proof.Grad
public import proofs.«01_k».proof.Proof.Chunk
public import proofs.«01_k».proof.Proof.Gen.ReferenceIdeal.Read
public import Idealize.ShloMosaic.Lib.IdealHost

@[expose] public section

set_option maxRecDepth 16384

noncomputable section

namespace Cert.ReferenceIdeal.RefValue

open Cert.ReferenceIdeal Cert.ReferenceIdeal.Gen Cert.ReferenceIdeal.Read Cert.Grad Idealize.ShloMosaic
open scoped BigOperators

/-- The chunk number of a row. -/
theorem v7_at (i : S2048.Idx) : val_main_v7 (F := Ideal) i = BitVec.ofNat 32 ((i 0).val / 64) := by
  rw [val_main_v7_apply, val_main_call0_v11_apply, val_main_call0_v13_apply, val_main_call0_v6_apply,
    val_main_call0_v10_apply, val_main_call0_v8_apply, val_main_call0_v2_apply, val_main_call0_v1_apply,
    val_main_call0_v7_apply, val_main_call0_v5_apply, val_main_call0_v9_apply, val_main_call0_v12_apply]
  exact fdiv64_host (i 0)

/-- The mask. -/
theorem mask_at (i : S8x2048x2048.Idx) :
    val_main_v14_1 (F := Ideal) i = if (i 2).val / 64 ≤ (i 1).val / 64 then 1#1 else 0#1 := by
  rw [val_main_v14_1_apply, val_main_v13_apply, val_main_v12_apply, val_main_v10_apply, val_main_v11_apply,
    val_main_v8_apply, val_main_v9_apply, v7_at, v7_at]
  exact sle_chunk _ _ (i 2).isLt (i 1).isLt

variable (X : In) {x0 x1 : (⟨S2048x2048, .bf16⟩ : BufTy).Contents (Elt Ideal)} {x2 x3 : (⟨S2048x1024, .bf16⟩ : BufTy).Contents (Elt Ideal)}
variable (h0 : ∀ i, x0 i = (X.Q (i 0).val (i 1).val : EReal)) (h1 : ∀ i, x1 i = (X.K (i 0).val (i 1).val : EReal))
variable (h2 : ∀ i, x2 i = (X.V (i 0).val (i 1).val : EReal)) (h3 : ∀ i, x3 i = (X.O (i 0).val (i 1).val : EReal))

include h0 in
/-- The queries by head. -/
theorem q_at (i : S2048x8x256.Idx) :
    val_main_v3 (F := Ideal) x0 i = (X.Q (i 0).val (256 * (i 1).val + (i 2).val) : EReal) := by
  have a0 : (i 0).val < 2048 := (i 0).isLt
  have a1 : (i 1).val < 8 := (i 1).isLt
  have a2 : (i 2).val < 256 := (i 2).isLt
  rw [val_main_v3_apply, val_main_v0_apply]
  refine (h0 _).trans (congrArg _ (congrArg₂ X.Q ?_ ?_))
  · show (((i 0).val * 8 + (i 1).val) * 256 + (i 2).val) / 2048 = _; omega
  · show (((i 0).val * 8 + (i 1).val) * 256 + (i 2).val) % 2048 = _; omega

include h1 in
/-- The keys by head. -/
theorem k_at (i : S2048x8x256.Idx) :
    val_main_v4 (F := Ideal) x1 i = (X.K (i 0).val (256 * (i 1).val + (i 2).val) : EReal) := by
  have a0 : (i 0).val < 2048 := (i 0).isLt
  have a1 : (i 1).val < 8 := (i 1).isLt
  have a2 : (i 2).val < 256 := (i 2).isLt
  rw [val_main_v4_apply, val_main_v1_apply]
  refine (h1 _).trans (congrArg _ (congrArg₂ X.K ?_ ?_))
  · show (((i 0).val * 8 + (i 1).val) * 256 + (i 2).val) / 2048 = _; omega
  · show (((i 0).val * 8 + (i 1).val) * 256 + (i 2).val) % 2048 = _; omega

include h2 in
/-- The values by head. -/
theorem v_at (i : S2048x8x128.Idx) :
    val_main_v43 (F := Ideal) x2 i = (X.V (i 0).val (128 * (i 1).val + (i 2).val) : EReal) := by
  have a0 : (i 0).val < 2048 := (i 0).isLt
  have a1 : (i 1).val < 8 := (i 1).isLt
  have a2 : (i 2).val < 128 := (i 2).isLt
  rw [val_main_v43_apply, val_main_v2_apply]
  refine (h2 _).trans (congrArg _ (congrArg₂ X.V ?_ ?_))
  · show (((i 0).val * 8 + (i 1).val) * 128 + (i 2).val) / 1024 = _; omega
  · show (((i 0).val * 8 + (i 1).val) * 128 + (i 2).val) % 1024 = _; omega

include h3 in
/-- The output's cotangent by head, transposed. -/
theorem o_at (i : S8x128x2048.Idx) :
    val_main_v49 (F := Ideal) x3 i = (X.O (i 2).val (128 * (i 0).val + (i 1).val) : EReal) := by
  have a0 : (i 0).val < 8 := (i 0).isLt
  have a1 : (i 1).val < 128 := (i 1).isLt
  have a2 : (i 2).val < 2048 := (i 2).isLt
  rw [val_main_v49_apply, val_main_v48_apply, val_main_v47_apply]
  refine (h3 _).trans (congrArg _ (congrArg₂ X.O ?_ ?_))
  · show (((i 2).val * 8 + (i 0).val) * 128 + (i 1).val) / 1024 = _; omega
  · show (((i 2).val * 8 + (i 0).val) * 128 + (i 1).val) % 1024 = _; omega

include h0 h1 in
/-- The scores. -/
theorem s_at (i : S8x2048x2048.Idx) :
    val_main_v5 (F := Ideal) x0 x1 i = (X.S (i 0).val (i 1).val (i 2).val : EReal) := by
  rw [val_main_v5_apply]
  simp only [q_at X h0, k_at X h1, ← EReal.coe_mul]
  exact coe_sum _ _

/-- The fill value is `-∞`. -/
theorem ninf : Ideal.ofBits .f32 0xFF800000#32 = (⊥ : EReal) := by simp [Ideal.ofBits, Ideal.ieee]

include h0 h1 in
/-- The masked scores. -/
theorem sm_at (i : S8x2048x2048.Idx) :
    val_main_v14_0 (F := Ideal) x0 x1 i = X.SM (i 0).val (i 1).val (i 2).val := by
  rw [val_main_v14_0_apply, mask_at, s_at X h0 h1, val_main_call1_v2_apply, val_main_call1_v0_apply, val_main_cst_apply]
  unfold In.SM
  by_cases h : (i 2).val / 64 ≤ (i 1).val / 64
  · rw [if_pos h, if_pos h]; rfl
  · rw [if_neg h, if_neg h]; exact ninf

include h0 h1 in
/-- The row maximum is a real. -/
theorem max_at (i : S8x2048.Idx) : ∃ M : ℝ, val_main_v22 (F := Ideal) x0 x1 i = (M : EReal) := by
  have hr : S8x2048x2048.Reduces [2] S8x2048 := by decide
  obtain ⟨M, hM⟩ := fold_max_real (n := 2048) (fun k => X.SM (i 0).val (i 1).val k.val)
    (fun k => by unfold In.SM; split <;> simp) ⟨(i 1).val, (i 1).isLt⟩ (by simp [In.SM])
  refine ⟨M, ?_⟩
  rw [val_main_v22_apply, val_main_v21_apply, val_main_cst_2_apply]
  unfold val_main_v15
  rw [Host.reduce_eq_fold_single FloatOps.maximumf _ _ _ hr]
  refine (max_eq_right ?_).trans (Eq.trans ?_ hM)
  · exact ninf.le.trans bot_le
  · refine congrArg₂ (fun b f => (Finset.univ : Finset (Fin 2048)).fold max b f) ninf (funext fun k => ?_)
    exact sm_at X h0 h1 _

include h0 h1 in
/-- The weights, the normaliser and the probabilities of a query. -/
theorem row_at (h q : ℕ) (hh : h < 8) (hq : q < 2048) : ∃ M : ℝ,
    (∀ i : S8x2048x2048.Idx, (i 0).val = h → (i 1).val = q →
      val_main_v35 (F := Ideal) x0 x1 i = ((X.E h q (i 2).val / Real.exp M : ℝ) : EReal))
    ∧ (∀ i : S8x2048.Idx, (i 0).val = h → (i 1).val = q →
      val_main_v36 (F := Ideal) x0 x1 i = ((X.L h q / Real.exp M : ℝ) : EReal))
    ∧ (∀ i : S8x2048.Idx, (i 0).val = h → (i 1).val = q → val_main_v22 (F := Ideal) x0 x1 i = (M : EReal)) := by
  obtain ⟨M, hM⟩ := max_at X h0 h1 (fun a => match a with | ⟨0, _⟩ => ⟨h, hh⟩ | ⟨1, _⟩ => ⟨q, hq⟩)
  have e1 : ∀ i : S8x2048x2048.Idx, (i 0).val = h → (i 1).val = q →
      val_main_v35 (F := Ideal) x0 x1 i = ((X.E h q (i 2).val / Real.exp M : ℝ) : EReal) := by
    intro i a b
    rw [val_main_v35_apply, val_main_v34_apply, sm_at X h0 h1, val_main_v33_apply, val_main_v32_apply]
    have hi : idx_main_v32 (idx_main_v33 i) = (fun a => match a with | ⟨0, _⟩ => ⟨h, hh⟩ | ⟨1, _⟩ => ⟨q, hq⟩) := by
      subst a b; funext x; match x with
        | ⟨0, _⟩ => rfl
        | ⟨1, _⟩ => rfl
    rw [hi, hM, a, b]
    exact X.exp_SM h q _ M
  refine ⟨M, e1, fun i a b => ?_, fun i a b => Eq.trans (congrArg _ ?_) hM⟩
  swap
  · subst a b; funext x; match x with
      | ⟨0, _⟩ => rfl
      | ⟨1, _⟩ => rfl
  rw [val_main_v36_apply, val_main_cst_8_apply]
  simp only [e1 _ (show (idx_main_v36 i _ 0).val = h from a) (show (idx_main_v36 i _ 1).val = q from b)]
  rw [coe_sum, ← Finset.sum_div]
  exact (congrArg (· + _) Ideal.ofBits_zero_f32).trans (zero_add _)

include h0 h1 in
/-- The probabilities. -/
theorem p_at (i : S8x2048x2048.Idx) :
    val_main_v39 (F := Ideal) x0 x1 i = (X.P (i 0).val (i 1).val (i 2).val : EReal) := by
  obtain ⟨M, e1, e2, -⟩ := row_at X h0 h1 (i 0).val (i 1).val (i 0).isLt (i 1).isLt
  have hL := X.L_pos (i 0).val (i 1).val (i 1).isLt
  have hM := Real.exp_pos M
  rw [val_main_v39_apply, val_main_v38_apply, val_main_v37_apply, e1 i rfl rfl, e2 _ rfl rfl]
  refine (coe_div _ _ (div_pos hL hM).ne').trans (congrArg _ ?_)
  unfold In.P
  field_simp

include h2 h3 in
/-- The probabilities' cotangents. -/
theorem dp_at (i : S8x2048x2048.Idx) :
    val_main_v50 (F := Ideal) x2 x3 i = (X.dP (i 0).val (i 1).val (i 2).val : EReal) := by
  rw [val_main_v50_apply]
  simp only [o_at X h3, v_at X h2, ← EReal.coe_mul]
  exact coe_sum _ _

include h0 h1 h2 h3 in
/-- The sum the normaliser's cotangent is: the mean of the probabilities' cotangents over the normaliser. -/
theorem dl_at (M : ℝ) (h q : ℕ) (hq : q < 2048)
    (e1 : ∀ i : S8x2048x2048.Idx, (i 0).val = h → (i 1).val = q →
      val_main_v35 (F := Ideal) x0 x1 i = ((X.E h q (i 2).val / Real.exp M : ℝ) : EReal))
    (e2 : ∀ i : S8x2048.Idx, (i 0).val = h → (i 1).val = q →
      val_main_v36 (F := Ideal) x0 x1 i = ((X.L h q / Real.exp M : ℝ) : EReal))
    (i : S8x2048.Idx) (a : (i 0).val = h) (b : (i 1).val = q) :
    val_main_v57 (F := Ideal) x0 x1 x2 x3 i = ((X.Dl h q * (Real.exp M / X.L h q) : ℝ) : EReal) := by
  have hL := X.L_pos h q hq
  have hM := Real.exp_pos M
  have ht : ∀ k : Fin 2048, val_main_v56 (F := Ideal) x0 x1 x2 x3 (idx_main_v57 i k)
      = ((X.P h q k.val * X.dP h q k.val * (Real.exp M / X.L h q) : ℝ) : EReal) := by
    intro k
    rw [val_main_v56_apply, val_main_v55_apply, dp_at X h2 h3, val_main_v54_apply, val_main_v42_apply,
      val_main_v41_apply, val_main_cst_9_apply, val_main_v40_apply, val_main_v37_apply,
      e1 _ (show (idx_main_v57 i k 0).val = h from a) (show (idx_main_v57 i k 1).val = q from b), e2 (idx_main_v37 (idx_main_v54 (idx_main_v57 i k))) a b]
    have h1' : (FloatOps.ofBits .f32 0x3F800000#32 : Ideal .f32) = ((1 : ℝ) : EReal) :=
      Ideal.ofBits_one_f32
    rw [h1', Ideal.hostDivf_def, Ideal.mulf_def, Ideal.mulf_def, Ideal.mulf_def, ← EReal.coe_mul,
      coe_div _ _ (mul_pos (div_pos hL hM) (div_pos hL hM)).ne', ← EReal.coe_mul, ← EReal.coe_mul]
    refine congrArg _ ?_
    show X.dP (i 0).val (i 1).val k.val * _ * (X.E h q k.val / _) = _
    rw [a, b]
    unfold In.P
    field_simp
  rw [val_main_v57_apply, val_main_cst_10_apply]
  simp only [ht]
  rw [coe_sum, ← Finset.sum_mul]
  exact (congrArg (· + _) Ideal.ofBits_zero_f32).trans (zero_add _)

include h0 h1 h2 h3 in
/-- The scores' cotangents. -/
theorem ds_at (i : S8x2048x2048.Idx) :
    val_main_v66 (F := Ideal) x0 x1 x2 x3 i = (X.dS (i 0).val (i 1).val (i 2).val : EReal) := by
  obtain ⟨M, e1, e2, -⟩ := row_at X h0 h1 (i 0).val (i 1).val (i 0).isLt (i 1).isLt
  have hL := X.L_pos (i 0).val (i 1).val (i 1).isLt
  have hM := Real.exp_pos M
  have e3 := dl_at X h0 h1 h2 h3 M _ _ (i 1).isLt e1 e2
  have hz : ∀ j : S_.Idx, (FloatOps.ofBits .f32 0x00000000#32 : Ideal .f32) = ((0 : ℝ) : EReal) :=
    fun _ => Ideal.ofBits_zero_f32
  have h62 : ∀ j : S8x2048.Idx, (j 0).val = (i 0).val → (j 1).val = (i 1).val →
      val_main_v62 (F := Ideal) x0 x1 x2 x3 j = ((-(X.Dl (i 0).val (i 1).val * (Real.exp M / X.L (i 0).val (i 1).val)) : ℝ) : EReal) := by
    intro j a b
    have a0 : (j 0).val < 8 := (j 0).isLt
    have a1 : (j 1).val < 2048 := (j 1).isLt
    rw [val_main_v62_apply, Fin.sum_univ_one, val_main_v59_apply, val_main_v58_apply, e3 _ ?_ ?_, val_main_cst_11_apply]
    · rw [Ideal.hostNegf_def, Ideal.negf_def, ← EReal.coe_neg]
      exact (congrArg (· + _) Ideal.ofBits_zero_f32).trans (zero_add _)
    · show (((j 0).val * 2048 + (j 1).val) * 1 + 0) / 2048 = _; omega
    · show (((j 0).val * 2048 + (j 1).val) * 1 + 0) % 2048 = _; omega
  rw [val_main_v66_apply, mask_at, val_main_v65_apply, val_main_v64_apply, val_main_v61_apply, dp_at X h2 h3,
    val_main_v60_apply, val_main_v37_apply, val_main_v63_apply, e1 i rfl rfl, e2 _ rfl rfl, h62 _ rfl rfl,
    Ideal.hostDivf_def, Ideal.addf_def, Ideal.mulf_def, coe_div _ _ (div_pos hL hM).ne', ← EReal.coe_add,
    ← EReal.coe_mul, val_main_call2_v0_apply, val_main_call2_cst_apply]
  by_cases h : (i 2).val / 64 ≤ (i 1).val / 64
  · rw [if_pos h, ValueIdx.select_one]
    refine congrArg _ ?_
    unfold In.dS In.P
    field_simp
    ring
  · rw [if_neg h]
    refine Ideal.ofBits_zero_f32.trans ?_
    unfold In.dS In.P In.E
    rw [if_neg h]
    simp

include h0 h1 h3 in
/-- The gradient of the values. -/
theorem dv_at (i : S2048x1024.Idx) :
    val_main_v53 (F := Ideal) x0 x1 x3 i = (X.gV (i 0).val (i 1).val : EReal) := by
  have a0 : (i 0).val < 2048 := (i 0).isLt
  have a1 : (i 1).val < 1024 := (i 1).isLt
  rw [val_main_v53_apply, val_main_v52_apply, val_main_v51_apply]
  simp only [o_at X h3, p_at X h0 h1, ← EReal.coe_mul]
  rw [coe_sum]
  refine congrArg _ (Finset.sum_congr rfl fun q _ => ?_)
  rw [mul_comm]
  refine congrArg₂ (· * ·) (congrFun (congrArg₂ X.P ?_ rfl) _ |>.trans (congrArg _ ?_)) (congrArg _ ?_)
  · show ((i 0).val * 1024 + (i 1).val) / 128 % 8 = _; omega
  · show ((i 0).val * 1024 + (i 1).val) / 1024 = _; omega
  · show 128 * (((i 0).val * 1024 + (i 1).val) / 128 % 8) + ((i 0).val * 1024 + (i 1).val) % 128 = _; omega

include h0 h1 h2 h3 in
/-- The gradient of the keys. -/
theorem dk_at (i : S2048x2048.Idx) :
    val_main_v71 (F := Ideal) x0 x1 x2 x3 i = (X.gK (i 0).val (i 1).val : EReal) := by
  have a0 : (i 0).val < 2048 := (i 0).isLt
  have a1 : (i 1).val < 2048 := (i 1).isLt
  rw [val_main_v71_apply, val_main_v68_apply, val_main_v67_apply]
  simp only [ds_at X h0 h1 h2 h3, q_at X h0, ← EReal.coe_mul]
  rw [coe_sum]
  refine congrArg _ (Finset.sum_congr rfl fun q _ => ?_)
  refine congrArg₂ (· * ·) (congrFun (congrArg₂ X.dS ?_ rfl) _ |>.trans (congrArg _ ?_)) (congrArg _ ?_)
  · show ((i 0).val * 2048 + (i 1).val) / 256 % 8 = _; omega
  · show ((i 0).val * 2048 + (i 1).val) / 2048 = _; omega
  · show 256 * (((i 0).val * 2048 + (i 1).val) / 256 % 8) + ((i 0).val * 2048 + (i 1).val) % 256 = _; omega

include h0 h1 h2 h3 in
/-- The gradient of the queries. -/
theorem dq_at (i : S2048x2048.Idx) :
    val_main_v73 (F := Ideal) x0 x1 x2 x3 i = (X.gQ (i 0).val (i 1).val : EReal) := by
  have a0 : (i 0).val < 2048 := (i 0).isLt
  have a1 : (i 1).val < 2048 := (i 1).isLt
  rw [val_main_v73_apply, Ideal.truncf_def, val_main_v72_apply, val_main_v70_apply, val_main_v69_apply]
  simp only [ds_at X h0 h1 h2 h3, k_at X h1, ← EReal.coe_mul]
  rw [coe_sum]
  refine congrArg _ (Finset.sum_congr rfl fun q _ => ?_)
  refine congrArg₂ (· * ·) (congrFun (congrArg₂ X.dS ?_ ?_) _) (congrArg _ ?_)
  · show ((i 0).val * 2048 + (i 1).val) / 256 % 8 = _; omega
  · show ((i 0).val * 2048 + (i 1).val) / 2048 = _; omega
  · show 256 * (((i 0).val * 2048 + (i 1).val) / 256 % 8) + ((i 0).val * 2048 + (i 1).val) % 256 = _; omega

end Cert.ReferenceIdeal.RefValue

end
-- ==== Proof.HostValue.lean ====
/- What the kernel's host lines hand to its launch, when the four arguments hold reals: the logarithm of every query's
   normaliser, every query's sum of products of probability and cotangent, and the transposed keys. -/
module

public import proofs.«01_k».proof.Proof.RefValue
public import proofs.«01_k».proof.Proof.Gen.KernelIdeal.Frame.Runs
public import Idealize.ShloMosaic.Lib.Claim
public import Idealize.ShloMosaic.Lib.KernelVsHost
public import Idealize.ShloMosaic.Lib.Pointwise.ElementwiseCore

@[expose] public section

set_option maxRecDepth 16384

noncomputable section

namespace Cert.KernelIdeal.HostValue

open Cert.KernelIdeal Cert.KernelIdeal.Gen Cert.Grad Idealize.ShloMosaic
open Cert.ReferenceIdeal.Read Cert.ReferenceIdeal.RefValue
open scoped BigOperators

/-- The row maxima, and the scores shifted by them and exponentiated, as the kernel's host lines write them. -/
def hE (x0 x1 : (⟨S2048x2048, .bf16⟩ : BufTy).Contents (Elt Ideal)) : FVec Ideal S8x2048x2048 .f32 :=
  Host.exp (subf (val_main_v14_0 (F := Ideal) x0 x1) (broadcastInDim S8x2048x2048 ![0, 1, 2] bcast_S8x2048x1_S8x2048x2048_0_1_2
    (broadcastInDim S8x2048x1 ![0, 1] bcast_S8x2048_S8x2048x1_0_1 (val_main_v15 (F := Ideal) x0 x1))))

/-- The normalisers. -/
def hL (x0 x1 : (⟨S2048x2048, .bf16⟩ : BufTy).Contents (Elt Ideal)) : FVec Ideal S8x2048x1 .f32 :=
  broadcastInDim S8x2048x1 ![0, 1] bcast_S8x2048_S8x2048x1_0_1
    (Host.reduceAdd (hE x0 x1) (constant S_ .f32 0x00000000#32) reducesTo_S8x2048x2048_S8x2048_d2 h_S_)

/-- The logarithms of the normalisers, transposed. -/
def hLse (x0 x1 : (⟨S2048x2048, .bf16⟩ : BufTy).Contents (Elt Ideal)) : FVec Ideal S8x1x2048 .f32 :=
  transpose S8x1x2048 [0, 2, 1] (addf (broadcastInDim S8x2048x1 ![0, 1] bcast_S8x2048_S8x2048x1_0_1 (val_main_v15 (F := Ideal) x0 x1))
    (Host.log (hL x0 x1))) transposes_S8x2048x1_S8x1x2048_0_2_1

/-- The probabilities. -/
def hP (x0 x1 : (⟨S2048x2048, .bf16⟩ : BufTy).Contents (Elt Ideal)) : FVec Ideal S8x2048x2048 .f32 :=
  Host.divf (hE x0 x1) (broadcastInDim S8x2048x2048 ![0, 1, 2] bcast_S8x2048x1_S8x2048x2048_0_1_2 (hL x0 x1))

/-- The attention's output. -/
def hO (x0 x1 : (⟨S2048x2048, .bf16⟩ : BufTy).Contents (Elt Ideal)) (x2 : (⟨S2048x1024, .bf16⟩ : BufTy).Contents (Elt Ideal)) :
    FVec Ideal S2048x8x128 .f32 :=
  transpose S2048x8x128 [2, 0, 1] (Host.dotGeneral (φ₁ := .f32) (φ₂ := .f32) dot_S2048x8x128_S8x2048x2048_S8x128x2048_0_2_2_1_1_0 none
    (val_main_v43 (F := Ideal) x2 : FVec Ideal S2048x8x128 .f32) (hP x0 x1)) transposes_S8x128x2048_S2048x8x128_2_0_1

/-- The sums over a head of cotangent times output, by query and head. -/
def hD (x0 x1 : (⟨S2048x2048, .bf16⟩ : BufTy).Contents (Elt Ideal)) (x2 x3 : (⟨S2048x1024, .bf16⟩ : BufTy).Contents (Elt Ideal)) :
    FVec Ideal S2048x8 .f32 :=
  Host.reduceAdd (mulf (val_main_v48 (F := Ideal) x3) (hO x0 x1 x2)) (constant S_ .f32 0x00000000#32) reducesTo_S2048x8x128_S2048x8_d2 h_S_

/-- The same, padded to 128 columns and transposed. -/
def hDlt (x0 x1 : (⟨S2048x2048, .bf16⟩ : BufTy).Contents (Elt Ideal)) (x2 x3 : (⟨S2048x1024, .bf16⟩ : BufTy).Contents (Elt Ideal)) :
    FVec Ideal S128x2048 .f32 :=
  transpose S128x2048 [1, 0] (pad S2048x128 ![0, 0] ![0, 120] ![0, 0] (hD x0 x1 x2 x3) (sitofp .f32 (constantI S_ 32 0#32) : FVec Ideal S_ .f32)
    pads_S2048x8_S2048x128_000_01200 h_S_) transposes_S2048x128_S128x2048_1_0

variable (X : In) {x0 x1 : (⟨S2048x2048, .bf16⟩ : BufTy).Contents (Elt Ideal)} {x2 x3 : (⟨S2048x1024, .bf16⟩ : BufTy).Contents (Elt Ideal)}
variable (h0 : ∀ i, x0 i = (X.Q (i 0).val (i 1).val : EReal)) (h1 : ∀ i, x1 i = (X.K (i 0).val (i 1).val : EReal))
variable (h2 : ∀ i, x2 i = (X.V (i 0).val (i 1).val : EReal)) (h3 : ∀ i, x3 i = (X.O (i 0).val (i 1).val : EReal))

/-- The maximum with minus infinity is the maximum. -/
theorem max_eq : val_main_v15 (F := Ideal) x0 x1 = val_main_v22 (F := Ideal) x0 x1 := by
  funext i
  rw [val_main_v22_apply, val_main_v21_apply, val_main_cst_2_apply]
  exact (max_eq_right (ninf.le.trans bot_le)).symm

theorem hE_eq : hE x0 x1 = val_main_v35 (F := Ideal) x0 x1 := by
  unfold hE; rw [max_eq]; rfl

theorem hL_eq : hL x0 x1 = val_main_v37 (F := Ideal) x0 x1 := by
  unfold hL; rw [hE_eq]; rfl

theorem hP_eq : hP x0 x1 = val_main_v39 (F := Ideal) x0 x1 := by
  unfold hP; rw [hE_eq, hL_eq]; rfl

theorem hO_eq : hO x0 x1 x2 = val_main_v45 (F := Ideal) x0 x1 x2 := by
  unfold hO; rw [hP_eq]; rfl

/-- The index the transposition of the logarithms reads. -/
abbrev ixL (i : S8x1x2048.Idx) : S8x2048x1.Idx := fun a => match a with
  | ⟨0, _⟩ => ⟨(i 0).val, (i 0).isLt⟩
  | ⟨1, _⟩ => ⟨(i 2).val, (i 2).isLt⟩
  | ⟨2, _⟩ => ⟨(i 1).val, (i 1).isLt⟩

/-- The index of a product under the sum over a head. -/
abbrev ixD (i : S2048x8.Idx) (d : Fin 128) : S2048x8x128.Idx := fun a => match a with
  | ⟨0, _⟩ => ⟨(i 0).val, (i 0).isLt⟩
  | ⟨1, _⟩ => ⟨(i 1).val, (i 1).isLt⟩
  | ⟨2, _⟩ => ⟨d.val, d.isLt⟩

/-- The logarithms of the normalisers as a transposition. -/
theorem lse_eq : hLse x0 x1 = transpose S8x1x2048 [0, 2, 1] (addf (val_main_v32 (F := Ideal) x0 x1)
    (Host.log (val_main_v37 (F := Ideal) x0 x1 : FVec Ideal S8x2048x1 .f32)) : FVec Ideal S8x2048x1 .f32) transposes_S8x2048x1_S8x1x2048_0_2_1 := by
  unfold hLse val_main_v32
  rw [hL_eq, max_eq]

/-- The logarithms of the normalisers at an index. -/
theorem lse_apply (i : S8x1x2048.Idx) : hLse x0 x1 i
    = FloatOps.addf (val_main_v32 (F := Ideal) x0 x1 (ixL i))
        (FloatOps.hostUnary .log (val_main_v37 (F := Ideal) x0 x1 (ixL i))) := by
  rw [lse_eq]
  generalize val_main_v32 (F := Ideal) x0 x1 = y0
  generalize val_main_v37 (F := Ideal) x0 x1 = y1
  refine (transpose_apply [0, 2, 1] _ transposes_S8x2048x1_S8x1x2048_0_2_1 i (ixL i) (fun b => match b with
    | ⟨0, _⟩ => rfl
    | ⟨1, _⟩ => rfl
    | ⟨2, _⟩ => rfl)).trans ?_
  rw [Idealize.ShloMosaic.addf_apply, Idealize.ShloMosaic.Host.log_apply]

include h0 h1 in
/-- The logarithms of the normalisers are those of the sums of exponentials: the row maximum drops out. -/
theorem lse_at (i : S8x1x2048.Idx) : hLse x0 x1 i = ((Real.log (X.L (i 0).val (i 2).val) : ℝ) : EReal) := by
  obtain ⟨M, -, e2, e3⟩ := row_at X h0 h1 (i 0).val (i 2).val (i 0).isLt (i 2).isLt
  have hL := X.L_pos (i 0).val (i 2).val (i 2).isLt
  have hM := Real.exp_pos M
  rw [lse_apply, val_main_v32_apply, val_main_v37_apply, e2 _ rfl rfl, e3 _ rfl rfl]
  have ea : M + (Real.log (X.L (i 0).val (i 2).val) - M) = Real.log (X.L (i 0).val (i 2).val) := by ring
  rw [Ideal.addf_def, Ideal.hostUnary_log_def, Ideal.log_coe, if_neg (not_le.mpr (div_pos hL hM)),
    Real.log_div hL.ne' hM.ne', Real.log_exp, ← EReal.coe_add, ea]

include h3 in
/-- The output's cotangents by head. -/
theorem oh_at (i : S2048x8x128.Idx) :
    val_main_v48 (F := Ideal) x3 i = (X.O (i 0).val (128 * (i 1).val + (i 2).val) : EReal) := by
  have a0 : (i 0).val < 2048 := (i 0).isLt
  have a1 : (i 1).val < 8 := (i 1).isLt
  have a2 : (i 2).val < 128 := (i 2).isLt
  rw [val_main_v48_apply, val_main_v47_apply]
  refine (h3 _).trans (congrArg _ (congrArg₂ X.O ?_ ?_))
  · show (((i 0).val * 8 + (i 1).val) * 128 + (i 2).val) / 1024 = _; omega
  · show (((i 0).val * 8 + (i 1).val) * 128 + (i 2).val) % 1024 = _; omega

include h0 h1 h2 in
/-- The attention's output. -/
theorem out_at (i : S2048x8x128.Idx) : hO x0 x1 x2 i
    = ((∑ k : Fin 2048, X.V k.val (128 * (i 1).val + (i 2).val) * X.P (i 1).val (i 0).val k.val : ℝ) : EReal) := by
  rw [hO_eq, val_main_v45_apply, val_main_v44_apply]
  simp only [v_at X h2, p_at X h0 h1, ← EReal.coe_mul]
  exact coe_sum _ _

/-- A sum over a head's 128 entries. -/
theorem sum_apply (y : FVec Ideal S2048x8x128 .f32) (i : S2048x8.Idx) :
    Host.reduceAdd y (constant S_ .f32 0x00000000#32) reducesTo_S2048x8x128_S2048x8_d2 h_S_ i = ∑ d : Fin 128, (y (ixD i d) : EReal) := by
  simp only [Host.reduceAdd, Ideal.hostReduceAdd_def]
  rw [Ideal.hostReduceAdd_single reducesTo_S2048x8x128_S2048x8_d2 (by decide)]
  refine Eq.trans (congrArg (_ + ·) (Finset.sum_congr rfl fun d _ => ?_)) ((congrArg (· + _) Ideal.ofBits_zero_f32).trans (zero_add _))
  exact congrArg y (funext fun a => Fin.ext (by match a with | ⟨0, _⟩ => rfl | ⟨1, _⟩ => rfl | ⟨2, _⟩ => rfl))

include h0 h1 h2 h3 in
/-- The sums of cotangent times output are the probabilities' mean cotangents. -/
theorem d_at (i : S2048x8.Idx) : hD x0 x1 x2 x3 i = ((X.Dl (i 1).val (i 0).val : ℝ) : EReal) := by
  unfold hD
  rw [sum_apply]
  have ht : ∀ d : Fin 128, (mulf (val_main_v48 (F := Ideal) x3) (hO x0 x1 x2) : FVec Ideal S2048x8x128 .f32) (ixD i d)
      = ((∑ k : Fin 2048, X.O (i 0).val (128 * (i 1).val + d.val) * (X.V k.val (128 * (i 1).val + d.val) * X.P (i 1).val (i 0).val k.val) : ℝ) : EReal) := by
    intro d
    rw [Idealize.ShloMosaic.mulf_apply, Ideal.mulf_def, oh_at X h3, out_at X h0 h1 h2, ← EReal.coe_mul, Finset.mul_sum]
  simp only [ht]
  refine (coe_sum _ _).trans (congrArg _ ?_)
  unfold In.Dl In.dP
  refine Finset.sum_comm.trans ?_
  refine Finset.sum_congr rfl fun k _ => ?_
  rw [Finset.mul_sum]
  exact Finset.sum_congr rfl fun d _ => by ring

include h0 h1 h2 h3 in
/-- The same in the array the launch reads, in its first eight rows. -/
theorem dlt_at (i : S128x2048.Idx) (hi : (i 0).val < 8) :
    hDlt x0 x1 x2 x3 i = ((X.Dl (i 0).val (i 1).val : ℝ) : EReal) := by
  unfold hDlt
  refine (pad_apply_of_inside _ _ _ _ _ _ _ _ (ValueIdx.ix2 (i 1) ⟨(i 0).val, hi⟩) ?_).trans (d_at X h0 h1 h2 h3 _)
  intro a
  match a with
  | ⟨0, _⟩ => simp; rfl
  | ⟨1, _⟩ => simp; rfl

end Cert.KernelIdeal.HostValue

end
-- ==== Proof.HostEntry.lean ====
/- The kernel's launch finds, in the three arrays the host computes for it, the terms of `HostValue`. -/
module

public import proofs.«01_k».proof.Proof.HostValue
public import Idealize.ShloMosaic.Lib.Claim

@[expose] public section

set_option maxRecDepth 16384

noncomputable section

namespace Cert.KernelIdeal.HostValue

open Cert.KernelIdeal Cert.KernelIdeal.Gen Idealize.ShloMosaic Idealize.ShloMosaic.TcCoe
open Cert.ReferenceIdeal.Read

variable (m : (ℓ : Loc nD τ sig) → Buf (Elt Ideal) ℓ)

/-- The launch finds the transposed keys. -/
theorem V_kct (c : Dev nD) : V m c main_v36 = transpose S2048x2048 [1, 0] (m ((c : Thread nD τ).loc main_arg1)) transposes_S2048x2048_S2048x2048_1_0 := by
  entry_read
  rfl

/-- The launch finds the logarithms of the normalisers. -/
theorem V_lse (c : Dev nD) : V m c main_v23 = hLse (m ((c : Thread nD τ).loc main_arg0)) (m ((c : Thread nD τ).loc main_arg1)) := by
  show StableHlo.after [hostOps0, hostOps0_1, hostOps0_2, hostOps0_3, hostOps0_4, hostOps0_5, hostOps0_6].flatten
    (fun b => m (c, b)) (Proc.tc.devRef main_v23) = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.ternary,
    StableHlo.TRef.unary, StableHlo.TRef.toBuf, StableHlo.TRef.ofBuf, cast_eq]
  after_results_simp
  unfold hLse hL hE val_main_v15 val_main_cst_0 val_main_v14_0 val_main_call1_v2 val_main_call1_v0 val_main_cst
    val_main_v5 val_main_v4 val_main_v1 val_main_v3 val_main_v0 val_main_v14_1 val_main_v13 val_main_v12 val_main_v11
    val_main_v9 val_main_v10 val_main_v8 val_main_v7 val_main_call0_v13 val_main_call0_v12 val_main_call0_c_0
    val_main_call0_v2 val_main_call0_v1 val_main_call0_v11 val_main_call0_v10 val_main_call0_v9 val_main_call0_c
    val_main_call0_v8 val_main_call0_v7 val_main_call0_v6 val_main_call0_v5 val_main_call0_v4 val_main_call0_v0
    val_main_c val_main_call0_v3 val_main_v6
  rfl

/-- The launch finds the sums of cotangent times output. -/
theorem V_dlt (c : Dev nD) : V m c main_v35 = hDlt (m ((c : Thread nD τ).loc main_arg0)) (m ((c : Thread nD τ).loc main_arg1))
    (m ((c : Thread nD τ).loc main_arg2)) (m ((c : Thread nD τ).loc main_arg3)) := by
  show StableHlo.after [hostOps0, hostOps0_1, hostOps0_2, hostOps0_3, hostOps0_4, hostOps0_5, hostOps0_6].flatten
    (fun b => m (c, b)) (Proc.tc.devRef main_v35) = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.ternary,
    StableHlo.TRef.unary, StableHlo.TRef.toBuf, StableHlo.TRef.ofBuf, cast_eq]
  after_results_simp
  unfold hDlt hD hO hP hL hE val_main_v48 val_main_v47 val_main_v43 val_main_v2 val_main_v15 val_main_cst_0
    val_main_v14_0 val_main_call1_v2 val_main_call1_v0 val_main_cst val_main_v5 val_main_v4 val_main_v1 val_main_v3
    val_main_v0 val_main_v14_1 val_main_v13 val_main_v12 val_main_v11 val_main_v9 val_main_v10 val_main_v8 val_main_v7
    val_main_call0_v13 val_main_call0_v12 val_main_call0_c_0 val_main_call0_v2 val_main_call0_v1 val_main_call0_v11
    val_main_call0_v10 val_main_call0_v9 val_main_call0_c val_main_call0_v8 val_main_call0_v7 val_main_call0_v6
    val_main_call0_v5 val_main_call0_v4 val_main_call0_v0 val_main_c val_main_call0_v3 val_main_v6
  rfl

end Cert.KernelIdeal.HostValue

end
-- ==== Proof.Blocks.lean ====
/- What a grid point works on, and the blocks the launch hands it. -/
module

public import proofs.«01_k».proof.Proof.Point
public import proofs.«01_k».proof.Proof.HostEntry
public import proofs.«01_k».proof.Proof.HostValue
public import proofs.«01_k».proof.Proof.Gen.KernelIdeal.Value

@[expose] public section

set_option maxRecDepth 16384

noncomputable section

namespace Cert.KernelIdeal.Body

open Cert.KernelIdeal Cert.KernelIdeal.Gen Cert.KernelIdeal.Value Cert.KernelIdeal.HostValue Cert.Grad
open Idealize.ShloMosaic Idealize.ShloMosaic.TcCoe Idealize.SL.Sem
open scoped BigOperators

/-- What query block `n` of head `h` works on. -/
def blk (X : In) (h n : ℕ) : Blk where
  q j e := X.Q (512 * n + j) (256 * h + e)
  kb r e := X.K r (256 * h + e)
  kt d r := X.K r (256 * h + d)
  vb r d := X.V r (128 * h + d)
  o j d := X.O (512 * n + j) (128 * h + d)
  ls j := Real.log (X.L h (512 * n + j))
  dl j := X.Dl h (512 * n + j)

theorem blk_ls (X : In) (h n j : ℕ) : (blk X h n).ls j = Real.log (X.L h (512 * n + j)) := rfl
theorem blk_dl (X : In) (h n j : ℕ) : (blk X h n).dl j = X.Dl h (512 * n + j) := rfl

section Real

variable (X : In) (h : ℕ) {n j : ℕ} (r : ℕ)

/-- Its masked probabilities are attention's. -/
theorem pm_blk (hn : n < 4) (hj : j < 512) : (blk X h n).pm n r j = X.P h (512 * n + j) r := by
  have hL := X.L_pos h (512 * n + j) (by omega)
  unfold Blk.pm In.P In.E
  split
  · have e : (blk X h n).S r j = X.S h (512 * n + j) r := Finset.sum_congr rfl fun e _ => mul_comm _ _
    unfold Blk.p
    rw [e]
    show Real.exp (_ - Real.log _) = _
    rw [Real.exp_sub, Real.exp_log hL]
  · rw [zero_div]

/-- Its masked cotangents of the scores are attention's. -/
theorem wm_blk (hn : n < 4) (hj : j < 512) : (blk X h n).wm n r j = X.dS h (512 * n + j) r := by
  have e : (blk X h n).D r j = X.dP h (512 * n + j) r := Finset.sum_congr rfl fun e _ => mul_comm _ _
  unfold Blk.wm In.dS
  rw [pm_blk X h r hn hj, e]
  rfl

/-- The four query blocks of a head make up the keys' gradient. -/
theorem ck_sum {c : ℕ} (hc : c < 256) : ∑ b ∈ Finset.range 4, (blk X h b).ckm b r c = X.gK r (256 * h + c) := by
  have e : ∑ b ∈ Finset.range 4, (blk X h b).ckm b r c
      = ∑ b ∈ Finset.range 4, ∑ j : Fin 512, X.dS h (512 * b + j.val) r * X.Q (512 * b + j.val) (256 * h + c) :=
    Finset.sum_congr rfl fun b hb => Finset.sum_congr rfl fun j _ => by
      rw [wm_blk X h r (Finset.mem_range.1 hb) j.isLt]; rfl
  rw [e, Blk.sum_blocks fun q => X.dS h q r * X.Q q (256 * h + c)]
  unfold In.gK
  rw [← Finset.sum_range fun q => X.dS ((256 * h + c) / 256) q r * X.Q q (256 * h + c), show (256 * h + c) / 256 = h by omega]

/-- The four query blocks of a head make up the values' gradient. -/
theorem cv_sum {c : ℕ} (hc : c < 128) : ∑ b ∈ Finset.range 4, (blk X h b).cvm b r c = X.gV r (128 * h + c) := by
  have e : ∑ b ∈ Finset.range 4, (blk X h b).cvm b r c
      = ∑ b ∈ Finset.range 4, ∑ j : Fin 512, X.P h (512 * b + j.val) r * X.O (512 * b + j.val) (128 * h + c) :=
    Finset.sum_congr rfl fun b hb => Finset.sum_congr rfl fun j _ => by
      rw [pm_blk X h r (Finset.mem_range.1 hb) j.isLt]; rfl
  rw [e, Blk.sum_blocks fun q => X.P h q r * X.O q (128 * h + c)]
  unfold In.gV
  rw [← Finset.sum_range fun q => X.P ((128 * h + c) / 128) q r * X.O q (128 * h + c), show (128 * h + c) / 128 = h by omega]

/-- A query block's own gradient. -/
theorem cq_blk {d : ℕ} (hn : n < 4) (hj : j < 512) (hd : d < 256) :
    (blk X h n).cqm n d j = X.gQ (512 * n + j) (256 * h + d) := by
  unfold Blk.cqm In.gQ
  rw [show (256 * h + d) / 256 = h by omega]
  refine Finset.sum_congr rfl fun k _ => ?_
  rw [wm_blk X h k.val hn hj]
  exact mul_comm _ _

end Real

theorem coord0 (t : Fin cfg0.N) : (grid0.coords t 0).val = t.val / 4 := by
  have e : (grid0.coords t 0).val = t.val / 4 % 8 := Pipeline.Grid.coords_val t 0 (by decide) rfl
  have hN : cfg0.N = 32 := N_0
  have := t.isLt; omega

theorem coord1 (t : Fin cfg0.N) : (grid0.coords t 1).val = t.val % 4 := by
  have e : (grid0.coords t 1).val = t.val / 1 % 4 := Pipeline.Grid.coords_val t 1 (by decide) rfl
  omega

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem index1 : ∀ t : Fin cfg0.N, win0_1.index t 0 = 0 ∧ win0_1.index t 1 = t.val / 4 :=
  (by decide +kernel : ∀ t : Fin grid0.N, win0_1.index t 0 = 0 ∧ win0_1.index t 1 = t.val / 4)

theorem index2 : ∀ t : Fin cfg0.N, win0_2.index t 0 = t.val / 4 ∧ win0_2.index t 1 = 0 :=
  (by decide +kernel : ∀ t : Fin grid0.N, win0_2.index t 0 = t.val / 4 ∧ win0_2.index t 1 = 0)

theorem index3 : ∀ t : Fin cfg0.N, win0_3.index t 0 = 0 ∧ win0_3.index t 1 = t.val / 4 :=
  (by decide +kernel : ∀ t : Fin grid0.N, win0_3.index t 0 = 0 ∧ win0_3.index t 1 = t.val / 4)

theorem index4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)

theorem index5 : ∀ t : Fin cfg0.N, win0_5.index t 0 = t.val / 4 ∧ win0_5.index t 1 = 0 ∧ win0_5.index t 2 = t.val % 4 :=
  (by decide +kernel : ∀ t : Fin grid0.N, win0_5.index t 0 = t.val / 4 ∧ win0_5.index t 1 = 0 ∧ win0_5.index t 2 = t.val % 4)

theorem index6 : ∀ t : Fin cfg0.N, win0_6.index t 0 = 0 ∧ win0_6.index t 1 = t.val % 4 :=
  (by decide +kernel : ∀ t : Fin grid0.N, win0_6.index t 0 = 0 ∧ win0_6.index t 1 = t.val % 4)

theorem index7 : ∀ t : Fin cfg0.N, win0_7.index t 0 = t.val % 4 ∧ win0_7.index t 1 = t.val / 4 :=
  (by decide +kernel : ∀ t : Fin grid0.N, win0_7.index t 0 = t.val % 4 ∧ win0_7.index t 1 = t.val / 4)

theorem index8 : ∀ t : Fin cfg0.N, win0_8.index t 0 = 0 ∧ win0_8.index t 1 = t.val / 4 :=
  (by decide +kernel : ∀ t : Fin grid0.N, win0_8.index t 0 = 0 ∧ win0_8.index t 1 = t.val / 4)

theorem index9 : ∀ t : Fin cfg0.N, win0_9.index t 0 = 0 ∧ win0_9.index t 1 = t.val / 4 :=
  (by decide +kernel : ∀ t : Fin grid0.N, win0_9.index t 0 = 0 ∧ win0_9.index t 1 = t.val / 4)

section Run

variable (m : (ℓ : Loc nD τ sig) → Buf (Elt Ideal) ℓ) (c : Dev nD) (X : In)
  (h0 : ∀ i : S2048x2048.Idx, (m ((c : Thread nD τ).loc main_arg0) : Vec Ideal S2048x2048 .bf16) i = (X.Q (i 0).val (i 1).val : EReal))
  (h1 : ∀ i : S2048x2048.Idx, (m ((c : Thread nD τ).loc main_arg1) : Vec Ideal S2048x2048 .bf16) i = (X.K (i 0).val (i 1).val : EReal))
  (h2 : ∀ i : S2048x1024.Idx, (m ((c : Thread nD τ).loc main_arg2) : Vec Ideal S2048x1024 .bf16) i = (X.V (i 0).val (i 1).val : EReal))
  (h3 : ∀ i : S2048x1024.Idx, (m ((c : Thread nD τ).loc main_arg3) : Vec Ideal S2048x1024 .bf16) i = (X.O (i 0).val (i 1).val : EReal))

include h0 in
theorem iblk0_at (t : Fin cfg0.N) (y : S512x256.Idx) : (iblk m c 0 t : Vec Ideal S512x256 .bf16) y = ((blk X (t.val / 4) (t.val % 4)).q (y 0).val (y 1).val : EReal) := by
  have hi := index0 t
  unfold iblk
  rw [View.read_apply]
  show V m c main_arg0 _ = _
  rw [V_main_arg0]
  refine (h0 _).trans (congrArg _ (congrArg₂ X.Q ?_ ?_))
  · show win0_0.index t 0 * 512 + 1 * (y 0).val = _; rw [hi.1]; omega
  · show win0_0.index t 1 * 256 + 1 * (y 1).val = _; rw [hi.2]; omega

include h1 in
theorem iblk1_at (t : Fin cfg0.N) (y : S2048x256.Idx) : (iblk m c 1 t : Vec Ideal S2048x256 .bf16) y = ((blk X (t.val / 4) (t.val % 4)).kb (y 0).val (y 1).val : EReal) := by
  have hi := index1 t
  unfold iblk
  rw [View.read_apply]
  show V m c main_arg1 _ = _
  rw [V_main_arg1]
  refine (h1 _).trans (congrArg _ (congrArg₂ X.K ?_ ?_))
  · show win0_1.index t 0 * 2048 + 1 * (y 0).val = _; rw [hi.1]; omega
  · show win0_1.index t 1 * 256 + 1 * (y 1).val = _; rw [hi.2]; omega

include h1 in
theorem iblk2_at (t : Fin cfg0.N) (y : S256x2048.Idx) : (iblk m c 2 t : Vec Ideal S256x2048 .bf16) y = ((blk X (t.val / 4) (t.val % 4)).kt (y 0).val (y 1).val : EReal) := by
  have hi := index2 t
  unfold iblk
  rw [View.read_apply]
  show V m c main_v36 _ = _
  rw [V_kct]
  refine (h1 _).trans (congrArg _ (congrArg₂ X.K ?_ ?_))
  · show win0_2.index t 1 * 2048 + 1 * (y 1).val = _; rw [hi.2]; omega
  · show win0_2.index t 0 * 256 + 1 * (y 0).val = _; rw [hi.1]; omega

include h2 in
theorem iblk3_at (t : Fin cfg0.N) (y : S2048x128.Idx) : (iblk m c 3 t : Vec Ideal S2048x128 .bf16) y = ((blk X (t.val / 4) (t.val % 4)).vb (y 0).val (y 1).val : EReal) := by
  have hi := index3 t
  unfold iblk
  rw [View.read_apply]
  show V m c main_arg2 _ = _
  rw [V_main_arg2]
  refine (h2 _).trans (congrArg _ (congrArg₂ X.V ?_ ?_))
  · show win0_3.index t 0 * 2048 + 1 * (y 0).val = _; rw [hi.1]; omega
  · show win0_3.index t 1 * 128 + 1 * (y 1).val = _; rw [hi.2]; omega

include h3 in
theorem iblk4_at (t : Fin cfg0.N) (y : S512x128.Idx) : (iblk m c 4 t : Vec Ideal S512x128 .bf16) y = ((blk X (t.val / 4) (t.val % 4)).o (y 0).val (y 1).val : EReal) := by
  have hi := index4 t
  unfold iblk
  rw [View.read_apply]
  show V m c main_arg3 _ = _
  rw [V_main_arg3]
  refine (h3 _).trans (congrArg _ (congrArg₂ X.O ?_ ?_))
  · show win0_4.index t 0 * 512 + 1 * (y 0).val = _; rw [hi.1]; omega
  · show win0_4.index t 1 * 128 + 1 * (y 1).val = _; rw [hi.2]; omega

include h0 h1 in
theorem V_lse_at : ∀ i : S8x1x2048.Idx, (V m c main_v23 : Vec Ideal S8x1x2048 .f32) i = (((fun a b => Real.log (X.L a b)) (i 0).val (i 2).val : ℝ) : EReal) := by
  intro i
  rw [V_lse]
  exact lse_at X h0 h1 i

/-- A block of the logarithms read out of any array whose entries are known. -/
theorem read5 (W : (b : Ref sig .tc) → BufTy.Contents (Elt Ideal) (Ref.ty b)) (f : ℕ → ℕ → ℝ)
    (hW : ∀ i : S8x1x2048.Idx, (W main_v23 : Vec Ideal S8x1x2048 .f32) i = (f (i 0).val (i 2).val : EReal)) (t : Fin cfg0.N) (y : S1x1x512.Idx) :
    (((cfg0.win 5).blk t).view.read (Elt Ideal) (W (Pipeline.arrRef spec0 5)) : Vec Ideal S1x1x512 .f32) y = (f (t.val / 4) (t.val % 4 * 512 + (y 2).val) : EReal) := by
  have hi := index5 t
  have y0 : (y 0).val < 1 := (y 0).isLt
  rw [View.read_apply]
  refine (hW _).trans (congrArg _ (congrArg₂ f ?_ ?_))
  · show win0_5.index t 0 * 1 + 1 * (y 0).val = _; rw [hi.1]; omega
  · show win0_5.index t 2 * 512 + 1 * (y 2).val = _; rw [hi.2.2]; omega

include h0 h1 in
theorem iblk5_at (t : Fin cfg0.N) (y : S1x1x512.Idx) : (iblk m c 5 t : Vec Ideal S1x1x512 .f32) y = ((blk X (t.val / 4) (t.val % 4)).ls (y 2).val : EReal) := by
  unfold iblk
  refine (read5 (V m c) (fun a b => Real.log (X.L a b)) (V_lse_at m c X h0 h1) t y).trans ?_
  rw [blk_ls, Nat.mul_comm 512]

include h0 h1 h2 h3 in
theorem iblk6_at (t : Fin cfg0.N) (y : S8x512.Idx) (hy : (y 0).val = (grid0.coords t 0).val) : (iblk m c 6 t : Vec Ideal S8x512 .f32) y = ((blk X (t.val / 4) (t.val % 4)).dl (y 1).val : EReal) := by
  have hi := index6 t
  unfold iblk
  rw [View.read_apply]
  show V m c main_v35 _ = _
  rw [V_dlt, blk_dl]
  have y0 : (y 0).val < 8 := (y 0).isLt
  rw [coord0] at hy
  refine (dlt_at X h0 h1 h2 h3 _ ?_).trans (congrArg _ (congrArg₂ X.Dl ?_ ?_))
  · show win0_6.index t 0 * 8 + 1 * (y 0).val < 8; rw [hi.1]; omega
  · show win0_6.index t 0 * 8 + 1 * (y 0).val = _; rw [hi.1]; omega
  · show win0_6.index t 1 * 512 + 1 * (y 1).val = _; rw [hi.2]; omega

end Run

end Cert.KernelIdeal.Body

end
-- ==== Proof.Grid.lean ====
/- The grid: the sums the points of a head leave behind, and the arrays at the end. -/
module

public import proofs.«01_k».proof.Proof.Blocks
public import proofs.«01_k».proof.Proof.Gen.KernelIdeal.Value

@[expose] public section

set_option maxRecDepth 16384

noncomputable section

namespace Cert.KernelIdeal.Body

open Cert.KernelIdeal Cert.KernelIdeal.Gen Cert.KernelIdeal.Value Cert.KernelIdeal.HostValue Cert.Grad
open Idealize.ShloMosaic Idealize.ShloMosaic.TcCoe Idealize.SL.Sem
open scoped BigOperators

section Run

variable (m : (ℓ : Loc nD τ sig) → Buf (Elt Ideal) ℓ) (c : Dev nD) (X : In)
  (h0 : ∀ i : S2048x2048.Idx, (m ((c : Thread nD τ).loc main_arg0) : Vec Ideal S2048x2048 .bf16) i = (X.Q (i 0).val (i 1).val : EReal))
  (h1 : ∀ i : S2048x2048.Idx, (m ((c : Thread nD τ).loc main_arg1) : Vec Ideal S2048x2048 .bf16) i = (X.K (i 0).val (i 1).val : EReal))
  (h2 : ∀ i : S2048x1024.Idx, (m ((c : Thread nD τ).loc main_arg2) : Vec Ideal S2048x1024 .bf16) i = (X.V (i 0).val (i 1).val : EReal))
  (h3 : ∀ i : S2048x1024.Idx, (m ((c : Thread nD τ).loc main_arg3) : Vec Ideal S2048x1024 .bf16) i = (X.O (i 0).val (i 1).val : EReal))

/-- The sum of a head's query blocks up to point `n`, for the keys. -/
def sumK (n a b : ℕ) : ℝ := ∑ k ∈ Finset.range (n % 4 + 1), (blk X (n / 4) k).ckm k a b

/-- The same for the values. -/
def sumV (n a b : ℕ) : ℝ := ∑ k ∈ Finset.range (n % 4 + 1), (blk X (n / 4) k).cvm k a b

theorem sumK_first {n : ℕ} (h : n % 4 = 0) (a b : ℕ) : sumK X n a b = (blk X (n / 4) (n % 4)).ckm (n % 4) a b := by
  unfold sumK; rw [h]; simp

theorem sumV_first {n : ℕ} (h : n % 4 = 0) (a b : ℕ) : sumV X n a b = (blk X (n / 4) (n % 4)).cvm (n % 4) a b := by
  unfold sumV; rw [h]; simp

theorem sumK_next {n : ℕ} (h : ¬n % 4 = 0) (a b : ℕ) :
    sumK X n a b = sumK X (n - 1) a b + (blk X (n / 4) (n % 4)).ckm (n % 4) a b := by
  unfold sumK
  rw [Finset.sum_range_succ, show (n - 1) % 4 + 1 = n % 4 by omega, show (n - 1) / 4 = n / 4 by omega]

theorem sumV_next {n : ℕ} (h : ¬n % 4 = 0) (a b : ℕ) :
    sumV X n a b = sumV X (n - 1) a b + (blk X (n / 4) (n % 4)).cvm (n % 4) a b := by
  unfold sumV
  rw [Finset.sum_range_succ, show (n - 1) % 4 + 1 = n % 4 by omega, show (n - 1) / 4 = n / 4 by omega]

include h0 h1 h2 h3 in
/-- A head's first point starts the keys' sum. -/
theorem atA8 (t : Fin cfg0.N) (h : t.val % 4 = 0) (y : S2048x256.Idx) :
    (outsAt0 m c t.val t.isLt).2.1 y = ((sumK X t.val (y 0).val (y 1).val : ℝ) : EReal) := by
  rw [outsAt0_A m c t h]
  dsimp only
  refine (outA8 (y := y) (hc0 := (hcond0_0 t).mpr h)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  exact congrArg _ (sumK_first X h _ _).symm

include h0 h1 h2 h3 in
/-- A head's first point starts the values' sum. -/
theorem atA9 (t : Fin cfg0.N) (h : t.val % 4 = 0) (y : S2048x128.Idx) :
    (outsAt0 m c t.val t.isLt).2.2 y = ((sumV X t.val (y 0).val (y 1).val : ℝ) : EReal) := by
  rw [outsAt0_A m c t h]
  dsimp only
  refine (outA9 (y := y) (hc0 := (hcond0_0 t).mpr h)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  exact congrArg _ (sumV_first X h _ _).symm

include h0 h1 h2 h3 in
/-- A head's first point gives its block of the queries' gradient. -/
theorem atA7 (t : Fin cfg0.N) (h : t.val % 4 = 0) (y : S512x256.Idx) :
    (outsAt0 m c t.val t.isLt).1 y = ((X.gQ (512 * (t.val % 4) + (y 0).val) (256 * (t.val / 4) + (y 1).val) : ℝ) : EReal) := by
  rw [outsAt0_A m c t h]
  dsimp only
  refine (outA7 (y := y) (hc0 := (hcond0_0 t).mpr h)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  have y0 : (y 0).val < 512 := (y 0).isLt
  have y1 : (y 1).val < 256 := (y 1).isLt
  exact congrArg _ (cq_blk X _ (by omega) y0 y1)

include h0 h1 h2 h3 in
/-- A later point adds to the keys' sum. -/
theorem atB8 (t : Fin cfg0.N) (h : ¬t.val % 4 = 0)
    (p8 : ∀ y, (outsAt0 m c (t.val - 1) (Nat.lt_of_le_of_lt (Nat.sub_le _ _) t.isLt)).2.1 y = ((sumK X (t.val - 1) (y 0).val (y 1).val : ℝ) : EReal))
    (p9 : ∀ y, (outsAt0 m c (t.val - 1) (Nat.lt_of_le_of_lt (Nat.sub_le _ _) t.isLt)).2.2 y = ((sumV X (t.val - 1) (y 0).val (y 1).val : ℝ) : EReal)) (y : S2048x256.Idx) :
    (outsAt0 m c t.val t.isLt).2.1 y = ((sumK X t.val (y 0).val (y 1).val : ℝ) : EReal) := by
  rw [outsAt0_B m c t h]
  dsimp only
  refine (outB8 (y := y) (hc0 := fun w => h ((hcond0_0 t).mp w))
    (xo8 := (outsAt0 m c (t.val - 1) (Nat.lt_of_le_of_lt (Nat.sub_le _ _) t.isLt)).2.1) (xo9 := (outsAt0 m c (t.val - 1) (Nat.lt_of_le_of_lt (Nat.sub_le _ _) t.isLt)).2.2)
    (g10 := sumK X (t.val - 1)) (g11 := sumV X (t.val - 1)) (h8 := p8) (h9 := p9)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  exact congrArg _ (sumK_next X h _ _).symm

include h0 h1 h2 h3 in
/-- A later point adds to the values' sum. -/
theorem atB9 (t : Fin cfg0.N) (h : ¬t.val % 4 = 0)
    (p8 : ∀ y, (outsAt0 m c (t.val - 1) (Nat.lt_of_le_of_lt (Nat.sub_le _ _) t.isLt)).2.1 y = ((sumK X (t.val - 1) (y 0).val (y 1).val : ℝ) : EReal))
    (p9 : ∀ y, (outsAt0 m c (t.val - 1) (Nat.lt_of_le_of_lt (Nat.sub_le _ _) t.isLt)).2.2 y = ((sumV X (t.val - 1) (y 0).val (y 1).val : ℝ) : EReal)) (y : S2048x128.Idx) :
    (outsAt0 m c t.val t.isLt).2.2 y = ((sumV X t.val (y 0).val (y 1).val : ℝ) : EReal) := by
  rw [outsAt0_B m c t h]
  dsimp only
  refine (outB9 (y := y) (hc0 := fun w => h ((hcond0_0 t).mp w))
    (xo8 := (outsAt0 m c (t.val - 1) (Nat.lt_of_le_of_lt (Nat.sub_le _ _) t.isLt)).2.1) (xo9 := (outsAt0 m c (t.val - 1) (Nat.lt_of_le_of_lt (Nat.sub_le _ _) t.isLt)).2.2)
    (g10 := sumK X (t.val - 1)) (g11 := sumV X (t.val - 1)) (h8 := p8) (h9 := p9)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  exact congrArg _ (sumV_next X h _ _).symm

include h0 h1 h2 h3 in
/-- A later point gives its block of the queries' gradient. -/
theorem atB7 (t : Fin cfg0.N) (h : ¬t.val % 4 = 0)
    (p8 : ∀ y, (outsAt0 m c (t.val - 1) (Nat.lt_of_le_of_lt (Nat.sub_le _ _) t.isLt)).2.1 y = ((sumK X (t.val - 1) (y 0).val (y 1).val : ℝ) : EReal))
    (p9 : ∀ y, (outsAt0 m c (t.val - 1) (Nat.lt_of_le_of_lt (Nat.sub_le _ _) t.isLt)).2.2 y = ((sumV X (t.val - 1) (y 0).val (y 1).val : ℝ) : EReal)) (y : S512x256.Idx) :
    (outsAt0 m c t.val t.isLt).1 y = ((X.gQ (512 * (t.val % 4) + (y 0).val) (256 * (t.val / 4) + (y 1).val) : ℝ) : EReal) := by
  rw [outsAt0_B m c t h]
  dsimp only
  refine (outB7 (y := y) (hc0 := fun w => h ((hcond0_0 t).mp w))
    (xo8 := (outsAt0 m c (t.val - 1) (Nat.lt_of_le_of_lt (Nat.sub_le _ _) t.isLt)).2.1) (xo9 := (outsAt0 m c (t.val - 1) (Nat.lt_of_le_of_lt (Nat.sub_le _ _) t.isLt)).2.2)
    (g10 := sumK X (t.val - 1)) (g11 := sumV X (t.val - 1)) (h8 := p8) (h9 := p9)
    (B := blk X (t.val / 4) (t.val % 4)) (hq := iblk0_at m c X h0 t) (hkb := iblk1_at m c X h1 t) (hkt := iblk2_at m c X h1 t)
    (hvb := iblk3_at m c X h2 t) (ho := iblk4_at m c X h3 t) (hls := iblk5_at m c X h0 h1 t) (hdl := iblk6_at m c X h0 h1 h2 h3 t) ..).trans ?_
  rw [coord1]
  have y0 : (y 0).val < 512 := (y 0).isLt
  have y1 : (y 1).val < 256 := (y 1).isLt
  exact congrArg _ (cq_blk X _ (by omega) y0 y1)

include h0 h1 h2 h3 in
/-- What the accumulating outputs hold after point `n`. -/
theorem sums_at : ∀ (n : ℕ) (hn : n < cfg0.N), (∀ y, (outsAt0 m c n hn).2.1 y = ((sumK X n (y 0).val (y 1).val : ℝ) : EReal))
    ∧ ∀ y, (outsAt0 m c n hn).2.2 y = ((sumV X n (y 0).val (y 1).val : ℝ) : EReal) := by
  intro n
  induction n with
  | zero =>
    intro hn
    exact ⟨atA8 m c X h0 h1 h2 h3 ⟨0, hn⟩ rfl, atA9 m c X h0 h1 h2 h3 ⟨0, hn⟩ rfl⟩
  | succ n ih =>
    intro hn
    have p := ih (Nat.lt_of_succ_lt hn)
    by_cases h : (n + 1) % 4 = 0
    · exact ⟨atA8 m c X h0 h1 h2 h3 ⟨n + 1, hn⟩ h, atA9 m c X h0 h1 h2 h3 ⟨n + 1, hn⟩ h⟩
    · exact ⟨atB8 m c X h0 h1 h2 h3 ⟨n + 1, hn⟩ h p.1 p.2, atB9 m c X h0 h1 h2 h3 ⟨n + 1, hn⟩ h p.1 p.2⟩

include h0 h1 h2 h3 in
/-- What a point leaves in the queries' gradient. -/
theorem query_at (t : Fin cfg0.N) (y : S512x256.Idx) :
    (outsAt0 m c t.val t.isLt).1 y = ((X.gQ (512 * (t.val % 4) + (y 0).val) (256 * (t.val / 4) + (y 1).val) : ℝ) : EReal) := by
  by_cases h : t.val % 4 = 0
  · exact atA7 m c X h0 h1 h2 h3 t h y
  · have p := sums_at m c X h0 h1 h2 h3 (t.val - 1) (Nat.lt_of_le_of_lt (Nat.sub_le _ _) t.isLt)
    exact atB7 m c X h0 h1 h2 h3 t h p.1 p.2 y

/-- The gradients as arrays. -/
def resQ : Vec Ideal S2048x2048 .bf16 := fun i => ((X.gQ (i 0).val (i 1).val : ℝ) : EReal)
def resK : Vec Ideal S2048x2048 .f32 := fun i => ((X.gK (i 0).val (i 1).val : ℝ) : EReal)
def resV : Vec Ideal S2048x1024 .f32 := fun i => ((X.gV (i 0).val (i 1).val : ℝ) : EReal)

include h0 h1 h2 h3 in
/-- What a point writes back of the queries' gradient. -/
theorem flushed7_eq (t : Fin cfg0.N) (hf : (cfg0.win 7).flush t = true) :
    (dats m 0 c).flushed 7 t = ((cfg0.win 7).blk t).view.read (Elt Ideal) (resQ X) := by
  have hi := index7 t
  rw [flushed7]
  funext y
  rw [View.read_apply]
  refine (query_at m c X h0 h1 h2 h3 t y).trans (congrArg _ (congrArg₂ X.gQ ?_ ?_))
  · show _ = win0_7.index t 0 * 512 + 1 * (y 0).val; rw [hi.1]; omega
  · show _ = win0_7.index t 1 * 256 + 1 * (y 1).val; rw [hi.2]; omega

include h0 h1 h2 h3 in
/-- The queries' gradient at the end. -/
theorem final7 : (dats m 0 c).arrAt 7 cfg0.N = resQ X :=
  (dats m 0 c).arrAt_eq_of_cover 7 (resQ X) (flushed7_eq m c X h0 h1 h2 h3) fun i => by
    have i0 : (i 0).val < 2048 := (i 0).isLt
    have i1 : (i 1).val < 2048 := (i 1).isLt
    have hN : cfg0.N = 32 := N_0
    let t : Fin cfg0.N := ⟨4 * ((i 1).val / 256) + (i 0).val / 512, by omega⟩
    have ht : t.val = 4 * ((i 1).val / 256) + (i 0).val / 512 := rfl
    have hi := index7 t
    refine ⟨t, flush0_7 t, ?_⟩
    show i ∈ ((View.whole main_v37_0).slice (win0_7.rect t)).set
    rw [View.set_slice_whole, Rect.mem_set_unit]
    intro a
    match a with
    | ⟨0, _⟩ => show win0_7.index t 0 * 512 ≤ (i 0).val ∧ (i 0).val < win0_7.index t 0 * 512 + 512
                rw [hi.1]; omega
    | ⟨1, _⟩ => show win0_7.index t 1 * 256 ≤ (i 1).val ∧ (i 1).val < win0_7.index t 1 * 256 + 256
                rw [hi.2]; omega

include h0 h1 h2 h3 in
/-- What a point writes back of the keys' gradient. -/
theorem flushed8_eq (t : Fin cfg0.N) (hf : (cfg0.win 8).flush t = true) :
    (dats m 0 c).flushed 8 t = ((cfg0.win 8).blk t).view.read (Elt Ideal) (resK X) := by
  have hi := index8 t
  rw [flushed8]
  funext y
  rw [View.read_apply]
  have h3' : t.val % 4 = 3 := (flush0_8 t).mp hf
  refine ((sums_at m c X h0 h1 h2 h3 t.val t.isLt).1 y).trans (congrArg _ ?_)
  have y1 : (y 1).val < 256 := (y 1).isLt
  unfold sumK
  rw [h3']
  refine (ck_sum X (t.val / 4) (y 0).val y1).trans (congrArg₂ X.gK ?_ ?_)
  · show _ = win0_8.index t 0 * 2048 + 1 * (y 0).val; rw [hi.1]; omega
  · show _ = win0_8.index t 1 * 256 + 1 * (y 1).val; rw [hi.2]; omega

include h0 h1 h2 h3 in
/-- The keys' gradient at the end. -/
theorem final8 : (dats m 0 c).arrAt 8 cfg0.N = resK X :=
  (dats m 0 c).arrAt_eq_of_cover 8 (resK X) (flushed8_eq m c X h0 h1 h2 h3) fun i => by
    have i0 : (i 0).val < 2048 := (i 0).isLt
    have i1 : (i 1).val < 2048 := (i 1).isLt
    have hN : cfg0.N = 32 := N_0
    let t : Fin cfg0.N := ⟨4 * ((i 1).val / 256) + 3, by omega⟩
    have ht : t.val = 4 * ((i 1).val / 256) + 3 := rfl
    have hi := index8 t
    refine ⟨t, (flush0_8 t).mpr (by omega), ?_⟩
    show i ∈ ((View.whole main_v37_1).slice (win0_8.rect t)).set
    rw [View.set_slice_whole, Rect.mem_set_unit]
    intro a
    match a with
    | ⟨0, _⟩ => show win0_8.index t 0 * 2048 ≤ (i 0).val ∧ (i 0).val < win0_8.index t 0 * 2048 + 2048
                rw [hi.1]; omega
    | ⟨1, _⟩ => show win0_8.index t 1 * 256 ≤ (i 1).val ∧ (i 1).val < win0_8.index t 1 * 256 + 256
                rw [hi.2]; omega

include h0 h1 h2 h3 in
/-- What a point writes back of the values' gradient. -/
theorem flushed9_eq (t : Fin cfg0.N) (hf : (cfg0.win 9).flush t = true) :
    (dats m 0 c).flushed 9 t = ((cfg0.win 9).blk t).view.read (Elt Ideal) (resV X) := by
  have hi := index9 t
  rw [flushed9]
  funext y
  rw [View.read_apply]
  have h3' : t.val % 4 = 3 := (flush0_9 t).mp hf
  refine ((sums_at m c X h0 h1 h2 h3 t.val t.isLt).2 y).trans (congrArg _ ?_)
  have y1 : (y 1).val < 128 := (y 1).isLt
  unfold sumV
  rw [h3']
  refine (cv_sum X (t.val / 4) (y 0).val y1).trans (congrArg₂ X.gV ?_ ?_)
  · show _ = win0_9.index t 0 * 2048 + 1 * (y 0).val; rw [hi.1]; omega
  · show _ = win0_9.index t 1 * 128 + 1 * (y 1).val; rw [hi.2]; omega

include h0 h1 h2 h3 in
/-- The values' gradient at the end. -/
theorem final9 : (dats m 0 c).arrAt 9 cfg0.N = resV X :=
  (dats m 0 c).arrAt_eq_of_cover 9 (resV X) (flushed9_eq m c X h0 h1 h2 h3) fun i => by
    have i0 : (i 0).val < 2048 := (i 0).isLt
    have i1 : (i 1).val < 1024 := (i 1).isLt
    have hN : cfg0.N = 32 := N_0
    let t : Fin cfg0.N := ⟨4 * ((i 1).val / 128) + 3, by omega⟩
    have ht : t.val = 4 * ((i 1).val / 128) + 3 := rfl
    have hi := index9 t
    refine ⟨t, (flush0_9 t).mpr (by omega), ?_⟩
    show i ∈ ((View.whole main_v37_2).slice (win0_9.rect t)).set
    rw [View.set_slice_whole, Rect.mem_set_unit]
    intro a
    match a with
    | ⟨0, _⟩ => show win0_9.index t 0 * 2048 ≤ (i 0).val ∧ (i 0).val < win0_9.index t 0 * 2048 + 2048
                rw [hi.1]; omega
    | ⟨1, _⟩ => show win0_9.index t 1 * 128 ≤ (i 1).val ∧ (i 1).val < win0_9.index t 1 * 128 + 128
                rw [hi.2]; omega

end Run

end Cert.KernelIdeal.Body

end
-- ==== Proof.Finite.lean ====
/- The precondition read: every entry of the four arguments is a real number. -/
module

public import proofs.«01_k».proof.Pre_finite
public import proofs.«01_k».proof.Proof.Grad
public import Idealize.ShloMosaic.PureOps.Ideal
public import Idealize.ShloMosaic.Lib.ValueIdxCore
public import Idealize.ShloMosaic.Lib.Pipeline.Value

@[expose] public section

set_option maxRecDepth 16384

noncomputable section

namespace Cert.Finite

open Cert.Pre_finite Cert.Grad Idealize.ShloMosaic

/-- The shapes the precondition's operations name fit together. -/
theorem facts : Cert.Pre_finite.Facts where
  bcast_S_S2048x2048 := by decide
  bcast_S_S2048x1024 := by decide
  concatenates_S2048x2048_S2048x1024_S2048x3072_d1 := by decide

theorem top_bits : Ideal.ofBits .bf16 0x7F80#16 = ⊤ := by simp [Ideal.ofBits, Ideal.ieee]

/-- A number whose magnitude is below infinity is real. -/
theorem real_of_lt (x : EReal) (h : Ideal.cmp .olt (max x (-x)) ⊤ = 1#1) : x = ((x.toReal : ℝ) : EReal) := by
  have hlt : max x (-x) < ⊤ := by
    by_contra hn
    simp [Ideal.cmp, hn] at h
  rw [max_lt_iff] at hlt
  refine (EReal.coe_toReal hlt.1.ne fun hb => ?_).symm
  rw [hb] at hlt
  exact absurd hlt.2 (by simp)

theorem and_one {a b : BitVec 1} (h : IntOp.andi a b = 1#1) : a = 1#1 ∧ b = 1#1 := by
  revert a b; decide

section

variable [Cert.Pre_finite.Facts] (x0 x1 : FVec Ideal S2048x2048 .bf16) (x2 x3 : FVec Ideal S2048x1024 .bf16)
  (h : Cert.Pre_finite.fn (F := Ideal) x0 x1 x2 x3 = fun _ => 1#1)

include h in
/-- The first two arguments are real. -/
theorem real_left (i : S2048x2048.Idx) : x0 i = (((x0 i : EReal).toReal : ℝ) : EReal) ∧ x1 i = (((x1 i : EReal).toReal : ℝ) : EReal) := by
  have i1 : (i 1).val < 2048 := (i 1).isLt
  let j : S2048x3072.Idx := fun a => match a with
    | ⟨0, _⟩ => ⟨(i 0).val, (i 0).isLt⟩
    | ⟨1, _⟩ => ⟨(i 1).val, by show (i 1).val < 3072; omega⟩
  have e := congrFun h j
  unfold fn at e
  dsimp only at e
  rw [concatenate_pair_apply_left (s₁ := S2048x2048) (s₂ := S2048x1024) 1 _ _ _ j rfl i (fun b => by match b with | ⟨0, _⟩ => rfl | ⟨1, _⟩ => rfl)] at e
  have p := and_one e
  refine ⟨real_of_lt _ ?_, real_of_lt _ ?_⟩
  · rw [← top_bits]; exact p.1
  · rw [← top_bits]; exact p.2

include h in
/-- The last two arguments are real. -/
theorem real_right (i : S2048x1024.Idx) : x2 i = (((x2 i : EReal).toReal : ℝ) : EReal) ∧ x3 i = (((x3 i : EReal).toReal : ℝ) : EReal) := by
  have i1 : (i 1).val < 1024 := (i 1).isLt
  let j : S2048x3072.Idx := fun a => match a with
    | ⟨0, _⟩ => ⟨(i 0).val, (i 0).isLt⟩
    | ⟨1, _⟩ => ⟨(i 1).val + 2048, by show (i 1).val + 2048 < 3072; omega⟩
  have e := congrFun h j
  unfold fn at e
  dsimp only at e
  rw [concatenate_pair_apply_right (s₁ := S2048x2048) (s₂ := S2048x1024) 1 _ _ _ j rfl rfl i
    (fun b hb => by match b with | ⟨0, _⟩ => rfl | ⟨1, _⟩ => exact absurd rfl hb) rfl] at e
  have p := and_one e
  refine ⟨real_of_lt _ ?_, real_of_lt _ ?_⟩
  · rw [← top_bits]; exact p.1
  · rw [← top_bits]; exact p.2

end

/-- A matrix of extended reals as a real function of two naturals, zero outside the matrix. -/
def fn2 {d : Fin 2 → ℕ} (x : (⟨2, d⟩ : Shape).Idx → EReal) (a b : ℕ) : ℝ :=
  if h : a < d 0 ∧ b < d 1 then (x fun k => match k with | ⟨0, _⟩ => ⟨a, h.1⟩ | ⟨1, _⟩ => ⟨b, h.2⟩).toReal else 0

theorem fn2_at {d : Fin 2 → ℕ} (x : (⟨2, d⟩ : Shape).Idx → EReal) (i : (⟨2, d⟩ : Shape).Idx) :
    fn2 x (i 0).val (i 1).val = (x i).toReal := by
  unfold fn2
  rw [dif_pos ⟨(i 0).isLt, (i 1).isLt⟩]
  refine congrArg (fun j => (x j).toReal) (funext fun k => ?_)
  match k with
  | ⟨0, _⟩ => rfl
  | ⟨1, _⟩ => rfl

/-- The four arguments as real functions. -/
def reals (x0 x1 : FVec Ideal S2048x2048 .bf16) (x2 x3 : FVec Ideal S2048x1024 .bf16) : In where
  Q := fn2 (x0 : S2048x2048.Idx → EReal)
  K := fn2 (x1 : S2048x2048.Idx → EReal)
  V := fn2 (x2 : S2048x1024.Idx → EReal)
  O := fn2 (x3 : S2048x1024.Idx → EReal)

end Cert.Finite

end
-- ==== Proof.Equal.lean ====
/- The value claim: on real arguments the kernel and the reference end with the same three gradients. -/
module

public import proofs.«01_k».proof.Defs
public import proofs.«01_k».proof.Proof.Grid
public import proofs.«01_k».proof.Proof.RefValue
public import proofs.«01_k».proof.Proof.Finite
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Equal

open Idealize.ShloMosaic Idealize.ShloMosaic.TcCoe Idealize.SL.Sem
open Cert.Grad Cert.Finite Cert.KernelIdeal.Body

section Inputs

variable [Cert.Pre_finite.Facts] (m : (ℓ : Loc Cert.KernelIdeal.nD Cert.KernelIdeal.τ Cert.KernelIdeal.sig) → Buf (Elt Ideal) ℓ)

/-- The arguments a device starts with, as real functions. -/
def start (c : Dev Cert.KernelIdeal.nD) : In :=
  reals (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

variable (h : Cert.Pre_KernelIdeal_finite m) (c : Dev Cert.KernelIdeal.nD)

include h in
theorem start0 (i : Cert.KernelIdeal.S2048x2048.Idx) :
    (m ((c.tc : Thread Cert.KernelIdeal.nD Cert.KernelIdeal.τ).loc Cert.KernelIdeal.main_arg0) : Vec Ideal Cert.KernelIdeal.S2048x2048 .bf16) i
      = ((start m c).Q (i 0).val (i 1).val : EReal) :=
  (real_left _ _ _ _ (h c) i).1.trans (congrArg _ (fn2_at _ i).symm)

include h in
theorem start1 (i : Cert.KernelIdeal.S2048x2048.Idx) :
    (m ((c.tc : Thread Cert.KernelIdeal.nD Cert.KernelIdeal.τ).loc Cert.KernelIdeal.main_arg1) : Vec Ideal Cert.KernelIdeal.S2048x2048 .bf16) i
      = ((start m c).K (i 0).val (i 1).val : EReal) :=
  (real_left _ _ _ _ (h c) i).2.trans (congrArg _ (fn2_at _ i).symm)

include h in
theorem start2 (i : Cert.KernelIdeal.S2048x1024.Idx) :
    (m ((c.tc : Thread Cert.KernelIdeal.nD Cert.KernelIdeal.τ).loc Cert.KernelIdeal.main_arg2) : Vec Ideal Cert.KernelIdeal.S2048x1024 .bf16) i
      = ((start m c).V (i 0).val (i 1).val : EReal) :=
  (real_right _ _ _ _ (h c) i).1.trans (congrArg _ (fn2_at _ i).symm)

include h in
theorem start3 (i : Cert.KernelIdeal.S2048x1024.Idx) :
    (m ((c.tc : Thread Cert.KernelIdeal.nD Cert.KernelIdeal.τ).loc Cert.KernelIdeal.main_arg3) : Vec Ideal Cert.KernelIdeal.S2048x1024 .bf16) i
      = ((start m c).O (i 0).val (i 1).val : EReal) :=
  (real_right _ _ _ _ (h c) i).2.trans (congrArg _ (fn2_at _ i).symm)

end Inputs

section Reference

variable (m' : (ℓ : Loc Cert.ReferenceIdeal.nD Cert.ReferenceIdeal.τ Cert.ReferenceIdeal.sig) → Buf (Elt Ideal) ℓ)
  (c : Dev Cert.ReferenceIdeal.nD) (X : In)
  (h0 : ∀ i : Cert.ReferenceIdeal.S2048x2048.Idx, (m' ((c.tc : Thread Cert.ReferenceIdeal.nD Cert.ReferenceIdeal.τ).loc Cert.ReferenceIdeal.main_arg0) : Vec Ideal Cert.ReferenceIdeal.S2048x2048 .bf16) i = (X.Q (i 0).val (i 1).val : EReal))
  (h1 : ∀ i : Cert.ReferenceIdeal.S2048x2048.Idx, (m' ((c.tc : Thread Cert.ReferenceIdeal.nD Cert.ReferenceIdeal.τ).loc Cert.ReferenceIdeal.main_arg1) : Vec Ideal Cert.ReferenceIdeal.S2048x2048 .bf16) i = (X.K (i 0).val (i 1).val : EReal))
  (h2 : ∀ i : Cert.ReferenceIdeal.S2048x1024.Idx, (m' ((c.tc : Thread Cert.ReferenceIdeal.nD Cert.ReferenceIdeal.τ).loc Cert.ReferenceIdeal.main_arg2) : Vec Ideal Cert.ReferenceIdeal.S2048x1024 .bf16) i = (X.V (i 0).val (i 1).val : EReal))
  (h3 : ∀ i : Cert.ReferenceIdeal.S2048x1024.Idx, (m' ((c.tc : Thread Cert.ReferenceIdeal.nD Cert.ReferenceIdeal.τ).loc Cert.ReferenceIdeal.main_arg3) : Vec Ideal Cert.ReferenceIdeal.S2048x1024 .bf16) i = (X.O (i 0).val (i 1).val : EReal))

include h0 h1 h2 h3 in
/-- The reference's first result is the queries' gradient. -/
theorem refQ : Cert.ReferenceIdeal.Value.res_main_v73 m' c = resQ X := by
  rw [Cert.ReferenceIdeal.Read.val_main_v73_eq]
  funext i
  exact Cert.ReferenceIdeal.RefValue.dq_at X h0 h1 h2 h3 i

include h0 h1 h2 h3 in
/-- The reference's second result is the keys' gradient. -/
theorem refK : Cert.ReferenceIdeal.Value.res_main_v71 m' c = resK X := by
  rw [Cert.ReferenceIdeal.Read.val_main_v71_eq]
  funext i
  exact Cert.ReferenceIdeal.RefValue.dk_at X h0 h1 h2 h3 i

include h0 h1 h3 in
/-- The reference's third result is the values' gradient. -/
theorem refV : Cert.ReferenceIdeal.Value.res_main_v53 m' c = resV X := by
  rw [Cert.ReferenceIdeal.Read.val_main_v53_eq]
  funext i
  exact Cert.ReferenceIdeal.RefValue.dv_at X h0 h1 h3 i

end Reference

/-- On real arguments both programs run and end with the same three gradients. -/
theorem algebraic [Cert.Pre_finite.Facts] : Cert.algebraic_KernelIdeal_ReferenceIdeal_pre_finite
    (hKernelIdeal := Cert.KernelIdeal.Gen.facts) (hReferenceIdeal := Cert.ReferenceIdeal.Gen.facts) := by
  intro m g m' g' h e
  have s0 := start0 m h
  have s1 := start1 m h
  have s2 := start2 m h
  have s3 := start3 m h
  have r0 := fun (c : Dev Cert.ReferenceIdeal.nD) (i : Cert.ReferenceIdeal.S2048x2048.Idx) => (congrFun (e c).1 i).trans (s0 c i)
  have r1 := fun (c : Dev Cert.ReferenceIdeal.nD) (i : Cert.ReferenceIdeal.S2048x2048.Idx) => (congrFun (e c).2.1 i).trans (s1 c i)
  have r2 := fun (c : Dev Cert.ReferenceIdeal.nD) (i : Cert.ReferenceIdeal.S2048x1024.Idx) => (congrFun (e c).2.2.1 i).trans (s2 c i)
  have r3 := fun (c : Dev Cert.ReferenceIdeal.nD) (i : Cert.ReferenceIdeal.S2048x1024.Idx) => (congrFun (e c).2.2.2 i).trans (s3 c i)
  refine ⟨fun c => resQ (start m c), fun c => resK (start m c), fun c => resV (start m c), ?_, ?_⟩
  · refine (θ_run _ _ _).mono (fun r p c => ?_) (Cert.KernelIdeal.Value.run_blocks m g)
    exact ⟨(p c).1.trans (final7 m c (start m c) (s0 c) (s1 c) (s2 c) (s3 c)),
      (p c).2.1.trans (final8 m c (start m c) (s0 c) (s1 c) (s2 c) (s3 c)),
      (p c).2.2.1.trans (final9 m c (start m c) (s0 c) (s1 c) (s2 c) (s3 c)), (p c).2.2.2⟩
  · refine (θ_run _ _ _).mono (fun r p c => ?_) (Cert.ReferenceIdeal.Value.run m' g')
    exact ⟨(p c).1.trans (refQ m' c (start m c) (r0 c) (r1 c) (r2 c) (r3 c)),
      (p c).2.1.trans (refK m' c (start m c) (r0 c) (r1 c) (r2 c) (r3 c)),
      (p c).2.2.1.trans (refV m' c (start m c) (r0 c) (r1 c) (r3 c)), (p c).2.2.2⟩

end Cert.Equal

end
-- ==== Proof.Product.lean ====
/- Matrix products over the extended reals, entry by entry, and a long sum as the sum of its blocks. -/
module

public import Idealize.ShloMosaic.Lib.IdealHost
public import Idealize.ShloMosaic.Lib.ValueIdxCore
public import Idealize.ShloMosaic.Lib.Pipeline.Value
public import Idealize.ShloMosaic.Lib.Pointwise.ElementwiseCore

@[expose] public section

set_option maxRecDepth 16384

noncomputable section

namespace Cert.Product

open Idealize.ShloMosaic Idealize.ShloMosaic.ValueIdx
open scoped BigOperators

/-- A matrix as a function of two numbers, zero outside the matrix. -/
def ent {d : Fin 2 → ℕ} (x : (⟨2, d⟩ : Shape).Idx → EReal) (a b : ℕ) : EReal :=
  if h : a < d 0 ∧ b < d 1 then x fun k => match k with | ⟨0, _⟩ => ⟨a, h.1⟩ | ⟨1, _⟩ => ⟨b, h.2⟩ else 0

theorem ent_at {d : Fin 2 → ℕ} (x : (⟨2, d⟩ : Shape).Idx → EReal) (i : (⟨2, d⟩ : Shape).Idx) :
    x i = ent x (i 0).val (i 1).val := by
  unfold ent
  rw [dif_pos ⟨(i 0).isLt, (i 1).isLt⟩]
  refine congrArg x (funext fun k => ?_)
  match k with
  | ⟨0, _⟩ => rfl
  | ⟨1, _⟩ => rfl

/-- The same, with the two numbers given. -/
theorem ent_of {d : Fin 2 → ℕ} (x : (⟨2, d⟩ : Shape).Idx → EReal) (i : (⟨2, d⟩ : Shape).Idx) {a b : ℕ} (h0 : (i 0).val = a)
    (h1 : (i 1).val = b) : x i = ent x a b := by
  subst h0; subst h1; exact ent_at x i

/-- A product of matrices with one contracted axis: the sum of products of entries. -/
theorem mm {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (f g : Fin n → EReal) (j : so.Idx)
    (hl : ∀ e, l (D.lhsIdx j ((contrEquiv1 D n hr hs).symm e)) = f e)
    (hr' : ∀ e, r (D.rhsIdx j ((contrEquiv1 D n hr hs).symm e)) = g e) :
    matmul D none l r (constant so .f32 0x00000000#32) j = ∑ e, f e * g e := by
  rw [matmul, Ideal.matmul_constant_zero_apply, ← Equiv.sum_comp (contrEquiv1 D n hr hs).symm]
  refine Finset.sum_congr rfl fun e _ => ?_
  rw [hl, hr']

/-- The sums of `n` blocks of `T` terms make the sum of all `N` terms. -/
theorem blocks (f : ℕ → EReal) (T n N : ℕ) (h : n * T = N) :
    ∑ b ∈ Finset.range n, ∑ r : Fin T, f (T * b + r.val) = ∑ e : Fin N, f e.val := by
  subst h
  rw [Fin.sum_univ_eq_sum_range f]
  induction n with
  | zero => simp
  | succ n ih =>
    rw [Finset.sum_range_succ, ih, Nat.succ_mul, Finset.sum_range_add, Fin.sum_univ_eq_sum_range fun r => f (T * n + r), Nat.mul_comm n T]

section Stores

variable {sig : RefSig}

/-- One whole-block store is all a later read sees. -/
theorem single {κ : Kind} {sp : Space} {S : Shape} {e : EltTy} (v : View sig κ sp S e) {off : Fin S.rank → ℕ} (h : off = fun _ => 0)
    (inb : ∀ a, off a + S.size a ≤ S.size a) (w : S.Idx → Elt Ideal e) :
    v.read (Elt Ideal) (v.writes (Elt Ideal) v.junk [(⟨Rect.unit off S.size inb, w⟩ : View.Piece (Elt Ideal) S e)]) = w := by
  have r := View.readCov_unit_zero (Val := Elt Ideal) v h inb w
  unfold View.readCov at r
  rw [View.readAt_eq_ld, View.ld_unit_zero h] at r
  exact r

/-- A whole-block store, last, is all a later read sees. -/
theorem newest {κ : Kind} {sp : Space} {S : Shape} {e : EltTy} (v : View sig κ sp S e) {off : Fin S.rank → ℕ} (h : off = fun _ => 0)
    (inb : ∀ a, off a + S.size a ≤ S.size a) (w : S.Idx → Elt Ideal e) (f : BufTy.Contents (Elt Ideal) v.ty) (L : List (View.Piece (Elt Ideal) S e)) :
    v.read (Elt Ideal) (v.writes (Elt Ideal) f ((⟨Rect.unit off S.size inb, w⟩ : View.Piece (Elt Ideal) S e) :: L)) = w := by
  rw [View.read_writes_eq_canon _ _ _ fun y => ⟨_, List.mem_cons_self, View.mem_set_unit_zero h inb y⟩, View.canon_cons_unit_zero h]

theorem corner : (![0, 0] : Fin 2 → ℕ) = fun _ => 0 := by decide

end Stores

end Cert.Product

end
-- ==== Proof.InDx.lean ====
/- The products of the backward pass of the input projection, towards its input: what the kernel leaves, entry by entry, and that the reference leaves the same. -/
module

public import proofs.«01_k».proof.Defs
public import proofs.«01_k».proof.Proof.Product
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read

@[expose] public section

set_option maxRecDepth 16384

noncomputable section

namespace Cert.InDxIdeal.Body

open Cert.InDxIdeal Cert.InDxIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f (y 0).val e.val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg6 : Memref sig .tc .vmem S1024x1024 .f32) (harg6 : arg6.IsWhole) (arg7 : Memref sig .tc .vmem S1024x1024 .f32) (harg7 : arg7.IsWhole)
  (x0 : Vec Ideal S1024x1024 .bf16) (x1 : Vec Ideal S1024x1024 .bf16) (xs0 : Vec Ideal S1024x1024 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x1024.Idx) :
    sout0_A_0 c i arg3 harg3 arg4 harg4 arg6 harg6 arg7 harg7 hc0 hc1 x0 x1 y = ∑ e : Fin 1024, f (y 0).val e.val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg7.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a middle point. -/
theorem accB (hc0 : ¬cond0_0 i) (hc1 : ¬cond0_1 i) (y : S1024x1024.Idx) :
    sout0_B_0 c i arg3 harg3 arg4 harg4 arg6 harg6 arg7 harg7 hc0 hc1 x0 x1 xs0 y = xs0 y + ∑ e : Fin 1024, f (y 0).val e.val * g e.val (y 1).val := by
  unfold sout0_B_0 kernelRun0_B
  dsimp only
  rw [single _ corner, pay2_at _ _ _ (f := f) (g := g)]
  · rw [View.readAt_eq_ld, View.ld_unit_zero corner, harg7.read_unread]
  · rw [View.readAt_eq_ld, View.ld_unit_zero corner, harg3.read_unread]; exact h0
  · rw [View.readAt_eq_ld, View.ld_unit_zero corner, harg4.read_unread]; exact h1

include h0 h1 in
/-- The accumulator after a last point. -/
theorem accC (hc0 : ¬cond0_0 i) (hc1 : cond0_1 i) (y : S1024x1024.Idx) :
    sout0_C_0 c i arg3 harg3 arg4 harg4 arg6 harg6 arg7 harg7 hc0 hc1 x0 x1 xs0 y = xs0 y + ∑ e : Fin 1024, f (y 0).val e.val * g e.val (y 1).val := by
  unfold sout0_C_0 kernelRun0_C
  dsimp only
  unfold kernelRun0_C.sl.HS0_1
  rw [single _ corner, pay2_at _ _ _ (f := f) (g := g)]
  · rw [View.readAt_eq_ld, View.ld_unit_zero corner, harg7.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x1024.Idx) :
    out0_C_2 c i arg3 harg3 arg4 harg4 arg6 harg6 arg7 harg7 hc0 hc1 x0 x1 xs0 y = xs0 y + ∑ e : Fin 1024, f (y 0).val e.val * g e.val (y 1).val := by
  unfold out0_C_2 kernelRun0_C
  dsimp only
  rw [single _ corner]
  unfold kernelRun0_C.sl.v14 kernelRun0_C.sl.HS0_1
  rw [View.readCov_unit_zero arg7.view corner, pay2_at _ _ _ (f := f) (g := g)]
  · rw [View.readAt_eq_ld, View.ld_unit_zero corner, harg7.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x11264.Idx → EReal) a b
/-- The right factor, entry by entry. -/
def entR (a b : ℕ) : EReal := ent (m ((c : Thread nD τ).loc main_arg1) : S11264x1024.Idx → EReal) a b

theorem index0 : ∀ t : Fin cfg0.N, win0_0.index t 0 = t.val / 11 / 1 ∧ win0_0.index t 1 = t.val % 11 :=
  (by decide +kernel : ∀ t : Fin grid0.N, win0_0.index t 0 = t.val / 11 / 1 ∧ win0_0.index t 1 = t.val % 11)
theorem index1 : ∀ t : Fin cfg0.N, win0_1.index t 0 = t.val % 11 ∧ win0_1.index t 1 = t.val / 11 % 1 :=
  (by decide +kernel : ∀ t : Fin grid0.N, win0_1.index t 0 = t.val % 11 ∧ win0_1.index t 1 = t.val / 11 % 1)
theorem index2 : ∀ t : Fin cfg0.N, win0_2.index t 0 = t.val / 11 / 1 ∧ win0_2.index t 1 = t.val / 11 % 1 :=
  (by decide +kernel : ∀ t : Fin grid0.N, win0_2.index t 0 = t.val / 11 / 1 ∧ win0_2.index t 1 = t.val / 11 % 1)

/-- The left factor's block at a point. -/
theorem iblk0_at (t : Fin cfg0.N) (y : S1024x1024.Idx) : (iblk m c 0 t : Vec Ideal S1024x1024 .bf16) y = entL m c (1024 * (t.val / 11 / 1) + (y 0).val) (1024 * (t.val % 11) + (y 1).val) := by
  have hi := index0 t
  unfold iblk
  rw [View.read_apply]
  show V m c main_arg0 _ = _
  rw [V_main_arg0]
  refine ent_of (m ((c : Thread nD τ).loc main_arg0) : S2048x11264.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val % 11) + (y 0).val) (1024 * (t.val / 11 % 1) + (y 1).val) := by
  have hi := index1 t
  unfold iblk
  rw [View.read_apply]
  show V m c main_arg1 _ = _
  rw [V_main_arg1]
  refine ent_of (m ((c : Thread nD τ).loc main_arg1) : S11264x1024.Idx → EReal) _ ?_ ?_
  · show win0_1.index t 0 * 1024 + 1 * (y 0).val = _; rw [hi.1]; omega
  · show win0_1.index t 1 * 1024 + 1 * (y 1).val = _; rw [hi.2]; omega

/-- The part of an entry of output block `q` that its `k`-th point adds. -/
def part (q k a b : ℕ) : EReal := ∑ e : Fin 1024, entL m c (1024 * (q / 1) + a) (1024 * k + e.val) * entR m c (1024 * k + e.val) (1024 * (q % 1) + b)

/-- The accumulator after a first point. -/
theorem firstAcc (t : Fin cfg0.N) (h : t.val % 11 = 0) (y : S1024x1024.Idx) :
    (outsAt0 m c t.val t.isLt).2 y = part m c (t.val / 11) (t.val % 11) (y 0).val (y 1).val := by
  rw [outsAt0_A m c t h (by omega)]
  dsimp only
  exact accA (y := y) (f := fun a b => entL m c (1024 * (t.val / 11 / 1) + a) (1024 * (t.val % 11) + b)) (g := fun a b => entR m c (1024 * (t.val % 11) + a) (1024 * (t.val / 11 % 1) + b)) (h0 := iblk0_at m c t) (h1 := iblk1_at m c t) ..

/-- The accumulator after any other point. -/
theorem nextAcc (t : Fin cfg0.N) (h : ¬t.val % 11 = 0) (y : S1024x1024.Idx) :
    (outsAt0 m c t.val t.isLt).2 y = (outsAt0 m c (t.val - 1) (Nat.lt_of_le_of_lt (Nat.sub_le _ _) t.isLt)).2 y
      + part m c (t.val / 11) (t.val % 11) (y 0).val (y 1).val := by
  by_cases h' : t.val % 11 = 10
  · rw [outsAt0_C m c t h h']; dsimp only; exact accC (y := y) (f := fun a b => entL m c (1024 * (t.val / 11 / 1) + a) (1024 * (t.val % 11) + b)) (g := fun a b => entR m c (1024 * (t.val % 11) + a) (1024 * (t.val / 11 % 1) + b)) (h0 := iblk0_at m c t) (h1 := iblk1_at m c t) ..
  · rw [outsAt0_B m c t h h']; dsimp only; exact accB (y := y) (f := fun a b => entL m c (1024 * (t.val / 11 / 1) + a) (1024 * (t.val % 11) + b)) (g := fun a b => entR m c (1024 * (t.val % 11) + a) (1024 * (t.val / 11 % 1) + b)) (h0 := iblk0_at m c t) (h1 := iblk1_at m c t) ..

/-- The output's block after a last point. -/
theorem lastOut (t : Fin cfg0.N) (h : t.val % 11 = 10) (y : S1024x1024.Idx) :
    (outsAt0 m c t.val t.isLt).1 y = (outsAt0 m c (t.val - 1) (Nat.lt_of_le_of_lt (Nat.sub_le _ _) t.isLt)).2 y
      + part m c (t.val / 11) (t.val % 11) (y 0).val (y 1).val := by
  rw [outsAt0_C m c t (by omega) h]
  dsimp only
  exact outLast (y := y) (f := fun a b => entL m c (1024 * (t.val / 11 / 1) + a) (1024 * (t.val % 11) + b)) (g := fun a b => entR m c (1024 * (t.val % 11) + a) (1024 * (t.val / 11 % 1) + b)) (h0 := iblk0_at m c t) (h1 := iblk1_at m c t) ..

/-- The accumulator after point `n`: the parts its block has had so far. -/
theorem sums_at : ∀ (n : ℕ) (hn : n < cfg0.N) (y : S1024x1024.Idx),
    (outsAt0 m c n hn).2 y = ∑ k ∈ Finset.range (n % 11 + 1), part m c (n / 11) k (y 0).val (y 1).val := by
  intro n
  induction n with
  | zero =>
    intro hn y
    refine (firstAcc m c ⟨0, hn⟩ rfl y).trans ?_
    show part m c (0 / 11) (0 % 11) _ _ = _
    rw [Nat.zero_mod, zero_add, Finset.sum_range_one]
  | succ n ih =>
    intro hn y
    by_cases h : (n + 1) % 11 = 0
    · refine (firstAcc m c ⟨n + 1, hn⟩ h y).trans ?_
      show part m c ((n + 1) / 11) ((n + 1) % 11) _ _ = _
      rw [h, zero_add, Finset.sum_range_one]
    · refine (nextAcc m c ⟨n + 1, hn⟩ h y).trans ?_
      show (outsAt0 m c n _).2 y + part m c ((n + 1) / 11) ((n + 1) % 11) _ _ = _
      have e1 : n / 11 = (n + 1) / 11 := by omega
      have e2 : n % 11 + 1 = (n + 1) % 11 := by omega
      rw [ih, e1, e2, Finset.sum_range_succ]

/-- The output's block after a last point, in full. -/
theorem block_at (t : Fin cfg0.N) (h : t.val % 11 = 10) (y : S1024x1024.Idx) :
    (outsAt0 m c t.val t.isLt).1 y = ∑ e : Fin 11264, entL m c (1024 * (t.val / 11 / 1) + (y 0).val) (e.val) * entR m c (e.val) (1024 * (t.val / 11 % 1) + (y 1).val) := by
  refine (lastOut m c t h y).trans ?_
  have e1 : (t.val - 1) / 11 = t.val / 11 := by omega
  have e2 : (t.val - 1) % 11 + 1 = 10 := by omega
  rw [sums_at, e1, e2, h, ← Finset.sum_range_succ]
  exact blocks (fun e => entL m c (1024 * (t.val / 11 / 1) + (y 0).val) (e) * entR m c (e) (1024 * (t.val / 11 % 1) + (y 1).val)) 1024 11 11264 rfl

/-- The product as an array. -/
def res : Vec Ideal S2048x1024 .f32 := fun i => ∑ e : Fin 11264, entL m c ((i 0).val) (e.val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.InDxIdeal.Value.flushed2]
  funext y
  rw [View.read_apply]
  refine (block_at m c t ((flush0_2 t).mp hf) y).trans ?_
  have e0 : 1024 * (t.val / 11 / 1) + (y 0).val = win0_2.index t 0 * 1024 + 1 * (y 0).val := by rw [hi.1]; omega
  have e1 : 1024 * (t.val / 11 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1024 := (i 1).isLt
    have hN : cfg0.N = 22 := N_0
    let t : Fin cfg0.N := ⟨11 * (1 * ((i 0).val / 1024) + (i 1).val / 1024) + 10, by omega⟩
    have ht : t.val = 11 * (1 * ((i 0).val / 1024) + (i 1).val / 1024) + 10 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.InDxRefIdeal.S2048x11264, .bf16⟩ : BufTy).Contents (Elt Ideal)) (x1 : (⟨Cert.InDxRefIdeal.S11264x1024, .bf16⟩ : BufTy).Contents (Elt Ideal))
    (i : Cert.InDxRefIdeal.S2048x1024.Idx) :
    Cert.InDxRefIdeal.Read.val_main_v5 (F := Ideal) x0 x1 i
      = ∑ e : Fin 11264, ent (x0 : S2048x11264.Idx → EReal) ((i 0).val) (e.val) * ent (x1 : S11264x1024.Idx → EReal) (e.val) ((i 1).val) := by
  refine (Cert.InDxRefIdeal.Read.val_main_v5_apply _ _ i).trans (Finset.sum_congr rfl fun k _ => congrArg₂ (· * ·) ?_ ?_)
  · exact ent_of x0 _ rfl rfl
  · exact (Cert.InDxRefIdeal.Read.val_main_v2_apply _ _).trans (ent_of x1 _ rfl rfl)

open Cert.InDxRefIdeal.Read in
/-- From the same arguments the kernel and the reference end with the same product. -/
theorem algebraic : Cert.algebraic_InDxIdeal_InDxRefIdeal (hInDxIdeal := Cert.InDxIdeal.Gen.facts) (hInDxRefIdeal := Cert.InDxRefIdeal.Gen.facts) := by
  intro m g m' g' _ e
  refine ⟨fun c => res m c, ?_, ?_⟩
  · exact (θ_run _ _ _).mono (fun r p c => ⟨(p c).1.trans (final m c), (p c).2⟩) (Cert.InDxIdeal.Value.run_blocks m g)
  · refine (θ_run _ _ _).mono (fun r p c => ⟨(p c).1.trans ?_, (p c).2⟩) (Cert.InDxRefIdeal.Value.run m' g')
    refine (val_main_v5_eq _ _).trans (funext fun i => ?_)
    refine (refProduct _ _ i).trans ?_
    rw [(e c).1, (e c).2.1]
    rfl

/-- The reference runs, keeps its arguments, and ends with every semaphore at zero: it has none. -/
theorem frameReference [h : Cert.InDxRefIdeal.Facts] : Cert.quiescent_InDxRefIdeal :=
  fun m g _ => (θ_run _ _ _).mono (fun r h => ⟨fun c => (h c).2, sem_eq_zero_of_no_sems (by decide) r.2⟩)
    (Cert.InDxRefIdeal.Value.run m g)

end Cert.InDxIdeal.Body

end
-- ==== Proof.InDw.lean ====
/- The products of the backward pass of the input projection, towards its weights: what the kernel leaves, entry by entry, and that the reference leaves the same. -/
module

public import proofs.«01_k».proof.Defs
public import proofs.«01_k».proof.Proof.Product
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read

@[expose] public section

set_option maxRecDepth 16384

noncomputable section

namespace Cert.InDwIdeal.Body

open Cert.InDwIdeal Cert.InDwIdeal.Gen Cert.Product Idealize.ShloMosaic Idealize.ShloMosaic.TcCoe Idealize.SL.Sem
open scoped BigOperators

/-- The accumulator's first contents. -/
theorem pay1_at (y : S1408x1024.Idx) : k0_pay1 (F := Ideal) y = (0 : EReal) := by
  unfold k0_pay1
  rw [shapeCast_self]
  exact Ideal.ofBits_zero_f32

/-- One accumulation. -/
theorem pay2_at (v3 : FVec Ideal S1408x1024 .f32) (v4 : FVec Ideal S1024x1408 .bf16) (v5 : FVec Ideal S1024x1024 .bf16) {f g : ℕ → ℕ → EReal}
    (h4 : ∀ i, v4 i = f (i 0).val (i 1).val) (h5 : ∀ i, v5 i = g (i 0).val (i 1).val) (y : S1408x1024.Idx) :
    k0_pay2 (F := Ideal) v3 v4 v5 y = v3 y + ∑ e : Fin 1024, f e.val (y 0).val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1408 .bf16) (harg3 : arg3.IsWhole) (arg4 : Memref sig .tc .vmem S1024x1024 .bf16)
  (harg4 : arg4.IsWhole) (arg6 : Memref sig .tc .vmem S1408x1024 .bf16) (harg6 : arg6.IsWhole) (arg7 : Memref sig .tc .vmem S1408x1024 .f32) (harg7 : arg7.IsWhole)
  (x0 : Vec Ideal S1024x1408 .bf16) (x1 : Vec Ideal S1024x1024 .bf16) (xs0 : Vec Ideal S1408x1024 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1408x1024.Idx) :
    sout0_A_0 c i arg3 harg3 arg4 harg4 arg6 harg6 arg7 harg7 hc0 hc1 x0 x1 y = ∑ e : Fin 1024, f e.val (y 0).val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg7.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1408x1024.Idx) :
    sout0_B_0 c i arg3 harg3 arg4 harg4 arg6 harg6 arg7 harg7 hc0 hc1 x0 x1 xs0 y = xs0 y + ∑ e : Fin 1024, f e.val (y 0).val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg7.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1408x1024.Idx) :
    out0_B_2 c i arg3 harg3 arg4 harg4 arg6 harg6 arg7 harg7 hc0 hc1 x0 x1 xs0 y = xs0 y + ∑ e : Fin 1024, f e.val (y 0).val * g e.val (y 1).val := by
  unfold out0_B_2 kernelRun0_B
  dsimp only
  rw [single _ corner]
  change kernelRun0_B.sl.v14 c arg3 harg3 arg4 harg4 arg7 harg7 x0 x1 xs0 y = _
  unfold kernelRun0_B.sl.v14 kernelRun0_B.sl.HS0_1
  rw [View.readCov_unit_zero arg7.view corner, pay2_at _ _ _ (f := f) (g := g)]
  · rw [View.readAt_eq_ld, View.ld_unit_zero corner, harg7.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x11264.Idx → EReal) a b
/-- The right factor, entry by entry. -/
def entR (a b : ℕ) : EReal := ent (m ((c : Thread nD τ).loc main_arg1) : S2048x1024.Idx → EReal) a b

theorem index0 : ∀ t : Fin cfg0.N, win0_0.index t 0 = t.val % 2 ∧ win0_0.index t 1 = t.val / 2 / 1 :=
  (by decide +kernel : ∀ t : Fin grid0.N, win0_0.index t 0 = t.val % 2 ∧ win0_0.index t 1 = t.val / 2 / 1)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1408.Idx) : (iblk m c 0 t : Vec Ideal S1024x1408 .bf16) y = entL m c (1024 * (t.val % 2) + (y 0).val) (1408 * (t.val / 2 / 1) + (y 1).val) := by
  have hi := index0 t
  unfold iblk
  rw [View.read_apply]
  show V m c main_arg0 _ = _
  rw [V_main_arg0]
  refine ent_of (m ((c : Thread nD τ).loc main_arg0) : S2048x11264.Idx → EReal) _ ?_ ?_
  · show win0_0.index t 0 * 1024 + 1 * (y 0).val = _; rw [hi.1]; omega
  · show win0_0.index t 1 * 1408 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val % 2) + (y 0).val) (1024 * (t.val / 2 % 1) + (y 1).val) := by
  have hi := index1 t
  unfold iblk
  rw [View.read_apply]
  show V m c main_arg1 _ = _
  rw [V_main_arg1]
  refine ent_of (m ((c : Thread nD τ).loc main_arg1) : S2048x1024.Idx → EReal) _ ?_ ?_
  · show win0_1.index t 0 * 1024 + 1 * (y 0).val = _; rw [hi.1]; omega
  · show win0_1.index t 1 * 1024 + 1 * (y 1).val = _; rw [hi.2]; omega

/-- The part of an entry of output block `q` that its `k`-th point adds. -/
def part (q k a b : ℕ) : EReal := ∑ e : Fin 1024, entL m c (1024 * k + e.val) (1408 * (q / 1) + a) * entR m c (1024 * k + e.val) (1024 * (q % 1) + b)

/-- The accumulator after a first point. -/
theorem firstAcc (t : Fin cfg0.N) (h : t.val % 2 = 0) (y : S1408x1024.Idx) :
    (outsAt0 m c t.val t.isLt).2 y = part m c (t.val / 2) (t.val % 2) (y 0).val (y 1).val := by
  rw [outsAt0_A m c t h (by omega)]
  dsimp only
  exact accA (y := y) (f := fun a b => entL m c (1024 * (t.val % 2) + a) (1408 * (t.val / 2 / 1) + b)) (g := fun a b => entR m c (1024 * (t.val % 2) + a) (1024 * (t.val / 2 % 1) + b)) (h0 := iblk0_at m c t) (h1 := iblk1_at m c t) ..

/-- The accumulator after any other point. -/
theorem nextAcc (t : Fin cfg0.N) (h : ¬t.val % 2 = 0) (y : S1408x1024.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val % 2) + a) (1408 * (t.val / 2 / 1) + b)) (g := fun a b => entR m c (1024 * (t.val % 2) + a) (1024 * (t.val / 2 % 1) + b)) (h0 := iblk0_at m c t) (h1 := iblk1_at m c t) ..

/-- The output's block after a last point. -/
theorem lastOut (t : Fin cfg0.N) (h : t.val % 2 = 1) (y : S1408x1024.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val % 2) + a) (1408 * (t.val / 2 / 1) + b)) (g := fun a b => entR m c (1024 * (t.val % 2) + a) (1024 * (t.val / 2 % 1) + b)) (h0 := iblk0_at m c t) (h1 := iblk1_at m c t) ..

/-- The accumulator after point `n`: the parts its block has had so far. -/
theorem sums_at : ∀ (n : ℕ) (hn : n < cfg0.N) (y : S1408x1024.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1408x1024.Idx) :
    (outsAt0 m c t.val t.isLt).1 y = ∑ e : Fin 2048, entL m c (e.val) (1408 * (t.val / 2 / 1) + (y 0).val) * entR m c (e.val) (1024 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (e) (1408 * (t.val / 2 / 1) + (y 0).val) * entR m c (e) (1024 * (t.val / 2 % 1) + (y 1).val)) 1024 2 2048 rfl

/-- The product as an array. -/
def res : Vec Ideal S11264x1024 .bf16 := fun i => ∑ e : Fin 2048, entL m c (e.val) ((i 0).val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.InDwIdeal.Value.flushed2]
  funext y
  rw [View.read_apply]
  refine (block_at m c t ((flush0_2 t).mp hf) y).trans ?_
  have e0 : 1408 * (t.val / 2 / 1) + (y 0).val = win0_2.index t 0 * 1408 + 1 * (y 0).val := by rw [hi.1]; omega
  have e1 : 1024 * (t.val / 2 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 11264 := (i 0).isLt
    have i1 : (i 1).val < 1024 := (i 1).isLt
    have hN : cfg0.N = 16 := N_0
    let t : Fin cfg0.N := ⟨2 * (1 * ((i 0).val / 1408) + (i 1).val / 1024) + 1, by omega⟩
    have ht : t.val = 2 * (1 * ((i 0).val / 1408) + (i 1).val / 1024) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1408 ≤ (i 0).val ∧ (i 0).val < win0_2.index t 0 * 1408 + 1408
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.InDwRefIdeal.S2048x11264, .bf16⟩ : BufTy).Contents (Elt Ideal)) (x1 : (⟨Cert.InDwRefIdeal.S2048x1024, .bf16⟩ : BufTy).Contents (Elt Ideal))
    (i : Cert.InDwRefIdeal.S11264x1024.Idx) :
    Cert.InDwRefIdeal.Read.val_main_v8 (F := Ideal) x0 x1 i
      = ∑ e : Fin 2048, ent (x0 : S2048x11264.Idx → EReal) (e.val) ((i 0).val) * ent (x1 : S2048x1024.Idx → EReal) (e.val) ((i 1).val) := by
  show Cert.InDwRefIdeal.Read.val_main_v7 (F := Ideal) x0 x1 i = _
  refine ((Cert.InDwRefIdeal.Read.val_main_v7_apply _ _ _).trans ((Cert.InDwRefIdeal.Read.val_main_v6_apply _ _ _).trans (Cert.InDwRefIdeal.Read.val_main_v5_apply _ _ _))).trans
    (Finset.sum_congr rfl fun k _ => congrArg₂ (· * ·) ?_ ?_)
  · exact ent_of x0 _ rfl rfl
  · exact ent_of x1 _ rfl rfl

open Cert.InDwRefIdeal.Read in
/-- From the same arguments the kernel and the reference end with the same product. -/
theorem algebraic : Cert.algebraic_InDwIdeal_InDwRefIdeal (hInDwIdeal := Cert.InDwIdeal.Gen.facts) (hInDwRefIdeal := Cert.InDwRefIdeal.Gen.facts) := by
  intro m g m' g' _ e
  refine ⟨fun c => res m c, ?_, ?_⟩
  · exact (θ_run _ _ _).mono (fun r p c => ⟨(p c).1.trans (final m c), (p c).2⟩) (Cert.InDwIdeal.Value.run_blocks m g)
  · refine (θ_run _ _ _).mono (fun r p c => ⟨(p c).1.trans ?_, (p c).2⟩) (Cert.InDwRefIdeal.Value.run m' g')
    refine (val_main_v8_eq _ _).trans (funext fun i => ?_)
    refine (refProduct _ _ i).trans ?_
    rw [(e c).1, (e c).2.1]
    rfl

/-- The reference runs, keeps its arguments, and ends with every semaphore at zero: it has none. -/
theorem frameReference [h : Cert.InDwRefIdeal.Facts] : Cert.quiescent_InDwRefIdeal :=
  fun m g _ => (θ_run _ _ _).mono (fun r h => ⟨fun c => (h c).2, sem_eq_zero_of_no_sems (by decide) r.2⟩)
    (Cert.InDwRefIdeal.Value.run m g)

end Cert.InDwIdeal.Body

end
-- ==== Proof.OutDx.lean ====
/- The products of the backward pass of the output projection, towards its input: what the kernel leaves, entry by entry, and that the reference leaves the same. -/
module

public import proofs.«01_k».proof.Defs
public import proofs.«01_k».proof.Proof.Product
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read

@[expose] public section

set_option maxRecDepth 16384

noncomputable section

namespace Cert.OutDxIdeal.Body

open Cert.OutDxIdeal Cert.OutDxIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f (y 0).val e.val * g (y 1).val e.val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 1024, f (y 0).val e.val * g (y 1).val e.val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S1024x1024.Idx → EReal) a b

theorem index0 : ∀ t : Fin cfg0.N, win0_0.index t 0 = t.val / 1 / 1 ∧ win0_0.index t 1 = 0 :=
  (by decide +kernel : ∀ t : Fin grid0.N, win0_0.index t 0 = t.val / 1 / 1 ∧ win0_0.index t 1 = 0)
theorem index1 : ∀ t : Fin cfg0.N, win0_1.index t 0 = t.val / 1 % 1 ∧ win0_1.index t 1 = 0 :=
  (by decide +kernel : ∀ t : Fin grid0.N, win0_1.index t 0 = t.val / 1 % 1 ∧ win0_1.index t 1 = 0)
theorem index2 : ∀ t : Fin cfg0.N, win0_2.index t 0 = t.val / 1 / 1 ∧ win0_2.index t 1 = t.val / 1 % 1 :=
  (by decide +kernel : ∀ t : Fin grid0.N, win0_2.index t 0 = t.val / 1 / 1 ∧ win0_2.index t 1 = t.val / 1 % 1)

/-- The left factor's block at a point. -/
theorem iblk0_at (t : Fin cfg0.N) (y : S1024x1024.Idx) : (iblk m c 0 t : Vec Ideal S1024x1024 .bf16) y = entL m c (1024 * (t.val / 1 / 1) + (y 0).val) ((y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val / 1 % 1) + (y 0).val) ((y 1).val) := by
  have hi := index1 t
  unfold iblk
  rw [View.read_apply]
  show V m c main_arg1 _ = _
  rw [V_main_arg1]
  refine ent_of (m ((c : Thread nD τ).loc main_arg1) : S1024x1024.Idx → EReal) _ ?_ ?_
  · show win0_1.index t 0 * 1024 + 1 * (y 0).val = _; rw [hi.1]; omega
  · show win0_1.index t 1 * 1024 + 1 * (y 1).val = _; rw [hi.2]; omega

/-- The output's block after a point. -/
theorem block_at (t : Fin cfg0.N) (y : S1024x1024.Idx) :
    (outsAt0 m c t) y = ∑ e : Fin 1024, entL m c (1024 * (t.val / 1 / 1) + (y 0).val) (e.val) * entR m c (1024 * (t.val / 1 % 1) + (y 1).val) (e.val) := by
  unfold outsAt0
  exact outAt (y := y) (f := fun a b => entL m c (1024 * (t.val / 1 / 1) + a) (b)) (g := fun a b => entR m c (1024 * (t.val / 1 % 1) + a) (b)) (h0 := iblk0_at m c t) (h1 := iblk1_at m c t) ..

/-- The product as an array. -/
def res : Vec Ideal S2048x1024 .bf16 := fun i => ∑ e : Fin 1024, entL m c ((i 0).val) (e.val) * entR m c ((i 1).val) (e.val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.OutDxIdeal.Value.flushed2]
  funext y
  rw [View.read_apply]
  refine (block_at m c t y).trans ?_
  have e0 : 1024 * (t.val / 1 / 1) + (y 0).val = win0_2.index t 0 * 1024 + 1 * (y 0).val := by rw [hi.1]; omega
  have e1 : 1024 * (t.val / 1 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1024 := (i 1).isLt
    have hN : cfg0.N = 2 := N_0
    let t : Fin cfg0.N := ⟨1 * (1 * ((i 0).val / 1024) + (i 1).val / 1024) + 0, by omega⟩
    have ht : t.val = 1 * (1 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.OutDxRefIdeal.S2048x1024, .bf16⟩ : BufTy).Contents (Elt Ideal)) (x1 : (⟨Cert.OutDxRefIdeal.S1024x1024, .bf16⟩ : BufTy).Contents (Elt Ideal))
    (i : Cert.OutDxRefIdeal.S2048x1024.Idx) :
    Cert.OutDxRefIdeal.Read.val_main_v5 (F := Ideal) x0 x1 i
      = ∑ e : Fin 1024, ent (x0 : S2048x1024.Idx → EReal) ((i 0).val) (e.val) * ent (x1 : S1024x1024.Idx → EReal) ((i 1).val) (e.val) := by
  show Cert.OutDxRefIdeal.Read.val_main_v4 (F := Ideal) x0 x1 i = _
  refine (Cert.OutDxRefIdeal.Read.val_main_v4_apply _ _ i).trans (Finset.sum_congr rfl fun k _ => congrArg₂ (· * ·) ?_ ?_)
  · exact ent_of x0 _ rfl rfl
  · exact ent_of x1 _ rfl rfl

open Cert.OutDxRefIdeal.Read in
/-- From the same arguments the kernel and the reference end with the same product. -/
theorem algebraic : Cert.algebraic_OutDxIdeal_OutDxRefIdeal (hOutDxIdeal := Cert.OutDxIdeal.Gen.facts) (hOutDxRefIdeal := Cert.OutDxRefIdeal.Gen.facts) := by
  intro m g m' g' _ e
  refine ⟨fun c => res m c, ?_, ?_⟩
  · exact (θ_run _ _ _).mono (fun r p c => ⟨(p c).1.trans (final m c), (p c).2⟩) (Cert.OutDxIdeal.Value.run_blocks m g)
  · refine (θ_run _ _ _).mono (fun r p c => ⟨(p c).1.trans ?_, (p c).2⟩) (Cert.OutDxRefIdeal.Value.run m' g')
    refine (val_main_v5_eq _ _).trans (funext fun i => ?_)
    refine (refProduct _ _ i).trans ?_
    rw [(e c).1, (e c).2]
    rfl

/-- The reference runs, keeps its arguments, and ends with every semaphore at zero: it has none. -/
theorem frameReference [h : Cert.OutDxRefIdeal.Facts] : Cert.quiescent_OutDxRefIdeal :=
  fun m g _ => (θ_run _ _ _).mono (fun r h => ⟨fun c => (h c).2, sem_eq_zero_of_no_sems (by decide) r.2⟩)
    (Cert.OutDxRefIdeal.Value.run m g)

end Cert.OutDxIdeal.Body

end
-- ==== Proof.OutDw.lean ====
/- The products of the backward pass of the output projection, towards its weights: what the kernel leaves, entry by entry, and that the reference leaves the same. -/
module

public import proofs.«01_k».proof.Defs
public import proofs.«01_k».proof.Proof.Product
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read

@[expose] public section

set_option maxRecDepth 16384

noncomputable section

namespace Cert.OutDwIdeal.Body

open Cert.OutDwIdeal Cert.OutDwIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f e.val (y 0).val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (xs0 : Vec Ideal S1024x1024 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x1024.Idx) :
    sout0_A_0 c i arg3 harg3 arg4 harg4 arg5 harg5 arg6 harg6 hc0 hc1 x0 x1 y = ∑ e : Fin 1024, f e.val (y 0).val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x1024.Idx) :
    sout0_B_0 c i arg3 harg3 arg4 harg4 arg5 harg5 arg6 harg6 hc0 hc1 x0 x1 xs0 y = xs0 y + ∑ e : Fin 1024, f e.val (y 0).val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x1024.Idx) :
    out0_B_2 c i arg3 harg3 arg4 harg4 arg5 harg5 arg6 harg6 hc0 hc1 x0 x1 xs0 y = xs0 y + ∑ e : Fin 1024, f e.val (y 0).val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S2048x1024.Idx → EReal) a b

theorem index0 : ∀ t : Fin cfg0.N, win0_0.index t 0 = t.val % 2 ∧ win0_0.index t 1 = t.val / 2 / 1 :=
  (by decide +kernel : ∀ t : Fin grid0.N, win0_0.index t 0 = t.val % 2 ∧ win0_0.index t 1 = t.val / 2 / 1)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1024.Idx) : (iblk m c 0 t : Vec Ideal S1024x1024 .bf16) y = entL m c (1024 * (t.val % 2) + (y 0).val) (1024 * (t.val / 2 / 1) + (y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val % 2) + (y 0).val) (1024 * (t.val / 2 % 1) + (y 1).val) := by
  have hi := index1 t
  unfold iblk
  rw [View.read_apply]
  show V m c main_arg1 _ = _
  rw [V_main_arg1]
  refine ent_of (m ((c : Thread nD τ).loc main_arg1) : S2048x1024.Idx → EReal) _ ?_ ?_
  · show win0_1.index t 0 * 1024 + 1 * (y 0).val = _; rw [hi.1]; omega
  · show win0_1.index t 1 * 1024 + 1 * (y 1).val = _; rw [hi.2]; omega

/-- The part of an entry of output block `q` that its `k`-th point adds. -/
def part (q k a b : ℕ) : EReal := ∑ e : Fin 1024, entL m c (1024 * k + e.val) (1024 * (q / 1) + a) * entR m c (1024 * k + e.val) (1024 * (q % 1) + b)

/-- The accumulator after a first point. -/
theorem firstAcc (t : Fin cfg0.N) (h : t.val % 2 = 0) (y : S1024x1024.Idx) :
    (outsAt0 m c t.val t.isLt).2 y = part m c (t.val / 2) (t.val % 2) (y 0).val (y 1).val := by
  rw [outsAt0_A m c t h (by omega)]
  dsimp only
  exact accA (y := y) (f := fun a b => entL m c (1024 * (t.val % 2) + a) (1024 * (t.val / 2 / 1) + b)) (g := fun a b => entR m c (1024 * (t.val % 2) + a) (1024 * (t.val / 2 % 1) + b)) (h0 := iblk0_at m c t) (h1 := iblk1_at m c t) ..

/-- The accumulator after any other point. -/
theorem nextAcc (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val % 2) + a) (1024 * (t.val / 2 / 1) + b)) (g := fun a b => entR m c (1024 * (t.val % 2) + a) (1024 * (t.val / 2 % 1) + b)) (h0 := iblk0_at m c t) (h1 := iblk1_at m c t) ..

/-- The output's block after a last point. -/
theorem lastOut (t : Fin cfg0.N) (h : t.val % 2 = 1) (y : S1024x1024.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val % 2) + a) (1024 * (t.val / 2 / 1) + b)) (g := fun a b => entR m c (1024 * (t.val % 2) + a) (1024 * (t.val / 2 % 1) + b)) (h0 := iblk0_at m c t) (h1 := iblk1_at m c t) ..

/-- The accumulator after point `n`: the parts its block has had so far. -/
theorem sums_at : ∀ (n : ℕ) (hn : n < cfg0.N) (y : S1024x1024.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x1024.Idx) :
    (outsAt0 m c t.val t.isLt).1 y = ∑ e : Fin 2048, entL m c (e.val) (1024 * (t.val / 2 / 1) + (y 0).val) * entR m c (e.val) (1024 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (e) (1024 * (t.val / 2 / 1) + (y 0).val) * entR m c (e) (1024 * (t.val / 2 % 1) + (y 1).val)) 1024 2 2048 rfl

/-- The product as an array. -/
def res : Vec Ideal S1024x1024 .bf16 := fun i => ∑ e : Fin 2048, entL m c (e.val) ((i 0).val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.OutDwIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 1024 * (t.val / 2 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 1024 := (i 0).isLt
    have i1 : (i 1).val < 1024 := (i 1).isLt
    have hN : cfg0.N = 2 := N_0
    let t : Fin cfg0.N := ⟨2 * (1 * ((i 0).val / 1024) + (i 1).val / 1024) + 1, by omega⟩
    have ht : t.val = 2 * (1 * ((i 0).val / 1024) + (i 1).val / 1024) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.OutDwRefIdeal.S2048x1024, .bf16⟩ : BufTy).Contents (Elt Ideal)) (x1 : (⟨Cert.OutDwRefIdeal.S2048x1024, .bf16⟩ : BufTy).Contents (Elt Ideal))
    (i : Cert.OutDwRefIdeal.S1024x1024.Idx) :
    Cert.OutDwRefIdeal.Read.val_main_v6 (F := Ideal) x0 x1 i
      = ∑ e : Fin 2048, ent (x0 : S2048x1024.Idx → EReal) (e.val) ((i 0).val) * ent (x1 : S2048x1024.Idx → EReal) (e.val) ((i 1).val) := by
  show Cert.OutDwRefIdeal.Read.val_main_v5 (F := Ideal) x0 x1 i = _
  refine ((Cert.OutDwRefIdeal.Read.val_main_v5_apply _ _ _).trans (Cert.OutDwRefIdeal.Read.val_main_v4_apply _ _ _)).trans (Finset.sum_congr rfl fun k _ => (mul_comm _ _).trans (congrArg₂ (· * ·) ?_ ?_))
  · exact ent_of x0 _ rfl rfl
  · exact ent_of x1 _ rfl rfl

open Cert.OutDwRefIdeal.Read in
/-- From the same arguments the kernel and the reference end with the same product. -/
theorem algebraic : Cert.algebraic_OutDwIdeal_OutDwRefIdeal (hOutDwIdeal := Cert.OutDwIdeal.Gen.facts) (hOutDwRefIdeal := Cert.OutDwRefIdeal.Gen.facts) := by
  intro m g m' g' _ e
  refine ⟨fun c => res m c, ?_, ?_⟩
  · exact (θ_run _ _ _).mono (fun r p c => ⟨(p c).1.trans (final m c), (p c).2⟩) (Cert.OutDwIdeal.Value.run_blocks m g)
  · refine (θ_run _ _ _).mono (fun r p c => ⟨(p c).1.trans ?_, (p c).2⟩) (Cert.OutDwRefIdeal.Value.run m' g')
    refine (val_main_v6_eq _ _).trans (funext fun i => ?_)
    refine (refProduct _ _ i).trans ?_
    rw [(e c).1, (e c).2]
    rfl

/-- The reference runs, keeps its arguments, and ends with every semaphore at zero: it has none. -/
theorem frameReference [h : Cert.OutDwRefIdeal.Facts] : Cert.quiescent_OutDwRefIdeal :=
  fun m g _ => (θ_run _ _ _).mono (fun r h => ⟨fun c => (h c).2, sem_eq_zero_of_no_sems (by decide) r.2⟩)
    (Cert.OutDwRefIdeal.Value.run m g)

end Cert.OutDwIdeal.Body

end
-- ==== Proof.ProjCDx.lean ====
/- The products of the backward pass of the recurrence's projection, towards its input: what the kernel leaves, entry by entry, and that the reference leaves the same. -/
module

public import proofs.«01_k».proof.Defs
public import proofs.«01_k».proof.Proof.Product
public import proofs.«01_k».proof.Proof.Gen.ProjCDxIdeal.Value
public import proofs.«01_k».proof.Proof.Gen.ProjCDxRefIdeal
public import proofs.«01_k».proof.Proof.Gen.ProjCDxRefIdeal.Run
public import proofs.«01_k».proof.Proof.Gen.ProjCDxRefIdeal.Read

@[expose] public section

set_option maxRecDepth 16384

noncomputable section

namespace Cert.ProjCDxIdeal.Body

open Cert.ProjCDxIdeal Cert.ProjCDxIdeal.Gen Cert.Product Idealize.ShloMosaic Idealize.ShloMosaic.TcCoe Idealize.SL.Sem
open scoped BigOperators

/-- The accumulator's first contents. -/
theorem pay1_at (y : S1024x640.Idx) : k0_pay1 (F := Ideal) y = (0 : EReal) := by
  unfold k0_pay1
  rw [shapeCast_self]
  exact Ideal.ofBits_zero_f32

/-- One accumulation. -/
theorem pay2_at (v3 : FVec Ideal S1024x640 .f32) (v4 : FVec Ideal S1024x1024 .bf16) (v5 : FVec Ideal S640x1024 .bf16) {f g : ℕ → ℕ → EReal}
    (h4 : ∀ i, v4 i = f (i 0).val (i 1).val) (h5 : ∀ i, v5 i = g (i 0).val (i 1).val) (y : S1024x640.Idx) :
    k0_pay2 (F := Ideal) v3 v4 v5 y = v3 y + ∑ e : Fin 1024, f (y 0).val e.val * g (y 1).val e.val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S640x1024 .bf16)
  (harg4 : arg4.IsWhole) (arg5 : Memref sig .tc .vmem S1024x640 .bf16) (harg5 : arg5.IsWhole) (arg6 : Memref sig .tc .vmem S1024x640 .f32) (harg6 : arg6.IsWhole)
  (x0 : Vec Ideal S1024x1024 .bf16) (x1 : Vec Ideal S640x1024 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x640.Idx) :
    out0_A_2 c i arg3 harg3 arg4 harg4 arg5 harg5 arg6 harg6 hc0 hc1 x0 x1 y = ∑ e : Fin 1024, f (y 0).val e.val * g (y 1).val e.val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S1280x1024.Idx → EReal) a b

theorem index0 : ∀ t : Fin cfg0.N, win0_0.index t 0 = t.val / 1 / 2 ∧ win0_0.index t 1 = 0 :=
  (by decide +kernel : ∀ t : Fin grid0.N, win0_0.index t 0 = t.val / 1 / 2 ∧ win0_0.index t 1 = 0)
theorem index1 : ∀ t : Fin cfg0.N, win0_1.index t 0 = t.val / 1 % 2 ∧ win0_1.index t 1 = 0 :=
  (by decide +kernel : ∀ t : Fin grid0.N, win0_1.index t 0 = t.val / 1 % 2 ∧ win0_1.index t 1 = 0)
theorem index2 : ∀ t : Fin cfg0.N, win0_2.index t 0 = t.val / 1 / 2 ∧ win0_2.index t 1 = t.val / 1 % 2 :=
  (by decide +kernel : ∀ t : Fin grid0.N, win0_2.index t 0 = t.val / 1 / 2 ∧ win0_2.index t 1 = t.val / 1 % 2)

/-- The left factor's block at a point. -/
theorem iblk0_at (t : Fin cfg0.N) (y : S1024x1024.Idx) : (iblk m c 0 t : Vec Ideal S1024x1024 .bf16) y = entL m c (1024 * (t.val / 1 / 2) + (y 0).val) ((y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S640x1024.Idx) : (iblk m c 1 t : Vec Ideal S640x1024 .bf16) y = entR m c (640 * (t.val / 1 % 2) + (y 0).val) ((y 1).val) := by
  have hi := index1 t
  unfold iblk
  rw [View.read_apply]
  show V m c main_arg1 _ = _
  rw [V_main_arg1]
  refine ent_of (m ((c : Thread nD τ).loc main_arg1) : S1280x1024.Idx → EReal) _ ?_ ?_
  · show win0_1.index t 0 * 640 + 1 * (y 0).val = _; rw [hi.1]; omega
  · show win0_1.index t 1 * 1024 + 1 * (y 1).val = _; rw [hi.2]; omega

/-- The output's block after a point. -/
theorem block_at (t : Fin cfg0.N) (y : S1024x640.Idx) :
    (outsAt0 m c t) y = ∑ e : Fin 1024, entL m c (1024 * (t.val / 1 / 2) + (y 0).val) (e.val) * entR m c (640 * (t.val / 1 % 2) + (y 1).val) (e.val) := by
  unfold outsAt0
  exact outAt (y := y) (f := fun a b => entL m c (1024 * (t.val / 1 / 2) + a) (b)) (g := fun a b => entR m c (640 * (t.val / 1 % 2) + a) (b)) (h0 := iblk0_at m c t) (h1 := iblk1_at m c t) ..

/-- The product as an array. -/
def res : Vec Ideal S2048x1280 .bf16 := fun i => ∑ e : Fin 1024, entL m c ((i 0).val) (e.val) * entR m c ((i 1).val) (e.val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.ProjCDxIdeal.Value.flushed2]
  funext y
  rw [View.read_apply]
  refine (block_at m c t y).trans ?_
  have e0 : 1024 * (t.val / 1 / 2) + (y 0).val = win0_2.index t 0 * 1024 + 1 * (y 0).val := by rw [hi.1]; omega
  have e1 : 640 * (t.val / 1 % 2) + (y 1).val = win0_2.index t 1 * 640 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1280 := (i 1).isLt
    have hN : cfg0.N = 4 := N_0
    let t : Fin cfg0.N := ⟨1 * (2 * ((i 0).val / 1024) + (i 1).val / 640) + 0, by omega⟩
    have ht : t.val = 1 * (2 * ((i 0).val / 1024) + (i 1).val / 640) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 640 ≤ (i 1).val ∧ (i 1).val < win0_2.index t 1 * 640 + 640
                rw [hi.2]; omega

end Grid

/-- The reference's result is the same product. -/
theorem refProduct (x0 : (⟨Cert.ProjCDxRefIdeal.S2048x1024, .bf16⟩ : BufTy).Contents (Elt Ideal)) (x1 : (⟨Cert.ProjCDxRefIdeal.S1280x1024, .bf16⟩ : BufTy).Contents (Elt Ideal))
    (i : Cert.ProjCDxRefIdeal.S2048x1280.Idx) :
    Cert.ProjCDxRefIdeal.Read.val_main_v5 (F := Ideal) x0 x1 i
      = ∑ e : Fin 1024, ent (x0 : S2048x1024.Idx → EReal) ((i 0).val) (e.val) * ent (x1 : S1280x1024.Idx → EReal) ((i 1).val) (e.val) := by
  show Cert.ProjCDxRefIdeal.Read.val_main_v4 (F := Ideal) x0 x1 i = _
  refine (Cert.ProjCDxRefIdeal.Read.val_main_v4_apply _ _ i).trans (Finset.sum_congr rfl fun k _ => congrArg₂ (· * ·) ?_ ?_)
  · exact ent_of x0 _ rfl rfl
  · exact ent_of x1 _ rfl rfl

open Cert.ProjCDxRefIdeal.Read in
/-- From the same arguments the kernel and the reference end with the same product. -/
theorem algebraic : Cert.algebraic_ProjCDxIdeal_ProjCDxRefIdeal (hProjCDxIdeal := Cert.ProjCDxIdeal.Gen.facts) (hProjCDxRefIdeal := Cert.ProjCDxRefIdeal.Gen.facts) := by
  intro m g m' g' _ e
  refine ⟨fun c => res m c, ?_, ?_⟩
  · exact (θ_run _ _ _).mono (fun r p c => ⟨(p c).1.trans (final m c), (p c).2⟩) (Cert.ProjCDxIdeal.Value.run_blocks m g)
  · refine (θ_run _ _ _).mono (fun r p c => ⟨(p c).1.trans ?_, (p c).2⟩) (Cert.ProjCDxRefIdeal.Value.run m' g')
    refine (val_main_v5_eq _ _).trans (funext fun i => ?_)
    refine (refProduct _ _ i).trans ?_
    rw [(e c).1, (e c).2]
    rfl

/-- The reference runs, keeps its arguments, and ends with every semaphore at zero: it has none. -/
theorem frameReference [h : Cert.ProjCDxRefIdeal.Facts] : Cert.quiescent_ProjCDxRefIdeal :=
  fun m g _ => (θ_run _ _ _).mono (fun r h => ⟨fun c => (h c).2, sem_eq_zero_of_no_sems (by decide) r.2⟩)
    (Cert.ProjCDxRefIdeal.Value.run m g)

end Cert.ProjCDxIdeal.Body

end
-- ==== Proof.ProjCDw.lean ====
/- The products of the backward pass of the recurrence's projection, towards its weights: what the kernel leaves, entry by entry, and that the reference leaves the same. -/
module

public import proofs.«01_k».proof.Defs
public import proofs.«01_k».proof.Proof.Product
public import proofs.«01_k».proof.Proof.Gen.ProjCDwIdeal.Value
public import proofs.«01_k».proof.Proof.Gen.ProjCDwRefIdeal
public import proofs.«01_k».proof.Proof.Gen.ProjCDwRefIdeal.Run
public import proofs.«01_k».proof.Proof.Gen.ProjCDwRefIdeal.Read

@[expose] public section

set_option maxRecDepth 16384

noncomputable section

namespace Cert.ProjCDwIdeal.Body

open Cert.ProjCDwIdeal Cert.ProjCDwIdeal.Gen Cert.Product Idealize.ShloMosaic Idealize.ShloMosaic.TcCoe Idealize.SL.Sem
open scoped BigOperators

/-- The accumulator's first contents. -/
theorem pay1_at (y : S640x1024.Idx) : k0_pay1 (F := Ideal) y = (0 : EReal) := by
  unfold k0_pay1
  rw [shapeCast_self]
  exact Ideal.ofBits_zero_f32

/-- One accumulation. -/
theorem pay2_at (v3 : FVec Ideal S640x1024 .f32) (v4 : FVec Ideal S1024x640 .bf16) (v5 : FVec Ideal S1024x1024 .bf16) {f g : ℕ → ℕ → EReal}
    (h4 : ∀ i, v4 i = f (i 0).val (i 1).val) (h5 : ∀ i, v5 i = g (i 0).val (i 1).val) (y : S640x1024.Idx) :
    k0_pay2 (F := Ideal) v3 v4 v5 y = v3 y + ∑ e : Fin 1024, f e.val (y 0).val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x640 .bf16) (harg3 : arg3.IsWhole) (arg4 : Memref sig .tc .vmem S1024x1024 .bf16)
  (harg4 : arg4.IsWhole) (arg5 : Memref sig .tc .vmem S640x1024 .bf16) (harg5 : arg5.IsWhole) (arg6 : Memref sig .tc .vmem S640x1024 .f32) (harg6 : arg6.IsWhole)
  (x0 : Vec Ideal S1024x640 .bf16) (x1 : Vec Ideal S1024x1024 .bf16) (xs0 : Vec Ideal S640x1024 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S640x1024.Idx) :
    sout0_A_0 c i arg3 harg3 arg4 harg4 arg5 harg5 arg6 harg6 hc0 hc1 x0 x1 y = ∑ e : Fin 1024, f e.val (y 0).val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S640x1024.Idx) :
    sout0_B_0 c i arg3 harg3 arg4 harg4 arg5 harg5 arg6 harg6 hc0 hc1 x0 x1 xs0 y = xs0 y + ∑ e : Fin 1024, f e.val (y 0).val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S640x1024.Idx) :
    out0_B_2 c i arg3 harg3 arg4 harg4 arg5 harg5 arg6 harg6 hc0 hc1 x0 x1 xs0 y = xs0 y + ∑ e : Fin 1024, f e.val (y 0).val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1280.Idx → EReal) a b
/-- The right factor, entry by entry. -/
def entR (a b : ℕ) : EReal := ent (m ((c : Thread nD τ).loc main_arg1) : S2048x1024.Idx → EReal) a b

theorem index0 : ∀ t : Fin cfg0.N, win0_0.index t 0 = t.val % 2 ∧ win0_0.index t 1 = t.val / 2 / 1 :=
  (by decide +kernel : ∀ t : Fin grid0.N, win0_0.index t 0 = t.val % 2 ∧ win0_0.index t 1 = t.val / 2 / 1)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x640.Idx) : (iblk m c 0 t : Vec Ideal S1024x640 .bf16) y = entL m c (1024 * (t.val % 2) + (y 0).val) (640 * (t.val / 2 / 1) + (y 1).val) := by
  have hi := index0 t
  unfold iblk
  rw [View.read_apply]
  show V m c main_arg0 _ = _
  rw [V_main_arg0]
  refine ent_of (m ((c : Thread nD τ).loc main_arg0) : S2048x1280.Idx → EReal) _ ?_ ?_
  · show win0_0.index t 0 * 1024 + 1 * (y 0).val = _; rw [hi.1]; omega
  · show win0_0.index t 1 * 640 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val % 2) + (y 0).val) (1024 * (t.val / 2 % 1) + (y 1).val) := by
  have hi := index1 t
  unfold iblk
  rw [View.read_apply]
  show V m c main_arg1 _ = _
  rw [V_main_arg1]
  refine ent_of (m ((c : Thread nD τ).loc main_arg1) : S2048x1024.Idx → EReal) _ ?_ ?_
  · show win0_1.index t 0 * 1024 + 1 * (y 0).val = _; rw [hi.1]; omega
  · show win0_1.index t 1 * 1024 + 1 * (y 1).val = _; rw [hi.2]; omega

/-- The part of an entry of output block `q` that its `k`-th point adds. -/
def part (q k a b : ℕ) : EReal := ∑ e : Fin 1024, entL m c (1024 * k + e.val) (640 * (q / 1) + a) * entR m c (1024 * k + e.val) (1024 * (q % 1) + b)

/-- The accumulator after a first point. -/
theorem firstAcc (t : Fin cfg0.N) (h : t.val % 2 = 0) (y : S640x1024.Idx) :
    (outsAt0 m c t.val t.isLt).2 y = part m c (t.val / 2) (t.val % 2) (y 0).val (y 1).val := by
  rw [outsAt0_A m c t h (by omega)]
  dsimp only
  exact accA (y := y) (f := fun a b => entL m c (1024 * (t.val % 2) + a) (640 * (t.val / 2 / 1) + b)) (g := fun a b => entR m c (1024 * (t.val % 2) + a) (1024 * (t.val / 2 % 1) + b)) (h0 := iblk0_at m c t) (h1 := iblk1_at m c t) ..

/-- The accumulator after any other point. -/
theorem nextAcc (t : Fin cfg0.N) (h : ¬t.val % 2 = 0) (y : S640x1024.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val % 2) + a) (640 * (t.val / 2 / 1) + b)) (g := fun a b => entR m c (1024 * (t.val % 2) + a) (1024 * (t.val / 2 % 1) + b)) (h0 := iblk0_at m c t) (h1 := iblk1_at m c t) ..

/-- The output's block after a last point. -/
theorem lastOut (t : Fin cfg0.N) (h : t.val % 2 = 1) (y : S640x1024.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val % 2) + a) (640 * (t.val / 2 / 1) + b)) (g := fun a b => entR m c (1024 * (t.val % 2) + a) (1024 * (t.val / 2 % 1) + b)) (h0 := iblk0_at m c t) (h1 := iblk1_at m c t) ..

/-- The accumulator after point `n`: the parts its block has had so far. -/
theorem sums_at : ∀ (n : ℕ) (hn : n < cfg0.N) (y : S640x1024.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S640x1024.Idx) :
    (outsAt0 m c t.val t.isLt).1 y = ∑ e : Fin 2048, entL m c (e.val) (640 * (t.val / 2 / 1) + (y 0).val) * entR m c (e.val) (1024 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (e) (640 * (t.val / 2 / 1) + (y 0).val) * entR m c (e) (1024 * (t.val / 2 % 1) + (y 1).val)) 1024 2 2048 rfl

/-- The product as an array. -/
def res : Vec Ideal S1280x1024 .bf16 := fun i => ∑ e : Fin 2048, entL m c (e.val) ((i 0).val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.ProjCDwIdeal.Value.flushed2]
  funext y
  rw [View.read_apply]
  refine (block_at m c t ((flush0_2 t).mp hf) y).trans ?_
  have e0 : 640 * (t.val / 2 / 1) + (y 0).val = win0_2.index t 0 * 640 + 1 * (y 0).val := by rw [hi.1]; omega
  have e1 : 1024 * (t.val / 2 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 1280 := (i 0).isLt
    have i1 : (i 1).val < 1024 := (i 1).isLt
    have hN : cfg0.N = 4 := N_0
    let t : Fin cfg0.N := ⟨2 * (1 * ((i 0).val / 640) + (i 1).val / 1024) + 1, by omega⟩
    have ht : t.val = 2 * (1 * ((i 0).val / 640) + (i 1).val / 1024) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 640 ≤ (i 0).val ∧ (i 0).val < win0_2.index t 0 * 640 + 640
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.ProjCDwRefIdeal.S2048x1280, .bf16⟩ : BufTy).Contents (Elt Ideal)) (x1 : (⟨Cert.ProjCDwRefIdeal.S2048x1024, .bf16⟩ : BufTy).Contents (Elt Ideal))
    (i : Cert.ProjCDwRefIdeal.S1280x1024.Idx) :
    Cert.ProjCDwRefIdeal.Read.val_main_v6 (F := Ideal) x0 x1 i
      = ∑ e : Fin 2048, ent (x0 : S2048x1280.Idx → EReal) (e.val) ((i 0).val) * ent (x1 : S2048x1024.Idx → EReal) (e.val) ((i 1).val) := by
  show Cert.ProjCDwRefIdeal.Read.val_main_v5 (F := Ideal) x0 x1 i = _
  refine ((Cert.ProjCDwRefIdeal.Read.val_main_v5_apply _ _ _).trans (Cert.ProjCDwRefIdeal.Read.val_main_v4_apply _ _ _)).trans (Finset.sum_congr rfl fun k _ => (mul_comm _ _).trans (congrArg₂ (· * ·) ?_ ?_))
  · exact ent_of x0 _ rfl rfl
  · exact ent_of x1 _ rfl rfl

open Cert.ProjCDwRefIdeal.Read in
/-- From the same arguments the kernel and the reference end with the same product. -/
theorem algebraic : Cert.algebraic_ProjCDwIdeal_ProjCDwRefIdeal (hProjCDwIdeal := Cert.ProjCDwIdeal.Gen.facts) (hProjCDwRefIdeal := Cert.ProjCDwRefIdeal.Gen.facts) := by
  intro m g m' g' _ e
  refine ⟨fun c => res m c, ?_, ?_⟩
  · exact (θ_run _ _ _).mono (fun r p c => ⟨(p c).1.trans (final m c), (p c).2⟩) (Cert.ProjCDwIdeal.Value.run_blocks m g)
  · refine (θ_run _ _ _).mono (fun r p c => ⟨(p c).1.trans ?_, (p c).2⟩) (Cert.ProjCDwRefIdeal.Value.run m' g')
    refine (val_main_v6_eq _ _).trans (funext fun i => ?_)
    refine (refProduct _ _ i).trans ?_
    rw [(e c).1, (e c).2]
    rfl

/-- The reference runs, keeps its arguments, and ends with every semaphore at zero: it has none. -/
theorem frameReference [h : Cert.ProjCDwRefIdeal.Facts] : Cert.quiescent_ProjCDwRefIdeal :=
  fun m g _ => (θ_run _ _ _).mono (fun r h => ⟨fun c => (h c).2, sem_eq_zero_of_no_sems (by decide) r.2⟩)
    (Cert.ProjCDwRefIdeal.Value.run m g)

end Cert.ProjCDwIdeal.Body

end
-- ==== Proof.QUpDx.lean ====
/- The products of the backward pass of the queries' up-projection, towards its input: what the kernel leaves, entry by entry, and that the reference leaves the same. -/
module

public import proofs.«01_k».proof.Defs
public import proofs.«01_k».proof.Proof.Product
public import proofs.«01_k».proof.Proof.Gen.QUpDxIdeal.Value
public import proofs.«01_k».proof.Proof.Gen.QUpDxRefIdeal
public import proofs.«01_k».proof.Proof.Gen.QUpDxRefIdeal.Run
public import proofs.«01_k».proof.Proof.Gen.QUpDxRefIdeal.Read

@[expose] public section

set_option maxRecDepth 16384

noncomputable section

namespace Cert.QUpDxIdeal.Body

open Cert.QUpDxIdeal Cert.QUpDxIdeal.Gen Cert.Product Idealize.ShloMosaic Idealize.ShloMosaic.TcCoe Idealize.SL.Sem
open scoped BigOperators

/-- The accumulator's first contents. -/
theorem pay1_at (y : S1024x384.Idx) : k0_pay1 (F := Ideal) y = (0 : EReal) := by
  unfold k0_pay1
  rw [shapeCast_self]
  exact Ideal.ofBits_zero_f32

/-- One accumulation. -/
theorem pay2_at (v3 : FVec Ideal S1024x384 .f32) (v4 : FVec Ideal S1024x1024 .bf16) (v5 : FVec Ideal S1024x384 .bf16) {f g : ℕ → ℕ → EReal}
    (h4 : ∀ i, v4 i = f (i 0).val (i 1).val) (h5 : ∀ i, v5 i = g (i 0).val (i 1).val) (y : S1024x384.Idx) :
    k0_pay2 (F := Ideal) v3 v4 v5 y = v3 y + ∑ e : Fin 1024, f (y 0).val e.val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x384 .bf16)
  (harg4 : arg4.IsWhole) (arg5 : Memref sig .tc .vmem S1024x384 .bf16) (harg5 : arg5.IsWhole) (arg6 : Memref sig .tc .vmem S1024x384 .f32) (harg6 : arg6.IsWhole)
  (x0 : Vec Ideal S1024x1024 .bf16) (x1 : Vec Ideal S1024x384 .bf16) (xs0 : Vec Ideal S1024x384 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x384.Idx) :
    sout0_A_0 c i arg3 harg3 arg4 harg4 arg5 harg5 arg6 harg6 hc0 hc1 x0 x1 y = ∑ e : Fin 1024, f (y 0).val e.val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x384.Idx) :
    sout0_B_0 c i arg3 harg3 arg4 harg4 arg5 harg5 arg6 harg6 hc0 hc1 x0 x1 xs0 y = xs0 y + ∑ e : Fin 1024, f (y 0).val e.val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x384.Idx) :
    out0_B_2 c i arg3 harg3 arg4 harg4 arg5 harg5 arg6 harg6 hc0 hc1 x0 x1 xs0 y = xs0 y + ∑ e : Fin 1024, f (y 0).val e.val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x2048.Idx → EReal) a b
/-- The right factor, entry by entry. -/
def entR (a b : ℕ) : EReal := ent (m ((c : Thread nD τ).loc main_arg1) : S2048x384.Idx → EReal) a b

theorem index0 : ∀ t : Fin cfg0.N, win0_0.index t 0 = t.val / 2 / 1 ∧ win0_0.index t 1 = t.val % 2 :=
  (by decide +kernel : ∀ t : Fin grid0.N, win0_0.index t 0 = t.val / 2 / 1 ∧ win0_0.index t 1 = t.val % 2)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1024.Idx) : (iblk m c 0 t : Vec Ideal S1024x1024 .bf16) y = entL m c (1024 * (t.val / 2 / 1) + (y 0).val) (1024 * (t.val % 2) + (y 1).val) := by
  have hi := index0 t
  unfold iblk
  rw [View.read_apply]
  show V m c main_arg0 _ = _
  rw [V_main_arg0]
  refine ent_of (m ((c : Thread nD τ).loc main_arg0) : S2048x2048.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x384.Idx) : (iblk m c 1 t : Vec Ideal S1024x384 .bf16) y = entR m c (1024 * (t.val % 2) + (y 0).val) (384 * (t.val / 2 % 1) + (y 1).val) := by
  have hi := index1 t
  unfold iblk
  rw [View.read_apply]
  show V m c main_arg1 _ = _
  rw [V_main_arg1]
  refine ent_of (m ((c : Thread nD τ).loc main_arg1) : S2048x384.Idx → EReal) _ ?_ ?_
  · show win0_1.index t 0 * 1024 + 1 * (y 0).val = _; rw [hi.1]; omega
  · show win0_1.index t 1 * 384 + 1 * (y 1).val = _; rw [hi.2]; omega

/-- The part of an entry of output block `q` that its `k`-th point adds. -/
def part (q k a b : ℕ) : EReal := ∑ e : Fin 1024, entL m c (1024 * (q / 1) + a) (1024 * k + e.val) * entR m c (1024 * k + e.val) (384 * (q % 1) + b)

/-- The accumulator after a first point. -/
theorem firstAcc (t : Fin cfg0.N) (h : t.val % 2 = 0) (y : S1024x384.Idx) :
    (outsAt0 m c t.val t.isLt).2 y = part m c (t.val / 2) (t.val % 2) (y 0).val (y 1).val := by
  rw [outsAt0_A m c t h (by omega)]
  dsimp only
  exact accA (y := y) (f := fun a b => entL m c (1024 * (t.val / 2 / 1) + a) (1024 * (t.val % 2) + b)) (g := fun a b => entR m c (1024 * (t.val % 2) + a) (384 * (t.val / 2 % 1) + b)) (h0 := iblk0_at m c t) (h1 := iblk1_at m c t) ..

/-- The accumulator after any other point. -/
theorem nextAcc (t : Fin cfg0.N) (h : ¬t.val % 2 = 0) (y : S1024x384.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val / 2 / 1) + a) (1024 * (t.val % 2) + b)) (g := fun a b => entR m c (1024 * (t.val % 2) + a) (384 * (t.val / 2 % 1) + b)) (h0 := iblk0_at m c t) (h1 := iblk1_at m c t) ..

/-- The output's block after a last point. -/
theorem lastOut (t : Fin cfg0.N) (h : t.val % 2 = 1) (y : S1024x384.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val / 2 / 1) + a) (1024 * (t.val % 2) + b)) (g := fun a b => entR m c (1024 * (t.val % 2) + a) (384 * (t.val / 2 % 1) + b)) (h0 := iblk0_at m c t) (h1 := iblk1_at m c t) ..

/-- The accumulator after point `n`: the parts its block has had so far. -/
theorem sums_at : ∀ (n : ℕ) (hn : n < cfg0.N) (y : S1024x384.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x384.Idx) :
    (outsAt0 m c t.val t.isLt).1 y = ∑ e : Fin 2048, entL m c (1024 * (t.val / 2 / 1) + (y 0).val) (e.val) * entR m c (e.val) (384 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (1024 * (t.val / 2 / 1) + (y 0).val) (e) * entR m c (e) (384 * (t.val / 2 % 1) + (y 1).val)) 1024 2 2048 rfl

/-- The product as an array. -/
def res : Vec Ideal S2048x384 .bf16 := fun i => ∑ e : Fin 2048, entL m c ((i 0).val) (e.val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.QUpDxIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 384 * (t.val / 2 % 1) + (y 1).val = win0_2.index t 1 * 384 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 384 := (i 1).isLt
    have hN : cfg0.N = 4 := N_0
    let t : Fin cfg0.N := ⟨2 * (1 * ((i 0).val / 1024) + (i 1).val / 384) + 1, by omega⟩
    have ht : t.val = 2 * (1 * ((i 0).val / 1024) + (i 1).val / 384) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 384 ≤ (i 1).val ∧ (i 1).val < win0_2.index t 1 * 384 + 384
                rw [hi.2]; omega

end Grid

/-- The reference's result is the same product. -/
theorem refProduct (x0 : (⟨Cert.QUpDxRefIdeal.S2048x2048, .bf16⟩ : BufTy).Contents (Elt Ideal)) (x1 : (⟨Cert.QUpDxRefIdeal.S2048x384, .bf16⟩ : BufTy).Contents (Elt Ideal))
    (i : Cert.QUpDxRefIdeal.S2048x384.Idx) :
    Cert.QUpDxRefIdeal.Read.val_main_v6 (F := Ideal) x0 x1 i
      = ∑ e : Fin 2048, ent (x0 : S2048x2048.Idx → EReal) ((i 0).val) (e.val) * ent (x1 : S2048x384.Idx → EReal) (e.val) ((i 1).val) := by
  show Cert.QUpDxRefIdeal.Read.val_main_v5 (F := Ideal) x0 x1 i = _
  refine (Cert.QUpDxRefIdeal.Read.val_main_v5_apply _ _ i).trans (Finset.sum_congr rfl fun k _ => congrArg₂ (· * ·) ?_ ?_)
  · exact ent_of x0 _ rfl rfl
  · exact (Cert.QUpDxRefIdeal.Read.val_main_v2_apply _ _).trans (ent_of x1 _ rfl rfl)

open Cert.QUpDxRefIdeal.Read in
/-- From the same arguments the kernel and the reference end with the same product. -/
theorem algebraic : Cert.algebraic_QUpDxIdeal_QUpDxRefIdeal (hQUpDxIdeal := Cert.QUpDxIdeal.Gen.facts) (hQUpDxRefIdeal := Cert.QUpDxRefIdeal.Gen.facts) := by
  intro m g m' g' _ e
  refine ⟨fun c => res m c, ?_, ?_⟩
  · exact (θ_run _ _ _).mono (fun r p c => ⟨(p c).1.trans (final m c), (p c).2⟩) (Cert.QUpDxIdeal.Value.run_blocks m g)
  · refine (θ_run _ _ _).mono (fun r p c => ⟨(p c).1.trans ?_, (p c).2⟩) (Cert.QUpDxRefIdeal.Value.run m' g')
    refine (val_main_v6_eq _ _).trans (funext fun i => ?_)
    refine (refProduct _ _ i).trans ?_
    rw [(e c).1, (e c).2]
    rfl

/-- The reference runs, keeps its arguments, and ends with every semaphore at zero: it has none. -/
theorem frameReference [h : Cert.QUpDxRefIdeal.Facts] : Cert.quiescent_QUpDxRefIdeal :=
  fun m g _ => (θ_run _ _ _).mono (fun r h => ⟨fun c => (h c).2, sem_eq_zero_of_no_sems (by decide) r.2⟩)
    (Cert.QUpDxRefIdeal.Value.run m g)

end Cert.QUpDxIdeal.Body

end
-- ==== Proof.QUpDw.lean ====
/- The products of the backward pass of the queries' up-projection, towards its weights: what the kernel leaves, entry by entry, and that the reference leaves the same. -/
module

public import proofs.«01_k».proof.Defs
public import proofs.«01_k».proof.Proof.Product
public import proofs.«01_k».proof.Proof.Gen.QUpDwIdeal.Value
public import proofs.«01_k».proof.Proof.Gen.QUpDwRefIdeal
public import proofs.«01_k».proof.Proof.Gen.QUpDwRefIdeal.Run
public import proofs.«01_k».proof.Proof.Gen.QUpDwRefIdeal.Read

@[expose] public section

set_option maxRecDepth 16384

noncomputable section

namespace Cert.QUpDwIdeal.Body

open Cert.QUpDwIdeal Cert.QUpDwIdeal.Gen Cert.Product Idealize.ShloMosaic Idealize.ShloMosaic.TcCoe Idealize.SL.Sem
open scoped BigOperators

/-- The accumulator's first contents. -/
theorem pay1_at (y : S1024x384.Idx) : k0_pay1 (F := Ideal) y = (0 : EReal) := by
  unfold k0_pay1
  rw [shapeCast_self]
  exact Ideal.ofBits_zero_f32

/-- One accumulation. -/
theorem pay2_at (v3 : FVec Ideal S1024x384 .f32) (v4 : FVec Ideal S1024x1024 .bf16) (v5 : FVec Ideal S1024x384 .bf16) {f g : ℕ → ℕ → EReal}
    (h4 : ∀ i, v4 i = f (i 0).val (i 1).val) (h5 : ∀ i, v5 i = g (i 0).val (i 1).val) (y : S1024x384.Idx) :
    k0_pay2 (F := Ideal) v3 v4 v5 y = v3 y + ∑ e : Fin 1024, f e.val (y 0).val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x384 .bf16)
  (harg4 : arg4.IsWhole) (arg5 : Memref sig .tc .vmem S1024x384 .bf16) (harg5 : arg5.IsWhole) (arg6 : Memref sig .tc .vmem S1024x384 .f32) (harg6 : arg6.IsWhole)
  (x0 : Vec Ideal S1024x1024 .bf16) (x1 : Vec Ideal S1024x384 .bf16) (xs0 : Vec Ideal S1024x384 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x384.Idx) :
    sout0_A_0 c i arg3 harg3 arg4 harg4 arg5 harg5 arg6 harg6 hc0 hc1 x0 x1 y = ∑ e : Fin 1024, f e.val (y 0).val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x384.Idx) :
    sout0_B_0 c i arg3 harg3 arg4 harg4 arg5 harg5 arg6 harg6 hc0 hc1 x0 x1 xs0 y = xs0 y + ∑ e : Fin 1024, f e.val (y 0).val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x384.Idx) :
    out0_B_2 c i arg3 harg3 arg4 harg4 arg5 harg5 arg6 harg6 hc0 hc1 x0 x1 xs0 y = xs0 y + ∑ e : Fin 1024, f e.val (y 0).val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x2048.Idx → EReal) a b
/-- The right factor, entry by entry. -/
def entR (a b : ℕ) : EReal := ent (m ((c : Thread nD τ).loc main_arg1) : S2048x384.Idx → EReal) a b

theorem index0 : ∀ t : Fin cfg0.N, win0_0.index t 0 = t.val % 2 ∧ win0_0.index t 1 = t.val / 2 / 1 :=
  (by decide +kernel : ∀ t : Fin grid0.N, win0_0.index t 0 = t.val % 2 ∧ win0_0.index t 1 = t.val / 2 / 1)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1024.Idx) : (iblk m c 0 t : Vec Ideal S1024x1024 .bf16) y = entL m c (1024 * (t.val % 2) + (y 0).val) (1024 * (t.val / 2 / 1) + (y 1).val) := by
  have hi := index0 t
  unfold iblk
  rw [View.read_apply]
  show V m c main_arg0 _ = _
  rw [V_main_arg0]
  refine ent_of (m ((c : Thread nD τ).loc main_arg0) : S2048x2048.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x384.Idx) : (iblk m c 1 t : Vec Ideal S1024x384 .bf16) y = entR m c (1024 * (t.val % 2) + (y 0).val) (384 * (t.val / 2 % 1) + (y 1).val) := by
  have hi := index1 t
  unfold iblk
  rw [View.read_apply]
  show V m c main_arg1 _ = _
  rw [V_main_arg1]
  refine ent_of (m ((c : Thread nD τ).loc main_arg1) : S2048x384.Idx → EReal) _ ?_ ?_
  · show win0_1.index t 0 * 1024 + 1 * (y 0).val = _; rw [hi.1]; omega
  · show win0_1.index t 1 * 384 + 1 * (y 1).val = _; rw [hi.2]; omega

/-- The part of an entry of output block `q` that its `k`-th point adds. -/
def part (q k a b : ℕ) : EReal := ∑ e : Fin 1024, entL m c (1024 * k + e.val) (1024 * (q / 1) + a) * entR m c (1024 * k + e.val) (384 * (q % 1) + b)

/-- The accumulator after a first point. -/
theorem firstAcc (t : Fin cfg0.N) (h : t.val % 2 = 0) (y : S1024x384.Idx) :
    (outsAt0 m c t.val t.isLt).2 y = part m c (t.val / 2) (t.val % 2) (y 0).val (y 1).val := by
  rw [outsAt0_A m c t h (by omega)]
  dsimp only
  exact accA (y := y) (f := fun a b => entL m c (1024 * (t.val % 2) + a) (1024 * (t.val / 2 / 1) + b)) (g := fun a b => entR m c (1024 * (t.val % 2) + a) (384 * (t.val / 2 % 1) + b)) (h0 := iblk0_at m c t) (h1 := iblk1_at m c t) ..

/-- The accumulator after any other point. -/
theorem nextAcc (t : Fin cfg0.N) (h : ¬t.val % 2 = 0) (y : S1024x384.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val % 2) + a) (1024 * (t.val / 2 / 1) + b)) (g := fun a b => entR m c (1024 * (t.val % 2) + a) (384 * (t.val / 2 % 1) + b)) (h0 := iblk0_at m c t) (h1 := iblk1_at m c t) ..

/-- The output's block after a last point. -/
theorem lastOut (t : Fin cfg0.N) (h : t.val % 2 = 1) (y : S1024x384.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val % 2) + a) (1024 * (t.val / 2 / 1) + b)) (g := fun a b => entR m c (1024 * (t.val % 2) + a) (384 * (t.val / 2 % 1) + b)) (h0 := iblk0_at m c t) (h1 := iblk1_at m c t) ..

/-- The accumulator after point `n`: the parts its block has had so far. -/
theorem sums_at : ∀ (n : ℕ) (hn : n < cfg0.N) (y : S1024x384.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x384.Idx) :
    (outsAt0 m c t.val t.isLt).1 y = ∑ e : Fin 2048, entL m c (e.val) (1024 * (t.val / 2 / 1) + (y 0).val) * entR m c (e.val) (384 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (e) (1024 * (t.val / 2 / 1) + (y 0).val) * entR m c (e) (384 * (t.val / 2 % 1) + (y 1).val)) 1024 2 2048 rfl

/-- The product as an array. -/
def res : Vec Ideal S2048x384 .bf16 := fun i => ∑ e : Fin 2048, entL m c (e.val) ((i 0).val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.QUpDwIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 384 * (t.val / 2 % 1) + (y 1).val = win0_2.index t 1 * 384 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 384 := (i 1).isLt
    have hN : cfg0.N = 4 := N_0
    let t : Fin cfg0.N := ⟨2 * (1 * ((i 0).val / 1024) + (i 1).val / 384) + 1, by omega⟩
    have ht : t.val = 2 * (1 * ((i 0).val / 1024) + (i 1).val / 384) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 384 ≤ (i 1).val ∧ (i 1).val < win0_2.index t 1 * 384 + 384
                rw [hi.2]; omega

end Grid

/-- The reference's result is the same product. -/
theorem refProduct (x0 : (⟨Cert.QUpDwRefIdeal.S2048x2048, .bf16⟩ : BufTy).Contents (Elt Ideal)) (x1 : (⟨Cert.QUpDwRefIdeal.S2048x384, .bf16⟩ : BufTy).Contents (Elt Ideal))
    (i : Cert.QUpDwRefIdeal.S2048x384.Idx) :
    Cert.QUpDwRefIdeal.Read.val_main_v8 (F := Ideal) x0 x1 i
      = ∑ e : Fin 2048, ent (x0 : S2048x2048.Idx → EReal) (e.val) ((i 0).val) * ent (x1 : S2048x384.Idx → EReal) (e.val) ((i 1).val) := by
  show Cert.QUpDwRefIdeal.Read.val_main_v7 (F := Ideal) x0 x1 i = _
  refine ((Cert.QUpDwRefIdeal.Read.val_main_v7_apply _ _ _).trans ((Cert.QUpDwRefIdeal.Read.val_main_v6_apply _ _ _).trans (Cert.QUpDwRefIdeal.Read.val_main_v5_apply _ _ _))).trans
    (Finset.sum_congr rfl fun k _ => congrArg₂ (· * ·) ?_ ?_)
  · exact ent_of x0 _ rfl rfl
  · exact ent_of x1 _ rfl rfl

open Cert.QUpDwRefIdeal.Read in
/-- From the same arguments the kernel and the reference end with the same product. -/
theorem algebraic : Cert.algebraic_QUpDwIdeal_QUpDwRefIdeal (hQUpDwIdeal := Cert.QUpDwIdeal.Gen.facts) (hQUpDwRefIdeal := Cert.QUpDwRefIdeal.Gen.facts) := by
  intro m g m' g' _ e
  refine ⟨fun c => res m c, ?_, ?_⟩
  · exact (θ_run _ _ _).mono (fun r p c => ⟨(p c).1.trans (final m c), (p c).2⟩) (Cert.QUpDwIdeal.Value.run_blocks m g)
  · refine (θ_run _ _ _).mono (fun r p c => ⟨(p c).1.trans ?_, (p c).2⟩) (Cert.QUpDwRefIdeal.Value.run m' g')
    refine (val_main_v8_eq _ _).trans (funext fun i => ?_)
    refine (refProduct _ _ i).trans ?_
    rw [(e c).1, (e c).2]
    rfl

/-- The reference runs, keeps its arguments, and ends with every semaphore at zero: it has none. -/
theorem frameReference [h : Cert.QUpDwRefIdeal.Facts] : Cert.quiescent_QUpDwRefIdeal :=
  fun m g _ => (θ_run _ _ _).mono (fun r h => ⟨fun c => (h c).2, sem_eq_zero_of_no_sems (by decide) r.2⟩)
    (Cert.QUpDwRefIdeal.Value.run m g)

end Cert.QUpDwIdeal.Body

end
-- ==== Proof.KvUpDx.lean ====
/- The products of the backward pass of the keys' and values' up-projection, towards its input: what the kernel leaves, entry by entry, and that the reference leaves the same. -/
module

public import proofs.«01_k».proof.Defs
public import proofs.«01_k».proof.Proof.Product
public import proofs.«01_k».proof.Proof.Gen.KvUpDxIdeal.Value
public import proofs.«01_k».proof.Proof.Gen.KvUpDxRefIdeal
public import proofs.«01_k».proof.Proof.Gen.KvUpDxRefIdeal.Run
public import proofs.«01_k».proof.Proof.Gen.KvUpDxRefIdeal.Read

@[expose] public section

set_option maxRecDepth 16384

noncomputable section

namespace Cert.KvUpDxIdeal.Body

open Cert.KvUpDxIdeal Cert.KvUpDxIdeal.Gen Cert.Product Idealize.ShloMosaic Idealize.ShloMosaic.TcCoe Idealize.SL.Sem
open scoped BigOperators

/-- The accumulator's first contents. -/
theorem pay1_at (y : S1024x256.Idx) : k0_pay1 (F := Ideal) y = (0 : EReal) := by
  unfold k0_pay1
  rw [shapeCast_self]
  exact Ideal.ofBits_zero_f32

/-- One accumulation. -/
theorem pay2_at (v3 : FVec Ideal S1024x256 .f32) (v4 : FVec Ideal S1024x1024 .bf16) (v5 : FVec Ideal S1024x256 .bf16) {f g : ℕ → ℕ → EReal}
    (h4 : ∀ i, v4 i = f (i 0).val (i 1).val) (h5 : ∀ i, v5 i = g (i 0).val (i 1).val) (y : S1024x256.Idx) :
    k0_pay2 (F := Ideal) v3 v4 v5 y = v3 y + ∑ e : Fin 1024, f (y 0).val e.val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x256 .bf16)
  (harg4 : arg4.IsWhole) (arg5 : Memref sig .tc .vmem S1024x256 .bf16) (harg5 : arg5.IsWhole) (arg6 : Memref sig .tc .vmem S1024x256 .f32) (harg6 : arg6.IsWhole)
  (x0 : Vec Ideal S1024x1024 .bf16) (x1 : Vec Ideal S1024x256 .bf16) (xs0 : Vec Ideal S1024x256 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x256.Idx) :
    sout0_A_0 c i arg3 harg3 arg4 harg4 arg5 harg5 arg6 harg6 hc0 hc1 x0 x1 y = ∑ e : Fin 1024, f (y 0).val e.val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x256.Idx) :
    sout0_B_0 c i arg3 harg3 arg4 harg4 arg5 harg5 arg6 harg6 hc0 hc1 x0 x1 xs0 y = xs0 y + ∑ e : Fin 1024, f (y 0).val e.val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x256.Idx) :
    out0_B_2 c i arg3 harg3 arg4 harg4 arg5 harg5 arg6 harg6 hc0 hc1 x0 x1 xs0 y = xs0 y + ∑ e : Fin 1024, f (y 0).val e.val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x2048.Idx → EReal) a b
/-- The right factor, entry by entry. -/
def entR (a b : ℕ) : EReal := ent (m ((c : Thread nD τ).loc main_arg1) : S2048x256.Idx → EReal) a b

theorem index0 : ∀ t : Fin cfg0.N, win0_0.index t 0 = t.val / 2 / 1 ∧ win0_0.index t 1 = t.val % 2 :=
  (by decide +kernel : ∀ t : Fin grid0.N, win0_0.index t 0 = t.val / 2 / 1 ∧ win0_0.index t 1 = t.val % 2)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1024.Idx) : (iblk m c 0 t : Vec Ideal S1024x1024 .bf16) y = entL m c (1024 * (t.val / 2 / 1) + (y 0).val) (1024 * (t.val % 2) + (y 1).val) := by
  have hi := index0 t
  unfold iblk
  rw [View.read_apply]
  show V m c main_arg0 _ = _
  rw [V_main_arg0]
  refine ent_of (m ((c : Thread nD τ).loc main_arg0) : S2048x2048.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x256.Idx) : (iblk m c 1 t : Vec Ideal S1024x256 .bf16) y = entR m c (1024 * (t.val % 2) + (y 0).val) (256 * (t.val / 2 % 1) + (y 1).val) := by
  have hi := index1 t
  unfold iblk
  rw [View.read_apply]
  show V m c main_arg1 _ = _
  rw [V_main_arg1]
  refine ent_of (m ((c : Thread nD τ).loc main_arg1) : S2048x256.Idx → EReal) _ ?_ ?_
  · show win0_1.index t 0 * 1024 + 1 * (y 0).val = _; rw [hi.1]; omega
  · show win0_1.index t 1 * 256 + 1 * (y 1).val = _; rw [hi.2]; omega

/-- The part of an entry of output block `q` that its `k`-th point adds. -/
def part (q k a b : ℕ) : EReal := ∑ e : Fin 1024, entL m c (1024 * (q / 1) + a) (1024 * k + e.val) * entR m c (1024 * k + e.val) (256 * (q % 1) + b)

/-- The accumulator after a first point. -/
theorem firstAcc (t : Fin cfg0.N) (h : t.val % 2 = 0) (y : S1024x256.Idx) :
    (outsAt0 m c t.val t.isLt).2 y = part m c (t.val / 2) (t.val % 2) (y 0).val (y 1).val := by
  rw [outsAt0_A m c t h (by omega)]
  dsimp only
  exact accA (y := y) (f := fun a b => entL m c (1024 * (t.val / 2 / 1) + a) (1024 * (t.val % 2) + b)) (g := fun a b => entR m c (1024 * (t.val % 2) + a) (256 * (t.val / 2 % 1) + b)) (h0 := iblk0_at m c t) (h1 := iblk1_at m c t) ..

/-- The accumulator after any other point. -/
theorem nextAcc (t : Fin cfg0.N) (h : ¬t.val % 2 = 0) (y : S1024x256.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val / 2 / 1) + a) (1024 * (t.val % 2) + b)) (g := fun a b => entR m c (1024 * (t.val % 2) + a) (256 * (t.val / 2 % 1) + b)) (h0 := iblk0_at m c t) (h1 := iblk1_at m c t) ..

/-- The output's block after a last point. -/
theorem lastOut (t : Fin cfg0.N) (h : t.val % 2 = 1) (y : S1024x256.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val / 2 / 1) + a) (1024 * (t.val % 2) + b)) (g := fun a b => entR m c (1024 * (t.val % 2) + a) (256 * (t.val / 2 % 1) + b)) (h0 := iblk0_at m c t) (h1 := iblk1_at m c t) ..

/-- The accumulator after point `n`: the parts its block has had so far. -/
theorem sums_at : ∀ (n : ℕ) (hn : n < cfg0.N) (y : S1024x256.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x256.Idx) :
    (outsAt0 m c t.val t.isLt).1 y = ∑ e : Fin 2048, entL m c (1024 * (t.val / 2 / 1) + (y 0).val) (e.val) * entR m c (e.val) (256 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (1024 * (t.val / 2 / 1) + (y 0).val) (e) * entR m c (e) (256 * (t.val / 2 % 1) + (y 1).val)) 1024 2 2048 rfl

/-- The product as an array. -/
def res : Vec Ideal S2048x256 .bf16 := fun i => ∑ e : Fin 2048, entL m c ((i 0).val) (e.val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.KvUpDxIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 256 * (t.val / 2 % 1) + (y 1).val = win0_2.index t 1 * 256 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 256 := (i 1).isLt
    have hN : cfg0.N = 4 := N_0
    let t : Fin cfg0.N := ⟨2 * (1 * ((i 0).val / 1024) + (i 1).val / 256) + 1, by omega⟩
    have ht : t.val = 2 * (1 * ((i 0).val / 1024) + (i 1).val / 256) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 256 ≤ (i 1).val ∧ (i 1).val < win0_2.index t 1 * 256 + 256
                rw [hi.2]; omega

end Grid

/-- The reference's result is the same product. -/
theorem refProduct (x0 : (⟨Cert.KvUpDxRefIdeal.S2048x2048, .bf16⟩ : BufTy).Contents (Elt Ideal)) (x1 : (⟨Cert.KvUpDxRefIdeal.S2048x256, .bf16⟩ : BufTy).Contents (Elt Ideal))
    (i : Cert.KvUpDxRefIdeal.S2048x256.Idx) :
    Cert.KvUpDxRefIdeal.Read.val_main_v6 (F := Ideal) x0 x1 i
      = ∑ e : Fin 2048, ent (x0 : S2048x2048.Idx → EReal) ((i 0).val) (e.val) * ent (x1 : S2048x256.Idx → EReal) (e.val) ((i 1).val) := by
  show Cert.KvUpDxRefIdeal.Read.val_main_v5 (F := Ideal) x0 x1 i = _
  refine (Cert.KvUpDxRefIdeal.Read.val_main_v5_apply _ _ i).trans (Finset.sum_congr rfl fun k _ => congrArg₂ (· * ·) ?_ ?_)
  · exact ent_of x0 _ rfl rfl
  · exact (Cert.KvUpDxRefIdeal.Read.val_main_v2_apply _ _).trans (ent_of x1 _ rfl rfl)

open Cert.KvUpDxRefIdeal.Read in
/-- From the same arguments the kernel and the reference end with the same product. -/
theorem algebraic : Cert.algebraic_KvUpDxIdeal_KvUpDxRefIdeal (hKvUpDxIdeal := Cert.KvUpDxIdeal.Gen.facts) (hKvUpDxRefIdeal := Cert.KvUpDxRefIdeal.Gen.facts) := by
  intro m g m' g' _ e
  refine ⟨fun c => res m c, ?_, ?_⟩
  · exact (θ_run _ _ _).mono (fun r p c => ⟨(p c).1.trans (final m c), (p c).2⟩) (Cert.KvUpDxIdeal.Value.run_blocks m g)
  · refine (θ_run _ _ _).mono (fun r p c => ⟨(p c).1.trans ?_, (p c).2⟩) (Cert.KvUpDxRefIdeal.Value.run m' g')
    refine (val_main_v6_eq _ _).trans (funext fun i => ?_)
    refine (refProduct _ _ i).trans ?_
    rw [(e c).1, (e c).2]
    rfl

/-- The reference runs, keeps its arguments, and ends with every semaphore at zero: it has none. -/
theorem frameReference [h : Cert.KvUpDxRefIdeal.Facts] : Cert.quiescent_KvUpDxRefIdeal :=
  fun m g _ => (θ_run _ _ _).mono (fun r h => ⟨fun c => (h c).2, sem_eq_zero_of_no_sems (by decide) r.2⟩)
    (Cert.KvUpDxRefIdeal.Value.run m g)

end Cert.KvUpDxIdeal.Body

end
-- ==== Proof.KvUpDw.lean ====
/- The products of the backward pass of the keys' and values' up-projection, towards its weights: what the kernel leaves, entry by entry, and that the reference leaves the same. -/
module

public import proofs.«01_k».proof.Defs
public import proofs.«01_k».proof.Proof.Product
public import proofs.«01_k».proof.Proof.Gen.KvUpDwIdeal.Value
public import proofs.«01_k».proof.Proof.Gen.KvUpDwRefIdeal
public import proofs.«01_k».proof.Proof.Gen.KvUpDwRefIdeal.Run
public import proofs.«01_k».proof.Proof.Gen.KvUpDwRefIdeal.Read

@[expose] public section

set_option maxRecDepth 16384

noncomputable section

namespace Cert.KvUpDwIdeal.Body

open Cert.KvUpDwIdeal Cert.KvUpDwIdeal.Gen Cert.Product Idealize.ShloMosaic Idealize.ShloMosaic.TcCoe Idealize.SL.Sem
open scoped BigOperators

/-- The accumulator's first contents. -/
theorem pay1_at (y : S1024x256.Idx) : k0_pay1 (F := Ideal) y = (0 : EReal) := by
  unfold k0_pay1
  rw [shapeCast_self]
  exact Ideal.ofBits_zero_f32

/-- One accumulation. -/
theorem pay2_at (v3 : FVec Ideal S1024x256 .f32) (v4 : FVec Ideal S1024x1024 .bf16) (v5 : FVec Ideal S1024x256 .bf16) {f g : ℕ → ℕ → EReal}
    (h4 : ∀ i, v4 i = f (i 0).val (i 1).val) (h5 : ∀ i, v5 i = g (i 0).val (i 1).val) (y : S1024x256.Idx) :
    k0_pay2 (F := Ideal) v3 v4 v5 y = v3 y + ∑ e : Fin 1024, f e.val (y 0).val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x256 .bf16)
  (harg4 : arg4.IsWhole) (arg5 : Memref sig .tc .vmem S1024x256 .bf16) (harg5 : arg5.IsWhole) (arg6 : Memref sig .tc .vmem S1024x256 .f32) (harg6 : arg6.IsWhole)
  (x0 : Vec Ideal S1024x1024 .bf16) (x1 : Vec Ideal S1024x256 .bf16) (xs0 : Vec Ideal S1024x256 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x256.Idx) :
    sout0_A_0 c i arg3 harg3 arg4 harg4 arg5 harg5 arg6 harg6 hc0 hc1 x0 x1 y = ∑ e : Fin 1024, f e.val (y 0).val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x256.Idx) :
    sout0_B_0 c i arg3 harg3 arg4 harg4 arg5 harg5 arg6 harg6 hc0 hc1 x0 x1 xs0 y = xs0 y + ∑ e : Fin 1024, f e.val (y 0).val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x256.Idx) :
    out0_B_2 c i arg3 harg3 arg4 harg4 arg5 harg5 arg6 harg6 hc0 hc1 x0 x1 xs0 y = xs0 y + ∑ e : Fin 1024, f e.val (y 0).val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x2048.Idx → EReal) a b
/-- The right factor, entry by entry. -/
def entR (a b : ℕ) : EReal := ent (m ((c : Thread nD τ).loc main_arg1) : S2048x256.Idx → EReal) a b

theorem index0 : ∀ t : Fin cfg0.N, win0_0.index t 0 = t.val % 2 ∧ win0_0.index t 1 = t.val / 2 / 1 :=
  (by decide +kernel : ∀ t : Fin grid0.N, win0_0.index t 0 = t.val % 2 ∧ win0_0.index t 1 = t.val / 2 / 1)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x1024.Idx) : (iblk m c 0 t : Vec Ideal S1024x1024 .bf16) y = entL m c (1024 * (t.val % 2) + (y 0).val) (1024 * (t.val / 2 / 1) + (y 1).val) := by
  have hi := index0 t
  unfold iblk
  rw [View.read_apply]
  show V m c main_arg0 _ = _
  rw [V_main_arg0]
  refine ent_of (m ((c : Thread nD τ).loc main_arg0) : S2048x2048.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x256.Idx) : (iblk m c 1 t : Vec Ideal S1024x256 .bf16) y = entR m c (1024 * (t.val % 2) + (y 0).val) (256 * (t.val / 2 % 1) + (y 1).val) := by
  have hi := index1 t
  unfold iblk
  rw [View.read_apply]
  show V m c main_arg1 _ = _
  rw [V_main_arg1]
  refine ent_of (m ((c : Thread nD τ).loc main_arg1) : S2048x256.Idx → EReal) _ ?_ ?_
  · show win0_1.index t 0 * 1024 + 1 * (y 0).val = _; rw [hi.1]; omega
  · show win0_1.index t 1 * 256 + 1 * (y 1).val = _; rw [hi.2]; omega

/-- The part of an entry of output block `q` that its `k`-th point adds. -/
def part (q k a b : ℕ) : EReal := ∑ e : Fin 1024, entL m c (1024 * k + e.val) (1024 * (q / 1) + a) * entR m c (1024 * k + e.val) (256 * (q % 1) + b)

/-- The accumulator after a first point. -/
theorem firstAcc (t : Fin cfg0.N) (h : t.val % 2 = 0) (y : S1024x256.Idx) :
    (outsAt0 m c t.val t.isLt).2 y = part m c (t.val / 2) (t.val % 2) (y 0).val (y 1).val := by
  rw [outsAt0_A m c t h (by omega)]
  dsimp only
  exact accA (y := y) (f := fun a b => entL m c (1024 * (t.val % 2) + a) (1024 * (t.val / 2 / 1) + b)) (g := fun a b => entR m c (1024 * (t.val % 2) + a) (256 * (t.val / 2 % 1) + b)) (h0 := iblk0_at m c t) (h1 := iblk1_at m c t) ..

/-- The accumulator after any other point. -/
theorem nextAcc (t : Fin cfg0.N) (h : ¬t.val % 2 = 0) (y : S1024x256.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val % 2) + a) (1024 * (t.val / 2 / 1) + b)) (g := fun a b => entR m c (1024 * (t.val % 2) + a) (256 * (t.val / 2 % 1) + b)) (h0 := iblk0_at m c t) (h1 := iblk1_at m c t) ..

/-- The output's block after a last point. -/
theorem lastOut (t : Fin cfg0.N) (h : t.val % 2 = 1) (y : S1024x256.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val % 2) + a) (1024 * (t.val / 2 / 1) + b)) (g := fun a b => entR m c (1024 * (t.val % 2) + a) (256 * (t.val / 2 % 1) + b)) (h0 := iblk0_at m c t) (h1 := iblk1_at m c t) ..

/-- The accumulator after point `n`: the parts its block has had so far. -/
theorem sums_at : ∀ (n : ℕ) (hn : n < cfg0.N) (y : S1024x256.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x256.Idx) :
    (outsAt0 m c t.val t.isLt).1 y = ∑ e : Fin 2048, entL m c (e.val) (1024 * (t.val / 2 / 1) + (y 0).val) * entR m c (e.val) (256 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (e) (1024 * (t.val / 2 / 1) + (y 0).val) * entR m c (e) (256 * (t.val / 2 % 1) + (y 1).val)) 1024 2 2048 rfl

/-- The product as an array. -/
def res : Vec Ideal S2048x256 .bf16 := fun i => ∑ e : Fin 2048, entL m c (e.val) ((i 0).val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.KvUpDwIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 256 * (t.val / 2 % 1) + (y 1).val = win0_2.index t 1 * 256 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 256 := (i 1).isLt
    have hN : cfg0.N = 4 := N_0
    let t : Fin cfg0.N := ⟨2 * (1 * ((i 0).val / 1024) + (i 1).val / 256) + 1, by omega⟩
    have ht : t.val = 2 * (1 * ((i 0).val / 1024) + (i 1).val / 256) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 256 ≤ (i 1).val ∧ (i 1).val < win0_2.index t 1 * 256 + 256
                rw [hi.2]; omega

end Grid

/-- The reference's result is the same product. -/
theorem refProduct (x0 : (⟨Cert.KvUpDwRefIdeal.S2048x2048, .bf16⟩ : BufTy).Contents (Elt Ideal)) (x1 : (⟨Cert.KvUpDwRefIdeal.S2048x256, .bf16⟩ : BufTy).Contents (Elt Ideal))
    (i : Cert.KvUpDwRefIdeal.S2048x256.Idx) :
    Cert.KvUpDwRefIdeal.Read.val_main_v8 (F := Ideal) x0 x1 i
      = ∑ e : Fin 2048, ent (x0 : S2048x2048.Idx → EReal) (e.val) ((i 0).val) * ent (x1 : S2048x256.Idx → EReal) (e.val) ((i 1).val) := by
  show Cert.KvUpDwRefIdeal.Read.val_main_v7 (F := Ideal) x0 x1 i = _
  refine ((Cert.KvUpDwRefIdeal.Read.val_main_v7_apply _ _ _).trans ((Cert.KvUpDwRefIdeal.Read.val_main_v6_apply _ _ _).trans (Cert.KvUpDwRefIdeal.Read.val_main_v5_apply _ _ _))).trans
    (Finset.sum_congr rfl fun k _ => congrArg₂ (· * ·) ?_ ?_)
  · exact ent_of x0 _ rfl rfl
  · exact ent_of x1 _ rfl rfl

open Cert.KvUpDwRefIdeal.Read in
/-- From the same arguments the kernel and the reference end with the same product. -/
theorem algebraic : Cert.algebraic_KvUpDwIdeal_KvUpDwRefIdeal (hKvUpDwIdeal := Cert.KvUpDwIdeal.Gen.facts) (hKvUpDwRefIdeal := Cert.KvUpDwRefIdeal.Gen.facts) := by
  intro m g m' g' _ e
  refine ⟨fun c => res m c, ?_, ?_⟩
  · exact (θ_run _ _ _).mono (fun r p c => ⟨(p c).1.trans (final m c), (p c).2⟩) (Cert.KvUpDwIdeal.Value.run_blocks m g)
  · refine (θ_run _ _ _).mono (fun r p c => ⟨(p c).1.trans ?_, (p c).2⟩) (Cert.KvUpDwRefIdeal.Value.run m' g')
    refine (val_main_v8_eq _ _).trans (funext fun i => ?_)
    refine (refProduct _ _ i).trans ?_
    rw [(e c).1, (e c).2]
    rfl

/-- The reference runs, keeps its arguments, and ends with every semaphore at zero: it has none. -/
theorem frameReference [h : Cert.KvUpDwRefIdeal.Facts] : Cert.quiescent_KvUpDwRefIdeal :=
  fun m g _ => (θ_run _ _ _).mono (fun r h => ⟨fun c => (h c).2, sem_eq_zero_of_no_sems (by decide) r.2⟩)
    (Cert.KvUpDwRefIdeal.Value.run m g)

end Cert.KvUpDwIdeal.Body

end
-- ==== Proof.InFwd.lean ====
/- The products of the forward pass of the input projection: what the kernel leaves, entry by entry, and that the reference leaves the same. -/
module

public import proofs.«01_k».proof.Defs
public import proofs.«01_k».proof.Proof.Product
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read

@[expose] public section

set_option maxRecDepth 16384

noncomputable section

namespace Cert.InFwdIdeal.Body

open Cert.InFwdIdeal Cert.InFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f (y 0).val e.val * g (y 1).val e.val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 1024, f (y 0).val e.val * g (y 1).val e.val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S11264x1024.Idx → EReal) a b

theorem index0 : ∀ t : Fin cfg0.N, win0_0.index t 0 = t.val / 1 / 11 ∧ win0_0.index t 1 = 0 :=
  (by decide +kernel : ∀ t : Fin grid0.N, win0_0.index t 0 = t.val / 1 / 11 ∧ win0_0.index t 1 = 0)
theorem index1 : ∀ t : Fin cfg0.N, win0_1.index t 0 = t.val / 1 % 11 ∧ win0_1.index t 1 = 0 :=
  (by decide +kernel : ∀ t : Fin grid0.N, win0_1.index t 0 = t.val / 1 % 11 ∧ win0_1.index t 1 = 0)
theorem index2 : ∀ t : Fin cfg0.N, win0_2.index t 0 = t.val / 1 / 11 ∧ win0_2.index t 1 = t.val / 1 % 11 :=
  (by decide +kernel : ∀ t : Fin grid0.N, win0_2.index t 0 = t.val / 1 / 11 ∧ win0_2.index t 1 = t.val / 1 % 11)

/-- The left factor's block at a point. -/
theorem iblk0_at (t : Fin cfg0.N) (y : S1024x1024.Idx) : (iblk m c 0 t : Vec Ideal S1024x1024 .bf16) y = entL m c (1024 * (t.val / 1 / 11) + (y 0).val) ((y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c (1024 * (t.val / 1 % 11) + (y 0).val) ((y 1).val) := by
  have hi := index1 t
  unfold iblk
  rw [View.read_apply]
  show V m c main_arg1 _ = _
  rw [V_main_arg1]
  refine ent_of (m ((c : Thread nD τ).loc main_arg1) : S11264x1024.Idx → EReal) _ ?_ ?_
  · show win0_1.index t 0 * 1024 + 1 * (y 0).val = _; rw [hi.1]; omega
  · show win0_1.index t 1 * 1024 + 1 * (y 1).val = _; rw [hi.2]; omega

/-- The output's block after a point. -/
theorem block_at (t : Fin cfg0.N) (y : S1024x1024.Idx) :
    (outsAt0 m c t) y = ∑ e : Fin 1024, entL m c (1024 * (t.val / 1 / 11) + (y 0).val) (e.val) * entR m c (1024 * (t.val / 1 % 11) + (y 1).val) (e.val) := by
  unfold outsAt0
  exact outAt (y := y) (f := fun a b => entL m c (1024 * (t.val / 1 / 11) + a) (b)) (g := fun a b => entR m c (1024 * (t.val / 1 % 11) + a) (b)) (h0 := iblk0_at m c t) (h1 := iblk1_at m c t) ..

/-- The product as an array. -/
def res : Vec Ideal S2048x11264 .bf16 := fun i => ∑ e : Fin 1024, entL m c ((i 0).val) (e.val) * entR m c ((i 1).val) (e.val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.InFwdIdeal.Value.flushed2]
  funext y
  rw [View.read_apply]
  refine (block_at m c t y).trans ?_
  have e0 : 1024 * (t.val / 1 / 11) + (y 0).val = win0_2.index t 0 * 1024 + 1 * (y 0).val := by rw [hi.1]; omega
  have e1 : 1024 * (t.val / 1 % 11) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 11264 := (i 1).isLt
    have hN : cfg0.N = 22 := N_0
    let t : Fin cfg0.N := ⟨1 * (11 * ((i 0).val / 1024) + (i 1).val / 1024) + 0, by omega⟩
    have ht : t.val = 1 * (11 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.InFwdRefIdeal.S2048x1024, .bf16⟩ : BufTy).Contents (Elt Ideal)) (x1 : (⟨Cert.InFwdRefIdeal.S11264x1024, .bf16⟩ : BufTy).Contents (Elt Ideal))
    (i : Cert.InFwdRefIdeal.S2048x11264.Idx) :
    Cert.InFwdRefIdeal.Read.val_main_v4 (F := Ideal) x0 x1 i
      = ∑ e : Fin 1024, ent (x0 : S2048x1024.Idx → EReal) ((i 0).val) (e.val) * ent (x1 : S11264x1024.Idx → EReal) ((i 1).val) (e.val) := by
  show Cert.InFwdRefIdeal.Read.val_main_v3 (F := Ideal) x0 x1 i = _
  refine (Cert.InFwdRefIdeal.Read.val_main_v3_apply _ _ i).trans (Finset.sum_congr rfl fun k _ => congrArg₂ (· * ·) ?_ ?_)
  · exact ent_of x0 _ rfl rfl
  · exact (Cert.InFwdRefIdeal.Read.val_main_v2_apply _ _).trans (ent_of x1 _ rfl rfl)

open Cert.InFwdRefIdeal.Read in
/-- From the same arguments the kernel and the reference end with the same product. -/
theorem algebraic : Cert.algebraic_InFwdIdeal_InFwdRefIdeal (hInFwdIdeal := Cert.InFwdIdeal.Gen.facts) (hInFwdRefIdeal := Cert.InFwdRefIdeal.Gen.facts) := by
  intro m g m' g' _ e
  refine ⟨fun c => res m c, ?_, ?_⟩
  · exact (θ_run _ _ _).mono (fun r p c => ⟨(p c).1.trans (final m c), (p c).2⟩) (Cert.InFwdIdeal.Value.run_blocks m g)
  · refine (θ_run _ _ _).mono (fun r p c => ⟨(p c).1.trans ?_, (p c).2⟩) (Cert.InFwdRefIdeal.Value.run m' g')
    refine (val_main_v4_eq _ _).trans (funext fun i => ?_)
    refine (refProduct _ _ i).trans ?_
    rw [(e c).1, (e c).2]
    rfl

/-- The reference runs, keeps its arguments, and ends with every semaphore at zero: it has none. -/
theorem frameReference [h : Cert.InFwdRefIdeal.Facts] : Cert.quiescent_InFwdRefIdeal :=
  fun m g _ => (θ_run _ _ _).mono (fun r h => ⟨fun c => (h c).2, sem_eq_zero_of_no_sems (by decide) r.2⟩)
    (Cert.InFwdRefIdeal.Value.run m g)

end Cert.InFwdIdeal.Body

end
-- ==== Proof.QUpFwd.lean ====
/- The products of the forward pass of the queries' up-projection: what the kernel leaves, entry by entry, and that the reference leaves the same. -/
module

public import proofs.«01_k».proof.Defs
public import proofs.«01_k».proof.Proof.Product
public import proofs.«01_k».proof.Proof.Gen.QUpFwdIdeal.Value
public import proofs.«01_k».proof.Proof.Gen.QUpFwdRefIdeal
public import proofs.«01_k».proof.Proof.Gen.QUpFwdRefIdeal.Run
public import proofs.«01_k».proof.Proof.Gen.QUpFwdRefIdeal.Read

@[expose] public section

set_option maxRecDepth 16384

noncomputable section

namespace Cert.QUpFwdIdeal.Body

open Cert.QUpFwdIdeal Cert.QUpFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x384 .bf16) (v5 : FVec Ideal S1024x384 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 384, f (y 0).val e.val * g (y 1).val e.val := by
  unfold k0_pay2
  dsimp only
  rw [shapeCast_self]
  exact congrArg (v3 y + ·) (mm _ 384 rfl rfl v4 v5 _ _ y (fun _ => h4 _) (fun _ => h5 _))

section Cases

variable (c : Dev nD) (i : grid0.Coords) (arg3 : Memref sig .tc .vmem S1024x384 .bf16) (harg3 : arg3.IsWhole) (arg4 : Memref sig .tc .vmem S1024x384 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x384 .bf16) (x1 : Vec Ideal S1024x384 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 384, f (y 0).val e.val * g (y 1).val e.val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x384.Idx → EReal) a b
/-- The right factor, entry by entry. -/
def entR (a b : ℕ) : EReal := ent (m ((c : Thread nD τ).loc main_arg1) : S2048x384.Idx → EReal) a b

theorem index0 : ∀ t : Fin cfg0.N, win0_0.index t 0 = t.val / 1 / 2 ∧ win0_0.index t 1 = 0 :=
  (by decide +kernel : ∀ t : Fin grid0.N, win0_0.index t 0 = t.val / 1 / 2 ∧ win0_0.index t 1 = 0)
theorem index1 : ∀ t : Fin cfg0.N, win0_1.index t 0 = t.val / 1 % 2 ∧ win0_1.index t 1 = 0 :=
  (by decide +kernel : ∀ t : Fin grid0.N, win0_1.index t 0 = t.val / 1 % 2 ∧ win0_1.index t 1 = 0)
theorem index2 : ∀ t : Fin cfg0.N, win0_2.index t 0 = t.val / 1 / 2 ∧ win0_2.index t 1 = t.val / 1 % 2 :=
  (by decide +kernel : ∀ t : Fin grid0.N, win0_2.index t 0 = t.val / 1 / 2 ∧ win0_2.index t 1 = t.val / 1 % 2)

/-- The left factor's block at a point. -/
theorem iblk0_at (t : Fin cfg0.N) (y : S1024x384.Idx) : (iblk m c 0 t : Vec Ideal S1024x384 .bf16) y = entL m c (1024 * (t.val / 1 / 2) + (y 0).val) ((y 1).val) := by
  have hi := index0 t
  unfold iblk
  rw [View.read_apply]
  show V m c main_arg0 _ = _
  rw [V_main_arg0]
  refine ent_of (m ((c : Thread nD τ).loc main_arg0) : S2048x384.Idx → EReal) _ ?_ ?_
  · show win0_0.index t 0 * 1024 + 1 * (y 0).val = _; rw [hi.1]; omega
  · show win0_0.index t 1 * 384 + 1 * (y 1).val = _; rw [hi.2]; omega

/-- The right factor's block at a point. -/
theorem iblk1_at (t : Fin cfg0.N) (y : S1024x384.Idx) : (iblk m c 1 t : Vec Ideal S1024x384 .bf16) y = entR m c (1024 * (t.val / 1 % 2) + (y 0).val) ((y 1).val) := by
  have hi := index1 t
  unfold iblk
  rw [View.read_apply]
  show V m c main_arg1 _ = _
  rw [V_main_arg1]
  refine ent_of (m ((c : Thread nD τ).loc main_arg1) : S2048x384.Idx → EReal) _ ?_ ?_
  · show win0_1.index t 0 * 1024 + 1 * (y 0).val = _; rw [hi.1]; omega
  · show win0_1.index t 1 * 384 + 1 * (y 1).val = _; rw [hi.2]; omega

/-- The output's block after a point. -/
theorem block_at (t : Fin cfg0.N) (y : S1024x1024.Idx) :
    (outsAt0 m c t) y = ∑ e : Fin 384, entL m c (1024 * (t.val / 1 / 2) + (y 0).val) (e.val) * entR m c (1024 * (t.val / 1 % 2) + (y 1).val) (e.val) := by
  unfold outsAt0
  exact outAt (y := y) (f := fun a b => entL m c (1024 * (t.val / 1 / 2) + a) (b)) (g := fun a b => entR m c (1024 * (t.val / 1 % 2) + a) (b)) (h0 := iblk0_at m c t) (h1 := iblk1_at m c t) ..

/-- The product as an array. -/
def res : Vec Ideal S2048x2048 .bf16 := fun i => ∑ e : Fin 384, entL m c ((i 0).val) (e.val) * entR m c ((i 1).val) (e.val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.QUpFwdIdeal.Value.flushed2]
  funext y
  rw [View.read_apply]
  refine (block_at m c t y).trans ?_
  have e0 : 1024 * (t.val / 1 / 2) + (y 0).val = win0_2.index t 0 * 1024 + 1 * (y 0).val := by rw [hi.1]; omega
  have e1 : 1024 * (t.val / 1 % 2) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 2048 := (i 1).isLt
    have hN : cfg0.N = 4 := N_0
    let t : Fin cfg0.N := ⟨1 * (2 * ((i 0).val / 1024) + (i 1).val / 1024) + 0, by omega⟩
    have ht : t.val = 1 * (2 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.QUpFwdRefIdeal.S2048x384, .bf16⟩ : BufTy).Contents (Elt Ideal)) (x1 : (⟨Cert.QUpFwdRefIdeal.S2048x384, .bf16⟩ : BufTy).Contents (Elt Ideal))
    (i : Cert.QUpFwdRefIdeal.S2048x2048.Idx) :
    Cert.QUpFwdRefIdeal.Read.val_main_v4 (F := Ideal) x0 x1 i
      = ∑ e : Fin 384, ent (x0 : S2048x384.Idx → EReal) ((i 0).val) (e.val) * ent (x1 : S2048x384.Idx → EReal) ((i 1).val) (e.val) := by
  show Cert.QUpFwdRefIdeal.Read.val_main_v3 (F := Ideal) x0 x1 i = _
  refine (Cert.QUpFwdRefIdeal.Read.val_main_v3_apply _ _ i).trans (Finset.sum_congr rfl fun k _ => congrArg₂ (· * ·) ?_ ?_)
  · exact ent_of x0 _ rfl rfl
  · exact (Cert.QUpFwdRefIdeal.Read.val_main_v2_apply _ _).trans (ent_of x1 _ rfl rfl)

open Cert.QUpFwdRefIdeal.Read in
/-- From the same arguments the kernel and the reference end with the same product. -/
theorem algebraic : Cert.algebraic_QUpFwdIdeal_QUpFwdRefIdeal (hQUpFwdIdeal := Cert.QUpFwdIdeal.Gen.facts) (hQUpFwdRefIdeal := Cert.QUpFwdRefIdeal.Gen.facts) := by
  intro m g m' g' _ e
  refine ⟨fun c => res m c, ?_, ?_⟩
  · exact (θ_run _ _ _).mono (fun r p c => ⟨(p c).1.trans (final m c), (p c).2⟩) (Cert.QUpFwdIdeal.Value.run_blocks m g)
  · refine (θ_run _ _ _).mono (fun r p c => ⟨(p c).1.trans ?_, (p c).2⟩) (Cert.QUpFwdRefIdeal.Value.run m' g')
    refine (val_main_v4_eq _ _).trans (funext fun i => ?_)
    refine (refProduct _ _ i).trans ?_
    rw [(e c).1, (e c).2]
    rfl

/-- The reference runs, keeps its arguments, and ends with every semaphore at zero: it has none. -/
theorem frameReference [h : Cert.QUpFwdRefIdeal.Facts] : Cert.quiescent_QUpFwdRefIdeal :=
  fun m g _ => (θ_run _ _ _).mono (fun r h => ⟨fun c => (h c).2, sem_eq_zero_of_no_sems (by decide) r.2⟩)
    (Cert.QUpFwdRefIdeal.Value.run m g)

end Cert.QUpFwdIdeal.Body

end
-- ==== Proof.KvUpFwd.lean ====
/- The products of the forward pass of the keys' and values' up-projection: what the kernel leaves, entry by entry, and that the reference leaves the same. -/
module

public import proofs.«01_k».proof.Defs
public import proofs.«01_k».proof.Proof.Product
public import proofs.«01_k».proof.Proof.Gen.KvUpFwdIdeal.Value
public import proofs.«01_k».proof.Proof.Gen.KvUpFwdRefIdeal
public import proofs.«01_k».proof.Proof.Gen.KvUpFwdRefIdeal.Run
public import proofs.«01_k».proof.Proof.Gen.KvUpFwdRefIdeal.Read

@[expose] public section

set_option maxRecDepth 16384

noncomputable section

namespace Cert.KvUpFwdIdeal.Body

open Cert.KvUpFwdIdeal Cert.KvUpFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x256 .bf16) (v5 : FVec Ideal S1024x256 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 256, f (y 0).val e.val * g (y 1).val e.val := by
  unfold k0_pay2
  dsimp only
  rw [shapeCast_self]
  exact congrArg (v3 y + ·) (mm _ 256 rfl rfl v4 v5 _ _ y (fun _ => h4 _) (fun _ => h5 _))

section Cases

variable (c : Dev nD) (i : grid0.Coords) (arg3 : Memref sig .tc .vmem S1024x256 .bf16) (harg3 : arg3.IsWhole) (arg4 : Memref sig .tc .vmem S1024x256 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x256 .bf16) (x1 : Vec Ideal S1024x256 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 256, f (y 0).val e.val * g (y 1).val e.val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x256.Idx → EReal) a b
/-- The right factor, entry by entry. -/
def entR (a b : ℕ) : EReal := ent (m ((c : Thread nD τ).loc main_arg1) : S2048x256.Idx → EReal) a b

theorem index0 : ∀ t : Fin cfg0.N, win0_0.index t 0 = t.val / 1 / 2 ∧ win0_0.index t 1 = 0 :=
  (by decide +kernel : ∀ t : Fin grid0.N, win0_0.index t 0 = t.val / 1 / 2 ∧ win0_0.index t 1 = 0)
theorem index1 : ∀ t : Fin cfg0.N, win0_1.index t 0 = t.val / 1 % 2 ∧ win0_1.index t 1 = 0 :=
  (by decide +kernel : ∀ t : Fin grid0.N, win0_1.index t 0 = t.val / 1 % 2 ∧ win0_1.index t 1 = 0)
theorem index2 : ∀ t : Fin cfg0.N, win0_2.index t 0 = t.val / 1 / 2 ∧ win0_2.index t 1 = t.val / 1 % 2 :=
  (by decide +kernel : ∀ t : Fin grid0.N, win0_2.index t 0 = t.val / 1 / 2 ∧ win0_2.index t 1 = t.val / 1 % 2)

/-- The left factor's block at a point. -/
theorem iblk0_at (t : Fin cfg0.N) (y : S1024x256.Idx) : (iblk m c 0 t : Vec Ideal S1024x256 .bf16) y = entL m c (1024 * (t.val / 1 / 2) + (y 0).val) ((y 1).val) := by
  have hi := index0 t
  unfold iblk
  rw [View.read_apply]
  show V m c main_arg0 _ = _
  rw [V_main_arg0]
  refine ent_of (m ((c : Thread nD τ).loc main_arg0) : S2048x256.Idx → EReal) _ ?_ ?_
  · show win0_0.index t 0 * 1024 + 1 * (y 0).val = _; rw [hi.1]; omega
  · show win0_0.index t 1 * 256 + 1 * (y 1).val = _; rw [hi.2]; omega

/-- The right factor's block at a point. -/
theorem iblk1_at (t : Fin cfg0.N) (y : S1024x256.Idx) : (iblk m c 1 t : Vec Ideal S1024x256 .bf16) y = entR m c (1024 * (t.val / 1 % 2) + (y 0).val) ((y 1).val) := by
  have hi := index1 t
  unfold iblk
  rw [View.read_apply]
  show V m c main_arg1 _ = _
  rw [V_main_arg1]
  refine ent_of (m ((c : Thread nD τ).loc main_arg1) : S2048x256.Idx → EReal) _ ?_ ?_
  · show win0_1.index t 0 * 1024 + 1 * (y 0).val = _; rw [hi.1]; omega
  · show win0_1.index t 1 * 256 + 1 * (y 1).val = _; rw [hi.2]; omega

/-- The output's block after a point. -/
theorem block_at (t : Fin cfg0.N) (y : S1024x1024.Idx) :
    (outsAt0 m c t) y = ∑ e : Fin 256, entL m c (1024 * (t.val / 1 / 2) + (y 0).val) (e.val) * entR m c (1024 * (t.val / 1 % 2) + (y 1).val) (e.val) := by
  unfold outsAt0
  exact outAt (y := y) (f := fun a b => entL m c (1024 * (t.val / 1 / 2) + a) (b)) (g := fun a b => entR m c (1024 * (t.val / 1 % 2) + a) (b)) (h0 := iblk0_at m c t) (h1 := iblk1_at m c t) ..

/-- The product as an array. -/
def res : Vec Ideal S2048x2048 .bf16 := fun i => ∑ e : Fin 256, entL m c ((i 0).val) (e.val) * entR m c ((i 1).val) (e.val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.KvUpFwdIdeal.Value.flushed2]
  funext y
  rw [View.read_apply]
  refine (block_at m c t y).trans ?_
  have e0 : 1024 * (t.val / 1 / 2) + (y 0).val = win0_2.index t 0 * 1024 + 1 * (y 0).val := by rw [hi.1]; omega
  have e1 : 1024 * (t.val / 1 % 2) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 2048 := (i 1).isLt
    have hN : cfg0.N = 4 := N_0
    let t : Fin cfg0.N := ⟨1 * (2 * ((i 0).val / 1024) + (i 1).val / 1024) + 0, by omega⟩
    have ht : t.val = 1 * (2 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.KvUpFwdRefIdeal.S2048x256, .bf16⟩ : BufTy).Contents (Elt Ideal)) (x1 : (⟨Cert.KvUpFwdRefIdeal.S2048x256, .bf16⟩ : BufTy).Contents (Elt Ideal))
    (i : Cert.KvUpFwdRefIdeal.S2048x2048.Idx) :
    Cert.KvUpFwdRefIdeal.Read.val_main_v4 (F := Ideal) x0 x1 i
      = ∑ e : Fin 256, ent (x0 : S2048x256.Idx → EReal) ((i 0).val) (e.val) * ent (x1 : S2048x256.Idx → EReal) ((i 1).val) (e.val) := by
  show Cert.KvUpFwdRefIdeal.Read.val_main_v3 (F := Ideal) x0 x1 i = _
  refine (Cert.KvUpFwdRefIdeal.Read.val_main_v3_apply _ _ i).trans (Finset.sum_congr rfl fun k _ => congrArg₂ (· * ·) ?_ ?_)
  · exact ent_of x0 _ rfl rfl
  · exact (Cert.KvUpFwdRefIdeal.Read.val_main_v2_apply _ _).trans (ent_of x1 _ rfl rfl)

open Cert.KvUpFwdRefIdeal.Read in
/-- From the same arguments the kernel and the reference end with the same product. -/
theorem algebraic : Cert.algebraic_KvUpFwdIdeal_KvUpFwdRefIdeal (hKvUpFwdIdeal := Cert.KvUpFwdIdeal.Gen.facts) (hKvUpFwdRefIdeal := Cert.KvUpFwdRefIdeal.Gen.facts) := by
  intro m g m' g' _ e
  refine ⟨fun c => res m c, ?_, ?_⟩
  · exact (θ_run _ _ _).mono (fun r p c => ⟨(p c).1.trans (final m c), (p c).2⟩) (Cert.KvUpFwdIdeal.Value.run_blocks m g)
  · refine (θ_run _ _ _).mono (fun r p c => ⟨(p c).1.trans ?_, (p c).2⟩) (Cert.KvUpFwdRefIdeal.Value.run m' g')
    refine (val_main_v4_eq _ _).trans (funext fun i => ?_)
    refine (refProduct _ _ i).trans ?_
    rw [(e c).1, (e c).2]
    rfl

/-- The reference runs, keeps its arguments, and ends with every semaphore at zero: it has none. -/
theorem frameReference [h : Cert.KvUpFwdRefIdeal.Facts] : Cert.quiescent_KvUpFwdRefIdeal :=
  fun m g _ => (θ_run _ _ _).mono (fun r h => ⟨fun c => (h c).2, sem_eq_zero_of_no_sems (by decide) r.2⟩)
    (Cert.KvUpFwdRefIdeal.Value.run m g)

end Cert.KvUpFwdIdeal.Body

end
-- ==== Proof.ProjAFwd.lean ====
/- The products of the forward pass of the first mixer's projection: what the kernel leaves, entry by entry, and that the reference leaves the same. -/
module

public import proofs.«01_k».proof.Defs
public import proofs.«01_k».proof.Proof.Product
public import proofs.«01_k».proof.Proof.Gen.ProjAFwdIdeal.Value
public import proofs.«01_k».proof.Proof.Gen.ProjAFwdRefIdeal
public import proofs.«01_k».proof.Proof.Gen.ProjAFwdRefIdeal.Run
public import proofs.«01_k».proof.Proof.Gen.ProjAFwdRefIdeal.Read

@[expose] public section

set_option maxRecDepth 16384

noncomputable section

namespace Cert.ProjAFwdIdeal.Body

open Cert.ProjAFwdIdeal Cert.ProjAFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f (y 0).val e.val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 1024, f (y 0).val e.val * g e.val (y 1).val := by
  unfold out0_A_2 kernelRun0_A
  dsimp only
  rw [single _ corner]
  change kernelRun0_A.sl.v14 c arg3 harg3 arg4 harg4 arg6 x0 x1 y = _
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S1024x1024.Idx → EReal) a b

theorem index0 : ∀ t : Fin cfg0.N, win0_0.index t 0 = t.val / 1 / 1 ∧ win0_0.index t 1 = 0 :=
  (by decide +kernel : ∀ t : Fin grid0.N, win0_0.index t 0 = t.val / 1 / 1 ∧ win0_0.index t 1 = 0)
theorem index1 : ∀ t : Fin cfg0.N, win0_1.index t 0 = 0 ∧ win0_1.index t 1 = t.val / 1 % 1 :=
  (by decide +kernel : ∀ t : Fin grid0.N, win0_1.index t 0 = 0 ∧ win0_1.index t 1 = t.val / 1 % 1)
theorem index2 : ∀ t : Fin cfg0.N, win0_2.index t 0 = t.val / 1 / 1 ∧ win0_2.index t 1 = t.val / 1 % 1 :=
  (by decide +kernel : ∀ t : Fin grid0.N, win0_2.index t 0 = t.val / 1 / 1 ∧ win0_2.index t 1 = t.val / 1 % 1)

/-- The left factor's block at a point. -/
theorem iblk0_at (t : Fin cfg0.N) (y : S1024x1024.Idx) : (iblk m c 0 t : Vec Ideal S1024x1024 .bf16) y = entL m c (1024 * (t.val / 1 / 1) + (y 0).val) ((y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c ((y 0).val) (1024 * (t.val / 1 % 1) + (y 1).val) := by
  have hi := index1 t
  unfold iblk
  rw [View.read_apply]
  show V m c main_arg1 _ = _
  rw [V_main_arg1]
  refine ent_of (m ((c : Thread nD τ).loc main_arg1) : S1024x1024.Idx → EReal) _ ?_ ?_
  · show win0_1.index t 0 * 1024 + 1 * (y 0).val = _; rw [hi.1]; omega
  · show win0_1.index t 1 * 1024 + 1 * (y 1).val = _; rw [hi.2]; omega

/-- The output's block after a point. -/
theorem block_at (t : Fin cfg0.N) (y : S1024x1024.Idx) :
    (outsAt0 m c t) y = ∑ e : Fin 1024, entL m c (1024 * (t.val / 1 / 1) + (y 0).val) (e.val) * entR m c (e.val) (1024 * (t.val / 1 % 1) + (y 1).val) := by
  unfold outsAt0
  exact outAt (y := y) (f := fun a b => entL m c (1024 * (t.val / 1 / 1) + a) (b)) (g := fun a b => entR m c (a) (1024 * (t.val / 1 % 1) + b)) (h0 := iblk0_at m c t) (h1 := iblk1_at m c t) ..

/-- The product as an array. -/
def res : Vec Ideal S2048x1024 .bf16 := fun i => ∑ e : Fin 1024, entL m c ((i 0).val) (e.val) * entR m c (e.val) ((i 1).val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.ProjAFwdIdeal.Value.flushed2]
  funext y
  rw [View.read_apply]
  refine (block_at m c t y).trans ?_
  have e0 : 1024 * (t.val / 1 / 1) + (y 0).val = win0_2.index t 0 * 1024 + 1 * (y 0).val := by rw [hi.1]; omega
  have e1 : 1024 * (t.val / 1 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1024 := (i 1).isLt
    have hN : cfg0.N = 2 := N_0
    let t : Fin cfg0.N := ⟨1 * (1 * ((i 0).val / 1024) + (i 1).val / 1024) + 0, by omega⟩
    have ht : t.val = 1 * (1 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.ProjAFwdRefIdeal.S2048x1024, .bf16⟩ : BufTy).Contents (Elt Ideal)) (x1 : (⟨Cert.ProjAFwdRefIdeal.S1024x1024, .bf16⟩ : BufTy).Contents (Elt Ideal))
    (i : Cert.ProjAFwdRefIdeal.S2048x1024.Idx) :
    Cert.ProjAFwdRefIdeal.Read.val_main_v3 (F := Ideal) x0 x1 i
      = ∑ e : Fin 1024, ent (x0 : S2048x1024.Idx → EReal) ((i 0).val) (e.val) * ent (x1 : S1024x1024.Idx → EReal) (e.val) ((i 1).val) := by
  show Cert.ProjAFwdRefIdeal.Read.val_main_v2 (F := Ideal) x0 x1 i = _
  refine (Cert.ProjAFwdRefIdeal.Read.val_main_v2_apply _ _ i).trans (Finset.sum_congr rfl fun k _ => congrArg₂ (· * ·) ?_ ?_)
  · exact ent_of x0 _ rfl rfl
  · exact ent_of x1 _ rfl rfl

open Cert.ProjAFwdRefIdeal.Read in
/-- From the same arguments the kernel and the reference end with the same product. -/
theorem algebraic : Cert.algebraic_ProjAFwdIdeal_ProjAFwdRefIdeal (hProjAFwdIdeal := Cert.ProjAFwdIdeal.Gen.facts) (hProjAFwdRefIdeal := Cert.ProjAFwdRefIdeal.Gen.facts) := by
  intro m g m' g' _ e
  refine ⟨fun c => res m c, ?_, ?_⟩
  · exact (θ_run _ _ _).mono (fun r p c => ⟨(p c).1.trans (final m c), (p c).2⟩) (Cert.ProjAFwdIdeal.Value.run_blocks m g)
  · refine (θ_run _ _ _).mono (fun r p c => ⟨(p c).1.trans ?_, (p c).2⟩) (Cert.ProjAFwdRefIdeal.Value.run m' g')
    refine (val_main_v3_eq _ _).trans (funext fun i => ?_)
    refine (refProduct _ _ i).trans ?_
    rw [(e c).1, (e c).2]
    rfl

/-- The reference runs, keeps its arguments, and ends with every semaphore at zero: it has none. -/
theorem frameReference [h : Cert.ProjAFwdRefIdeal.Facts] : Cert.quiescent_ProjAFwdRefIdeal :=
  fun m g _ => (θ_run _ _ _).mono (fun r h => ⟨fun c => (h c).2, sem_eq_zero_of_no_sems (by decide) r.2⟩)
    (Cert.ProjAFwdRefIdeal.Value.run m g)

end Cert.ProjAFwdIdeal.Body

end
-- ==== Proof.ProjCFwd.lean ====
/- The products of the forward pass of the recurrence's projection: what the kernel leaves, entry by entry, and that the reference leaves the same. -/
module

public import proofs.«01_k».proof.Defs
public import proofs.«01_k».proof.Proof.Product
public import proofs.«01_k».proof.Proof.Gen.ProjCFwdIdeal.Value
public import proofs.«01_k».proof.Proof.Gen.ProjCFwdRefIdeal
public import proofs.«01_k».proof.Proof.Gen.ProjCFwdRefIdeal.Run
public import proofs.«01_k».proof.Proof.Gen.ProjCFwdRefIdeal.Read

@[expose] public section

set_option maxRecDepth 16384

noncomputable section

namespace Cert.ProjCFwdIdeal.Body

open Cert.ProjCFwdIdeal Cert.ProjCFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x640 .bf16) (v5 : FVec Ideal S640x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 640, f (y 0).val e.val * g e.val (y 1).val := by
  unfold k0_pay2
  dsimp only
  rw [shapeCast_self]
  exact congrArg (v3 y + ·) (mm _ 640 rfl rfl v4 v5 _ _ y (fun _ => h4 _) (fun _ => h5 _))

section Cases

variable (c : Dev nD) (i : grid0.Coords) (arg3 : Memref sig .tc .vmem S1024x640 .bf16) (harg3 : arg3.IsWhole) (arg4 : Memref sig .tc .vmem S640x1024 .bf16)
  (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x640 .bf16) (x1 : Vec Ideal S640x1024 .bf16) (xs0 : Vec Ideal S1024x1024 .f32)
  {f g : ℕ → ℕ → EReal} (h0 : ∀ i, x0 i = f (i 0).val (i 1).val) (h1 : ∀ i, x1 i = g (i 0).val (i 1).val)

include h0 h1 in
/-- The accumulator after a first point. -/
theorem accA (hc0 : cond0_0 i) (hc1 : ¬cond0_1 i) (y : S1024x1024.Idx) :
    sout0_A_0 c i arg3 harg3 arg4 harg4 arg5 harg5 arg6 harg6 hc0 hc1 x0 x1 y = ∑ e : Fin 640, f (y 0).val e.val * g e.val (y 1).val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

include h0 h1 in
/-- The accumulator after a last point. -/
theorem accB (hc0 : ¬cond0_0 i) (hc1 : cond0_1 i) (y : S1024x1024.Idx) :
    sout0_B_0 c i arg3 harg3 arg4 harg4 arg5 harg5 arg6 harg6 hc0 hc1 x0 x1 xs0 y = xs0 y + ∑ e : Fin 640, f (y 0).val e.val * g e.val (y 1).val := by
  unfold sout0_B_0 kernelRun0_B
  dsimp only
  unfold kernelRun0_B.sl.HS0_1
  rw [single _ corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

include h0 h1 in
/-- The output's block after a last point. -/
theorem outLast (hc0 : ¬cond0_0 i) (hc1 : cond0_1 i) (y : S1024x1024.Idx) :
    out0_B_2 c i arg3 harg3 arg4 harg4 arg5 harg5 arg6 harg6 hc0 hc1 x0 x1 xs0 y = xs0 y + ∑ e : Fin 640, f (y 0).val e.val * g e.val (y 1).val := by
  unfold out0_B_2 kernelRun0_B
  dsimp only
  rw [single _ corner]
  change kernelRun0_B.sl.v14 c arg3 harg3 arg4 harg4 arg6 harg6 x0 x1 xs0 y = _
  unfold kernelRun0_B.sl.v14 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1280.Idx → EReal) a b
/-- The right factor, entry by entry. -/
def entR (a b : ℕ) : EReal := ent (m ((c : Thread nD τ).loc main_arg1) : S1280x1024.Idx → EReal) a b

theorem index0 : ∀ t : Fin cfg0.N, win0_0.index t 0 = t.val / 2 / 1 ∧ win0_0.index t 1 = t.val % 2 :=
  (by decide +kernel : ∀ t : Fin grid0.N, win0_0.index t 0 = t.val / 2 / 1 ∧ win0_0.index t 1 = t.val % 2)
theorem index1 : ∀ t : Fin cfg0.N, win0_1.index t 0 = t.val % 2 ∧ win0_1.index t 1 = t.val / 2 % 1 :=
  (by decide +kernel : ∀ t : Fin grid0.N, win0_1.index t 0 = t.val % 2 ∧ win0_1.index t 1 = t.val / 2 % 1)
theorem index2 : ∀ t : Fin cfg0.N, win0_2.index t 0 = t.val / 2 / 1 ∧ win0_2.index t 1 = t.val / 2 % 1 :=
  (by decide +kernel : ∀ t : Fin grid0.N, win0_2.index t 0 = t.val / 2 / 1 ∧ win0_2.index t 1 = t.val / 2 % 1)

/-- The left factor's block at a point. -/
theorem iblk0_at (t : Fin cfg0.N) (y : S1024x640.Idx) : (iblk m c 0 t : Vec Ideal S1024x640 .bf16) y = entL m c (1024 * (t.val / 2 / 1) + (y 0).val) (640 * (t.val % 2) + (y 1).val) := by
  have hi := index0 t
  unfold iblk
  rw [View.read_apply]
  show V m c main_arg0 _ = _
  rw [V_main_arg0]
  refine ent_of (m ((c : Thread nD τ).loc main_arg0) : S2048x1280.Idx → EReal) _ ?_ ?_
  · show win0_0.index t 0 * 1024 + 1 * (y 0).val = _; rw [hi.1]; omega
  · show win0_0.index t 1 * 640 + 1 * (y 1).val = _; rw [hi.2]; omega

/-- The right factor's block at a point. -/
theorem iblk1_at (t : Fin cfg0.N) (y : S640x1024.Idx) : (iblk m c 1 t : Vec Ideal S640x1024 .bf16) y = entR m c (640 * (t.val % 2) + (y 0).val) (1024 * (t.val / 2 % 1) + (y 1).val) := by
  have hi := index1 t
  unfold iblk
  rw [View.read_apply]
  show V m c main_arg1 _ = _
  rw [V_main_arg1]
  refine ent_of (m ((c : Thread nD τ).loc main_arg1) : S1280x1024.Idx → EReal) _ ?_ ?_
  · show win0_1.index t 0 * 640 + 1 * (y 0).val = _; rw [hi.1]; omega
  · show win0_1.index t 1 * 1024 + 1 * (y 1).val = _; rw [hi.2]; omega

/-- The part of an entry of output block `q` that its `k`-th point adds. -/
def part (q k a b : ℕ) : EReal := ∑ e : Fin 640, entL m c (1024 * (q / 1) + a) (640 * k + e.val) * entR m c (640 * k + e.val) (1024 * (q % 1) + b)

/-- The accumulator after a first point. -/
theorem firstAcc (t : Fin cfg0.N) (h : t.val % 2 = 0) (y : S1024x1024.Idx) :
    (outsAt0 m c t.val t.isLt).2 y = part m c (t.val / 2) (t.val % 2) (y 0).val (y 1).val := by
  rw [outsAt0_A m c t h (by omega)]
  dsimp only
  exact accA (y := y) (f := fun a b => entL m c (1024 * (t.val / 2 / 1) + a) (640 * (t.val % 2) + b)) (g := fun a b => entR m c (640 * (t.val % 2) + a) (1024 * (t.val / 2 % 1) + b)) (h0 := iblk0_at m c t) (h1 := iblk1_at m c t) ..

/-- The accumulator after any other point. -/
theorem nextAcc (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y
      + part m c (t.val / 2) (t.val % 2) (y 0).val (y 1).val := by
  rw [outsAt0_B m c t h (by omega)]; dsimp only; exact accB (y := y) (f := fun a b => entL m c (1024 * (t.val / 2 / 1) + a) (640 * (t.val % 2) + b)) (g := fun a b => entR m c (640 * (t.val % 2) + a) (1024 * (t.val / 2 % 1) + b)) (h0 := iblk0_at m c t) (h1 := iblk1_at m c t) ..

/-- The output's block after a last point. -/
theorem lastOut (t : Fin cfg0.N) (h : t.val % 2 = 1) (y : S1024x1024.Idx) :
    (outsAt0 m c t.val t.isLt).1 y = (outsAt0 m c (t.val - 1) (Nat.lt_of_le_of_lt (Nat.sub_le _ _) t.isLt)).2 y
      + part m c (t.val / 2) (t.val % 2) (y 0).val (y 1).val := by
  rw [outsAt0_B m c t (by omega) h]
  dsimp only
  exact outLast (y := y) (f := fun a b => entL m c (1024 * (t.val / 2 / 1) + a) (640 * (t.val % 2) + b)) (g := fun a b => entR m c (640 * (t.val % 2) + a) (1024 * (t.val / 2 % 1) + b)) (h0 := iblk0_at m c t) (h1 := iblk1_at m c t) ..

/-- The accumulator after point `n`: the parts its block has had so far. -/
theorem sums_at : ∀ (n : ℕ) (hn : n < cfg0.N) (y : S1024x1024.Idx),
    (outsAt0 m c n hn).2 y = ∑ k ∈ Finset.range (n % 2 + 1), part m c (n / 2) k (y 0).val (y 1).val := by
  intro n
  induction n with
  | zero =>
    intro hn y
    refine (firstAcc m c ⟨0, hn⟩ rfl y).trans ?_
    show part m c (0 / 2) (0 % 2) _ _ = _
    rw [Nat.zero_mod, zero_add, Finset.sum_range_one]
  | succ n ih =>
    intro hn y
    by_cases h : (n + 1) % 2 = 0
    · refine (firstAcc m c ⟨n + 1, hn⟩ h y).trans ?_
      show part m c ((n + 1) / 2) ((n + 1) % 2) _ _ = _
      rw [h, zero_add, Finset.sum_range_one]
    · refine (nextAcc m c ⟨n + 1, hn⟩ h y).trans ?_
      show (outsAt0 m c n _).2 y + part m c ((n + 1) / 2) ((n + 1) % 2) _ _ = _
      have e1 : n / 2 = (n + 1) / 2 := by omega
      have e2 : n % 2 + 1 = (n + 1) % 2 := by omega
      rw [ih, e1, e2, Finset.sum_range_succ]

/-- The output's block after a last point, in full. -/
theorem block_at (t : Fin cfg0.N) (h : t.val % 2 = 1) (y : S1024x1024.Idx) :
    (outsAt0 m c t.val t.isLt).1 y = ∑ e : Fin 1280, entL m c (1024 * (t.val / 2 / 1) + (y 0).val) (e.val) * entR m c (e.val) (1024 * (t.val / 2 % 1) + (y 1).val) := by
  refine (lastOut m c t h y).trans ?_
  have e1 : (t.val - 1) / 2 = t.val / 2 := by omega
  have e2 : (t.val - 1) % 2 + 1 = 1 := by omega
  rw [sums_at, e1, e2, h, ← Finset.sum_range_succ]
  exact blocks (fun e => entL m c (1024 * (t.val / 2 / 1) + (y 0).val) (e) * entR m c (e) (1024 * (t.val / 2 % 1) + (y 1).val)) 640 2 1280 rfl

/-- The product as an array. -/
def res : Vec Ideal S2048x1024 .bf16 := fun i => ∑ e : Fin 1280, entL m c ((i 0).val) (e.val) * entR m c (e.val) ((i 1).val)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.ProjCFwdIdeal.Value.flushed2]
  funext y
  rw [View.read_apply]
  refine (block_at m c t ((flush0_2 t).mp hf) y).trans ?_
  have e0 : 1024 * (t.val / 2 / 1) + (y 0).val = win0_2.index t 0 * 1024 + 1 * (y 0).val := by rw [hi.1]; omega
  have e1 : 1024 * (t.val / 2 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1024 := (i 1).isLt
    have hN : cfg0.N = 4 := N_0
    let t : Fin cfg0.N := ⟨2 * (1 * ((i 0).val / 1024) + (i 1).val / 1024) + 1, by omega⟩
    have ht : t.val = 2 * (1 * ((i 0).val / 1024) + (i 1).val / 1024) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.ProjCFwdRefIdeal.S2048x1280, .bf16⟩ : BufTy).Contents (Elt Ideal)) (x1 : (⟨Cert.ProjCFwdRefIdeal.S1280x1024, .bf16⟩ : BufTy).Contents (Elt Ideal))
    (i : Cert.ProjCFwdRefIdeal.S2048x1024.Idx) :
    Cert.ProjCFwdRefIdeal.Read.val_main_v3 (F := Ideal) x0 x1 i
      = ∑ e : Fin 1280, ent (x0 : S2048x1280.Idx → EReal) ((i 0).val) (e.val) * ent (x1 : S1280x1024.Idx → EReal) (e.val) ((i 1).val) := by
  show Cert.ProjCFwdRefIdeal.Read.val_main_v2 (F := Ideal) x0 x1 i = _
  refine (Cert.ProjCFwdRefIdeal.Read.val_main_v2_apply _ _ i).trans (Finset.sum_congr rfl fun k _ => congrArg₂ (· * ·) ?_ ?_)
  · exact ent_of x0 _ rfl rfl
  · exact ent_of x1 _ rfl rfl

open Cert.ProjCFwdRefIdeal.Read in
/-- From the same arguments the kernel and the reference end with the same product. -/
theorem algebraic : Cert.algebraic_ProjCFwdIdeal_ProjCFwdRefIdeal (hProjCFwdIdeal := Cert.ProjCFwdIdeal.Gen.facts) (hProjCFwdRefIdeal := Cert.ProjCFwdRefIdeal.Gen.facts) := by
  intro m g m' g' _ e
  refine ⟨fun c => res m c, ?_, ?_⟩
  · exact (θ_run _ _ _).mono (fun r p c => ⟨(p c).1.trans (final m c), (p c).2⟩) (Cert.ProjCFwdIdeal.Value.run_blocks m g)
  · refine (θ_run _ _ _).mono (fun r p c => ⟨(p c).1.trans ?_, (p c).2⟩) (Cert.ProjCFwdRefIdeal.Value.run m' g')
    refine (val_main_v3_eq _ _).trans (funext fun i => ?_)
    refine (refProduct _ _ i).trans ?_
    rw [(e c).1, (e c).2]
    rfl

/-- The reference runs, keeps its arguments, and ends with every semaphore at zero: it has none. -/
theorem frameReference [h : Cert.ProjCFwdRefIdeal.Facts] : Cert.quiescent_ProjCFwdRefIdeal :=
  fun m g _ => (θ_run _ _ _).mono (fun r h => ⟨fun c => (h c).2, sem_eq_zero_of_no_sems (by decide) r.2⟩)
    (Cert.ProjCFwdRefIdeal.Value.run m g)

end Cert.ProjCFwdIdeal.Body

end
-- ==== Proof.OutFwd.lean ====
/- The products of the forward pass of the output projection: what the kernel leaves, entry by entry, and that the reference leaves the same. -/
module

public import proofs.«01_k».proof.Defs
public import proofs.«01_k».proof.Proof.Product
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read

@[expose] public section

set_option maxRecDepth 16384

noncomputable section

namespace Cert.OutFwdIdeal.Body

open Cert.OutFwdIdeal Cert.OutFwdIdeal.Gen Cert.Product Idealize.ShloMosaic Idealize.ShloMosaic.TcCoe Idealize.SL.Sem
open scoped BigOperators

/-- The accumulator's first contents. -/
theorem pay1_at (y : S1024x1024.Idx) : k0_pay1 (F := Ideal) y = (0 : EReal) := by
  unfold k0_pay1
  rw [shapeCast_self]
  exact Ideal.ofBits_zero_f32

/-- One accumulation. -/
theorem pay2_at (v3 : FVec Ideal S1024x1024 .f32) (v4 : FVec Ideal S1024x1024 .bf16) (v5 : FVec Ideal S1024x1024 .bf16) {f g : ℕ → ℕ → EReal}
    (h4 : ∀ i, v4 i = f (i 0).val (i 1).val) (h5 : ∀ i, v5 i = g (i 0).val (i 1).val) (y : S1024x1024.Idx) :
    k0_pay2 (F := Ideal) v3 v4 v5 y = v3 y + ∑ e : Fin 1024, f (y 0).val e.val * g e.val (y 1).val := by
  unfold k0_pay2
  dsimp only
  rw [shapeCast_self]
  exact congrArg (v3 y + ·) (mm _ 1024 rfl rfl v4 v5 _ _ y (fun _ => h4 _) (fun _ => h5 _))

section Cases

variable (c : Dev nD) (i : grid0.Coords) (arg3 : Memref sig .tc .vmem S1024x1024 .bf16) (harg3 : arg3.IsWhole) (arg4 : Memref sig .tc .vmem S1024x1024 .bf16)
  (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .bf16)
  {f g : ℕ → ℕ → EReal} (h0 : ∀ i, x0 i = f (i 0).val (i 1).val) (h1 : ∀ i, x1 i = g (i 0).val (i 1).val)

include h0 h1 in
/-- The output's block after a point. -/
theorem outAt (hc0 : cond0_0 i) (hc1 : cond0_1 i) (y : S1024x1024.Idx) :
    out0_A_2 c i arg3 harg3 arg4 harg4 arg5 harg5 arg6 harg6 hc0 hc1 x0 x1 y = ∑ e : Fin 1024, f (y 0).val e.val * g e.val (y 1).val := by
  unfold out0_A_2 kernelRun0_A
  dsimp only
  rw [single _ corner]
  unfold kernelRun0_A.sl.v14 kernelRun0_A.sl.HS0_2
  unfold View.readCov
  rw [View.readAt_eq_ld, View.ld_unit_zero corner, newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x1024.Idx → EReal) a b
/-- The right factor, entry by entry. -/
def entR (a b : ℕ) : EReal := ent (m ((c : Thread nD τ).loc main_arg1) : S1024x1024.Idx → EReal) a b

theorem index0 : ∀ t : Fin cfg0.N, win0_0.index t 0 = t.val / 1 / 1 ∧ win0_0.index t 1 = 0 :=
  (by decide +kernel : ∀ t : Fin grid0.N, win0_0.index t 0 = t.val / 1 / 1 ∧ win0_0.index t 1 = 0)
theorem index1 : ∀ t : Fin cfg0.N, win0_1.index t 0 = 0 ∧ win0_1.index t 1 = t.val / 1 % 1 :=
  (by decide +kernel : ∀ t : Fin grid0.N, win0_1.index t 0 = 0 ∧ win0_1.index t 1 = t.val / 1 % 1)
theorem index2 : ∀ t : Fin cfg0.N, win0_2.index t 0 = t.val / 1 / 1 ∧ win0_2.index t 1 = t.val / 1 % 1 :=
  (by decide +kernel : ∀ t : Fin grid0.N, win0_2.index t 0 = t.val / 1 / 1 ∧ win0_2.index t 1 = t.val / 1 % 1)

/-- The left factor's block at a point. -/
theorem iblk0_at (t : Fin cfg0.N) (y : S1024x1024.Idx) : (iblk m c 0 t : Vec Ideal S1024x1024 .bf16) y = entL m c (1024 * (t.val / 1 / 1) + (y 0).val) ((y 1).val) := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 1024 + 1 * (y 0).val = _; rw [hi.1]; omega
  · show win0_0.index t 1 * 1024 + 1 * (y 1).val = _; rw [hi.2]; omega

/-- The right factor's block at a point. -/
theorem iblk1_at (t : Fin cfg0.N) (y : S1024x1024.Idx) : (iblk m c 1 t : Vec Ideal S1024x1024 .bf16) y = entR m c ((y 0).val) (1024 * (t.val / 1 % 1) + (y 1).val) := by
  have hi := index1 t
  unfold iblk
  rw [View.read_apply]
  show V m c main_arg1 _ = _
  rw [V_main_arg1]
  refine ent_of (m ((c : Thread nD τ).loc main_arg1) : S1024x1024.Idx → EReal) _ ?_ ?_
  · show win0_1.index t 0 * 1024 + 1 * (y 0).val = _; rw [hi.1]; omega
  · show win0_1.index t 1 * 1024 + 1 * (y 1).val = _; rw [hi.2]; omega

/-- The output's block after a point. -/
theorem block_at (t : Fin cfg0.N) (y : S1024x1024.Idx) :
    (outsAt0 m c t) y = ∑ e : Fin 1024, entL m c (1024 * (t.val / 1 / 1) + (y 0).val) (e.val) * entR m c (e.val) (1024 * (t.val / 1 % 1) + (y 1).val) := by
  unfold outsAt0
  exact outAt (y := y) (f := fun a b => entL m c (1024 * (t.val / 1 / 1) + a) (b)) (g := fun a b => entR m c (a) (1024 * (t.val / 1 % 1) + b)) (h0 := iblk0_at m c t) (h1 := iblk1_at m c t) ..

/-- The product as an array. -/
def res : Vec Ideal S2048x1024 .f32 := fun i => ∑ e : Fin 1024, entL m c ((i 0).val) (e.val) * entR m c (e.val) ((i 1).val)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.OutFwdIdeal.Value.flushed2]
  funext y
  rw [View.read_apply]
  refine (block_at m c t y).trans ?_
  have e0 : 1024 * (t.val / 1 / 1) + (y 0).val = win0_2.index t 0 * 1024 + 1 * (y 0).val := by rw [hi.1]; omega
  have e1 : 1024 * (t.val / 1 % 1) + (y 1).val = win0_2.index t 1 * 1024 + 1 * (y 1).val := by rw [hi.2]; omega
  rw [e0, e1]
  rfl

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1024 := (i 1).isLt
    have hN : cfg0.N = 2 := N_0
    let t : Fin cfg0.N := ⟨1 * (1 * ((i 0).val / 1024) + (i 1).val / 1024) + 0, by omega⟩
    have ht : t.val = 1 * (1 * ((i 0).val / 1024) + (i 1).val / 1024) + 0 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

end Grid

/-- The reference's result is the same product. -/
theorem refProduct (x0 : (⟨Cert.OutFwdRefIdeal.S2048x1024, .bf16⟩ : BufTy).Contents (Elt Ideal)) (x1 : (⟨Cert.OutFwdRefIdeal.S1024x1024, .bf16⟩ : BufTy).Contents (Elt Ideal))
    (i : Cert.OutFwdRefIdeal.S2048x1024.Idx) :
    Cert.OutFwdRefIdeal.Read.val_main_v2 (F := Ideal) x0 x1 i
      = ∑ e : Fin 1024, ent (x0 : S2048x1024.Idx → EReal) ((i 0).val) (e.val) * ent (x1 : S1024x1024.Idx → EReal) (e.val) ((i 1).val) := by
  show Cert.OutFwdRefIdeal.Read.val_main_v2 (F := Ideal) x0 x1 i = _
  refine (Cert.OutFwdRefIdeal.Read.val_main_v2_apply _ _ i).trans (Finset.sum_congr rfl fun k _ => congrArg₂ (· * ·) ?_ ?_)
  · exact ent_of x0 _ rfl rfl
  · exact ent_of x1 _ rfl rfl

open Cert.OutFwdRefIdeal.Read in
/-- From the same arguments the kernel and the reference end with the same product. -/
theorem algebraic : Cert.algebraic_OutFwdIdeal_OutFwdRefIdeal (hOutFwdIdeal := Cert.OutFwdIdeal.Gen.facts) (hOutFwdRefIdeal := Cert.OutFwdRefIdeal.Gen.facts) := by
  intro m g m' g' _ e
  refine ⟨fun c => res m c, ?_, ?_⟩
  · exact (θ_run _ _ _).mono (fun r p c => ⟨(p c).1.trans (final m c), (p c).2⟩) (Cert.OutFwdIdeal.Value.run_blocks m g)
  · refine (θ_run _ _ _).mono (fun r p c => ⟨(p c).1.trans ?_, (p c).2⟩) (Cert.OutFwdRefIdeal.Value.run m' g')
    refine (val_main_v2_eq _ _).trans (funext fun i => ?_)
    refine (refProduct _ _ i).trans ?_
    rw [(e c).1, (e c).2]
    rfl

/-- The reference runs, keeps its arguments, and ends with every semaphore at zero: it has none. -/
theorem frameReference [h : Cert.OutFwdRefIdeal.Facts] : Cert.quiescent_OutFwdRefIdeal :=
  fun m g _ => (θ_run _ _ _).mono (fun r h => ⟨fun c => (h c).2, sem_eq_zero_of_no_sems (by decide) r.2⟩)
    (Cert.OutFwdRefIdeal.Value.run m g)

end Cert.OutFwdIdeal.Body

end
-- ==== Proof.AttendPay.lean ====
/- The attention's forward kernel, one block of keys at a time: the running maximum, normaliser and weighted sum of values
   after a block, when the scores are reals or masked, and what the rescaling by the new maximum preserves. -/
module

public import proofs.«01_k».proof.Proof.Payload
public import proofs.«01_k».proof.Proof.Last
public import proofs.«01_k».proof.Proof.Gen.AttendIdeal.Skeleton

@[expose] public section

set_option maxRecDepth 16384

noncomputable section

namespace Cert.AttendIdeal.Payload

open Cert.AttendIdeal Cert.AttendIdeal.Gen Cert.Grad Idealize.ShloMosaic Idealize.ShloMosaic.ValueIdx
open Cert.KernelIdeal.Payload (mm mul_at add_at exp_at trunc_at)
open Cert.KernelIdeal.Body (vdiv64 vdiv64_eq)
open scoped BigOperators

/-- The pattern of minus infinity is minus infinity. -/
theorem ninf : Ideal.ofBits .f32 0xFF800000#32 = (⊥ : EReal) := by simp [Ideal.ofBits, Ideal.ieee]

/-- The mask's constant is minus infinity. -/
theorem mask_named : Named.named (F := Ideal) (φ := .f32) κ "mask" 0xF149F2CA#32 = (⊥ : EReal) :=
  IdealRules.named_const.ideal_named_scalar κ "mask" _ _ rfl

/-- A sum of extended reals times a real that is not negative. -/
theorem sum_mul_real {ι : Type} (t : Finset ι) (f : ι → EReal) {r : ℝ} (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.2 hr) (EReal.coe_ne_top r) _ _

/-- A product of matrices with one contracted axis: the sum of products. -/
theorem mm_any {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (f g : Fin n → EReal) (j : so.Idx)
    (hl : ∀ e, l (D.lhsIdx j ((contrEquiv1 D n hr hs).symm e)) = f e) (hr' : ∀ e, r (D.rhsIdx j ((contrEquiv1 D n hr hs).symm e)) = g e) :
    matmul D none l r (constant so .f32 0x00000000#32) j = ∑ e, f e * g e := by
  rw [matmul, Ideal.matmul_constant_zero_apply, ← Equiv.sum_comp (contrEquiv1 D n hr hs).symm]
  exact Finset.sum_congr rfl fun e _ => congrArg₂ (· * ·) (hl e) (hr' e)

/-- Rows of keys against the queries. -/
theorem pay6_at {v0 v138 : FVec Ideal S512x256 .bf16} {q a : ℕ → ℕ → ℝ} (h0 : ∀ i, v0 i = (q (i 0).val (i 1).val : EReal))
    (h : ∀ i, v138 i = (a (i 0).val (i 1).val : EReal)) (i : S512x512.Idx) :
    k0_pay6 (F := Ideal) v0 v138 i = ((∑ e : Fin 256, a (i 0).val e.val * q (i 1).val e.val : ℝ) : EReal) :=
  mm _ 256 rfl rfl _ _ _ _ i (fun _ => h _) (fun _ => h0 _)

/-- The first block's rows of keys against the queries. -/
theorem pay5_at {v0 v28 : FVec Ideal S512x256 .bf16} {q a : ℕ → ℕ → ℝ} (h0 : ∀ i, v0 i = (q (i 0).val (i 1).val : EReal))
    (h : ∀ i, v28 i = (a (i 0).val (i 1).val : EReal)) (i : S512x512.Idx) :
    k0_pay5 (F := Ideal) v0 v28 i = ((∑ e : Fin 256, a (i 0).val e.val * q (i 1).val e.val : ℝ) : EReal) :=
  mm _ 256 rfl rfl _ _ _ _ i (fun _ => h _) (fun _ => h0 _)

/-- A block's scores: none is plus infinity, every query has one that is not masked, and `W` are their exponentials. -/
structure Scores (s : FVec Ideal S512x512 .f32) (W : ℕ → ℕ → ℝ) : Prop where
  top : ∀ x, s x ≠ ⊤
  some : ∀ j : Fin 512, ∃ x : S512x512.Idx, (x 1).val = j.val ∧ s x ≠ ⊥
  exp : ∀ x (M : ℝ), Ideal.exp (s x - (M : EReal)) = ((W (x 0).val (x 1).val / Real.exp M : ℝ) : EReal)

/-- Scores that are all reals. -/
theorem scores_real {s : FVec Ideal S512x512 .f32} {S : ℕ → ℕ → ℝ} (h : ∀ x, s x = (S (x 0).val (x 1).val : EReal)) :
    Scores s fun a b => Real.exp (S a b) where
  top x := by rw [h]; exact EReal.coe_ne_top _
  some j := ⟨fun a => match a with | ⟨0, _⟩ => ⟨0, by show 0 < 512; decide⟩ | ⟨1, _⟩ => ⟨j.val, j.isLt⟩, rfl, by rw [h]; exact EReal.coe_ne_bot _⟩
  exp x M := by rw [h, ← EReal.coe_sub, Ideal.exp_coe, Real.exp_sub]

/-- What the running maximum, normaliser and weighted sum stand for: sums `A` and `C` of exponentials, whatever maximum they are
    rescaled to. -/
structure Sums (m l : FVec Ideal S1x512 .f32) (acc : FVec Ideal S128x512 .f32) (A : ℕ → ℝ) (C : ℕ → ℕ → EReal) : Prop where
  top : ∀ y, m y ≠ ⊤
  l : ∀ y (M : ℝ), Ideal.exp (m y - (M : EReal)) * l y = ((A (y 1).val / Real.exp M : ℝ) : EReal)
  acc : ∀ (y : S1x512.Idx) (z : S128x512.Idx) (M : ℝ), (y 1).val = (z 1).val →
    Ideal.exp (m y - (M : EReal)) * acc z = C (z 0).val (z 1).val * ((1 / Real.exp M : ℝ) : EReal)

/-- Before the first block: maximum minus infinity, nothing summed. -/
theorem sums_start : Sums (k0_pay2 (F := Ideal)) (k0_pay3 (F := Ideal)) (k0_pay4 (F := Ideal)) (fun _ => 0) (fun _ _ => 0) where
  top y := by
    show Named.named (F := Ideal) (φ := .f32) κ "mask" 0xF149F2CA#32 ≠ (⊤ : EReal)
    rw [mask_named]; exact bot_ne_top
  l y M := by
    show Ideal.exp (Named.named (F := Ideal) (φ := .f32) κ "mask" 0xF149F2CA#32 - (M : EReal)) * Ideal.ofBits .f32 0x00000000#32 = _
    rw [mask_named, Ideal.ofBits_zero_f32, mul_zero, zero_div, EReal.coe_zero]
  acc y z M _ := by
    show Ideal.exp (Named.named (F := Ideal) (φ := .f32) κ "mask" 0xF149F2CA#32 - (M : EReal)) * Ideal.ofBits .f32 0x00000000#32 = _
    rw [mask_named, Ideal.ofBits_zero_f32, mul_zero, zero_mul]

section Block

variable {s : FVec Ideal S512x512 .f32} {W : ℕ → ℕ → ℝ} (hs : Scores s W) {m l : FVec Ideal S1x512 .f32} {acc : FVec Ideal S128x512 .f32}
  {A : ℕ → ℝ} {C : ℕ → ℕ → EReal} (hm : Sums m l acc A C)

/-- A column of a block, as the maximum and the sum over it read it. -/
abbrev colIx (y : S1x512.Idx) (k : Fin 512) : S512x512.Idx := fun a => match a with
  | ⟨0, _⟩ => ⟨k.val, k.isLt⟩
  | ⟨1, _⟩ => ⟨(y 1).val, (y 1).isLt⟩

/-- The row's index of a column number. -/
abbrev col (j : Fin 512) : S1x512.Idx := fun a => match a with
  | ⟨0, _⟩ => ⟨0, Nat.one_pos⟩
  | ⟨1, _⟩ => ⟨j.val, j.isLt⟩

/-- A reduction over the first axis, shaped back to a row, read at a column. -/
theorem max_cast (v : FVec Ideal S512x512 .f32) (y : S1x512.Idx) :
    shapeCast S1x512 (multiReduction .maximumf [0] S512 v 0xFF800000#32 reduces_S512x512_S512 (.inl rfl) rfl) shapeCasts_S512_S1x512 y
      = (Finset.univ : Finset (Fin 512)).fold max ⊥ fun k => v (colIx y k) := by
  refine (shapeCast_addUnit_apply ![512] _ _ y).trans ((Ideal.multiReduction_maximumf_single _ _ _ _ _ _).trans ?_)
  refine congrArg₂ (fun b f => (Finset.univ : Finset (Fin 512)).fold max b f) ninf (funext fun k => congrArg v ?_)
  funext a
  match a with
  | ⟨0, _⟩ => rfl
  | ⟨1, _⟩ => rfl

/-- The same for a sum. -/
theorem add_cast (v : FVec Ideal S512x512 .f32) (y : S1x512.Idx) :
    shapeCast S1x512 (multiReduction .add [0] S512 v 0x00000000#32 reduces_S512x512_S512 (.inl rfl) rfl) shapeCasts_S512_S1x512 y
      = ∑ k : Fin 512, v (colIx y k) := by
  refine (shapeCast_addUnit_apply ![512] _ _ y).trans ((Ideal.multiReduction_add_single _ _ _ _ _ _).trans ?_)
  refine Finset.sum_congr rfl fun k _ => congrArg v ?_
  funext a
  match a with
  | ⟨0, _⟩ => rfl
  | ⟨1, _⟩ => rfl

include hs hm in
/-- The new maxima are reals. -/
theorem max_real : ∃ M : ℕ → ℝ, ∀ y, k0_pay7 (F := Ideal) s m y = (M (y 1).val : EReal) := by
  have h : ∀ y : S1x512.Idx, ∃ r : ℝ, k0_pay7 (F := Ideal) s m y = (r : EReal) := by
    intro y
    obtain ⟨x, hx, hb⟩ := hs.some ⟨(y 1).val, (y 1).isLt⟩
    obtain ⟨r, hr⟩ := fold_max_real (fun k : Fin 512 => s (colIx y k)) (fun k => hs.top _) ⟨(x 0).val, (x 0).isLt⟩ (by
      have e : colIx y ⟨(x 0).val, (x 0).isLt⟩ = x := by
        funext a
        match a with
        | ⟨0, _⟩ => rfl
        | ⟨1, _⟩ => exact Fin.ext hx.symm
      show s (colIx y _) ≠ ⊥
      rw [e]; exact hb)
    have e : k0_pay7 (F := Ideal) s m y = max (m y) (r : EReal) := by
      refine Eq.trans ?_ (congrArg (max (m y)) hr)
      exact congrArg (max (m y)) (max_cast s y)
    rw [e]
    have h1 : max (m y) (r : EReal) ≠ ⊤ := (max_lt (lt_top_iff_ne_top.2 (hm.top y)) (EReal.coe_lt_top r)).ne
    have h2 : max (m y) (r : EReal) ≠ ⊥ := ((EReal.bot_lt_coe r).trans_le (le_max_right _ _)).ne'
    exact ⟨_, (EReal.coe_toReal h1 h2).symm⟩
  refine ⟨fun j => if h : j < 512 then (k0_pay7 (F := Ideal) s m (col ⟨j, h⟩)).toReal else 0, fun y => ?_⟩
  have e : col ⟨(y 1).val, (y 1).isLt⟩ = y := by
    funext a
    match a with
    | ⟨0, _⟩ => exact Fin.ext (by have := (y 0).isLt; change (y 0).val < 1 at this; show 0 = (y 0).val; omega)
    | ⟨1, _⟩ => rfl
  obtain ⟨r, hr⟩ := h y
  have hy : (y 1).val < 512 := (y 1).isLt
  beta_reduce
  rw [dif_pos hy, e, hr, EReal.toReal_coe]

variable {M : ℕ → ℝ} (hM : ∀ y, k0_pay7 (F := Ideal) s m y = (M (y 1).val : EReal))

include hs hM in
/-- The weights over the new maximum. -/
theorem pay9_at (x : S512x512.Idx) :
    k0_pay9 (F := Ideal) s m x = ((W (x 0).val (x 1).val / Real.exp (M (x 1).val) : ℝ) : EReal) := by
  refine Eq.trans (congrArg (fun z => Ideal.exp (s x - z)) ?_) (hs.exp x (M (x 1).val))
  exact hM _

include hs hm hM in
/-- The new normaliser. -/
theorem pay10_at (y : S1x512.Idx) :
    k0_pay10 (F := Ideal) s m l y = (((A (y 1).val + ∑ k : Fin 512, W k.val (y 1).val) / Real.exp (M (y 1).val) : ℝ) : EReal) := by
  rw [add_div]
  refine add_at y ?_ ?_
  · refine Eq.trans (congrArg (fun z => Ideal.exp (m y - z) * l y) (hM y)) (hm.l y _)
  · refine (add_cast _ y).trans ?_
    rw [Finset.sum_div, ← coe_sum]
    exact Finset.sum_congr rfl fun k _ => pay9_at hs hM _

include hs hm hM in
/-- The new weighted sum of values. -/
theorem pay11_at {v159 : FVec Ideal S128x512 .bf16} {v : ℕ → ℕ → EReal} (hv : ∀ z, v159 z = v (z 0).val (z 1).val) (z : S128x512.Idx) :
    k0_pay11 (F := Ideal) s m acc v159 z
      = (C (z 0).val (z 1).val + ∑ k : Fin 512, v (z 0).val k.val * (W k.val (z 1).val : EReal)) * ((1 / Real.exp (M (z 1).val) : ℝ) : EReal) := by
  have he := Real.exp_pos (M (z 1).val)
  unfold k0_pay11
  rw [shapeCast_self, addf_apply, EReal.right_distrib_of_nonneg_of_ne_top (EReal.coe_nonneg.2 (one_div_pos.2 he).le) (EReal.coe_ne_top _)]
  refine congrArg₂ (fun a b : EReal => a + b) ?_ ?_
  · have h8 : ∀ y, k0_pay8 (F := Ideal) s m y = Ideal.exp (m y - (M (y 1).val : EReal)) := fun y =>
      congrArg (fun w => Ideal.exp (m y - w)) (hM y)
    exact (congrArg (· * acc z) (h8 _)).trans (hm.acc _ z _ rfl)
  · refine (mm_any _ 512 rfl rfl _ _ (fun k => v (z 0).val k.val) (fun k => ((W k.val (z 1).val / Real.exp (M (z 1).val) : ℝ) : EReal)) z
      (fun _ => hv _) (fun _ => trunc_at _ (pay9_at hs hM _))).trans ?_
    rw [sum_mul_real _ _ (one_div_pos.2 he).le]
    refine Finset.sum_congr rfl fun k _ => ?_
    rw [mul_assoc, ← EReal.coe_mul, mul_one_div]

include hs hm in
/-- After a block the sums have the block's exponentials added. -/
theorem sums_next {v159 : FVec Ideal S128x512 .bf16} {v : ℕ → ℕ → EReal} (hv : ∀ z, v159 z = v (z 0).val (z 1).val) :
    Sums (k0_pay7 (F := Ideal) s m) (k0_pay10 (F := Ideal) s m l) (k0_pay11 (F := Ideal) s m acc v159)
      (fun j => A j + ∑ k : Fin 512, W k.val j) (fun d j => C d j + ∑ k : Fin 512, v d k.val * (W k.val j : EReal)) := by
  obtain ⟨M, hM⟩ := max_real hs hm
  have e : ∀ a b c : ℝ, Ideal.exp ((a : EReal) - (b : EReal)) * ((c / Real.exp a : ℝ) : EReal) = ((c / Real.exp b : ℝ) : EReal) := by
    intro a b c
    rw [← EReal.coe_sub, Ideal.exp_coe, ← EReal.coe_mul, Real.exp_sub]
    have := (Real.exp_pos a).ne'
    have := (Real.exp_pos b).ne'
    exact congrArg _ (by field_simp)
  refine ⟨fun y => by rw [hM]; exact EReal.coe_ne_top _, fun y N => ?_, fun y z N hyz => ?_⟩
  · rw [hM, pay10_at hs hm hM]; exact e _ _ _
  · rw [hM, pay11_at hs hm hM hv, hyz, mul_left_comm, e]

end Block

/-- The last block's logarithm of the normaliser: the maximum plus the logarithm of the rescaled sum. -/
theorem pay1_at {v105 v116 : FVec Ideal S1x512 .f32} {M L : ℕ → ℝ} (hM : ∀ y, v105 y = (M (y 1).val : EReal))
    (hL : ∀ y, v116 y = ((L (y 1).val / Real.exp (M (y 1).val) : ℝ) : EReal)) (hp : ∀ j < 512, 0 < L j) (i : S1x1x512.Idx) :
    k0_pay1 (F := Ideal) v105 v116 i = ((Real.log (L (i 2).val) : ℝ) : EReal) := by
  unfold k0_pay1
  refine (shapeCast_addUnit_apply (n := 2) ![1, 512] (addf v105 (log v116)) shapeCasts_S1x512_S1x1x512 i).trans ?_
  have e : ∀ y : S1x512.Idx, addf v105 (log v116) y = ((Real.log (L (y 1).val) : ℝ) : EReal) := by
    intro y
    have hy := hp (y 1).val (y 1).isLt
    have he := Real.exp_pos (M (y 1).val)
    rw [addf_apply, log_apply, hM, hL, Ideal.log_def, Ideal.log_coe, if_neg (not_le.mpr (div_pos hy he)), ← EReal.coe_add,
      Real.log_div hy.ne' he.ne', Real.log_exp]
    exact congrArg _ (by ring)
  exact e _

/-- The mask on the query's own block: a key's chunk of 64 rows no later than the query's. -/
theorem pay21_at (i : grid0.Coords) (v21 : BitVec 32) (s : FVec Ideal S512x512 .f32)
    (hv : Scalar.muli (Scalar.addi (Scalar.muli (Scalar.subi v21 1#32) 1#32) 0#32) 512#32 = BitVec.ofNat 32 (512 * (i 1).val)) (x : S512x512.Idx) :
    k0_pay21 (F := Ideal) s (k0_pay18 (BitVec.ofNat 32 (i 1).val)) (k0_pay19 v21) 64#32 (k0_pay20 (BitVec.ofNat 32 (i 1).val)) x
      = if (512 * (i 1).val + (x 0).val) / 64 ≤ (512 * (i 1).val + (x 1).val) / 64 then s x else ⊥ := by
  have i1 : (i 1).val < 4 := (i 1).isLt
  have x0 : (x 0).val < 512 := (x 0).isLt
  have x1 : (x 1).val < 512 := (x 1).isLt
  have ea : k0_pay19 v21 x = vdiv64 (BitVec.ofNat 32 (512 * (i 1).val + (x 0).val)) := by
    have e : k0_pay19 v21 x = vdiv64 (IntOp.addi (Scalar.muli (Scalar.addi (Scalar.muli (Scalar.subi v21 1#32) 1#32) 0#32) 512#32)
      (iota .tc S512x512 32 [0] iota_S512x512_d0_w32 x)) := by unfold k0_pay19; rfl
    rw [e, hv, iota_single_apply, BitVec.ofNat_add]; rfl
  have eb : k0_pay18 (BitVec.ofNat 32 (i 1).val) x = BitVec.ofNat 32 (512 * (i 1).val + (x 1).val) := by
    have e : k0_pay18 (BitVec.ofNat 32 (i 1).val) x = IntOp.addi (BitVec.ofNat 32 (i 1).val * BitVec.ofNat 32 512)
      (iota .tc S512x512 32 [1] iota_S512x512_d1_w32 x) := by unfold k0_pay18; rfl
    rw [e, iota_single_apply, BitVec.ofNat_add, Nat.mul_comm, BitVec.ofNat_mul]; rfl
  have e : k0_pay21 (F := Ideal) s (k0_pay18 (BitVec.ofNat 32 (i 1).val)) (k0_pay19 v21) 64#32 (k0_pay20 (BitVec.ofNat 32 (i 1).val)) x
      = Scalar.select (IntOp.cmpi .sle (k0_pay19 v21 x) (vdiv64 (k0_pay18 (BitVec.ofNat 32 (i 1).val) x))) (s x)
        (Named.named (F := Ideal) (φ := .f32) κ "mask" 0xF149F2CA#32) := by
    unfold k0_pay21 k0_pay20; rfl
  have fa := vdiv64_eq ⟨512 * (i 1).val + (x 0).val, by omega⟩
  have fb := vdiv64_eq ⟨512 * (i 1).val + (x 1).val, by omega⟩
  rw [e, ea, eb, mask_named, (congrArg₂ (IntOp.cmpi .sle) fa fb).trans (sle_chunk _ _ (by omega) (by omega))]
  split
  · rfl
  · rfl

section Last

variable {i : grid0.Coords} {v21 : BitVec 32} {s : FVec Ideal S512x512 .f32} {S : ℕ → ℕ → ℝ} {m l : FVec Ideal S1x512 .f32}
  {acc : FVec Ideal S128x512 .f32} {A : ℕ → ℝ} {C : ℕ → ℕ → EReal}
  (hv : Scalar.muli (Scalar.addi (Scalar.muli (Scalar.subi v21 1#32) 1#32) 0#32) 512#32 = BitVec.ofNat 32 (512 * (i 1).val))
  (hs : ∀ x, s x = (S (x 0).val (x 1).val : EReal)) (hm : Sums m l acc A C)

/-- The weight of a key of the query's own block. -/
def wt (n : ℕ) (S : ℕ → ℕ → ℝ) (a b : ℕ) : ℝ := if (512 * n + a) / 64 ≤ (512 * n + b) / 64 then Real.exp (S a b) else 0

include hv hs in
/-- The masked scores of the query's own block. -/
theorem scores_last : Scores (k0_pay21 (F := Ideal) s (k0_pay18 (BitVec.ofNat 32 (i 1).val)) (k0_pay19 v21) 64#32
    (k0_pay20 (BitVec.ofNat 32 (i 1).val))) (wt (i 1).val S) where
  top x := by
    rw [pay21_at i v21 s hv, hs]; split
    · exact EReal.coe_ne_top _
    · exact bot_ne_top
  some j := ⟨fun a => match a with | ⟨0, _⟩ => ⟨j.val, j.isLt⟩ | ⟨1, _⟩ => ⟨j.val, j.isLt⟩, rfl, by
    rw [pay21_at i v21 s hv, hs, if_pos (le_refl _)]; exact EReal.coe_ne_bot _⟩
  exp x M := by
    rw [pay21_at i v21 s hv, hs]; unfold wt; split
    · rw [← EReal.coe_sub, Ideal.exp_coe, Real.exp_sub]
    · rw [EReal.bot_sub, Ideal.exp_bot, zero_div, EReal.coe_zero]

/-- The sum of a query's weights. -/
def tot (n : ℕ) (S : ℕ → ℕ → ℝ) (A : ℕ → ℝ) (j : ℕ) : ℝ := A j + ∑ k : Fin 512, wt n S k.val j

/-- A query's weighted sum of values. -/
def num (n : ℕ) (S : ℕ → ℕ → ℝ) (C v : ℕ → ℕ → EReal) (d j : ℕ) : EReal := C d j + ∑ k : Fin 512, v d k.val * (wt n S k.val j : EReal)

include hv hs hm in
/-- The two results of the last block: the weighted sum of values over the sum of weights, and that sum's logarithm. -/
theorem last_at {v118 : FVec Ideal S128x512 .bf16} {v : ℕ → ℕ → EReal} (hw : ∀ z, v118 z = v (z 0).val (z 1).val)
    (hp : ∀ j < 512, 0 < tot (i 1).val S A j) :
    (∀ x, k0_pay26 (F := Ideal) s m l acc (k0_pay18 (BitVec.ofNat 32 (i 1).val)) (k0_pay19 v21) 64#32 (k0_pay20 (BitVec.ofNat 32 (i 1).val)) v118 x
      = num (i 1).val S C v (x 1).val (x 0).val * ((1 / tot (i 1).val S A (x 0).val : ℝ) : EReal))
    ∧ (∀ x, k0_pay1 (F := Ideal)
        (k0_pay22 s m (k0_pay18 (BitVec.ofNat 32 (i 1).val)) (k0_pay19 v21) 64#32 (k0_pay20 (BitVec.ofNat 32 (i 1).val)))
        (k0_pay25 s m l (k0_pay18 (BitVec.ofNat 32 (i 1).val)) (k0_pay19 v21) 64#32 (k0_pay20 (BitVec.ofNat 32 (i 1).val))) x
      = ((Real.log (tot (i 1).val S A (x 2).val) : ℝ) : EReal)) := by
  have h := scores_last hv hs
  obtain ⟨M, hM⟩ := max_real h hm
  have hL := pay10_at h hm hM
  have hC := pay11_at h hm hM hw
  refine ⟨fun x => ?_, fun x => pay1_at hM hL hp x⟩
  unfold k0_pay26
  rw [transpose_apply [1, 0] _ transposes_S128x512_p1_0_S512x128 x
    (fun a => match a with | ⟨0, _⟩ => ⟨(x 1).val, (x 1).isLt⟩ | ⟨1, _⟩ => ⟨(x 0).val, (x 0).isLt⟩)
    (fun b => match b with | ⟨0, _⟩ => rfl | ⟨1, _⟩ => rfl)]
  refine (congrArg₂ Ideal.div (hC _) (hL _)).trans ?_
  have h1 := hp (x 0).val (x 0).isLt
  have h2 := Real.exp_pos (M (x 0).val)
  have e : ∀ c : EReal, Ideal.div (c * ((1 / Real.exp (M (x 0).val) : ℝ) : EReal)) ((tot (i 1).val S A (x 0).val / Real.exp (M (x 0).val) : ℝ) : EReal)
      = c * ((1 / tot (i 1).val S A (x 0).val : ℝ) : EReal) := by
    intro c
    rw [Ideal.div_coe (div_pos h1 h2).ne', mul_assoc, ← EReal.coe_mul]
    have := h1.ne'
    have := h2.ne'
    exact congrArg _ (congrArg _ (by field_simp))
  exact e (num (i 1).val S C v (x 1).val (x 0).val)

end Last

end Cert.AttendIdeal.Payload

end
-- ==== Proof.AttendPoint.lean ====
/- The attention's forward kernel at one grid point: the loop over the blocks of keys before the query's own, and the two
   blocks the point stores. -/
module

public import proofs.«01_k».proof.Proof.AttendPay
public import proofs.«01_k».proof.Proof.Gen.AttendIdeal.Frame

@[expose] public section

set_option maxRecDepth 16384

noncomputable section

namespace Cert.AttendIdeal.Body

open Cert.AttendIdeal Cert.AttendIdeal.Gen Cert.AttendIdeal.Payload Cert.Grad Idealize.ShloMosaic Idealize.ShloMosaic.TcCoe
open scoped BigOperators

/-- What one grid point reads: a block of 512 queries and a head's keys, all reals, and the head's transposed values, which may be infinite. -/
structure Att where
  /-- the block's queries -/
  q : ℕ → ℕ → ℝ
  /-- the head's keys -/
  kb : ℕ → ℕ → ℝ
  /-- the head's values, transposed -/
  vt : ℕ → ℕ → EReal

namespace Att

variable (B : Att)

/-- The score of key `r` and query `j`. -/
def S (r j : ℕ) : ℝ := ∑ e : Fin 256, B.kb r e.val * B.q j e.val

/-- The sum of the exponentials over the first `k` blocks of keys. -/
def A (k j : ℕ) : ℝ := ∑ b ∈ Finset.range k, ∑ r : Fin 512, Real.exp (B.S (512 * b + r.val) j)

/-- The sum of values weighted by them. -/
def C (k d j : ℕ) : EReal := ∑ b ∈ Finset.range k, ∑ r : Fin 512, B.vt d (512 * b + r.val) * (Real.exp (B.S (512 * b + r.val) j) : EReal)

/-- The weight of key `r` and the `j`-th query of query block `n`, zero where the key's chunk comes after the query's. -/
def W (n r j : ℕ) : ℝ := if r / 64 ≤ (512 * n + j) / 64 then Real.exp (B.S r j) else 0

/-- A sum over all keys, from the blocks before the query's own and its own, when later keys add nothing. -/
theorem all {R : Type} [AddCommMonoid R] (f : ℕ → R) {n : ℕ} (hn : n < 4) (hf : ∀ r, 512 * (n + 1) ≤ r → f r = 0) :
    ∑ b ∈ Finset.range n, ∑ r : Fin 512, f (512 * b + r.val) + ∑ r : Fin 512, f (512 * n + r.val) = ∑ r : Fin 2048, f r.val := by
  have e : ∀ k, ∑ b ∈ Finset.range k, ∑ r : Fin 512, f (512 * b + r.val) = ∑ r ∈ Finset.range (512 * k), f r := by
    intro k
    induction k with
    | zero => rfl
    | succ k ih => rw [Finset.sum_range_succ, ih, Nat.mul_succ, Finset.sum_range_add, Finset.sum_range fun r => f (512 * k + r)]
  rw [← Finset.sum_range_succ fun b => ∑ r : Fin 512, f (512 * b + r.val), e, ← Finset.sum_range fun r => f r]
  refine Finset.sum_subset (Finset.range_mono (by omega)) fun r _ hr => hf r ?_
  exact not_lt.1 fun h => hr (Finset.mem_range.2 h)

/-- Keys of the blocks before the query's own are all seen. -/
theorem W_before {n b : ℕ} (hb : b < n) (r : Fin 512) (j : ℕ) : B.W n (512 * b + r.val) j = Real.exp (B.S (512 * b + r.val) j) := by
  unfold W
  rw [if_pos]
  have := r.isLt; omega

/-- Keys of the blocks after it are not. -/
theorem W_after {n r j : ℕ} (hj : j < 512) (hr : 512 * (n + 1) ≤ r) : B.W n r j = 0 := by
  unfold W
  rw [if_neg (by omega)]

/-- A query's normaliser. -/
theorem tot_eq {n : ℕ} (hn : n < 4) {j : ℕ} (hj : j < 512) :
    tot n (fun a b => B.S (512 * n + a) b) (B.A n) j = ∑ r : Fin 2048, B.W n r.val j := by
  rw [← all (fun r => B.W n r j) hn fun r hr => B.W_after hj hr]
  refine congrArg₂ (· + ·) ?_ rfl
  exact Finset.sum_congr rfl fun b hb => Finset.sum_congr rfl fun r _ => (B.W_before (Finset.mem_range.1 hb) r j).symm

/-- A query's weighted sum of values. -/
theorem num_eq {n : ℕ} (hn : n < 4) (d : ℕ) {j : ℕ} (hj : j < 512) :
    num n (fun a b => B.S (512 * n + a) b) (B.C n) (fun a b => B.vt a (512 * n + b)) d j = ∑ r : Fin 2048, B.vt d r.val * (B.W n r.val j : EReal) := by
  rw [← all (fun r => B.vt d r * (B.W n r j : EReal)) hn fun r hr => by rw [B.W_after hj hr, EReal.coe_zero, mul_zero]]
  refine congrArg₂ (· + ·) ?_ rfl
  exact Finset.sum_congr rfl fun b hb => Finset.sum_congr rfl fun r _ => by rw [B.W_before (Finset.mem_range.1 hb) r j]

/-- A normaliser is positive: a query sees its own row. -/
theorem tot_pos {n : ℕ} (hn : n < 4) {j : ℕ} (hj : j < 512) : 0 < tot n (fun a b => B.S (512 * n + a) b) (B.A n) j := by
  rw [tot_eq B hn hj]
  refine Finset.sum_pos' (fun r _ => ?_) ⟨⟨512 * n + j, by omega⟩, Finset.mem_univ _, ?_⟩
  · unfold W; split
    · exact (Real.exp_pos _).le
    · exact le_refl _
  · simp only [W, le_refl, if_true]; exact Real.exp_pos _

end Att

/-- A load of a box of a matrix reads the matrix at the box's offsets. -/
theorem box_at {κ : Kind} {sp : Space} {e : EltTy} {d size off : Fin 2 → ℕ} (v : View sig κ sp (⟨2, d⟩ : Shape) e)
    (f : v.ty.Contents (Elt Ideal)) {R : Type} (co : R → Elt Ideal e) {a : ℕ → ℕ → R} (h : ∀ y, v.read (Elt Ideal) f y = co (a (y 0).val (y 1).val))
    (inb : ∀ a : Fin 2, off a + size a ≤ d a) {o₀ o₁ : ℕ} (hoff : off = ![o₀, o₁]) (x : (Rect.unit (s := ⟨2, d⟩) off size inb).shape.Idx) :
    v.readAt (Elt Ideal) (Rect.unit (s := ⟨2, d⟩) off size inb).toLoadRect f x = co (a (o₀ + (x (0 : Fin 2)).val) (o₁ + (x (1 : Fin 2)).val)) := by
  subst hoff
  refine (h _).trans (congrArg co (congrArg₂ a ?_ ?_))
  · show o₀ + 1 * (x (0 : Fin 2)).val = _; rw [Nat.one_mul]
  · show o₁ + 1 * (x (1 : Fin 2)).val = _; rw [Nat.one_mul]

/-- A block stored whole is what is read afterwards. -/
theorem read_whole {κ : Kind} {sp : Space} {S : Shape} {e : EltTy} (v : View sig κ sp S e) {off : Fin S.rank → ℕ} (h : off = fun _ => 0)
    (inb : ∀ a, off a + S.size a ≤ S.size a) (w : S.Idx → Elt Ideal e) (f : BufTy.Contents (Elt Ideal) v.ty) :
    v.read (Elt Ideal) (v.writes (Elt Ideal) f [(⟨Rect.unit off S.size inb, w⟩ : View.Piece (Elt Ideal) S e)]) = w := by
  rw [View.read_writes_eq_canon _ _ _ fun y => ⟨_, List.mem_cons_self, View.mem_set_unit_zero h inb y⟩, View.canon_cons_unit_zero h]

theorem zero2 : (![0, 0] : Fin 2 → ℕ) = fun _ => 0 := by decide
theorem zero3 : (![0, 0, 0] : Fin 3 → ℕ) = fun _ => 0 := by decide

/-- The loop runs once for each block of keys before the query's own. -/
theorem count1 : ∀ i : grid0.Coords, Scf.trips (k0_t1_loop i).lb (k0_t1_loop i).ub (k0_t1_loop i).st = (i 1).val := by
  decide +kernel

/-- The unrolled loop's remainder is empty. -/
theorem count2 : ∀ i : grid0.Coords, Scf.trips (k0_t2_loop i).lb (k0_t2_loop i).ub (k0_t2_loop i).st = 0 := by
  decide +kernel

/-- The number of the last block, as the kernel counts it. -/
theorem number : ∀ i : grid0.Coords, Scalar.muli (Scalar.addi (Scalar.muli (Scalar.subi (kernelRun0_A.sl.v21 i) 1#32) 1#32) 0#32) 512#32
    = BitVec.ofNat 32 (512 * (i 1).val) := by
  decide +kernel

theorem off5_last : ∀ i : grid0.Coords, k0_off5 i = ![0, 512 * (i 1).val] := k0_off5_eq

/-- What holds before trip `k`: the carried scores are those of the `k`-th block of keys, and the running maximum, normaliser
    and weighted sum stand for the sums over the first `k` blocks. -/
structure Holds (B : Att) (k : ℕ) (R : FVec Ideal S512x512 .f32 × FVec Ideal S1x512 .f32 × FVec Ideal S1x512 .f32 × FVec Ideal S128x512 .f32) : Prop where
  s : ∀ x, R.1 x = (B.S (512 * k + (x 0).val) (x 1).val : EReal)
  sums : Sums R.2.1 R.2.2.1 R.2.2.2 (B.A k) (B.C k)

section Point

variable (c : Dev nD) (i : grid0.Coords) (arg2 : Memref sig .tc .vmem S512x256 .bf16) (harg2 : arg2.IsWhole)
  (arg3 : Memref sig .tc .vmem S2048x256 .bf16) (harg3 : arg3.IsWhole) (arg4 : Memref sig .tc .vmem S128x2048 .bf16) (harg4 : arg4.IsWhole)
  (arg5 : Memref sig .tc .vmem S512x128 .f32) (harg5 : arg5.IsWhole) (arg6 : Memref sig .tc .vmem S1x1x512 .f32) (harg6 : arg6.IsWhole)
  (B : Att)

section Loop

variable (arg1 : BitVec 32) (v0 : Vec Ideal S512x256 .bf16) (v21 : BitVec 32) (v22 v23 : FVec Ideal S1x512 .f32) (v24 : FVec Ideal S128x512 .f32)
  (v29 : FVec Ideal S512x512 .f32) (u0 v34 u1 : BitVec 32)
  (X3 : BufTy.Contents (Elt Ideal) arg3.view.ty) (X4 : BufTy.Contents (Elt Ideal) arg4.view.ty)
  (h0 : ∀ y, v0 y = (B.q (y 0).val (y 1).val : EReal))
  (hk : ∀ y, arg3.view.read (Elt Ideal) X3 y = (B.kb (y 0).val (y 1).val : EReal))
  (ht : ∀ y, arg4.view.read (Elt Ideal) X4 y = id (B.vt (y 0).val (y 1).val))

include h0 hk ht in
/-- A trip. -/
theorem trip_at (k : Fin (k0_t1_loop i).trips) (R) (H : Holds B k.val R) :
    Holds B (k.val + 1) (tripR_k0_t1 (F := Ideal) Variants.none c none i arg2 harg2 arg3 harg3 arg4 harg4 arg5 harg5 arg6 harg6
      arg1 v0 v21 v22 v23 v24 v29 u0 v34 u1 X3 X4 k R) := by
  unfold tripR_k0_t1 trip_k0_t1
  dsimp only
  refine ⟨fun x => ?_, ?_⟩
  · refine (pay6_at (a := fun a b => B.kb (512 * k.val + 512 + a) (0 + b)) h0
      (fun y => box_at arg3.view X3 Real.toEReal hk (k0_off1_inb i k) (k0_off1_eq i k) y) x).trans ?_
    exact congrArg _ (by unfold Att.S; refine Finset.sum_congr rfl fun e _ => ?_; rw [Nat.mul_succ, Nat.zero_add])
  · have h := sums_next (v := fun a b => B.vt (0 + a) (512 * k.val + b)) (scores_real (S := fun a b => B.S (512 * k.val + a) b) H.s) H.sums
      (fun z => box_at (size := ![128, 512]) arg4.view X4 id ht (k0_off2_inb i k) (k0_off2_eq i k) z)
    have eA : (fun j => B.A k.val j + ∑ r : Fin 512, Real.exp (B.S (512 * k.val + r.val) j)) = B.A (k.val + 1) := by
      funext j; unfold Att.A; rw [Finset.sum_range_succ]
    have eC : (fun d j => B.C k.val d j + ∑ r : Fin 512, B.vt (0 + d) (512 * k.val + r.val) * (Real.exp (B.S (512 * k.val + r.val) j) : EReal)) = B.C (k.val + 1) := by
      funext d j; unfold Att.C; rw [Finset.sum_range_succ, Nat.zero_add]
    rw [eA, eC] at h
    exact h

include h0 hk ht in
/-- Before every trip, if before the first. -/
theorem loop_at (init) (H : Holds B 0 init) (k : ℕ) (hk' : k ≤ (k0_t1_loop i).trips) :
    Holds B k (st_k0_t1 (F := Ideal) Variants.none c none i arg2 harg2 arg3 harg3 arg4 harg4 arg5 harg5 arg6 harg6
      arg1 v0 v21 v22 v23 v24 v29 u0 v34 u1 X3 X4 init k) := by
  induction k with
  | zero => exact H
  | succ k ih =>
    have e := st_k0_t1_succ (F := Ideal) Variants.none c none i arg2 harg2 arg3 harg3 arg4 harg4 arg5 harg5 arg6 harg6
      arg1 v0 v21 v22 v23 v24 v29 u0 v34 u1 X3 X4 init ⟨k, hk'⟩
    dsimp only at e
    rw [e]
    exact trip_at c i arg2 harg2 arg3 harg3 arg4 harg4 arg5 harg5 arg6 harg6 B arg1 v0 v21 v22 v23 v24 v29 u0 v34 u1 X3 X4 h0 hk ht ⟨k, hk'⟩ _
      (ih (Nat.le_of_succ_le hk'))

end Loop

variable (x0 : Vec Ideal S512x256 .bf16) (x1 : Vec Ideal S2048x256 .bf16) (x2 : Vec Ideal S128x2048 .bf16)
  (hq : ∀ y, x0 y = (B.q (y 0).val (y 1).val : EReal)) (hkb : ∀ y, x1 y = (B.kb (y 0).val (y 1).val : EReal))
  (hvt : ∀ y, x2 y = B.vt (y 0).val (y 1).val)

include hq in
theorem q_at (y : S512x256.Idx) : (kernelRun0_A.sl.r (F := Ideal) c arg2 harg2 x0) y = (B.q (y 0).val (y 1).val : EReal) := by
  unfold kernelRun0_A.sl.r
  rw [View.readAt_eq_ld, View.ld_unit_zero zero2, harg2.read_unread]; exact hq y

include hq hkb in
/-- Before the loop. -/
theorem start_at : Holds B 0 (kernelRun0_A.sl.r_1 (F := Ideal) c arg2 harg2 arg3 harg3 x0 x1, k0_pay2 (F := Ideal), k0_pay3 (F := Ideal), k0_pay4 (F := Ideal)) where
  s := fun x => (pay5_at (q := B.q) (a := fun a b => B.kb (0 + a) (0 + b)) (q_at c arg2 harg2 B x0 hq)
    (fun y => box_at (size := ![512, 256]) arg3.view (harg3.unread x1) Real.toEReal (by rw [harg3.read_unread]; exact hkb) _ rfl y) x).trans
      (by simp only [Nat.zero_add, Nat.mul_zero]; rfl)
  sums := sums_start

include hq hkb hvt in
/-- After the loop. -/
theorem end_at {st} (hs : st_k0_t1 (F := Ideal) Variants.none c none i arg2 harg2 arg3 harg3 arg4 harg4 arg5 harg5 arg6 harg6 (BitVec.ofNat 32 (i 1).val)
      (kernelRun0_A.sl.r (F := Ideal) c arg2 harg2 x0) (kernelRun0_A.sl.v21 i) (k0_pay2 (F := Ideal)) (k0_pay3 (F := Ideal)) (k0_pay4 (F := Ideal))
      (kernelRun0_A.sl.r_1 (F := Ideal) c arg2 harg2 arg3 harg3 x0 x1) 0#32 (kernelRun0_A.sl.v34 i) 1#32 (harg3.unread x1) (harg4.unread x2)
      (kernelRun0_A.sl.r_1 (F := Ideal) c arg2 harg2 arg3 harg3 x0 x1, k0_pay2 (F := Ideal), k0_pay3 (F := Ideal), k0_pay4 (F := Ideal)) (i 1).val = st) :
    Holds B (i 1).val st := by
  rw [← hs]
  exact loop_at c i arg2 harg2 arg3 harg3 arg4 harg4 arg5 harg5 arg6 harg6 B _ _ _ _ _ _ _ _ _ _ _ _ (q_at c arg2 harg2 B x0 hq)
    (by rw [harg3.read_unread]; exact hkb) (by rw [harg4.read_unread]; exact hvt) _ (start_at c arg2 harg2 arg3 harg3 B x0 x1 hq hkb) _
    (count1 i).ge

include hvt in
/-- The values of the last block. -/
theorem v_at (z : S128x512.Idx) : View.readAt (Elt Ideal) arg4.view (Rect.unit (s := S128x2048) (k0_off5 i) S128x512.size (k0_off5_inb i)).toLoadRect (harg4.unread x2) z
    = (fun a b => B.vt a (512 * (i 1).val + b)) (z 0).val (z 1).val := by
  refine (box_at (size := S128x512.size) arg4.view (harg4.unread x2) id (by rw [harg4.read_unread]; exact hvt) (k0_off5_inb i) (off5_last i) z).trans ?_
  rw [Nat.zero_add]; rfl

include hq hkb hvt in
/-- What the point leaves in the block of the output. -/
theorem out3 (y : S512x128.Idx) :
    out0_A_3 c i arg2 harg2 arg3 harg3 arg4 harg4 arg5 harg5 arg6 harg6 x0 x1 x2 y
      = (∑ r : Fin 2048, B.vt (y 1).val r.val * (B.W (i 1).val r.val (y 0).val : EReal)) * ((1 / ∑ r : Fin 2048, B.W (i 1).val r.val (y 0).val : ℝ) : EReal) := by
  unfold out0_A_3 kernelRun0_A
  dsimp only
  rw [read_whole _ zero2]
  unfold kernelRun0_A.sl.r_11 kernelRun0_A.sl.r_2 kernelRun0_A.sl.r_3 kernelRun0_A.sl.r_4 kernelRun0_A.sl.r_5 kernelRun0_A.sl.r_6 kernelRun0_A.sl.r_7
    kernelRun0_A.sl.r_8
  rw [count1, count2]
  unfold st_k0_t2
  dsimp only
  generalize hs : st_k0_t1 (F := Ideal) Variants.none c none i arg2 harg2 arg3 harg3 arg4 harg4 arg5 harg5 arg6 harg6 _ _ _ _ _ _ _ _ _ _ _ _ _ _ = st
  have H := end_at (hs := hs) (hq := hq) (hkb := hkb) (hvt := hvt) ..
  have i1 : (i 1).val < 4 := (i 1).isLt
  have y0 : (y 0).val < 512 := (y 0).isLt
  refine ((last_at (S := fun a b => B.S (512 * (i 1).val + a) b) (v := fun a b => B.vt a (512 * (i 1).val + b)) (number i) H.s H.sums (v_at i arg4 harg4 B x2 hvt) (fun j hj => B.tot_pos i1 hj)).1 y).trans ?_
  rw [B.tot_eq i1 y0, B.num_eq i1 _ y0]

include hq hkb hvt in
/-- What the point leaves in the block of the logarithms. -/
theorem out4 (y : S1x1x512.Idx) :
    out0_A_4 c i arg2 harg2 arg3 harg3 arg4 harg4 arg5 harg5 arg6 harg6 x0 x1 x2 y
      = ((Real.log (∑ r : Fin 2048, B.W (i 1).val r.val (y 2).val) : ℝ) : EReal) := by
  unfold out0_A_4 kernelRun0_A
  dsimp only
  rw [read_whole _ zero3]
  unfold kernelRun0_A.sl.r_9 kernelRun0_A.sl.r_10 kernelRun0_A.sl.r_2 kernelRun0_A.sl.r_3 kernelRun0_A.sl.r_4 kernelRun0_A.sl.r_6 kernelRun0_A.sl.r_7
    kernelRun0_A.sl.r_8
  rw [count1, count2]
  unfold st_k0_t2
  dsimp only
  generalize hs : st_k0_t1 (F := Ideal) Variants.none c none i arg2 harg2 arg3 harg3 arg4 harg4 arg5 harg5 arg6 harg6 _ _ _ _ _ _ _ _ _ _ _ _ _ _ = st
  have H := end_at (hs := hs) (hq := hq) (hkb := hkb) (hvt := hvt) ..
  have i1 : (i 1).val < 4 := (i 1).isLt
  have y2 : (y 2).val < 512 := (y 2).isLt
  refine ((last_at (S := fun a b => B.S (512 * (i 1).val + a) b) (v := fun a b => B.vt a (512 * (i 1).val + b)) (number i) H.s H.sums (v_at i arg4 harg4 B x2 hvt) (fun j hj => B.tot_pos i1 hj)).2 y).trans ?_
  rw [B.tot_eq i1 y2]

end Point

end Cert.AttendIdeal.Body

end
-- ==== Proof.AttendGrid.lean ====
/- The attention's forward kernel over its grid: the blocks its launch hands each point, and the two arrays at the end. -/
module

public import proofs.«01_k».proof.Proof.AttendPoint
public import proofs.«01_k».proof.Proof.Gen.AttendIdeal.Value
public import Idealize.ShloMosaic.Lib.Claim

@[expose] public section

set_option maxRecDepth 16384

noncomputable section

namespace Cert.AttendIdeal.Body

open Cert.AttendIdeal Cert.AttendIdeal.Gen Cert.AttendIdeal.Value Cert.AttendIdeal.Payload Cert.Grad
open Idealize.ShloMosaic Idealize.ShloMosaic.TcCoe Idealize.SL.Sem
open scoped BigOperators

/-- What query block `n` of head `h` works on: the queries and keys of `X`, and the values `v`. -/
def att (X : In) (v : ℕ → ℕ → EReal) (h n : ℕ) : Att where
  q j e := X.Q (512 * n + j) (256 * h + e)
  kb r e := X.K r (256 * h + e)
  vt d r := v r (128 * h + d)

/-- Its weights are the attention's. -/
theorem att_W (X : In) (v : ℕ → ℕ → EReal) (h n r j : ℕ) : (att X v h n).W n r j = X.E h (512 * n + j) r := by
  unfold Att.W In.E
  refine congrArg (fun s => if r / 64 ≤ (512 * n + j) / 64 then Real.exp s else 0) ?_
  exact Finset.sum_congr rfl fun e _ => mul_comm _ _

/-- The attention's output at row `q`, column `c`. -/
def att_out (X : In) (v : ℕ → ℕ → EReal) (q c : ℕ) : EReal := ∑ k : Fin 2048, v k.val c * (X.P (c / 128) q k.val : EReal)

/-- A block's weighted mean of the values is the attention's output. -/
theorem att_mean (X : In) (v : ℕ → ℕ → EReal) (h : ℕ) {n d j : ℕ} (hn : n < 4) (hd : d < 128) (hj : j < 512) :
    (∑ r : Fin 2048, (att X v h n).vt d r.val * ((att X v h n).W n r.val j : EReal)) * ((1 / ∑ r : Fin 2048, (att X v h n).W n r.val j : ℝ) : EReal)
      = att_out X v (512 * n + j) (128 * h + d) := by
  have hL := X.L_pos h (512 * n + j) (by omega)
  have e : ∑ r : Fin 2048, (att X v h n).W n r.val j = X.L h (512 * n + j) := Finset.sum_congr rfl fun r _ => att_W X v h n r.val j
  unfold att_out
  rw [show (128 * h + d) / 128 = h by omega, e, sum_mul_real _ _ (one_div_pos.2 hL).le]
  refine Finset.sum_congr rfl fun r _ => ?_
  rw [att_W, mul_assoc, ← EReal.coe_mul, mul_one_div]
  rfl

theorem at_coord0 : ∀ t : Fin cfg0.N, (grid0.coords t 0).val = t.val / 4 :=
  (by decide +kernel : ∀ t : Fin grid0.N, (grid0.coords t 0).val = t.val / 4)

theorem at_coord1 : ∀ t : Fin cfg0.N, (grid0.coords t 1).val = t.val % 4 :=
  (by decide +kernel : ∀ t : Fin grid0.N, (grid0.coords t 1).val = t.val % 4)

theorem at_index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem at_index1 : ∀ t : Fin cfg0.N, win0_1.index t 0 = 0 ∧ win0_1.index t 1 = t.val / 4 :=
  (by decide +kernel : ∀ t : Fin grid0.N, win0_1.index t 0 = 0 ∧ win0_1.index t 1 = t.val / 4)

theorem at_index2 : ∀ t : Fin cfg0.N, win0_2.index t 0 = t.val / 4 ∧ win0_2.index t 1 = 0 :=
  (by decide +kernel : ∀ t : Fin grid0.N, win0_2.index t 0 = t.val / 4 ∧ win0_2.index t 1 = 0)

theorem at_index3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)

theorem at_index4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)

section Run

variable (m : (ℓ : Loc nD τ sig) → Buf (Elt Ideal) ℓ) (c : Dev nD) (X : In) (v : ℕ → ℕ → EReal)
  (h0 : ∀ i : S2048x2048.Idx, (m ((c : Thread nD τ).loc main_arg0) : Vec Ideal S2048x2048 .bf16) i = (X.Q (i 0).val (i 1).val : EReal))
  (h1 : ∀ i : S2048x2048.Idx, (m ((c : Thread nD τ).loc main_arg1) : Vec Ideal S2048x2048 .bf16) i = (X.K (i 0).val (i 1).val : EReal))
  (h2 : ∀ i : S2048x1024.Idx, (m ((c : Thread nD τ).loc main_arg2) : Vec Ideal S2048x1024 .bf16) i = v (i 0).val (i 1).val)

/-- The launch finds the transposed values. -/
theorem V_vt : V m c main_v0 = transpose S1024x2048 [1, 0] (m ((c : Thread nD τ).loc main_arg2)) transposes_S2048x1024_S1024x2048_1_0 := by
  entry_read
  rfl

include h2 in
theorem V_vt_at : ∀ i : S1024x2048.Idx, (V m c main_v0 : Vec Ideal S1024x2048 .bf16) i = (fun a b => v b a) (i 0).val (i 1).val := by
  intro i
  rw [V_vt]
  exact h2 _

include h0 in
theorem at_blk0 (t : Fin cfg0.N) (y : S512x256.Idx) : (iblk m c 0 t : Vec Ideal S512x256 .bf16) y = ((att X v (t.val / 4) (t.val % 4)).q (y 0).val (y 1).val : EReal) := by
  have hi := at_index0 t
  unfold iblk
  rw [View.read_apply]
  show V m c main_arg0 _ = _
  rw [V_main_arg0]
  refine (h0 _).trans (congrArg _ (congrArg₂ X.Q ?_ ?_))
  · show win0_0.index t 0 * 512 + 1 * (y 0).val = _; rw [hi.1]; omega
  · show win0_0.index t 1 * 256 + 1 * (y 1).val = _; rw [hi.2]; omega

include h1 in
theorem at_blk1 (t : Fin cfg0.N) (y : S2048x256.Idx) : (iblk m c 1 t : Vec Ideal S2048x256 .bf16) y = ((att X v (t.val / 4) (t.val % 4)).kb (y 0).val (y 1).val : EReal) := by
  have hi := at_index1 t
  unfold iblk
  rw [View.read_apply]
  show V m c main_arg1 _ = _
  rw [V_main_arg1]
  refine (h1 _).trans (congrArg _ (congrArg₂ X.K ?_ ?_))
  · show win0_1.index t 0 * 2048 + 1 * (y 0).val = _; rw [hi.1]; omega
  · show win0_1.index t 1 * 256 + 1 * (y 1).val = _; rw [hi.2]; omega

/-- A block of the transposed values read out of any array whose entries are known. -/
theorem at_read2 (W : (b : Ref sig .tc) → BufTy.Contents (Elt Ideal) (Ref.ty b)) (f : ℕ → ℕ → EReal)
    (hW : ∀ i : S1024x2048.Idx, (W main_v0 : Vec Ideal S1024x2048 .bf16) i = f (i 0).val (i 1).val) (t : Fin cfg0.N) (y : S128x2048.Idx) :
    (((cfg0.win 2).blk t).view.read (Elt Ideal) (W (Pipeline.arrRef spec0 2)) : Vec Ideal S128x2048 .bf16) y = f (128 * (t.val / 4) + (y 0).val) (y 1).val := by
  have hi := at_index2 t
  rw [View.read_apply]
  refine (hW _).trans (congrArg₂ f ?_ ?_)
  · show win0_2.index t 0 * 128 + 1 * (y 0).val = _; rw [hi.1]; omega
  · show win0_2.index t 1 * 2048 + 1 * (y 1).val = _; rw [hi.2]; omega

include h2 in
theorem at_blk2 (t : Fin cfg0.N) (y : S128x2048.Idx) : (iblk m c 2 t : Vec Ideal S128x2048 .bf16) y = (att X v (t.val / 4) (t.val % 4)).vt (y 0).val (y 1).val := by
  unfold iblk
  exact at_read2 (V m c) (fun a b => v b a) (V_vt_at m c v h2) t y

include h0 h1 h2 in
/-- A point's block of the output. -/
theorem out_at (t : Fin cfg0.N) (y : S512x128.Idx) :
    (outsAt0 m c t).1 y = att_out X v (512 * (t.val % 4) + (y 0).val) (128 * (t.val / 4) + (y 1).val) := by
  unfold outsAt0
  dsimp only
  refine (out3 (y := y) (B := att X v (t.val / 4) (t.val % 4)) (hq := at_blk0 m c X v h0 t) (hkb := at_blk1 m c X v h1 t) (hvt := at_blk2 m c X v h2 t) ..).trans ?_
  rw [at_coord1]
  have y1 : (y 1).val < 128 := (y 1).isLt
  exact att_mean X v _ (Nat.mod_lt _ (by decide)) y1 (y 0).isLt

include h0 h1 h2 in
/-- A point's block of the logarithms. -/
theorem log_at (t : Fin cfg0.N) (y : S1x1x512.Idx) :
    (outsAt0 m c t).2 y = ((Real.log (X.L (t.val / 4) (512 * (t.val % 4) + (y 2).val)) : ℝ) : EReal) := by
  unfold outsAt0
  dsimp only
  refine (out4 (y := y) (B := att X v (t.val / 4) (t.val % 4)) (hq := at_blk0 m c X v h0 t) (hkb := at_blk1 m c X v h1 t) (hvt := at_blk2 m c X v h2 t) ..).trans ?_
  rw [at_coord1]
  simp only [att_W]
  rfl

/-- The output. -/
def resO : S2048x1024.Idx → EReal := fun i => att_out X v (i 0).val (i 1).val

/-- The logarithms of the normalisers. -/
def resL : S8x1x2048.Idx → EReal := fun i => ((Real.log (X.L (i 0).val (i 2).val) : ℝ) : EReal)

include h0 h1 h2 in
/-- What a point writes back of the output. -/
theorem flushed3_eq (t : Fin cfg0.N) (hf : (cfg0.win 3).flush t = true) :
    (dats m 0 c).flushed 3 t = ((cfg0.win 3).blk t).view.read (Elt Ideal) (resO X v) := by
  have hi := at_index3 t
  rw [flushed3]
  funext y
  rw [View.read_apply]
  refine (out_at m c X v h0 h1 h2 t y).trans (congrArg₂ (att_out X v) ?_ ?_)
  · show _ = win0_3.index t 0 * 512 + 1 * (y 0).val; rw [hi.1]; omega
  · show _ = win0_3.index t 1 * 128 + 1 * (y 1).val; rw [hi.2]; omega

include h0 h1 h2 in
/-- The output at the end. -/
theorem final3 : (dats m 0 c).arrAt 3 cfg0.N = resO X v :=
  (dats m 0 c).arrAt_eq_of_cover 3 (resO X v) (flushed3_eq m c X v h0 h1 h2) fun i => by
    have i0 : (i 0).val < 2048 := (i 0).isLt
    have i1 : (i 1).val < 1024 := (i 1).isLt
    have hN : cfg0.N = 32 := N_0
    let t : Fin cfg0.N := ⟨4 * ((i 1).val / 128) + (i 0).val / 512, by omega⟩
    have ht : t.val = 4 * ((i 1).val / 128) + (i 0).val / 512 := rfl
    have hi := at_index3 t
    refine ⟨t, flush0_3 t, ?_⟩
    show i ∈ ((View.whole main_v1_0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [hi.1]; omega
    | ⟨1, _⟩ => show win0_3.index t 1 * 128 ≤ (i 1).val ∧ (i 1).val < win0_3.index t 1 * 128 + 128
                rw [hi.2]; omega

include h0 h1 h2 in
/-- What a point writes back of the logarithms. -/
theorem flushed4_eq (t : Fin cfg0.N) (hf : (cfg0.win 4).flush t = true) :
    (dats m 0 c).flushed 4 t = ((cfg0.win 4).blk t).view.read (Elt Ideal) (resL X) := by
  have hi := at_index4 t
  rw [flushed4]
  funext y
  rw [View.read_apply]
  have y0 : (y 0).val < 1 := (y 0).isLt
  refine (log_at m c X v h0 h1 h2 t y).trans (congrArg _ (congrArg Real.log (congrArg₂ X.L ?_ ?_)))
  · show _ = win0_4.index t 0 * 1 + 1 * (y 0).val; rw [hi.1]; omega
  · show _ = win0_4.index t 2 * 512 + 1 * (y 2).val; rw [hi.2.2]; omega

include h0 h1 h2 in
/-- The logarithms at the end. -/
theorem final4 : (dats m 0 c).arrAt 4 cfg0.N = resL X :=
  (dats m 0 c).arrAt_eq_of_cover 4 (resL X) (flushed4_eq m c X v h0 h1 h2) fun i => by
    have i0 : (i 0).val < 8 := (i 0).isLt
    have i1 : (i 1).val < 1 := (i 1).isLt
    have i2 : (i 2).val < 2048 := (i 2).isLt
    have hN : cfg0.N = 32 := N_0
    let t : Fin cfg0.N := ⟨4 * (i 0).val + (i 2).val / 512, by omega⟩
    have ht : t.val = 4 * (i 0).val + (i 2).val / 512 := rfl
    have hi := at_index4 t
    refine ⟨t, flush0_4 t, ?_⟩
    show i ∈ ((View.whole main_v1_1).slice (win0_4.rect t)).set
    rw [View.set_slice_whole, Rect.mem_set_unit]
    intro a
    match a with
    | ⟨0, _⟩ => show win0_4.index t 0 * 1 ≤ (i 0).val ∧ (i 0).val < win0_4.index t 0 * 1 + 1
                rw [hi.1]; omega
    | ⟨1, _⟩ => show win0_4.index t 1 * 1 ≤ (i 1).val ∧ (i 1).val < win0_4.index t 1 * 1 + 1
                rw [hi.2.1]; omega
    | ⟨2, _⟩ => show win0_4.index t 2 * 512 ≤ (i 2).val ∧ (i 2).val < win0_4.index t 2 * 512 + 512
                rw [hi.2.2]; omega

end Run

end Cert.AttendIdeal.Body

end
-- ==== Proof.AttendRef.lean ====
/- The forward reference's two results as functions of its matrices: each of its lines read at an index, when the
   queries and the keys are real; the values may be infinite. -/
module

public import proofs.«01_k».proof.Proof.Grad
public import proofs.«01_k».proof.Proof.Chunk
public import proofs.«01_k».proof.Proof.Gen.AttendRefIdeal.Read
public import Idealize.ShloMosaic.Lib.IdealHost

@[expose] public section

set_option maxRecDepth 16384

noncomputable section

namespace Cert.AttendRefIdeal.RefValue

open Cert.AttendRefIdeal Cert.AttendRefIdeal.Gen Cert.AttendRefIdeal.Read Cert.Grad Idealize.ShloMosaic
open scoped BigOperators

/-- A row's chunk. -/
theorem chunk_at (i : S2048.Idx) : val_main_v7 (F := Ideal) i = BitVec.ofNat 32 ((i 0).val / 64) := by
  rw [val_main_v7_apply, val_main_call0_v11_apply, val_main_call0_v13_apply, val_main_call0_v6_apply,
    val_main_call0_v10_apply, val_main_call0_v8_apply, val_main_call0_v2_apply, val_main_call0_v1_apply,
    val_main_call0_v7_apply, val_main_call0_v5_apply, val_main_call0_v9_apply, val_main_call0_v12_apply]
  exact fdiv64_host (i 0)

/-- Which keys a query sees. -/
theorem sees_at (i : S8x2048x2048.Idx) :
    val_main_call1_v1 (F := Ideal) i = if (i 2).val / 64 ≤ (i 1).val / 64 then 1#1 else 0#1 := by
  rw [val_main_call1_v1_apply, val_main_v13_apply, val_main_v12_apply, val_main_v10_apply, val_main_v11_apply,
    val_main_v8_apply, val_main_v9_apply, chunk_at, chunk_at]
  exact sle_chunk _ _ (i 2).isLt (i 1).isLt

variable (X : In) {x0 x1 : (⟨S2048x2048, .bf16⟩ : BufTy).Contents (Elt Ideal)} {x2 : (⟨S2048x1024, .bf16⟩ : BufTy).Contents (Elt Ideal)}
variable (h0 : ∀ i, x0 i = (X.Q (i 0).val (i 1).val : EReal)) (h1 : ∀ i, x1 i = (X.K (i 0).val (i 1).val : EReal))
variable {v : ℕ → ℕ → EReal} (h2 : ∀ i, x2 i = v (i 0).val (i 1).val)

include h0 in
/-- A head's queries. -/
theorem query_at (i : S2048x8x256.Idx) :
    val_main_v3 (F := Ideal) x0 i = (X.Q (i 0).val (256 * (i 1).val + (i 2).val) : EReal) := by
  have a1 : (i 1).val < 8 := (i 1).isLt
  have a2 : (i 2).val < 256 := (i 2).isLt
  rw [val_main_v3_apply, val_main_v0_apply]
  refine (h0 _).trans (congrArg _ (congrArg₂ X.Q ?_ ?_))
  · show (((i 0).val * 8 + (i 1).val) * 256 + (i 2).val) / 2048 = _; omega
  · show (((i 0).val * 8 + (i 1).val) * 256 + (i 2).val) % 2048 = _; omega

include h1 in
/-- A head's keys. -/
theorem key_at (i : S2048x8x256.Idx) :
    val_main_v4 (F := Ideal) x1 i = (X.K (i 0).val (256 * (i 1).val + (i 2).val) : EReal) := by
  have a1 : (i 1).val < 8 := (i 1).isLt
  have a2 : (i 2).val < 256 := (i 2).isLt
  rw [val_main_v4_apply, val_main_v1_apply]
  refine (h1 _).trans (congrArg _ (congrArg₂ X.K ?_ ?_))
  · show (((i 0).val * 8 + (i 1).val) * 256 + (i 2).val) / 2048 = _; omega
  · show (((i 0).val * 8 + (i 1).val) * 256 + (i 2).val) % 2048 = _; omega

include h2 in
/-- A head's values. -/
theorem value_at (i : S2048x8x128.Idx) :
    val_main_v41 (F := Ideal) x2 i = v (i 0).val (128 * (i 1).val + (i 2).val) := by
  have a1 : (i 1).val < 8 := (i 1).isLt
  have a2 : (i 2).val < 128 := (i 2).isLt
  rw [val_main_v41_apply, val_main_v2_apply]
  refine (h2 _).trans (congrArg₂ v ?_ ?_)
  · show (((i 0).val * 8 + (i 1).val) * 128 + (i 2).val) / 1024 = _; omega
  · show (((i 0).val * 8 + (i 1).val) * 128 + (i 2).val) % 1024 = _; omega

include h0 h1 in
/-- A score. -/
theorem score_at (i : S8x2048x2048.Idx) :
    val_main_v5 (F := Ideal) x0 x1 i = (X.S (i 0).val (i 1).val (i 2).val : EReal) := by
  rw [val_main_v5_apply]
  simp only [query_at X h0, key_at X h1, ← EReal.coe_mul]
  exact coe_sum _ _

/-- The mask's fill. -/
theorem fill : Ideal.ofBits .f32 0xFF800000#32 = (⊥ : EReal) := by simp [Ideal.ofBits, Ideal.ieee]

include h0 h1 in
/-- A score after the mask. -/
theorem masked_at (i : S8x2048x2048.Idx) :
    val_main_v14 (F := Ideal) x0 x1 i = X.SM (i 0).val (i 1).val (i 2).val := by
  rw [val_main_v14_apply, sees_at, score_at X h0 h1, val_main_call1_v2_apply, val_main_call1_v0_apply, val_main_cst_apply]
  unfold In.SM
  by_cases h : (i 2).val / 64 ≤ (i 1).val / 64
  · rw [if_pos h, if_pos h]; rfl
  · rw [if_neg h, if_neg h]; exact fill

/-- The reference masks its scores twice, the same way. -/
theorem twice : val_main_v29 (F := Ideal) x0 x1 = val_main_v14 (F := Ideal) x0 x1 := rfl

include h0 h1 in
/-- A weight, not shifted. -/
theorem weight_at (i : S8x2048x2048.Idx) :
    val_main_v15 (F := Ideal) x0 x1 i = (X.E (i 0).val (i 1).val (i 2).val : EReal) := by
  rw [val_main_v15_apply, masked_at X h0 h1]
  have e := X.exp_SM (i 0).val (i 1).val (i 2).val 0
  rw [EReal.coe_zero, sub_zero, Real.exp_zero, div_one] at e
  exact e

include h0 h1 in
/-- The logarithm of a query's normaliser. -/
theorem lse_at (i : S8x1x2048.Idx) :
    val_main_v45 (F := Ideal) x0 x1 i = ((Real.log (X.L (i 0).val (i 2).val) : ℝ) : EReal) := by
  have a0 : (i 0).val < 8 := (i 0).isLt
  have a1 : (i 1).val < 1 := (i 1).isLt
  have a2 : (i 2).val < 2048 := (i 2).isLt
  have hL := X.L_pos (i 0).val (i 2).val a2
  have hs : val_main_v16 (F := Ideal) x0 x1 (idx_main_v45 i) = ((X.L (i 0).val (i 2).val : ℝ) : EReal) := by
    rw [val_main_v16_apply, val_main_cst_0_apply]
    simp only [weight_at X h0 h1]
    rw [coe_sum]
    refine ((congrArg (· + _) Ideal.ofBits_zero_f32).trans (zero_add _)).trans (congrArg _ ?_)
    refine Finset.sum_congr rfl fun k _ => congrFun (congrArg₂ X.E ?_ ?_) k.val
    · show (((i 0).val * 1 + (i 1).val) * 2048 + (i 2).val) / 2048 = _; omega
    · show (((i 0).val * 1 + (i 1).val) * 2048 + (i 2).val) % 2048 = _; omega
  rw [val_main_v45_apply, val_main_v17_apply, hs, Ideal.hostUnary_log_def, Ideal.log_coe, if_neg (not_le.mpr hL)]

include h0 h1 in
/-- A query's largest score is a real. -/
theorem top_at (i : S8x2048.Idx) : ∃ M : ℝ, val_main_v32 (F := Ideal) x0 x1 i = (M : EReal) := by
  have hr : S8x2048x2048.Reduces [2] S8x2048 := by decide
  obtain ⟨M, hM⟩ := fold_max_real (n := 2048) (fun k => X.SM (i 0).val (i 1).val k.val)
    (fun k => by unfold In.SM; split <;> simp) ⟨(i 1).val, (i 1).isLt⟩ (by simp [In.SM])
  refine ⟨M, ?_⟩
  rw [val_main_v32_apply, val_main_v31_apply, val_main_cst_4_apply]
  unfold val_main_v30
  rw [Host.reduce_eq_fold_single FloatOps.maximumf _ _ _ hr, twice]
  refine (max_eq_right ?_).trans (Eq.trans ?_ hM)
  · exact fill.le.trans bot_le
  · exact congrArg₂ (fun b f => (Finset.univ : Finset (Fin 2048)).fold max b f) fill (funext fun k => masked_at X h0 h1 _)

include h0 h1 in
/-- A probability: the shift by the largest score cancels. -/
theorem prob_at (i : S8x2048x2048.Idx) :
    val_main_v40 (F := Ideal) x0 x1 i = (X.P (i 0).val (i 1).val (i 2).val : EReal) := by
  let j : S8x2048.Idx := fun a => match a with | ⟨0, _⟩ => ⟨(i 0).val, (i 0).isLt⟩ | ⟨1, _⟩ => ⟨(i 1).val, (i 1).isLt⟩
  obtain ⟨M, hM⟩ := top_at X h0 h1 j
  have hw : ∀ z : S8x2048x2048.Idx, (z 0).val = (i 0).val → (z 1).val = (i 1).val →
      val_main_v36 (F := Ideal) x0 x1 z = ((X.E (i 0).val (i 1).val (z 2).val / Real.exp M : ℝ) : EReal) := by
    intro z a b
    rw [val_main_v36_apply, val_main_v35_apply, twice, masked_at X h0 h1, val_main_v34_apply, val_main_v33_apply]
    have hz : idx_main_v33 (idx_main_v34 z) = j := by
      funext x; match x with
        | ⟨0, _⟩ => exact Fin.ext a
        | ⟨1, _⟩ => exact Fin.ext b
    rw [hz, hM, a, b]
    exact X.exp_SM _ _ _ M
  have hs : val_main_v37 (F := Ideal) x0 x1 (idx_main_v38 (idx_main_v39 i)) = ((X.L (i 0).val (i 1).val / Real.exp M : ℝ) : EReal) := by
    rw [val_main_v37_apply, val_main_cst_5_apply]
    simp only [hw (idx_main_v37 (idx_main_v38 (idx_main_v39 i)) _) rfl rfl]
    rw [coe_sum, ← Finset.sum_div]
    exact (congrArg (· + _) Ideal.ofBits_zero_f32).trans (zero_add _)
  have hL := X.L_pos (i 0).val (i 1).val (i 1).isLt
  have he := Real.exp_pos M
  rw [val_main_v40_apply, val_main_v39_apply, val_main_v38_apply, hw i rfl rfl, hs]
  refine (coe_div _ _ (div_pos hL he).ne').trans (congrArg _ ?_)
  unfold In.P
  field_simp

include h0 h1 h2 in
/-- The output. -/
theorem o_at (i : S2048x1024.Idx) : val_main_v44 (F := Ideal) x0 x1 x2 i
    = ∑ k : Fin 2048, v k.val (i 1).val * (X.P ((i 1).val / 128) (i 0).val k.val : EReal) := by
  have a1 : (i 1).val < 1024 := (i 1).isLt
  rw [val_main_v44_apply, val_main_v43_apply, val_main_v42_apply]
  simp only [value_at h2, prob_at X h0 h1]
  refine Finset.sum_congr rfl fun k _ => congrArg₂ (· * ·) (congrArg _ ?_) (congrArg _ (congrFun (congrArg₂ X.P ?_ ?_) k.val))
  · show 128 * (((i 0).val * 1024 + (i 1).val) / 128 % 8) + ((i 0).val * 1024 + (i 1).val) % 128 = _; omega
  · show ((i 0).val * 1024 + (i 1).val) / 128 % 8 = _; omega
  · show ((i 0).val * 1024 + (i 1).val) / 1024 = _; omega

end Cert.AttendRefIdeal.RefValue

end
-- ==== Proof.AttendEqual.lean ====
/- The forward attention's value claim: on real queries and keys the kernel and the reference end with the same output and the
   same logarithms of the normalisers. -/
module

public import proofs.«01_k».proof.Defs
public import proofs.«01_k».proof.Proof.AttendGrid
public import proofs.«01_k».proof.Proof.AttendRef
public import proofs.«01_k».proof.Proof.Finite
public import proofs.«01_k».proof.Proof.Gen.AttendRefIdeal
public import proofs.«01_k».proof.Proof.Gen.AttendRefIdeal.Run
public import proofs.«01_k».proof.Proof.Gen.AttendRefIdeal.Read
public import Idealize.ShloMosaic.Adequacy
public import Idealize.ShloMosaic.Init

@[expose] public section

set_option maxRecDepth 16384

noncomputable section

namespace Cert.AttendEqual

open Idealize.ShloMosaic Idealize.ShloMosaic.TcCoe Idealize.SL.Sem
open Cert.Grad Cert.Finite Cert.AttendIdeal.Body

/-- The shapes this precondition's operations name fit together. -/
theorem facts_heads : Cert.Pre_finite_heads.Facts where
  bcast_S_S2048x2048 := by decide

section Read

open Cert.Pre_finite_heads

variable [Cert.Pre_finite_heads.Facts] (x0 x1 : FVec Ideal S2048x2048 .bf16) (x2 : FVec Ideal S2048x1024 .bf16)
  (h : Cert.Pre_finite_heads.fn (F := Ideal) x0 x1 x2 = fun _ => 1#1)

include h in
/-- The queries and the keys are real. -/
theorem real_qk (i : S2048x2048.Idx) : x0 i = (((x0 i : EReal).toReal : ℝ) : EReal) ∧ x1 i = (((x1 i : EReal).toReal : ℝ) : EReal) := by
  have e := congrFun h i
  unfold fn at e
  dsimp only at e
  have p := and_one e
  exact ⟨real_of_lt _ (by rw [← top_bits]; exact p.1), real_of_lt _ (by rw [← top_bits]; exact p.2)⟩

end Read

section Inputs

variable [Cert.Pre_finite_heads.Facts] (m : (ℓ : Loc Cert.AttendIdeal.nD Cert.AttendIdeal.τ Cert.AttendIdeal.sig) → Buf (Elt Ideal) ℓ)

/-- A matrix of extended reals as a function of two naturals, zero outside the matrix. -/
def fn_any {d : Fin 2 → ℕ} (x : (⟨2, d⟩ : Shape).Idx → EReal) (a b : ℕ) : EReal :=
  if h : a < d 0 ∧ b < d 1 then x fun k => match k with | ⟨0, _⟩ => ⟨a, h.1⟩ | ⟨1, _⟩ => ⟨b, h.2⟩ else 0

theorem fn_any_at {d : Fin 2 → ℕ} (x : (⟨2, d⟩ : Shape).Idx → EReal) (i : (⟨2, d⟩ : Shape).Idx) : x i = fn_any x (i 0).val (i 1).val := by
  unfold fn_any
  rw [dif_pos ⟨(i 0).isLt, (i 1).isLt⟩]
  refine congrArg x (funext fun k => ?_)
  match k with
  | ⟨0, _⟩ => rfl
  | ⟨1, _⟩ => rfl

/-- A device's queries and keys as real functions; the values are not needed as reals, and the forward pass has no cotangent. -/
def begin_at (c : Dev Cert.AttendIdeal.nD) : In where
  Q := fn2 (m ((c.tc : Thread Cert.AttendIdeal.nD Cert.AttendIdeal.τ).loc Cert.AttendIdeal.main_arg0) : Cert.AttendIdeal.S2048x2048.Idx → EReal)
  K := fn2 (m ((c.tc : Thread Cert.AttendIdeal.nD Cert.AttendIdeal.τ).loc Cert.AttendIdeal.main_arg1) : Cert.AttendIdeal.S2048x2048.Idx → EReal)
  V := fun _ _ => 0
  O := fun _ _ => 0

/-- A device's values. -/
def values_at (c : Dev Cert.AttendIdeal.nD) : ℕ → ℕ → EReal :=
  fn_any (m ((c.tc : Thread Cert.AttendIdeal.nD Cert.AttendIdeal.τ).loc Cert.AttendIdeal.main_arg2) : Cert.AttendIdeal.S2048x1024.Idx → EReal)

variable (h : Cert.Pre_AttendIdeal_finite_heads m) (c : Dev Cert.AttendIdeal.nD)

include h in
theorem begin0 (i : Cert.AttendIdeal.S2048x2048.Idx) :
    (m ((c.tc : Thread Cert.AttendIdeal.nD Cert.AttendIdeal.τ).loc Cert.AttendIdeal.main_arg0) : Vec Ideal Cert.AttendIdeal.S2048x2048 .bf16) i
      = ((begin_at m c).Q (i 0).val (i 1).val : EReal) :=
  (real_qk _ _ _ (h c) i).1.trans (congrArg _ (fn2_at _ i).symm)

include h in
theorem begin1 (i : Cert.AttendIdeal.S2048x2048.Idx) :
    (m ((c.tc : Thread Cert.AttendIdeal.nD Cert.AttendIdeal.τ).loc Cert.AttendIdeal.main_arg1) : Vec Ideal Cert.AttendIdeal.S2048x2048 .bf16) i
      = ((begin_at m c).K (i 0).val (i 1).val : EReal) :=
  (real_qk _ _ _ (h c) i).2.trans (congrArg _ (fn2_at _ i).symm)

theorem begin2 (i : Cert.AttendIdeal.S2048x1024.Idx) :
    (m ((c.tc : Thread Cert.AttendIdeal.nD Cert.AttendIdeal.τ).loc Cert.AttendIdeal.main_arg2) : Vec Ideal Cert.AttendIdeal.S2048x1024 .bf16) i
      = values_at m c (i 0).val (i 1).val :=
  fn_any_at _ i

end Inputs

section Reference

variable (m' : (ℓ : Loc Cert.AttendRefIdeal.nD Cert.AttendRefIdeal.τ Cert.AttendRefIdeal.sig) → Buf (Elt Ideal) ℓ)
  (c : Dev Cert.AttendRefIdeal.nD) (X : In) (v : ℕ → ℕ → EReal)
  (h0 : ∀ i : Cert.AttendRefIdeal.S2048x2048.Idx, (m' ((c.tc : Thread Cert.AttendRefIdeal.nD Cert.AttendRefIdeal.τ).loc Cert.AttendRefIdeal.main_arg0) : Vec Ideal Cert.AttendRefIdeal.S2048x2048 .bf16) i = (X.Q (i 0).val (i 1).val : EReal))
  (h1 : ∀ i : Cert.AttendRefIdeal.S2048x2048.Idx, (m' ((c.tc : Thread Cert.AttendRefIdeal.nD Cert.AttendRefIdeal.τ).loc Cert.AttendRefIdeal.main_arg1) : Vec Ideal Cert.AttendRefIdeal.S2048x2048 .bf16) i = (X.K (i 0).val (i 1).val : EReal))
  (h2 : ∀ i : Cert.AttendRefIdeal.S2048x1024.Idx, (m' ((c.tc : Thread Cert.AttendRefIdeal.nD Cert.AttendRefIdeal.τ).loc Cert.AttendRefIdeal.main_arg2) : Vec Ideal Cert.AttendRefIdeal.S2048x1024 .bf16) i = v (i 0).val (i 1).val)

include h0 h1 h2 in
/-- The reference's first result is the output. -/
theorem refO : Cert.AttendRefIdeal.Value.res_main_v44 m' c = resO X v := by
  rw [Cert.AttendRefIdeal.Read.val_main_v44_eq]
  funext i
  exact Cert.AttendRefIdeal.RefValue.o_at X h0 h1 h2 i

include h0 h1 in
/-- Its second is the logarithms. -/
theorem refL : Cert.AttendRefIdeal.Read.val_main_v45 (F := Ideal)
    (m' ((c.tc : Thread Cert.AttendRefIdeal.nD Cert.AttendRefIdeal.τ).loc Cert.AttendRefIdeal.main_arg0))
    (m' ((c.tc : Thread Cert.AttendRefIdeal.nD Cert.AttendRefIdeal.τ).loc Cert.AttendRefIdeal.main_arg1)) = resL X := by
  funext i
  exact Cert.AttendRefIdeal.RefValue.lse_at X h0 h1 i

end Reference

/-- On real queries and keys both programs run and end with the same output and the same logarithms. -/
theorem algebraic [Cert.Pre_finite_heads.Facts] : Cert.algebraic_AttendIdeal_AttendRefIdeal_pre_finite_heads
    (hAttendIdeal := Cert.AttendIdeal.Gen.facts) (hAttendRefIdeal := Cert.AttendRefIdeal.Gen.facts) := by
  intro m g m' g' h e
  have s0 := begin0 m h
  have s1 := begin1 m h
  have s2 := begin2 m
  have r0 := fun (c : Dev Cert.AttendRefIdeal.nD) (i : Cert.AttendRefIdeal.S2048x2048.Idx) => (congrFun (e c).1 i).trans (s0 c i)
  have r1 := fun (c : Dev Cert.AttendRefIdeal.nD) (i : Cert.AttendRefIdeal.S2048x2048.Idx) => (congrFun (e c).2.1 i).trans (s1 c i)
  have r2 := fun (c : Dev Cert.AttendRefIdeal.nD) (i : Cert.AttendRefIdeal.S2048x1024.Idx) => (congrFun (e c).2.2 i).trans (s2 c i)
  refine ⟨fun c => resO (begin_at m c) (values_at m c), fun c => resL (begin_at m c), ?_, ?_⟩
  · refine (θ_run _ _ _).mono (fun r p c => ?_) (Cert.AttendIdeal.Value.run_blocks m g)
    exact ⟨(p c).1.trans (final3 m c (begin_at m c) (values_at m c) (s0 c) (s1 c) (s2 c)),
      (p c).2.1.trans (final4 m c (begin_at m c) (values_at m c) (s0 c) (s1 c) (s2 c)), (p c).2.2⟩
  · refine (θ_run _ _ _).mono (fun r p c => ?_) (Cert.AttendRefIdeal.Value.run m' g')
    exact ⟨(p c).1.trans (refO m' c (begin_at m c) (values_at m c) (r0 c) (r1 c) (r2 c)),
      ((p c).2.1.trans (Cert.AttendRefIdeal.Read.val_main_v45_eq _ _)).trans (refL m' c (begin_at m c) (r0 c) (r1 c)), (p c).2.2⟩

/-- The reference runs, keeps its arguments, and ends with every semaphore at zero: it has none. -/
theorem frame_reference [h : Cert.AttendRefIdeal.Facts] : Cert.quiescent_AttendRefIdeal :=
  fun m g _ => (θ_run _ _ _).mono (fun r h => ⟨fun c => (h c).2.2, sem_eq_zero_of_no_sems (by decide) r.2⟩)
    (Cert.AttendRefIdeal.Value.run m g)

/-- The constant the kernel writes for minus infinity is named so. -/
theorem preserves : Cert.preserves_Attend_AttendIdeal :=
  IdealRules.named_const.statement Cert.AttendIdeal.κ "mask" .f32 0xF149F2CA#32 ⊥ (by rfl)

end Cert.AttendEqual

end
-- ==== Proof.Blocked.lean ====
/- Arrays of four axes entry by entry, and a stack of one as its member: for the gates' products, whose weights are four square blocks. -/
module

public import proofs.«01_k».proof.Proof.Product

@[expose] public section

set_option maxRecDepth 16384

noncomputable section

namespace Cert.Product

open Idealize.ShloMosaic Idealize.ShloMosaic.ValueIdx
open scoped BigOperators

/-- An array of four axes as a function of four numbers, zero outside the array. -/
def ent4 {d : Fin 4 → ℕ} (x : (⟨4, d⟩ : Shape).Idx → EReal) (a b p q : ℕ) : EReal :=
  if h : a < d 0 ∧ b < d 1 ∧ p < d 2 ∧ q < d 3 then
    x fun k => match k with | ⟨0, _⟩ => ⟨a, h.1⟩ | ⟨1, _⟩ => ⟨b, h.2.1⟩ | ⟨2, _⟩ => ⟨p, h.2.2.1⟩ | ⟨3, _⟩ => ⟨q, h.2.2.2⟩
  else 0

/-- An entry of the array, its four numbers given. -/
theorem ent4_of {d : Fin 4 → ℕ} (x : (⟨4, d⟩ : Shape).Idx → EReal) (i : (⟨4, d⟩ : Shape).Idx) {a b p q : ℕ} (h0 : (i 0).val = a)
    (h1 : (i 1).val = b) (h2 : (i 2).val = p) (h3 : (i 3).val = q) : x i = ent4 x a b p q := by
  subst h0; subst h1; subst h2; subst h3
  unfold ent4
  rw [dif_pos ⟨(i 0).isLt, (i 1).isLt, (i 2).isLt, (i 3).isLt⟩]
  refine congrArg x (funext fun k => ?_)
  match k with
  | ⟨0, _⟩ => rfl
  | ⟨1, _⟩ => rfl
  | ⟨2, _⟩ => rfl
  | ⟨3, _⟩ => rfl

/-- One block of a stack of blocks, read as a matrix. -/
theorem block_of {R : Type} {n k : ℕ} (v : (⟨4, ![1, 1, n, k]⟩ : Shape).Idx → R) (h : (⟨4, ![1, 1, n, k]⟩ : Shape).ShapeCasts ⟨2, ![n, k]⟩) {g : ℕ → ℕ → R}
    (hv : ∀ i, v i = g (i 2).val (i 3).val) (j : (⟨2, ![n, k]⟩ : Shape).Idx) : shapeCast (⟨2, ![n, k]⟩ : Shape) v h j = g (j 0).val (j 1).val := by
  refine (shapeCast_apply v h j (fun a => match a with | ⟨0, _⟩ => ⟨0, Nat.one_pos⟩ | ⟨1, _⟩ => ⟨0, Nat.one_pos⟩ | ⟨2, _⟩ => j 0 | ⟨3, _⟩ => j 1) ?_).trans (hv _)
  rw [Shape.rowMajor_val_four, Shape.rowMajor_val_two]
  show ((0 * 1 + 0) * n + (j 0).val) * k + (j 1).val = (j 0).val * k + (j 1).val
  simp

/-- A stack of one matrix, read as the matrix. -/
theorem unstack_of {R : Type} {n k : ℕ} (v : (⟨3, ![1, n, k]⟩ : Shape).Idx → R) (h : (⟨3, ![1, n, k]⟩ : Shape).ShapeCasts ⟨2, ![n, k]⟩) {g : ℕ → ℕ → R}
    (hv : ∀ i, v i = g (i 1).val (i 2).val) (j : (⟨2, ![n, k]⟩ : Shape).Idx) : shapeCast (⟨2, ![n, k]⟩ : Shape) v h j = g (j 0).val (j 1).val := by
  refine (shapeCast_apply v h j (fun a => match a with | ⟨0, _⟩ => ⟨0, Nat.one_pos⟩ | ⟨1, _⟩ => j 0 | ⟨2, _⟩ => j 1) ?_).trans (hv _)
  rw [Shape.rowMajor_val_three, Shape.rowMajor_val_two]
  show (0 * n + (j 0).val) * k + (j 1).val = (j 0).val * k + (j 1).val
  simp

/-- A matrix, read as a stack of one. -/
theorem stack_of {R : Type} {n k : ℕ} (v : (⟨2, ![n, k]⟩ : Shape).Idx → R) (h : (⟨2, ![n, k]⟩ : Shape).ShapeCasts ⟨3, ![1, n, k]⟩) {g : ℕ → ℕ → R}
    (hv : ∀ i, v i = g (i 0).val (i 1).val) (j : (⟨3, ![1, n, k]⟩ : Shape).Idx) : shapeCast (⟨3, ![1, n, k]⟩ : Shape) v h j = g (j 1).val (j 2).val := by
  have j0 : (j 0).val < 1 := (j 0).isLt
  refine (shapeCast_apply v h j (fun a => match a with | ⟨0, _⟩ => j 1 | ⟨1, _⟩ => j 2) ?_).trans (hv _)
  rw [Shape.rowMajor_val_three, Shape.rowMajor_val_two]
  show (j 1).val * k + (j 2).val = ((j 0).val * n + (j 1).val) * k + (j 2).val
  rw [show (j 0).val = 0 by omega]
  simp

theorem corner4 : (![0, 0, 0, 0] : Fin 4 → ℕ) = fun _ => 0 := by decide

theorem corner3 : (![0, 0, 0] : Fin 3 → ℕ) = fun _ => 0 := by decide

end Cert.Product

end
-- ==== Proof.GateFwd.lean ====
/- The recurrence's two gates, forward: every superblock's product, what the kernel leaves entry by entry, and that the reference leaves the same. -/
module

public import proofs.«01_k».proof.Defs
public import proofs.«01_k».proof.Proof.Blocked
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read

@[expose] public section

set_option maxRecDepth 16384

noncomputable section

namespace Cert.GateFwdIdeal.Body

open Cert.GateFwdIdeal Cert.GateFwdIdeal.Gen Cert.Product Idealize.ShloMosaic Idealize.ShloMosaic.TcCoe Idealize.SL.Sem
open scoped BigOperators

/-- A block of rows times a superblock. -/
theorem pay1_at (v0 : FVec Ideal S512x640 .bf16) (v1 : FVec Ideal S1x1x640x640 .bf16) {f g : ℕ → ℕ → EReal}
    (h0 : ∀ i, v0 i = f (i 0).val (i 1).val) (h1 : ∀ i, v1 i = g (i 2).val (i 3).val) (y : S512x640.Idx) :
    k0_pay1 (F := Ideal) v0 v1 y = ∑ e : Fin 640, f (y 0).val e.val * g e.val (y 1).val := by
  unfold k0_pay1
  dsimp only
  exact mm _ 640 rfl rfl v0 _ (fun e => f (y 0).val e.val) (fun e => g e.val (y 1).val) y (fun _ => h0 _) (fun _ => block_of v1 _ h1 _)

section Grid

variable (m : (ℓ : Loc nD τ sig) → Buf (Elt Ideal) ℓ) (c : Dev nD)

/-- The left factor, entry by entry. -/
def entL (a b : ℕ) : EReal := ent (m ((c : Thread nD τ).loc main_arg0) : S2048x1280.Idx → EReal) a b
/-- The weights of the first layer: superblock, row, column. -/
def entR (q a b : ℕ) : EReal := ent4 (m ((c : Thread nD τ).loc main_arg1) : S2x4x640x640.Idx → EReal) 0 q a b

theorem index0 : ∀ t : Fin cfg0.N, win0_0.index t 0 = t.val / 4 ∧ win0_0.index t 1 = t.val % 4 % 2 :=
  (by decide +kernel : ∀ t : Fin grid0.N, win0_0.index t 0 = t.val / 4 ∧ win0_0.index t 1 = t.val % 4 % 2)
theorem index1 : ∀ t : Fin cfg0.N, win0_1.index t 0 = 0 ∧ win0_1.index t 1 = t.val % 4 ∧ win0_1.index t 2 = 0 ∧ win0_1.index t 3 = 0 :=
  (by decide +kernel : ∀ t : Fin grid0.N, win0_1.index t 0 = 0 ∧ win0_1.index t 1 = t.val % 4 ∧ win0_1.index t 2 = 0 ∧ win0_1.index t 3 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The left factor's block at a point. -/
theorem iblk0_at (t : Fin cfg0.N) (y : S512x640.Idx) : (iblk m c 0 t : Vec Ideal S512x640 .bf16) y = entL m c (512 * (t.val / 4) + (y 0).val) (640 * (t.val % 4 % 2) + (y 1).val) := by
  have hi := index0 t
  unfold iblk
  rw [View.read_apply]
  show V m c main_arg0 _ = _
  rw [V_main_arg0]
  refine ent_of (m ((c : Thread nD τ).loc main_arg0) : S2048x1280.Idx → EReal) _ ?_ ?_
  · show win0_0.index t 0 * 512 + 1 * (y 0).val = _; rw [hi.1]; omega
  · show win0_0.index t 1 * 640 + 1 * (y 1).val = _; rw [hi.2]; omega

/-- The superblock at a point. -/
theorem iblk1_at (t : Fin cfg0.N) (y : S1x1x640x640.Idx) : (iblk m c 1 t : Vec Ideal S1x1x640x640 .bf16) y = entR m c (t.val % 4) (y 2).val (y 3).val := by
  obtain ⟨e0, e1, e2, e3⟩ := index1 t
  have y0 : (y 0).val < 1 := (y 0).isLt
  have y1 : (y 1).val < 1 := (y 1).isLt
  unfold iblk
  rw [View.read_apply]
  show V m c main_arg1 _ = _
  rw [V_main_arg1]
  refine ent4_of (m ((c : Thread nD τ).loc main_arg1) : S2x4x640x640.Idx → EReal) _ ?_ ?_ ?_ ?_
  · show win0_1.index t 0 * 1 + 1 * (y 0).val = _; rw [e0]; omega
  · show win0_1.index t 1 * 1 + 1 * (y 1).val = _; rw [e1]; omega
  · show win0_1.index t 2 * 640 + 1 * (y 2).val = _; rw [e2]; omega
  · show win0_1.index t 3 * 640 + 1 * (y 3).val = _; rw [e3]; omega

/-- The output's block after a point. -/
theorem block_at (t : Fin cfg0.N) (y : S512x640.Idx) :
    out0_2 (iblk m c 0 t) (iblk m c 1 t) y
      = ∑ e : Fin 640, entL m c (512 * (t.val / 4) + (y 0).val) (640 * (t.val % 4 % 2) + e.val) * entR m c (t.val % 4) e.val (y 1).val := by
  unfold out0_2
  rw [View.canon_cons_unit_zero corner, View.ld_unit_zero corner, View.ld_unit_zero corner4]
  exact pay1_at _ _ (f := fun a b => entL m c (512 * (t.val / 4) + a) (640 * (t.val % 4 % 2) + b)) (g := fun a b => entR m c (t.val % 4) a b)
    (iblk0_at m c t) (iblk1_at m c t) y

/-- The products as an array. -/
def res : Vec Ideal S2048x2560 .bf16 := fun i =>
  ∑ e : Fin 640, entL m c (i 0).val (640 * ((i 1).val / 640 % 2) + e.val) * entR m c ((i 1).val / 640) e.val ((i 1).val % 640)

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.GateFwdIdeal.Value.flushed2]
  funext y
  rw [View.read_apply]
  refine (block_at m c t y).trans ?_
  have y1 : (y 1).val < 640 := (y 1).isLt
  have e0 : 512 * (t.val / 4) + (y 0).val = win0_2.index t 0 * 512 + 1 * (y 0).val := by rw [hi.1]; omega
  have e1 : t.val % 4 = (win0_2.index t 1 * 640 + 1 * (y 1).val) / 640 := by rw [hi.2]; omega
  have e2 : (y 1).val = (win0_2.index t 1 * 640 + 1 * (y 1).val) % 640 := by rw [hi.2]; omega
  show _ = ∑ e : Fin 640, entL m c (win0_2.index t 0 * 512 + 1 * (y 0).val) (640 * ((win0_2.index t 1 * 640 + 1 * (y 1).val) / 640 % 2) + e.val)
    * entR m c ((win0_2.index t 1 * 640 + 1 * (y 1).val) / 640) e.val ((win0_2.index t 1 * 640 + 1 * (y 1).val) % 640)
  rw [← e0, ← e1, ← e2]

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 2560 := (i 1).isLt
    have hN : cfg0.N = 16 := N_0
    let t : Fin cfg0.N := ⟨4 * ((i 0).val / 512) + (i 1).val / 640, by omega⟩
    have ht : t.val = 4 * ((i 0).val / 512) + (i 1).val / 640 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [hi.1]; omega
    | ⟨1, _⟩ => show win0_2.index t 1 * 640 ≤ (i 1).val ∧ (i 1).val < win0_2.index t 1 * 640 + 640
                rw [hi.2]; omega

end Grid

open Cert.GateFwdRefIdeal.Read in
/-- The reference's weights: gate, superblock, row, column. -/
theorem refWeights (x1 : (⟨Cert.GateFwdRefIdeal.S2x4x640x640, .bf16⟩ : BufTy).Contents (Elt Ideal)) (j : Cert.GateFwdRefIdeal.S2x2x640x640.Idx) :
    val_main_v5 (F := Ideal) x1 j = ent4 (x1 : S2x4x640x640.Idx → EReal) 0 (2 * (j 0).val + (j 1).val) (j 2).val (j 3).val := by
  have j0 : (j 0).val < 2 := (j 0).isLt
  have j1 : (j 1).val < 2 := (j 1).isLt
  have j2 : (j 2).val < 640 := (j 2).isLt
  have j3 : (j 3).val < 640 := (j 3).isLt
  have p0 : ((((j 0).val * 2 + (j 1).val) * 640 + (j 2).val) * 640 + (j 3).val) / 409600 = 2 * (j 0).val + (j 1).val := by omega
  have p1 : ((((j 0).val * 2 + (j 1).val) * 640 + (j 2).val) * 640 + (j 3).val) / 640 % 640 = (j 2).val := by omega
  have p2 : ((((j 0).val * 2 + (j 1).val) * 640 + (j 2).val) * 640 + (j 3).val) % 640 = (j 3).val := by omega
  refine (val_main_v5_apply _ _).trans ((val_main_v2_apply _ _).trans ((val_main_v1_apply _ _).trans (ent4_of (x1 : S2x4x640x640.Idx → EReal) _ rfl ?_ ?_ ?_)))
  · show ((((((j 0).val * 2 + (j 1).val) * 640 + (j 2).val) * 640 + (j 3).val) / 409600 * 640 + ((((j 0).val * 2 + (j 1).val) * 640 + (j 2).val) * 640 + (j 3).val) / 640 % 640) * 640
      + ((((j 0).val * 2 + (j 1).val) * 640 + (j 2).val) * 640 + (j 3).val) % 640) / 409600 % 4 = _
    rw [p0, p1, p2]; omega
  · show ((((((j 0).val * 2 + (j 1).val) * 640 + (j 2).val) * 640 + (j 3).val) / 409600 * 640 + ((((j 0).val * 2 + (j 1).val) * 640 + (j 2).val) * 640 + (j 3).val) / 640 % 640) * 640
      + ((((j 0).val * 2 + (j 1).val) * 640 + (j 2).val) * 640 + (j 3).val) % 640) / 640 % 640 = _
    rw [p0, p1, p2]; omega
  · show ((((((j 0).val * 2 + (j 1).val) * 640 + (j 2).val) * 640 + (j 3).val) / 409600 * 640 + ((((j 0).val * 2 + (j 1).val) * 640 + (j 2).val) * 640 + (j 3).val) / 640 % 640) * 640
      + ((((j 0).val * 2 + (j 1).val) * 640 + (j 2).val) * 640 + (j 3).val) % 640) % 640 = _
    rw [p0, p1, p2]; omega

open Cert.GateFwdRefIdeal.Read in
/-- The reference's result is the same. -/
theorem refProduct (x0 : (⟨Cert.GateFwdRefIdeal.S2048x1280, .bf16⟩ : BufTy).Contents (Elt Ideal)) (x1 : (⟨Cert.GateFwdRefIdeal.S2x4x640x640, .bf16⟩ : BufTy).Contents (Elt Ideal))
    (i : Cert.GateFwdRefIdeal.S2048x2560.Idx) :
    val_main_v9 (F := Ideal) x0 x1 i
      = ∑ e : Fin 640, ent (x0 : S2048x1280.Idx → EReal) (i 0).val (640 * ((i 1).val / 640 % 2) + e.val)
          * ent4 (x1 : S2x4x640x640.Idx → EReal) 0 ((i 1).val / 640) e.val ((i 1).val % 640) := by
  have i0 : (i 0).val < 2048 := (i 0).isLt
  have i1 : (i 1).val < 2560 := (i 1).isLt
  refine ((val_main_v8_apply _ _ i).trans ((val_main_v7_apply _ _ _).trans (val_main_v6_apply _ _ _))).trans
    (Finset.sum_congr rfl fun k _ => (mul_comm _ _).trans (congrArg₂ (· * ·) ?_ ?_))
  · have hk := k.isLt
    refine (val_main_v4_apply _ _).trans (ent_of (x0 : S2048x1280.Idx → EReal) _ ?_ ?_)
    · show ((((i 0).val * 2560 + (i 1).val) / 2560 * 2 + ((i 0).val * 2560 + (i 1).val) / 640 % 2) * 640 + k.val) / 1280 = _
      omega
    · show ((((i 0).val * 2560 + (i 1).val) / 2560 * 2 + ((i 0).val * 2560 + (i 1).val) / 640 % 2) * 640 + k.val) % 1280 = _
      omega
  · refine (refWeights x1 _).trans ?_
    have e1 : 2 * (((i 0).val * 2560 + (i 1).val) / 1280 % 2) + ((i 0).val * 2560 + (i 1).val) / 640 % 2 = (i 1).val / 640 := by omega
    have e3 : ((i 0).val * 2560 + (i 1).val) % 640 = (i 1).val % 640 := by omega
    show ent4 (x1 : S2x4x640x640.Idx → EReal) 0 (2 * (((i 0).val * 2560 + (i 1).val) / 1280 % 2) + ((i 0).val * 2560 + (i 1).val) / 640 % 2) k.val (((i 0).val * 2560 + (i 1).val) % 640) = _
    rw [e1, e3]

open Cert.GateFwdRefIdeal.Read in
/-- From the same arguments the kernel and the reference end with the same products. -/
theorem algebraic : Cert.algebraic_GateFwdIdeal_GateFwdRefIdeal (hGateFwdIdeal := Cert.GateFwdIdeal.Gen.facts) (hGateFwdRefIdeal := Cert.GateFwdRefIdeal.Gen.facts) := by
  intro m g m' g' _ e
  refine ⟨fun c => res m c, ?_, ?_⟩
  · exact (θ_run _ _ _).mono (fun r p c => ⟨(p c).1.trans (final m c), (p c).2⟩) (Cert.GateFwdIdeal.Value.run_blocks m g)
  · refine (θ_run _ _ _).mono (fun r p c => ⟨(p c).1.trans ?_, (p c).2⟩) (Cert.GateFwdRefIdeal.Value.run m' g')
    refine (val_main_v9_eq _ _).trans (funext fun i => ?_)
    refine (refProduct _ _ i).trans ?_
    rw [(e c).1, (e c).2]
    rfl

/-- The reference runs, keeps its arguments, and ends with every semaphore at zero: it has none. -/
theorem frameReference [h : Cert.GateFwdRefIdeal.Facts] : Cert.quiescent_GateFwdRefIdeal :=
  fun m g _ => (θ_run _ _ _).mono (fun r h => ⟨fun c => (h c).2, sem_eq_zero_of_no_sems (by decide) r.2⟩)
    (Cert.GateFwdRefIdeal.Value.run m g)

end Cert.GateFwdIdeal.Body

end
-- ==== Proof.GateDx.lean ====
/- The recurrence's two gates, backward towards what they read: both gates' products summed, what the kernel leaves entry by entry, and that the reference leaves the same. -/
module

public import proofs.«01_k».proof.Defs
public import proofs.«01_k».proof.Proof.Blocked
public import proofs.«01_k».proof.Proof.Gen.GateDxIdeal.Value
public import proofs.«01_k».proof.Proof.Gen.GateDxRefIdeal
public import proofs.«01_k».proof.Proof.Gen.GateDxRefIdeal.Run
public import proofs.«01_k».proof.Proof.Gen.GateDxRefIdeal.Read

@[expose] public section

set_option maxRecDepth 16384

noncomputable section

namespace Cert.GateDxIdeal.Body

open Cert.GateDxIdeal Cert.GateDxIdeal.Gen Cert.Product Idealize.ShloMosaic Idealize.ShloMosaic.TcCoe Idealize.SL.Sem
open scoped BigOperators

/-- The accumulator's first contents. -/
theorem pay1_at (y : S512x640.Idx) : k0_pay1 (F := Ideal) y = (0 : EReal) := by
  unfold k0_pay1
  rw [shapeCast_self]
  exact Ideal.ofBits_zero_f32

/-- One accumulation. -/
theorem pay2_at (v3 : FVec Ideal S512x640 .f32) (v4 : FVec Ideal S512x640 .bf16) (v5 : FVec Ideal S1x1x640x640 .bf16) {f g : ℕ → ℕ → EReal}
    (h4 : ∀ i, v4 i = f (i 0).val (i 1).val) (h5 : ∀ i, v5 i = g (i 2).val (i 3).val) (y : S512x640.Idx) :
    k0_pay2 (F := Ideal) v3 v4 v5 y = v3 y + ∑ e : Fin 640, f (y 0).val e.val * g (y 1).val e.val := by
  unfold k0_pay2
  dsimp only
  rw [shapeCast_self]
  exact congrArg (v3 y + ·) (mm _ 640 rfl rfl v4 _ _ _ y (fun _ => h4 _) (fun _ => block_of v5 _ h5 _))

section Cases

variable (c : Dev nD) (i : grid0.Coords) (arg3 : Memref sig .tc .vmem S512x640 .bf16) (harg3 : arg3.IsWhole) (arg4 : Memref sig .tc .vmem S1x1x640x640 .bf16)
  (harg4 : arg4.IsWhole) (arg5 : Memref sig .tc .vmem S512x640 .bf16) (harg5 : arg5.IsWhole) (arg6 : Memref sig .tc .vmem S512x640 .f32) (harg6 : arg6.IsWhole)
  (x0 : Vec Ideal S512x640 .bf16) (x1 : Vec Ideal S1x1x640x640 .bf16) (xs0 : Vec Ideal S512x640 .f32)
  {f g : ℕ → ℕ → EReal} (h0 : ∀ i, x0 i = f (i 0).val (i 1).val) (h1 : ∀ i, x1 i = g (i 2).val (i 3).val)

include h0 h1 in
/-- The accumulator after a first point. -/
theorem accA (hc0 : cond0_0 i) (hc1 : ¬cond0_1 i) (y : S512x640.Idx) :
    sout0_A_0 c i arg3 harg3 arg4 harg4 arg5 harg5 arg6 harg6 hc0 hc1 x0 x1 y = ∑ e : Fin 640, f (y 0).val e.val * g (y 1).val e.val := by
  unfold sout0_A_0 kernelRun0_A
  dsimp only
  rw [newest _ corner, pay2_at _ _ _ (f := f) (g := g)]
  · refine (congrArg (· + _) ?_).trans (zero_add _)
    unfold kernelRun0_A.sl.v3 kernelRun0_A.sl.HS0_1
    rw [View.readCov_unit_zero arg6.view corner]
    exact pay1_at y
  · rw [View.readAt_eq_ld, View.ld_unit_zero corner, harg3.read_unread]; exact h0
  · rw [View.readAt_eq_ld, View.ld_unit_zero corner4, harg4.read_unread]; exact h1

include h0 h1 in
/-- The output's block after a last point. -/
theorem outLast (hc0 : ¬cond0_0 i) (hc1 : cond0_1 i) (y : S512x640.Idx) :
    out0_B_2 c i arg3 harg3 arg4 harg4 arg5 harg5 arg6 harg6 hc0 hc1 x0 x1 xs0 y = xs0 y + ∑ e : Fin 640, f (y 0).val e.val * g (y 1).val e.val := by
  unfold out0_B_2 kernelRun0_B
  dsimp only
  rw [single _ corner]
  change kernelRun0_B.sl.v15 c arg3 harg3 arg4 harg4 arg6 harg6 x0 x1 xs0 y = _
  unfold kernelRun0_B.sl.v15 kernelRun0_B.sl.HS0_1
  rw [View.readCov_unit_zero arg6.view corner, pay2_at _ _ _ (f := f) (g := g)]
  · rw [View.readAt_eq_ld, View.ld_unit_zero corner, harg6.read_unread]
  · rw [View.readAt_eq_ld, View.ld_unit_zero corner, harg3.read_unread]; exact h0
  · rw [View.readAt_eq_ld, View.ld_unit_zero corner4, harg4.read_unread]; exact h1

end Cases

section Grid

variable (m : (ℓ : Loc nD τ sig) → Buf (Elt Ideal) ℓ) (c : Dev nD)

/-- The left factor, entry by entry. -/
def entL (a b : ℕ) : EReal := ent (m ((c : Thread nD τ).loc main_arg0) : S2048x2560.Idx → EReal) a b
/-- The weights of the first layer: superblock, row, column. -/
def entR (q a b : ℕ) : EReal := ent4 (m ((c : Thread nD τ).loc main_arg1) : S2x4x640x640.Idx → EReal) 0 q a b

theorem index0 : ∀ t : Fin cfg0.N, win0_0.index t 0 = t.val / 2 / 2 ∧ win0_0.index t 1 = 2 * (t.val % 2) + t.val / 2 % 2 :=
  (by decide +kernel : ∀ t : Fin grid0.N, win0_0.index t 0 = t.val / 2 / 2 ∧ win0_0.index t 1 = 2 * (t.val % 2) + t.val / 2 % 2)
theorem index1 : ∀ t : Fin cfg0.N, win0_1.index t 0 = 0 ∧ win0_1.index t 1 = 2 * (t.val % 2) + t.val / 2 % 2 ∧ win0_1.index t 2 = 0 ∧ win0_1.index t 3 = 0 :=
  (by decide +kernel : ∀ t : Fin grid0.N, win0_1.index t 0 = 0 ∧ win0_1.index t 1 = 2 * (t.val % 2) + t.val / 2 % 2 ∧ win0_1.index t 2 = 0 ∧ win0_1.index t 3 = 0)
theorem index2 : ∀ t : Fin cfg0.N, win0_2.index t 0 = t.val / 2 / 2 ∧ win0_2.index t 1 = t.val / 2 % 2 :=
  (by decide +kernel : ∀ t : Fin grid0.N, win0_2.index t 0 = t.val / 2 / 2 ∧ win0_2.index t 1 = t.val / 2 % 2)

/-- The left factor's block at a point. -/
theorem iblk0_at (t : Fin cfg0.N) (y : S512x640.Idx) :
    (iblk m c 0 t : Vec Ideal S512x640 .bf16) y = entL m c (512 * (t.val / 2 / 2) + (y 0).val) (640 * (2 * (t.val % 2) + t.val / 2 % 2) + (y 1).val) := by
  have hi := index0 t
  unfold iblk
  rw [View.read_apply]
  show V m c main_arg0 _ = _
  rw [V_main_arg0]
  refine ent_of (m ((c : Thread nD τ).loc main_arg0) : S2048x2560.Idx → EReal) _ ?_ ?_
  · show win0_0.index t 0 * 512 + 1 * (y 0).val = _; rw [hi.1]; omega
  · show win0_0.index t 1 * 640 + 1 * (y 1).val = _; rw [hi.2]; omega

/-- The superblock at a point. -/
theorem iblk1_at (t : Fin cfg0.N) (y : S1x1x640x640.Idx) :
    (iblk m c 1 t : Vec Ideal S1x1x640x640 .bf16) y = entR m c (2 * (t.val % 2) + t.val / 2 % 2) (y 2).val (y 3).val := by
  obtain ⟨e0, e1, e2, e3⟩ := index1 t
  have y0 : (y 0).val < 1 := (y 0).isLt
  have y1 : (y 1).val < 1 := (y 1).isLt
  unfold iblk
  rw [View.read_apply]
  show V m c main_arg1 _ = _
  rw [V_main_arg1]
  refine ent4_of (m ((c : Thread nD τ).loc main_arg1) : S2x4x640x640.Idx → EReal) _ ?_ ?_ ?_ ?_
  · show win0_1.index t 0 * 1 + 1 * (y 0).val = _; rw [e0]; omega
  · show win0_1.index t 1 * 1 + 1 * (y 1).val = _; rw [e1]; omega
  · show win0_1.index t 2 * 640 + 1 * (y 2).val = _; rw [e2]; omega
  · show win0_1.index t 3 * 640 + 1 * (y 3).val = _; rw [e3]; omega

/-- What gate `k` adds to an entry: `r` the row, `s` which half of the row's columns, `b` the column within the half. -/
def part (s k r b : ℕ) : EReal := ∑ e : Fin 640, entL m c r (640 * (2 * k + s) + e.val) * entR m c (2 * k + s) b e.val

/-- The accumulator after a first point. -/
theorem firstAcc (t : Fin cfg0.N) (h : t.val % 2 = 0) (y : S512x640.Idx) :
    (outsAt0 m c t.val t.isLt).2 y = part m c (t.val / 2 % 2) (t.val % 2) (512 * (t.val / 2 / 2) + (y 0).val) (y 1).val := by
  rw [outsAt0_A m c t h (by omega)]
  dsimp only
  exact accA (y := y) (f := fun a b => entL m c (512 * (t.val / 2 / 2) + a) (640 * (2 * (t.val % 2) + t.val / 2 % 2) + b)) (g := fun a b => entR m c (2 * (t.val % 2) + t.val / 2 % 2) a b)
    (h0 := iblk0_at m c t) (h1 := iblk1_at m c t) ..

/-- The output's block after a last point. -/
theorem block_at (t : Fin cfg0.N) (h : t.val % 2 = 1) (y : S512x640.Idx) :
    (outsAt0 m c t.val t.isLt).1 y = part m c (t.val / 2 % 2) 0 (512 * (t.val / 2 / 2) + (y 0).val) (y 1).val
      + part m c (t.val / 2 % 2) 1 (512 * (t.val / 2 / 2) + (y 0).val) (y 1).val := by
  rw [outsAt0_B m c t (by omega) h]
  dsimp only
  refine (outLast (y := y) (f := fun a b => entL m c (512 * (t.val / 2 / 2) + a) (640 * (2 * (t.val % 2) + t.val / 2 % 2) + b)) (g := fun a b => entR m c (2 * (t.val % 2) + t.val / 2 % 2) a b)
    (h0 := iblk0_at m c t) (h1 := iblk1_at m c t) ..).trans ?_
  refine congrArg₂ (· + ·) ?_ ?_
  · refine (firstAcc m c ⟨t.val - 1, Nat.lt_of_le_of_lt (Nat.sub_le _ _) t.isLt⟩ (by show (t.val - 1) % 2 = 0; omega) y).trans ?_
    show part m c ((t.val - 1) / 2 % 2) ((t.val - 1) % 2) (512 * ((t.val - 1) / 2 / 2) + (y 0).val) _ = _
    rw [show (t.val - 1) / 2 = t.val / 2 by omega, show (t.val - 1) % 2 = 0 by omega]
  · rw [h]
    rfl

/-- The products as an array. -/
def res : Vec Ideal S2048x1280 .bf16 := fun i =>
  part m c ((i 1).val / 640) 0 (i 0).val ((i 1).val % 640) + part m c ((i 1).val / 640) 1 (i 0).val ((i 1).val % 640)

/-- What a point writes back. -/
theorem flushed_eq (t : Fin cfg0.N) (hf : (cfg0.win 2).flush t = true) :
    (dats m 0 c).flushed 2 t = ((cfg0.win 2).blk t).view.read (Elt Ideal) (res m c) := by
  have hi := index2 t
  rw [Cert.GateDxIdeal.Value.flushed2]
  funext y
  rw [View.read_apply]
  refine (block_at m c t ((flush0_2 t).mp hf) y).trans ?_
  have y1 : (y 1).val < 640 := (y 1).isLt
  have e0 : 512 * (t.val / 2 / 2) + (y 0).val = win0_2.index t 0 * 512 + 1 * (y 0).val := by rw [hi.1]; omega
  have e1 : t.val / 2 % 2 = (win0_2.index t 1 * 640 + 1 * (y 1).val) / 640 := by rw [hi.2]; omega
  have e2 : (y 1).val = (win0_2.index t 1 * 640 + 1 * (y 1).val) % 640 := by rw [hi.2]; omega
  show _ = part m c ((win0_2.index t 1 * 640 + 1 * (y 1).val) / 640) 0 (win0_2.index t 0 * 512 + 1 * (y 0).val) ((win0_2.index t 1 * 640 + 1 * (y 1).val) % 640)
    + part m c ((win0_2.index t 1 * 640 + 1 * (y 1).val) / 640) 1 (win0_2.index t 0 * 512 + 1 * (y 0).val) ((win0_2.index t 1 * 640 + 1 * (y 1).val) % 640)
  rw [← e0, ← e1, ← e2]

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1280 := (i 1).isLt
    have hN : cfg0.N = 16 := N_0
    let t : Fin cfg0.N := ⟨2 * (2 * ((i 0).val / 512) + (i 1).val / 640) + 1, by omega⟩
    have ht : t.val = 2 * (2 * ((i 0).val / 512) + (i 1).val / 640) + 1 := rfl
    have hi := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [hi.1]; omega
    | ⟨1, _⟩ => show win0_2.index t 1 * 640 ≤ (i 1).val ∧ (i 1).val < win0_2.index t 1 * 640 + 640
                rw [hi.2]; omega

end Grid

open Cert.GateDxRefIdeal.Read in
/-- The reference's weights: superblock, row, column. -/
theorem refWeights (x1 : (⟨Cert.GateDxRefIdeal.S2x4x640x640, .bf16⟩ : BufTy).Contents (Elt Ideal)) (j : Cert.GateDxRefIdeal.S4x640x640.Idx) :
    val_main_v3 (F := Ideal) x1 j = ent4 (x1 : S2x4x640x640.Idx → EReal) 0 (j 0).val (j 1).val (j 2).val := by
  have j0 : (j 0).val < 4 := (j 0).isLt
  have j1 : (j 1).val < 640 := (j 1).isLt
  have j2 : (j 2).val < 640 := (j 2).isLt
  refine (val_main_v1_apply _ _).trans ((val_main_v0_apply _ _).trans (ent4_of (x1 : S2x4x640x640.Idx → EReal) _ rfl ?_ ?_ ?_))
  · show (((j 0).val * 640 + (j 1).val) * 640 + (j 2).val) / 409600 % 4 = _
    omega
  · show (((j 0).val * 640 + (j 1).val) * 640 + (j 2).val) / 640 % 640 = _
    omega
  · show (((j 0).val * 640 + (j 1).val) * 640 + (j 2).val) % 640 = _
    omega

/-- What gate `k` adds, of two arrays. -/
def gatePart (x0 : S2048x2560.Idx → EReal) (x1 : S2x4x640x640.Idx → EReal) (s k r b : ℕ) : EReal :=
  ∑ e : Fin 640, ent x0 r (640 * (2 * k + s) + e.val) * ent4 x1 0 (2 * k + s) b e.val

open Cert.GateDxRefIdeal.Read in
/-- The reference's second gate. -/
theorem refSecond (x0 : (⟨Cert.GateDxRefIdeal.S2048x2560, .bf16⟩ : BufTy).Contents (Elt Ideal)) (x1 : (⟨Cert.GateDxRefIdeal.S2x4x640x640, .bf16⟩ : BufTy).Contents (Elt Ideal))
    (j : Cert.GateDxRefIdeal.S2048x2x640.Idx) :
    val_main_v20 (F := Ideal) x0 x1 j = gatePart x0 x1 (j 1).val 1 (j 0).val (j 2).val := by
  have j0 : (j 0).val < 2048 := (j 0).isLt
  have j1 : (j 1).val < 2 := (j 1).isLt
  have j2 : (j 2).val < 640 := (j 2).isLt
  refine ((val_main_v20_apply _ _ _).trans (val_main_v19_apply _ _ _)).trans (Finset.sum_congr rfl fun k _ => congrArg₂ (· * ·) ?_ ?_)
  · have hk := k.isLt
    refine (val_main_v18_apply _ _).trans ((val_main_v17_apply _ _).trans ((val_main_v16_apply _ _).trans (ent_of (x0 : S2048x2560.Idx → EReal) _ ?_ ?_)))
    · show (((j 0).val * 2 + (j 1).val) * 640 + k.val) / 1280 = _
      omega
    · show 1280 + (((j 0).val * 2 + (j 1).val) * 640 + k.val) % 1280 = _
      omega
  · exact (val_main_v9_apply _ _).trans (refWeights x1 _)

open Cert.GateDxRefIdeal.Read in
/-- The reference's first gate. -/
theorem refFirst (x0 : (⟨Cert.GateDxRefIdeal.S2048x2560, .bf16⟩ : BufTy).Contents (Elt Ideal)) (x1 : (⟨Cert.GateDxRefIdeal.S2x4x640x640, .bf16⟩ : BufTy).Contents (Elt Ideal))
    (j : Cert.GateDxRefIdeal.S2048x2x640.Idx) :
    val_main_v24 (F := Ideal) x0 x1 j = gatePart x0 x1 (j 1).val 0 (j 0).val (j 2).val := by
  have j0 : (j 0).val < 2048 := (j 0).isLt
  have j1 : (j 1).val < 2 := (j 1).isLt
  have j2 : (j 2).val < 640 := (j 2).isLt
  refine ((val_main_v24_apply _ _ _).trans (val_main_v23_apply _ _ _)).trans (Finset.sum_congr rfl fun k _ => congrArg₂ (· * ·) ?_ ?_)
  · have hk := k.isLt
    refine (val_main_v22_apply _ _).trans ((val_main_v21_apply _ _).trans ((val_main_v15_apply _ _).trans (ent_of (x0 : S2048x2560.Idx → EReal) _ ?_ ?_)))
    · show (((j 0).val * 2 + (j 1).val) * 640 + k.val) / 1280 = _
      omega
    · show (((j 0).val * 2 + (j 1).val) * 640 + k.val) % 1280 = _
      omega
  · refine ((val_main_v5_apply _ _).trans (refWeights x1 _)).trans ?_
    show ent4 (x1 : S2x4x640x640.Idx → EReal) 0 (j 1).val (j 2).val k.val = ent4 (x1 : S2x4x640x640.Idx → EReal) 0 (2 * 0 + (j 1).val) (j 2).val k.val
    rw [Nat.mul_zero, Nat.zero_add]

open Cert.GateDxRefIdeal.Read in
/-- The reference's result is the same. -/
theorem refProduct (x0 : (⟨Cert.GateDxRefIdeal.S2048x2560, .bf16⟩ : BufTy).Contents (Elt Ideal)) (x1 : (⟨Cert.GateDxRefIdeal.S2x4x640x640, .bf16⟩ : BufTy).Contents (Elt Ideal))
    (i : Cert.GateDxRefIdeal.S2048x1280.Idx) :
    val_main_v27 (F := Ideal) x0 x1 i
      = gatePart x0 x1 ((i 1).val / 640) 0 (i 0).val ((i 1).val % 640) + gatePart x0 x1 ((i 1).val / 640) 1 (i 0).val ((i 1).val % 640) := by
  have i0 : (i 0).val < 2048 := (i 0).isLt
  have i1 : (i 1).val < 1280 := (i 1).isLt
  have p0 : ((i 0).val * 1280 + (i 1).val) / 1280 = (i 0).val := by omega
  have p1 : ((i 0).val * 1280 + (i 1).val) / 640 % 2 = (i 1).val / 640 := by omega
  have p2 : ((i 0).val * 1280 + (i 1).val) % 640 = (i 1).val % 640 := by omega
  refine (val_main_v26_apply _ _ i).trans ((congrArg₂ (· + ·) (refSecond x0 x1 _) (refFirst x0 x1 _)).trans ?_)
  show gatePart x0 x1 (((i 0).val * 1280 + (i 1).val) / 640 % 2) 1 (((i 0).val * 1280 + (i 1).val) / 1280) (((i 0).val * 1280 + (i 1).val) % 640)
    + gatePart x0 x1 (((i 0).val * 1280 + (i 1).val) / 640 % 2) 0 (((i 0).val * 1280 + (i 1).val) / 1280) (((i 0).val * 1280 + (i 1).val) % 640) = _
  rw [p0, p1, p2]
  exact add_comm _ _

open Cert.GateDxRefIdeal.Read in
/-- From the same arguments the kernel and the reference end with the same products. -/
theorem algebraic : Cert.algebraic_GateDxIdeal_GateDxRefIdeal (hGateDxIdeal := Cert.GateDxIdeal.Gen.facts) (hGateDxRefIdeal := Cert.GateDxRefIdeal.Gen.facts) := by
  intro m g m' g' _ e
  refine ⟨fun c => res m c, ?_, ?_⟩
  · exact (θ_run _ _ _).mono (fun r p c => ⟨(p c).1.trans (final m c), (p c).2⟩) (Cert.GateDxIdeal.Value.run_blocks m g)
  · refine (θ_run _ _ _).mono (fun r p c => ⟨(p c).1.trans ?_, (p c).2⟩) (Cert.GateDxRefIdeal.Value.run m' g')
    refine (val_main_v27_eq _ _).trans (funext fun i => ?_)
    refine (refProduct _ _ i).trans ?_
    rw [(e c).1, (e c).2]
    rfl

/-- The reference runs, keeps its arguments, and ends with every semaphore at zero: it has none. -/
theorem frameReference [h : Cert.GateDxRefIdeal.Facts] : Cert.quiescent_GateDxRefIdeal :=
  fun m g _ => (θ_run _ _ _).mono (fun r h => ⟨fun c => (h c).2, sem_eq_zero_of_no_sems (by decide) r.2⟩)
    (Cert.GateDxRefIdeal.Value.run m g)

end Cert.GateDxIdeal.Body

end
-- ==== Proof.GateDw.lean ====
/- The recurrence's two gates, backward towards their weights: every superblock's product, what the kernel leaves entry by entry, and that the reference leaves the same. -/
module

public import proofs.«01_k».proof.Defs
public import proofs.«01_k».proof.Proof.Blocked
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.GateDwRefIdeal.Read

@[expose] public section

set_option maxRecDepth 16384

noncomputable section

namespace Cert.GateDwIdeal.Body

open Cert.GateDwIdeal Cert.GateDwIdeal.Gen Cert.Product Idealize.ShloMosaic Idealize.ShloMosaic.TcCoe Idealize.SL.Sem
open scoped BigOperators

/-- The output block's first contents. -/
theorem pay1_at (y : S1x640x640.Idx) : k0_pay1 (F := Ideal) y = (0 : EReal) := by
  unfold k0_pay1
  exact stack_of (g := fun _ _ => (0 : EReal)) _ _ (fun _ => Ideal.ofBits_zero_f32) y

/-- One accumulation. -/
theorem pay2_at (v3 : FVec Ideal S1x640x640 .f32) (v5 v6 : FVec Ideal S1024x640 .bf16) {p f g : ℕ → ℕ → EReal}
    (h3 : ∀ i, v3 i = p (i 1).val (i 2).val) (h5 : ∀ i, v5 i = f (i 0).val (i 1).val) (h6 : ∀ i, v6 i = g (i 0).val (i 1).val) (y : S1x640x640.Idx) :
    k0_pay2 (F := Ideal) v3 v5 v6 y = p (y 1).val (y 2).val + ∑ e : Fin 1024, f e.val (y 1).val * g e.val (y 2).val := by
  unfold k0_pay2
  dsimp only
  refine stack_of (g := fun a b => p a b + ∑ e : Fin 1024, f e.val a * g e.val b) _ _ (fun i => ?_) y
  exact congrArg₂ (· + ·) (unstack_of v3 _ h3 i) (mm _ 1024 rfl rfl v5 v6 _ _ i (fun _ => h5 _) (fun _ => h6 _))

section Grid

variable (m : (ℓ : Loc nD τ sig) → Buf (Elt Ideal) ℓ) (c : Dev nD)

/-- The left factor, entry by entry. -/
def entL (a b : ℕ) : EReal := ent (m ((c : Thread nD τ).loc main_arg0) : S2048x1280.Idx → EReal) a b
/-- The right factor, entry by entry. -/
def entR (a b : ℕ) : EReal := ent (m ((c : Thread nD τ).loc main_arg1) : S2048x2560.Idx → EReal) a b

theorem index0 : ∀ t : Fin cfg0.N, win0_0.index t 0 = t.val % 2 ∧ win0_0.index t 1 = t.val / 2 % 2 :=
  (by decide +kernel : ∀ t : Fin grid0.N, win0_0.index t 0 = t.val % 2 ∧ win0_0.index t 1 = t.val / 2 % 2)
theorem index1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem index2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

/-- The left factor's block at a point. -/
theorem iblk0_at (t : Fin cfg0.N) (y : S1024x640.Idx) : (iblk m c 0 t : Vec Ideal S1024x640 .bf16) y = entL m c (1024 * (t.val % 2) + (y 0).val) (640 * (t.val / 2 % 2) + (y 1).val) := by
  have hi := index0 t
  unfold iblk
  rw [View.read_apply]
  show V m c main_arg0 _ = _
  rw [V_main_arg0]
  refine ent_of (m ((c : Thread nD τ).loc main_arg0) : S2048x1280.Idx → EReal) _ ?_ ?_
  · show win0_0.index t 0 * 1024 + 1 * (y 0).val = _; rw [hi.1]; omega
  · show win0_0.index t 1 * 640 + 1 * (y 1).val = _; rw [hi.2]; omega

/-- The right factor's block at a point. -/
theorem iblk1_at (t : Fin cfg0.N) (y : S1024x640.Idx) : (iblk m c 1 t : Vec Ideal S1024x640 .bf16) y = entR m c (1024 * (t.val % 2) + (y 0).val) (640 * (t.val / 2) + (y 1).val) := by
  have hi := index1 t
  unfold iblk
  rw [View.read_apply]
  show V m c main_arg1 _ = _
  rw [V_main_arg1]
  refine ent_of (m ((c : Thread nD τ).loc main_arg1) : S2048x2560.Idx → EReal) _ ?_ ?_
  · show win0_1.index t 0 * 1024 + 1 * (y 0).val = _; rw [hi.1]; omega
  · show win0_1.index t 1 * 640 + 1 * (y 1).val = _; rw [hi.2]; omega

/-- The part of an entry of superblock `q` that its `k`-th point adds. -/
def part (q k a b : ℕ) : EReal := ∑ e : Fin 1024, entL m c (1024 * k + e.val) (640 * (q % 2) + a) * entR m c (1024 * k + e.val) (640 * q + b)

/-- The output's block after a first point. -/
theorem first_at (t : Fin cfg0.N) (h : t.val % 2 = 0) (y : S1x640x640.Idx) :
    outsAt0 m c t.val t.isLt y = part m c (t.val / 2) (t.val % 2) (y 1).val (y 2).val := by
  rw [outsAt0_A m c t h, Cert.GateDwIdeal.Value.out_A_2_eq]
  refine (pay2_at _ _ _ (p := fun _ _ => 0) (f := fun a b => entL m c (1024 * (t.val % 2) + a) (640 * (t.val / 2 % 2) + b)) (g := fun a b => entR m c (1024 * (t.val % 2) + a) (640 * (t.val / 2) + b))
    pay1_at (iblk0_at m c t) (iblk1_at m c t) y).trans (zero_add _)

/-- The output's block after a last point. -/
theorem last_at (t : Fin cfg0.N) (h : t.val % 2 = 1) (y : S1x640x640.Idx) :
    outsAt0 m c t.val t.isLt y = part m c (t.val / 2) 0 (y 1).val (y 2).val + part m c (t.val / 2) 1 (y 1).val (y 2).val := by
  have hp (i : S1x640x640.Idx) : outsAt0 m c (t.val - 1) (Nat.lt_of_le_of_lt (Nat.sub_le _ _) t.isLt) i = part m c (t.val / 2) 0 (i 1).val (i 2).val := by
    refine (first_at m c ⟨t.val - 1, Nat.lt_of_le_of_lt (Nat.sub_le _ _) t.isLt⟩ (by show (t.val - 1) % 2 = 0; omega) i).trans ?_
    show part m c ((t.val - 1) / 2) ((t.val - 1) % 2) _ _ = _
    rw [show (t.val - 1) / 2 = t.val / 2 by omega, show (t.val - 1) % 2 = 0 by omega]
  rw [outsAt0_B m c t (by omega), Cert.GateDwIdeal.Value.out_B_2_eq]
  refine (pay2_at _ _ _ (p := fun a b => part m c (t.val / 2) 0 a b) (f := fun a b => entL m c (1024 * (t.val % 2) + a) (640 * (t.val / 2 % 2) + b)) (g := fun a b => entR m c (1024 * (t.val % 2) + a) (640 * (t.val / 2) + b))
    hp (iblk0_at m c t) (iblk1_at m c t) y).trans ?_
  rw [h]
  rfl

/-- The output's block after a last point, in full. -/
theorem block_at (t : Fin cfg0.N) (h : t.val % 2 = 1) (y : S1x640x640.Idx) :
    outsAt0 m c t.val t.isLt y = ∑ e : Fin 2048, entL m c e.val (640 * (t.val / 2 % 2) + (y 1).val) * entR m c e.val (640 * (t.val / 2) + (y 2).val) := by
  refine ((last_at m c t h y).trans ?_).trans
    (blocks (fun e => entL m c e (640 * (t.val / 2 % 2) + (y 1).val) * entR m c e (640 * (t.val / 2) + (y 2).val)) 1024 2 2048 rfl)
  rw [Finset.sum_range_succ, Finset.sum_range_one]
  rfl

/-- The products as an array. -/
def res : Vec Ideal S4x640x640 .f32 := fun i =>
  ∑ e : Fin 2048, entL m c e.val (640 * ((i 0).val % 2) + (i 1).val) * entR m c e.val (640 * (i 0).val + (i 2).val)

/-- What a point writes back. -/
theorem flushed_eq (t : Fin cfg0.N) (hf : (cfg0.win 2).flush t = true) :
    (dats m 0 c).flushed 2 t = ((cfg0.win 2).blk t).view.read (Elt Ideal) (res m c) := by
  obtain ⟨i0, i1, i2⟩ := index2 t
  rw [Cert.GateDwIdeal.Value.flushed2]
  funext y
  rw [View.read_apply]
  refine (block_at m c t ((flush0_2 t).mp hf) y).trans ?_
  have y0 : (y 0).val < 1 := (y 0).isLt
  have e0 : t.val / 2 = win0_2.index t 0 * 1 + 1 * (y 0).val := by rw [i0]; omega
  have e1 : (y 1).val = win0_2.index t 1 * 640 + 1 * (y 1).val := by rw [i1]; omega
  have e2 : (y 2).val = win0_2.index t 2 * 640 + 1 * (y 2).val := by rw [i2]; omega
  show _ = ∑ e : Fin 2048, entL m c e.val (640 * ((win0_2.index t 0 * 1 + 1 * (y 0).val) % 2) + (win0_2.index t 1 * 640 + 1 * (y 1).val))
    * entR m c e.val (640 * (win0_2.index t 0 * 1 + 1 * (y 0).val) + (win0_2.index t 2 * 640 + 1 * (y 2).val))
  rw [← e0, ← e1, ← e2]

/-- The output at the end. -/
theorem final : (dats m 0 c).arrAt 2 cfg0.N = res m c :=
  (dats m 0 c).arrAt_eq_of_cover 2 (res m c) (flushed_eq m c) fun i => by
    have i0 : (i 0).val < 4 := (i 0).isLt
    have i1 : (i 1).val < 640 := (i 1).isLt
    have i2 : (i 2).val < 640 := (i 2).isLt
    have hN : cfg0.N = 8 := N_0
    let t : Fin cfg0.N := ⟨2 * (i 0).val + 1, by omega⟩
    have ht : t.val = 2 * (i 0).val + 1 := rfl
    obtain ⟨h0, h1, h2⟩ := index2 t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1
                rw [h0]; omega
    | ⟨1, _⟩ => show win0_2.index t 1 * 640 ≤ (i 1).val ∧ (i 1).val < win0_2.index t 1 * 640 + 640
                rw [h1]; omega
    | ⟨2, _⟩ => show win0_2.index t 2 * 640 ≤ (i 2).val ∧ (i 2).val < win0_2.index t 2 * 640 + 640
                rw [h2]; omega

end Grid

open Cert.GateDwRefIdeal.Read in
/-- One entry of the reference's product. -/
theorem refEntry (x0 : (⟨Cert.GateDwRefIdeal.S2048x1280, .bf16⟩ : BufTy).Contents (Elt Ideal)) (x1 : (⟨Cert.GateDwRefIdeal.S2048x2560, .bf16⟩ : BufTy).Contents (Elt Ideal))
    (j : Cert.GateDwRefIdeal.S2x2x640x640.Idx) :
    val_main_v11 (F := Ideal) x0 x1 j
      = ∑ e : Fin 2048, ent (x0 : S2048x1280.Idx → EReal) e.val (640 * (j 1).val + (j 2).val) * ent (x1 : S2048x2560.Idx → EReal) e.val (640 * (2 * (j 0).val + (j 1).val) + (j 3).val) := by
  have j0 : (j 0).val < 2 := (j 0).isLt
  have j1 : (j 1).val < 2 := (j 1).isLt
  have j2 : (j 2).val < 640 := (j 2).isLt
  have j3 : (j 3).val < 640 := (j 3).isLt
  refine ((val_main_v11_apply _ _ j).trans (val_main_v10_apply _ _ _)).trans (Finset.sum_congr rfl fun k _ => (mul_comm _ _).trans (congrArg₂ (· * ·) ?_ ?_))
  · refine (val_main_v2_apply _ _).trans (ent_of (x0 : S2048x1280.Idx → EReal) _ ?_ ?_)
    · show ((k.val * 2 + (j 1).val) * 640 + (j 2).val) / 1280 = _
      omega
    · show ((k.val * 2 + (j 1).val) * 640 + (j 2).val) % 1280 = _
      omega
  · refine (val_main_v9_apply _ _).trans ((val_main_v8_apply _ _).trans (ent_of (x1 : S2048x2560.Idx → EReal) _ ?_ ?_))
    · show (((k.val * 2 + (j 0).val) * 2 + (j 1).val) * 640 + (j 3).val) / 2560 = _
      omega
    · show (((k.val * 2 + (j 0).val) * 2 + (j 1).val) * 640 + (j 3).val) % 2560 = _
      omega

open Cert.GateDwRefIdeal.Read in
/-- The reference's result is the same. -/
theorem refProduct (x0 : (⟨Cert.GateDwRefIdeal.S2048x1280, .bf16⟩ : BufTy).Contents (Elt Ideal)) (x1 : (⟨Cert.GateDwRefIdeal.S2048x2560, .bf16⟩ : BufTy).Contents (Elt Ideal))
    (i : Cert.GateDwRefIdeal.S4x640x640.Idx) :
    val_main_v12 (F := Ideal) x0 x1 i
      = ∑ e : Fin 2048, ent (x0 : S2048x1280.Idx → EReal) e.val (640 * ((i 0).val % 2) + (i 1).val) * ent (x1 : S2048x2560.Idx → EReal) e.val (640 * (i 0).val + (i 2).val) := by
  have i0 : (i 0).val < 4 := (i 0).isLt
  have i1 : (i 1).val < 640 := (i 1).isLt
  have i2 : (i 2).val < 640 := (i 2).isLt
  have p0 : (((i 0).val * 640 + (i 1).val) * 640 + (i 2).val) / 819200 = (i 0).val / 2 := by omega
  have p1 : (((i 0).val * 640 + (i 1).val) * 640 + (i 2).val) / 409600 % 2 = (i 0).val % 2 := by omega
  have p2 : (((i 0).val * 640 + (i 1).val) * 640 + (i 2).val) / 640 % 640 = (i 1).val := by omega
  have p3 : (((i 0).val * 640 + (i 1).val) * 640 + (i 2).val) % 640 = (i 2).val := by omega
  refine ((val_main_v12_apply _ _ i).trans (refEntry x0 x1 _)).trans ?_
  show ∑ e : Fin 2048, ent (x0 : S2048x1280.Idx → EReal) e.val (640 * ((((i 0).val * 640 + (i 1).val) * 640 + (i 2).val) / 409600 % 2) + (((i 0).val * 640 + (i 1).val) * 640 + (i 2).val) / 640 % 640)
    * ent (x1 : S2048x2560.Idx → EReal) e.val (640 * (2 * ((((i 0).val * 640 + (i 1).val) * 640 + (i 2).val) / 819200) + (((i 0).val * 640 + (i 1).val) * 640 + (i 2).val) / 409600 % 2)
      + (((i 0).val * 640 + (i 1).val) * 640 + (i 2).val) % 640) = _
  rw [p0, p1, p2, p3, show 2 * ((i 0).val / 2) + (i 0).val % 2 = (i 0).val by omega]

open Cert.GateDwRefIdeal.Read in
/-- From the same arguments the kernel and the reference end with the same products. -/
theorem algebraic : Cert.algebraic_GateDwIdeal_GateDwRefIdeal (hGateDwIdeal := Cert.GateDwIdeal.Gen.facts) (hGateDwRefIdeal := Cert.GateDwRefIdeal.Gen.facts) := by
  intro m g m' g' _ e
  refine ⟨fun c => res m c, ?_, ?_⟩
  · exact (θ_run _ _ _).mono (fun r p c => ⟨(p c).1.trans (final m c), (p c).2⟩) (Cert.GateDwIdeal.Value.run_blocks m g)
  · refine (θ_run _ _ _).mono (fun r p c => ⟨(p c).1.trans ?_, (p c).2⟩) (Cert.GateDwRefIdeal.Value.run m' g')
    refine (val_main_v12_eq _ _).trans (funext fun i => ?_)
    refine (refProduct _ _ i).trans ?_
    rw [(e c).1, (e c).2]
    rfl

/-- The reference runs, keeps its arguments, and ends with every semaphore at zero: it has none. -/
theorem frameReference [h : Cert.GateDwRefIdeal.Facts] : Cert.quiescent_GateDwRefIdeal :=
  fun m g _ => (θ_run _ _ _).mono (fun r h => ⟨fun c => (h c).2, sem_eq_zero_of_no_sems (by decide) r.2⟩)
    (Cert.GateDwRefIdeal.Value.run m g)

end Cert.GateDwIdeal.Body

end
-- ==== Proof.Logistic.lean ====
/- The logistic function as the reference writes it, `1 / (1 + exp (-x))`, and as the kernel does, in one operation. -/
module

public import Idealize.ShloMosaic.Lib.Pipeline.Value
public import Idealize.ShloMosaic.Lib.IdealHost

@[expose] public section

noncomputable section

namespace Cert.Logistic

open Idealize.ShloMosaic

/-- The two are one. -/
theorem expand (x : Ideal .f32) :
    FloatOps.hostDivf (F := Ideal) (FloatOps.ofBits .f32 0x3F800000#32) (FloatOps.addf (FloatOps.ofBits .f32 0x3F800000#32) (FloatOps.hostUnary .exp (FloatOps.hostNegf x)))
      = FloatOps.logistic (F := Ideal) x := by
  have one : (FloatOps.ofBits .f32 0x3F800000#32 : Ideal .f32) = (1 : EReal) := Ideal.ofBits_one_f32
  rw [one]
  rfl

end Cert.Logistic

end
-- ==== Proof.Merge.lean ====
/- Merging the three branches: the kernel's output entry by entry, and that the reference leaves the same. -/
module

public import proofs.«01_k».proof.Defs
public import proofs.«01_k».proof.Proof.Blocked
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Logistic

@[expose] public section

set_option maxRecDepth 16384

noncomputable section

namespace Cert.MergeIdeal.Body

open Cert.MergeIdeal Cert.MergeIdeal.Gen Idealize.ShloMosaic Idealize.ShloMosaic.TcCoe Idealize.SL.Sem
open Cert.MergeRefIdeal.Read

/-- The first branch's gate in the reference. -/
theorem refGateA (x3 : (⟨Cert.MergeRefIdeal.S2048x11264, .bf16⟩ : BufTy).Contents (Elt Ideal)) (i : Cert.MergeRefIdeal.S2048x1024.Idx) :
    val_main_v12 (F := Ideal) x3 i = FloatOps.logistic (F := Ideal) (φ := .f32) (val_main_v4 (F := Ideal) x3 i) := by
  rw [val_main_v12_apply, val_main_v11_apply, val_main_cst_0_apply, val_main_v10_apply, val_main_v9_apply, val_main_cst_apply, val_main_v8_apply, val_main_v7_apply]
  exact Cert.Logistic.expand _

/-- The second's. -/
theorem refGateB (x3 : (⟨Cert.MergeRefIdeal.S2048x11264, .bf16⟩ : BufTy).Contents (Elt Ideal)) (i : Cert.MergeRefIdeal.S2048x1024.Idx) :
    val_main_v19 (F := Ideal) x3 i = FloatOps.logistic (F := Ideal) (φ := .f32) (val_main_v5 (F := Ideal) x3 i) := by
  rw [val_main_v19_apply, val_main_v18_apply, val_main_cst_2_apply, val_main_v17_apply, val_main_v16_apply, val_main_cst_1_apply, val_main_v15_apply, val_main_v14_apply]
  exact Cert.Logistic.expand _

/-- The third's. -/
theorem refGateC (x3 : (⟨Cert.MergeRefIdeal.S2048x11264, .bf16⟩ : BufTy).Contents (Elt Ideal)) (i : Cert.MergeRefIdeal.S2048x1024.Idx) :
    val_main_v27 (F := Ideal) x3 i = FloatOps.logistic (F := Ideal) (φ := .f32) (val_main_v6 (F := Ideal) x3 i) := by
  rw [val_main_v27_apply, val_main_v26_apply, val_main_cst_4_apply, val_main_v25_apply, val_main_v24_apply, val_main_cst_3_apply, val_main_v23_apply, val_main_v22_apply]
  exact Cert.Logistic.expand _

/-- The place a gate is read from in the shared projection, as the two programs write it. -/
theorem place (x3 : Cert.MergeRefIdeal.S2048x11264.Idx → EReal) (j k : Cert.MergeRefIdeal.S2048x11264.Idx) (h0 : (j 0).val = (k 0).val) (h1 : (j 1).val = (k 1).val) : x3 j = x3 k :=
  congrArg x3 (funext fun a => Fin.ext (match a with | ⟨0, _⟩ => h0 | ⟨1, _⟩ => h1))

/-- The reference's result is the kernel's. -/
theorem refMerge (x0 x1 x2 : (⟨Cert.MergeRefIdeal.S2048x1024, .bf16⟩ : BufTy).Contents (Elt Ideal)) (x3 : (⟨Cert.MergeRefIdeal.S2048x11264, .bf16⟩ : BufTy).Contents (Elt Ideal))
    (i : Cert.MergeRefIdeal.S2048x1024.Idx) : val_main_v30 (F := Ideal) x0 x1 x2 x3 i = Cert.MergeIdeal.Value.G6 (F := Ideal) x0 x1 x2 x3 x3 x3 i := by
  rw [val_main_v30_apply, val_main_v29_apply, val_main_v28_apply, val_main_v21_apply, val_main_v20_apply, val_main_v13_apply, refGateA, refGateB, refGateC,
    val_main_v6_apply, val_main_v5_apply, val_main_v4_apply, val_main_v3_apply, val_main_v3_apply, val_main_v3_apply, val_main_v2_apply, val_main_v1_apply, val_main_v0_apply]
  have eA := place x3 (idx_main_v4 i) (Cert.MergeIdeal.Value.inIdx6_3 i) rfl (show 3072 + (i 1).val = (i 1).val + 3072 by omega)
  have eB := place x3 (idx_main_v5 i) (Cert.MergeIdeal.Value.inIdx6_4 i) rfl (show 4096 + (i 1).val = (i 1).val + 4096 by omega)
  have eC := place x3 (idx_main_v6 i) (Cert.MergeIdeal.Value.inIdx6_5 i) rfl (show 5120 + (i 1).val = (i 1).val + 5120 by omega)
  rw [eA, eB, eC]

/-- From the same arguments the kernel and the reference end with the same merged branches. -/
theorem algebraic : Cert.algebraic_MergeIdeal_MergeRefIdeal (hMergeIdeal := Cert.MergeIdeal.Gen.facts) (hMergeRefIdeal := Cert.MergeRefIdeal.Gen.facts) := by
  intro m g m' g' _ e
  refine ⟨_, Cert.MergeIdeal.Value.run (F := Ideal) m g, ?_⟩
  refine (θ_run _ _ _).mono (fun r p c => ⟨(p c).1.trans ?_, (p c).2⟩) (Cert.MergeRefIdeal.Value.run m' g')
  refine (val_main_v30_eq _ _ _ _).trans (funext fun i => ?_)
  refine (refMerge _ _ _ _ i).trans ?_
  rw [(e c).1, (e c).2.1, (e c).2.2.1, (e c).2.2.2]

/-- The reference runs, keeps its arguments, and ends with every semaphore at zero: it has none. -/
theorem frameReference [h : Cert.MergeRefIdeal.Facts] : Cert.quiescent_MergeRefIdeal :=
  fun m g _ => (θ_run _ _ _).mono (fun r h => ⟨fun c => (h c).2, sem_eq_zero_of_no_sems (by decide) r.2⟩)
    (Cert.MergeRefIdeal.Value.run m g)

end Cert.MergeIdeal.Body

end
-- ==== Proof.MulB.lean ====
/- The attention branch times its output gate: the kernel's output entry by entry, and that the reference leaves the same. -/
module

public import proofs.«01_k».proof.Defs
public import proofs.«01_k».proof.Proof.Blocked
public import proofs.«01_k».proof.Proof.Gen.MulBIdeal.Value
public import proofs.«01_k».proof.Proof.Gen.MulBRefIdeal
public import proofs.«01_k».proof.Proof.Gen.MulBRefIdeal.Run
public import proofs.«01_k».proof.Proof.Gen.MulBRefIdeal.Read
public import proofs.«01_k».proof.Proof.Logistic

@[expose] public section

set_option maxRecDepth 16384

noncomputable section

namespace Cert.MulBIdeal.Body

open Cert.MulBIdeal Cert.MulBIdeal.Gen Idealize.ShloMosaic Idealize.ShloMosaic.TcCoe Idealize.SL.Sem
open Cert.MulBRefIdeal.Read

/-- The logistic factor in the reference. -/
theorem refGate (x1 : (⟨Cert.MulBRefIdeal.S2048x11264, .bf16⟩ : BufTy).Contents (Elt Ideal)) (i : Cert.MulBRefIdeal.S2048x1024.Idx) :
    val_main_call0_v5 (F := Ideal) x1 i = FloatOps.logistic (F := Ideal) (φ := .f32) (val_main_v1 (F := Ideal) x1 i) := by
  rw [val_main_call0_v5_apply, val_main_call0_v4_apply, val_main_call0_cst_0_apply, val_main_call0_v3_apply, val_main_call0_v2_apply, val_main_call0_cst_apply,
    val_main_call0_v1_apply, val_main_call0_v0_apply]
  exact Cert.Logistic.expand _

/-- The reference's result is the kernel's. -/
theorem refGated (x0 : (⟨Cert.MulBRefIdeal.S2048x1024, .f32⟩ : BufTy).Contents (Elt Ideal)) (x1 : (⟨Cert.MulBRefIdeal.S2048x11264, .bf16⟩ : BufTy).Contents (Elt Ideal))
    (i : Cert.MulBRefIdeal.S2048x1024.Idx) : val_main_v4 (F := Ideal) x0 x1 i = Cert.MulBIdeal.Value.G2 (F := Ideal) x0 x1 i := by
  have e1 : x1 (idx_main_v0 i) = x1 (Cert.MulBIdeal.Value.inIdx2_1 i) := congrArg x1 (funext fun a => Fin.ext (match a with
    | ⟨0, _⟩ => rfl
    | ⟨1, _⟩ => show 10240 + (i 1).val = (i 1).val + 10240 by omega))
  rw [val_main_v4_apply, val_main_v3_apply, val_main_v2_apply, refGate, val_main_v1_apply, val_main_v0_apply, e1]

/-- From the same arguments the kernel and the reference end with the same gated branch. -/
theorem algebraic : Cert.algebraic_MulBIdeal_MulBRefIdeal (hMulBIdeal := Cert.MulBIdeal.Gen.facts) (hMulBRefIdeal := Cert.MulBRefIdeal.Gen.facts) := by
  intro m g m' g' _ e
  refine ⟨_, Cert.MulBIdeal.Value.run (F := Ideal) m g, ?_⟩
  refine (θ_run _ _ _).mono (fun r p c => ⟨(p c).1.trans ?_, (p c).2⟩) (Cert.MulBRefIdeal.Value.run m' g')
  refine (val_main_v4_eq _ _).trans (funext fun i => ?_)
  refine (refGated _ _ i).trans ?_
  rw [(e c).1, (e c).2]

/-- The reference runs, keeps its arguments, and ends with every semaphore at zero: it has none. -/
theorem frameReference [h : Cert.MulBRefIdeal.Facts] : Cert.quiescent_MulBRefIdeal :=
  fun m g _ => (θ_run _ _ _).mono (fun r h => ⟨fun c => (h c).2, sem_eq_zero_of_no_sems (by decide) r.2⟩)
    (Cert.MulBRefIdeal.Value.run m g)

end Cert.MulBIdeal.Body

end
-- ==== Proof.MulC.lean ====
/- The recurrence branch times its output gate: the kernel's output entry by entry, and that the reference leaves the same. -/
module

public import proofs.«01_k».proof.Defs
public import proofs.«01_k».proof.Proof.Blocked
public import proofs.«01_k».proof.Proof.Gen.MulCIdeal.Value
public import proofs.«01_k».proof.Proof.Gen.MulCRefIdeal
public import proofs.«01_k».proof.Proof.Gen.MulCRefIdeal.Run
public import proofs.«01_k».proof.Proof.Gen.MulCRefIdeal.Read
public import proofs.«01_k».proof.Proof.Logistic

@[expose] public section

set_option maxRecDepth 16384

noncomputable section

namespace Cert.MulCIdeal.Body

open Cert.MulCIdeal Cert.MulCIdeal.Gen Cert.Product Idealize.ShloMosaic Idealize.ShloMosaic.TcCoe Idealize.SL.Sem

/-- One entry: the branch, and what its gate is taken of. -/
def gated (h : Ideal .f32) (z : Ideal .f32) : Ideal .f32 :=
  FloatOps.mulf h (FloatOps.mulf z (FloatOps.logistic z))

/-- The payload entry by entry. -/
theorem pay1_at (v0 : Vec Ideal S256x1280 .f32) (v1 : Vec Ideal S256x1280 .bf16) (y : S256x1280.Idx) : k0_pay1 (F := Ideal) v0 v1 y = gated (v0 y) (v1 y) := rfl

section Cases

variable (c : Dev nD) (i : grid0.Coords) (arg1 : Memref sig .tc .vmem S256x1280 .f32) (harg1 : arg1.IsWhole) (arg2 : Memref sig .tc .vmem S256x1280 .bf16)
  (harg2 : arg2.IsWhole) (arg3 : Memref sig .tc .vmem S256x1280 .bf16) (harg3 : arg3.IsWhole) (x0 : Vec Ideal S256x1280 .f32) (x1 : Vec Ideal S256x1280 .bf16)

/-- The output's block after a point, of the blocks it reads. -/
theorem outAt (y : S256x1280.Idx) : out0_A_2 c i arg1 harg1 arg2 harg2 arg3 harg3 x0 x1 y = gated (x0 y) (x1 y) := by
  unfold out0_A_2 kernelRun0_A
  dsimp only
  rw [single _ corner, View.readAt_eq_ld, View.readAt_eq_ld, View.ld_unit_zero corner, View.ld_unit_zero corner, harg1.read_unread, harg2.read_unread]
  exact pay1_at x0 x1 y

end Cases

section Grid

variable (m : (ℓ : Loc nD τ sig) → Buf (Elt Ideal) ℓ) (c : Dev nD)

/-- The branch and the projection, entry by entry. -/
def entH (a b : ℕ) : EReal := ent (m ((c : Thread nD τ).loc main_arg0) : S2048x1280.Idx → EReal) a b
def entZ (a b : ℕ) : EReal := ent (m ((c : Thread nD τ).loc main_arg1) : S2048x11264.Idx → EReal) a b

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 7 :=
  (by decide +kernel : ∀ t : Fin grid0.N, win0_1.index t 0 = t.val ∧ win0_1.index t 1 = 7)
theorem index2 : ∀ t : Fin cfg0.N, win0_2.index t 0 = t.val ∧ win0_2.index t 1 = 0 :=
  (by decide +kernel : ∀ t : Fin grid0.N, win0_2.index t 0 = t.val ∧ win0_2.index t 1 = 0)

/-- The branch's block at a point. -/
theorem iblk0_at (t : Fin cfg0.N) (y : S256x1280.Idx) : (iblk m c 0 t : Vec Ideal S256x1280 .f32) y = entH m c (256 * t.val + (y 0).val) (y 1).val := by
  have hi := index0 t
  unfold iblk
  rw [View.read_apply]
  show V m c main_arg0 _ = _
  rw [V_main_arg0]
  refine ent_of (m ((c : Thread nD τ).loc main_arg0) : S2048x1280.Idx → EReal) _ ?_ ?_
  · show win0_0.index t 0 * 256 + 1 * (y 0).val = _; rw [hi.1]; omega
  · show win0_0.index t 1 * 1280 + 1 * (y 1).val = _; rw [hi.2]; omega

/-- The gate's, in the projection: no block the grid reaches is cut short. -/
theorem gate_at (t : Fin cfg0.N) (y : S256x1280.Idx) : (X0_1 m c t : Vec Ideal S256x1280 .bf16) y = entZ m c (256 * t.val + (y 0).val) (8960 + (y 1).val) := by
  have hi := index1 t
  unfold X0_1 Pipeline.Window.fill
  rw [dif_pos (moved0_1 t y)]
  unfold iblk
  rw [View.read_apply]
  show V m c main_arg1 _ = _
  rw [V_main_arg1]
  refine ent_of (m ((c : Thread nD τ).loc main_arg1) : S2048x11264.Idx → EReal) _ ?_ ?_
  · show win0_1.index t 0 * 256 + 1 * (y 0).val = _; rw [hi.1]; omega
  · show win0_1.index t 1 * 1280 + 1 * (y 1).val = _; rw [hi.2]; omega

/-- The output as an array. -/
def res : Vec Ideal S2048x1280 .bf16 := fun i => gated (entH m c (i 0).val (i 1).val) (entZ m c (i 0).val (8960 + (i 1).val))

/-- What a point writes back. -/
theorem flushed_eq (t : Fin cfg0.N) (_ : (cfg0.win 2).flush t = true) :
    (dats m 0 c).flushed 2 t = ((cfg0.win 2).blk t).view.read (Elt Ideal) (res m c) := by
  have hi := index2 t
  rw [Cert.MulCIdeal.Value.flushed2_A]
  funext y
  rw [View.read_apply]
  refine (outAt _ _ _ _ _ _ _ _ _ _ y).trans ?_
  rw [iblk0_at, gate_at]
  have e0 : 256 * t.val + (y 0).val = win0_2.index t 0 * 256 + 1 * (y 0).val := by rw [hi.1]; omega
  have e1 : (y 1).val = win0_2.index t 1 * 1280 + 1 * (y 1).val := by rw [hi.2]; omega
  show _ = gated (entH m c (win0_2.index t 0 * 256 + 1 * (y 0).val) (win0_2.index t 1 * 1280 + 1 * (y 1).val))
    (entZ m c (win0_2.index t 0 * 256 + 1 * (y 0).val) (8960 + (win0_2.index t 1 * 1280 + 1 * (y 1).val)))
  rw [← e0, ← e1]

/-- The output at the end. -/
theorem final : (dats m 0 c).arrAt 2 cfg0.N = res m c :=
  (dats m 0 c).arrAt_eq_of_cover 2 (res m c) (flushed_eq m c) fun i => by
    have i0 : (i 0).val < 2048 := (i 0).isLt
    have i1 : (i 1).val < 1280 := (i 1).isLt
    have hN : cfg0.N = 8 := N_0
    let t : Fin cfg0.N := ⟨(i 0).val / 256, by omega⟩
    have ht : t.val = (i 0).val / 256 := rfl
    have hi := index2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0).val ∧ (i 0).val < win0_2.index t 0 * 256 + 256
                rw [hi.1]; omega
    | ⟨1, _⟩ => show win0_2.index t 1 * 1280 ≤ (i 1).val ∧ (i 1).val < win0_2.index t 1 * 1280 + 1280
                rw [hi.2]; omega

end Grid

open Cert.MulCRefIdeal.Read in
/-- The logistic factor in the reference. -/
theorem refGate (x1 : (⟨Cert.MulCRefIdeal.S2048x11264, .bf16⟩ : BufTy).Contents (Elt Ideal)) (i : Cert.MulCRefIdeal.S2048x1280.Idx) :
    val_main_call0_v5 (F := Ideal) x1 i = FloatOps.logistic (F := Ideal) (φ := .f32) (val_main_v1 (F := Ideal) x1 i) := by
  rw [val_main_call0_v5_apply, val_main_call0_v4_apply, val_main_call0_cst_0_apply, val_main_call0_v3_apply, val_main_call0_v2_apply, val_main_call0_cst_apply,
    val_main_call0_v1_apply, val_main_call0_v0_apply]
  exact Cert.Logistic.expand _

open Cert.MulCRefIdeal.Read in
/-- The reference's result is the same. -/
theorem refGated (x0 : (⟨Cert.MulCRefIdeal.S2048x1280, .f32⟩ : BufTy).Contents (Elt Ideal)) (x1 : (⟨Cert.MulCRefIdeal.S2048x11264, .bf16⟩ : BufTy).Contents (Elt Ideal))
    (i : Cert.MulCRefIdeal.S2048x1280.Idx) :
    val_main_v4 (F := Ideal) x0 x1 i = gated (ent (x0 : S2048x1280.Idx → EReal) (i 0).val (i 1).val) (ent (x1 : S2048x11264.Idx → EReal) (i 0).val (8960 + (i 1).val)) := by
  have p0 : x0 i = ent (x0 : S2048x1280.Idx → EReal) (i 0).val (i 1).val := ent_of (x0 : S2048x1280.Idx → EReal) _ rfl rfl
  have p1 : x1 (idx_main_v0 i) = ent (x1 : S2048x11264.Idx → EReal) (i 0).val (8960 + (i 1).val) := ent_of (x1 : S2048x11264.Idx → EReal) _ rfl rfl
  rw [val_main_v4_apply, val_main_v3_apply, val_main_v2_apply, refGate, val_main_v1_apply, val_main_v0_apply, p0, p1]
  rfl

open Cert.MulCRefIdeal.Read in
/-- From the same arguments the kernel and the reference end with the same gated branch. -/
theorem algebraic : Cert.algebraic_MulCIdeal_MulCRefIdeal (hMulCIdeal := Cert.MulCIdeal.Gen.facts) (hMulCRefIdeal := Cert.MulCRefIdeal.Gen.facts) := by
  intro m g m' g' _ e
  refine ⟨fun c => res m c, ?_, ?_⟩
  · exact (θ_run _ _ _).mono (fun r p c => ⟨(p c).1.trans (final m c), (p c).2⟩) (Cert.MulCIdeal.Value.run_blocks m g)
  · refine (θ_run _ _ _).mono (fun r p c => ⟨(p c).1.trans ?_, (p c).2⟩) (Cert.MulCRefIdeal.Value.run m' g')
    refine (val_main_v4_eq _ _).trans (funext fun i => ?_)
    refine (refGated _ _ i).trans ?_
    rw [(e c).1, (e c).2]
    rfl

/-- The reference runs, keeps its arguments, and ends with every semaphore at zero: it has none. -/
theorem frameReference [h : Cert.MulCRefIdeal.Facts] : Cert.quiescent_MulCRefIdeal :=
  fun m g _ => (θ_run _ _ _).mono (fun r h => ⟨fun c => (h c).2, sem_eq_zero_of_no_sems (by decide) r.2⟩)
    (Cert.MulCRefIdeal.Value.run m g)

end Cert.MulCIdeal.Body

end
-- ==== Proof.Post.lean ====
/- The norm after the last layer's projection, added to the residual: the kernel's output entry by entry, and that the reference leaves the same. -/
module

public import proofs.«01_k».proof.Defs
public import proofs.«01_k».proof.Proof.Blocked
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read

@[expose] public section

set_option maxRecDepth 16384

noncomputable section

namespace Cert.PostIdeal.Body

open Cert.PostIdeal Cert.PostIdeal.Gen Cert.Product Idealize.ShloMosaic Idealize.ShloMosaic.TcCoe Idealize.SL.Sem
open scoped BigOperators

/-- One entry: the residual, the entry to be normed, the sum of its row's squares, and the scale. -/
def normed (x o s g : Ideal .f32) : Ideal .f32 :=
  FloatOps.addf x (FloatOps.mulf (FloatOps.mulf o
    (FloatOps.rsqrt (FloatOps.addf (FloatOps.divf s (FloatOps.ofBits .f32 0x44800000#32)) (FloatOps.ofBits .f32 0x358637BD#32)))) g)

/-- The sum of a row's squares, as the kernel takes it. -/
theorem squares (v : FVec Ideal S256x1024 .f32) {f : ℕ → ℕ → EReal} (h : ∀ i, v i = f (i 0).val (i 1).val) (y : S256.Idx) :
    multiReduction .add [1] S256 (mulf v v) 0x00000000#32 reduces_S256x1024_S256 (.inl rfl) rfl y = ∑ k : Fin 1024, f (y 0).val k.val * f (y 0).val k.val := by
  refine (Ideal.multiReduction_add_single _ _ _ _ _ _).trans ?_
  refine Finset.sum_congr rfl fun k _ => ?_
  show v _ * v _ = _
  rw [h]
  rfl

section Grid

variable (m : (ℓ : Loc nD τ sig) → Buf (Elt Ideal) ℓ) (c : Dev nD)

/-- The residual, the projection and the scale, entry by entry. -/
def entX (a b : ℕ) : EReal := ent (m ((c : Thread nD τ).loc main_arg0) : S2048x1024.Idx → EReal) a b
def entO (a b : ℕ) : EReal := ent (m ((c : Thread nD τ).loc main_arg1) : S2048x1024.Idx → EReal) a b
def entG (a b : ℕ) : EReal := ent (m ((c : Thread nD τ).loc main_arg2) : S1x1024.Idx → EReal) a b

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- The residual's block at a point. -/
theorem iblk0_at (t : Fin cfg0.N) (y : S256x1024.Idx) : (iblk m c 0 t : Vec Ideal S256x1024 .f32) y = entX m c (256 * t.val + (y 0).val) (y 1).val := by
  have hi := index0 t
  unfold iblk
  rw [View.read_apply]
  show V m c main_arg0 _ = _
  rw [V_main_arg0]
  refine ent_of (m ((c : Thread nD τ).loc main_arg0) : S2048x1024.Idx → EReal) _ ?_ ?_
  · show win0_0.index t 0 * 256 + 1 * (y 0).val = _; rw [hi.1]; omega
  · show win0_0.index t 1 * 1024 + 1 * (y 1).val = _; rw [hi.2]; omega

/-- The projection's. -/
theorem iblk1_at (t : Fin cfg0.N) (y : S256x1024.Idx) : (iblk m c 1 t : Vec Ideal S256x1024 .f32) y = entO m c (256 * t.val + (y 0).val) (y 1).val := by
  have hi := index1 t
  unfold iblk
  rw [View.read_apply]
  show V m c main_arg1 _ = _
  rw [V_main_arg1]
  refine ent_of (m ((c : Thread nD τ).loc main_arg1) : S2048x1024.Idx → EReal) _ ?_ ?_
  · show win0_1.index t 0 * 256 + 1 * (y 0).val = _; rw [hi.1]; omega
  · show win0_1.index t 1 * 1024 + 1 * (y 1).val = _; rw [hi.2]; omega

/-- The scale: one row, whole at every point. -/
theorem iblk2_at (t : Fin cfg0.N) (y : S1x1024.Idx) : (iblk m c 2 t : Vec Ideal S1x1024 .f32) y = entG m c 0 (y 1).val := by
  have hi := index2 t
  have y0 : (y 0).val < 1 := (y 0).isLt
  unfold iblk
  rw [View.read_apply]
  show V m c main_arg2 _ = _
  rw [V_main_arg2]
  refine ent_of (m ((c : Thread nD τ).loc main_arg2) : S1x1024.Idx → EReal) _ ?_ ?_
  · show win0_2.index t 0 * 1 + 1 * (y 0).val = _; rw [hi.1]; omega
  · show win0_2.index t 1 * 1024 + 1 * (y 1).val = _; rw [hi.2]; omega

/-- The output's block after a point. -/
theorem block_at (t : Fin cfg0.N) (y : S256x1024.Idx) :
    out0_3 (iblk m c 0 t) (iblk m c 1 t) (iblk m c 2 t) y
      = normed (entX m c (256 * t.val + (y 0).val) (y 1).val) (entO m c (256 * t.val + (y 0).val) (y 1).val)
          (∑ k : Fin 1024, entO m c (256 * t.val + (y 0).val) k.val * entO m c (256 * t.val + (y 0).val) k.val) (entG m c 0 (y 1).val) := by
  unfold out0_3
  rw [View.ld_unit_zero corner, View.ld_unit_zero corner, View.ld_unit_zero corner, Cert.PostIdeal.Value.canon3_eq]
  dsimp only [Cert.PostIdeal.Value.E3]
  rw [squares (iblk m c 1 t) (f := fun a b => entO m c (256 * t.val + a) b) (iblk1_at m c t), iblk0_at, iblk1_at, iblk2_at]
  rfl

/-- The output as an array. -/
def res : Vec Ideal S2048x1024 .f32 := fun i =>
  normed (entX m c (i 0).val (i 1).val) (entO m c (i 0).val (i 1).val) (∑ k : Fin 1024, entO m c (i 0).val k.val * entO m c (i 0).val k.val) (entG m c 0 (i 1).val)

/-- What a point writes back. -/
theorem flushed_eq (t : Fin cfg0.N) (_ : (cfg0.win 3).flush t = true) :
    (dats m 0 c).flushed 3 t = ((cfg0.win 3).blk t).view.read (Elt Ideal) (res m c) := by
  have hi := index3 t
  rw [Cert.PostIdeal.Value.flushed3]
  funext y
  rw [View.read_apply]
  refine (block_at m c t y).trans ?_
  have e0 : 256 * t.val + (y 0).val = win0_3.index t 0 * 256 + 1 * (y 0).val := by rw [hi.1]; omega
  have e1 : (y 1).val = win0_3.index t 1 * 1024 + 1 * (y 1).val := by rw [hi.2]; omega
  show _ = normed (entX m c (win0_3.index t 0 * 256 + 1 * (y 0).val) (win0_3.index t 1 * 1024 + 1 * (y 1).val))
    (entO m c (win0_3.index t 0 * 256 + 1 * (y 0).val) (win0_3.index t 1 * 1024 + 1 * (y 1).val))
    (∑ k : Fin 1024, entO m c (win0_3.index t 0 * 256 + 1 * (y 0).val) k.val * entO m c (win0_3.index t 0 * 256 + 1 * (y 0).val) k.val)
    (entG m c 0 (win0_3.index t 1 * 1024 + 1 * (y 1).val))
  rw [← e0, ← e1]

/-- The output at the end. -/
theorem final : (dats m 0 c).arrAt 3 cfg0.N = res m c :=
  (dats m 0 c).arrAt_eq_of_cover 3 (res m c) (flushed_eq m c) fun i => by
    have i0 : (i 0).val < 2048 := (i 0).isLt
    have i1 : (i 1).val < 1024 := (i 1).isLt
    have hN : cfg0.N = 8 := N_0
    let t : Fin cfg0.N := ⟨(i 0).val / 256, by omega⟩
    have ht : t.val = (i 0).val / 256 := rfl
    have hi := index3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 256 ≤ (i 0).val ∧ (i 0).val < win0_3.index t 0 * 256 + 256
                rw [hi.1]; omega
    | ⟨1, _⟩ => show win0_3.index t 1 * 1024 ≤ (i 1).val ∧ (i 1).val < win0_3.index t 1 * 1024 + 1024
                rw [hi.2]; omega

end Grid

open Cert.PostRefIdeal.Read in
/-- The reference's sum of a row's squares. -/
theorem refSquares (x1 : (⟨Cert.PostRefIdeal.S2048x1024, .f32⟩ : BufTy).Contents (Elt Ideal)) (i : Cert.PostRefIdeal.S2048.Idx) :
    val_main_v1 (F := Ideal) x1 i = ∑ k : Fin 1024, ent (x1 : S2048x1024.Idx → EReal) (i 0).val k.val * ent (x1 : S2048x1024.Idx → EReal) (i 0).val k.val := by
  refine (val_main_v1_apply x1 i).trans ?_
  have z : (val_main_cst (F := Ideal)) (Shape.Idx.first Cert.PostRefIdeal.Gen.h_S_) = (0 : EReal) := Ideal.ofBits_zero_f32
  rw [z, zero_add]
  refine Finset.sum_congr rfl fun k _ => ?_
  have p : x1 (idx_main_v1 i k) = ent (x1 : S2048x1024.Idx → EReal) (i 0).val k.val := ent_of (x1 : S2048x1024.Idx → EReal) _ rfl rfl
  rw [val_main_v0_apply, p]
  rfl

open Cert.PostRefIdeal.Read in
/-- The reference's result is the same. -/
theorem refNormed (x0 x1 : (⟨Cert.PostRefIdeal.S2048x1024, .f32⟩ : BufTy).Contents (Elt Ideal)) (x2 : (⟨Cert.PostRefIdeal.S1x1024, .f32⟩ : BufTy).Contents (Elt Ideal))
    (i : Cert.PostRefIdeal.S2048x1024.Idx) :
    val_main_v12 (F := Ideal) x0 x1 x2 i
      = normed (ent (x0 : S2048x1024.Idx → EReal) (i 0).val (i 1).val) (ent (x1 : S2048x1024.Idx → EReal) (i 0).val (i 1).val)
          (∑ k : Fin 1024, ent (x1 : S2048x1024.Idx → EReal) (i 0).val k.val * ent (x1 : S2048x1024.Idx → EReal) (i 0).val k.val)
          (ent (x2 : S1x1024.Idx → EReal) 0 (i 1).val) := by
  have p0 : x0 i = ent (x0 : S2048x1024.Idx → EReal) (i 0).val (i 1).val := ent_of (x0 : S2048x1024.Idx → EReal) _ rfl rfl
  have p1 : x1 i = ent (x1 : S2048x1024.Idx → EReal) (i 0).val (i 1).val := ent_of (x1 : S2048x1024.Idx → EReal) _ rfl rfl
  have p2 : x2 (idx_main_v10 i) = ent (x2 : S1x1024.Idx → EReal) 0 (i 1).val := ent_of (x2 : S1x1024.Idx → EReal) _ rfl rfl
  rw [val_main_v12_apply, val_main_v11_apply, val_main_v10_apply, val_main_v9_apply, val_main_v8_apply, val_main_v7_apply, val_main_v6_apply, val_main_v5_apply, val_main_cst_1_apply,
    val_main_v4_apply, val_main_v3_apply, val_main_cst_0_apply, val_main_v2_apply, refSquares, p0, p1, p2]
  rfl

open Cert.PostRefIdeal.Read in
/-- From the same arguments the kernel and the reference end with the same sum. -/
theorem algebraic : Cert.algebraic_PostIdeal_PostRefIdeal (hPostIdeal := Cert.PostIdeal.Gen.facts) (hPostRefIdeal := Cert.PostRefIdeal.Gen.facts) := by
  intro m g m' g' _ e
  refine ⟨fun c => res m c, ?_, ?_⟩
  · exact (θ_run _ _ _).mono (fun r p c => ⟨(p c).1.trans (final m c), (p c).2⟩) (Cert.PostIdeal.Value.run_blocks m g)
  · refine (θ_run _ _ _).mono (fun r p c => ⟨(p c).1.trans ?_, (p c).2⟩) (Cert.PostRefIdeal.Value.run m' g')
    refine (val_main_v12_eq _ _ _).trans (funext fun i => ?_)
    refine (refNormed _ _ _ i).trans ?_
    rw [(e c).1, (e c).2.1, (e c).2.2]
    rfl

/-- The reference runs, keeps its arguments, and ends with every semaphore at zero: it has none. -/
theorem frameReference [h : Cert.PostRefIdeal.Facts] : Cert.quiescent_PostRefIdeal :=
  fun m g _ => (θ_run _ _ _).mono (fun r h => ⟨fun c => (h c).2, sem_eq_zero_of_no_sems (by decide) r.2⟩)
    (Cert.PostRefIdeal.Value.run m g)

end Cert.PostIdeal.Body

end
-- ==== Proof.Adam.lean ====
/- The optimiser's update of one weight: the three arrays the kernel leaves entry by entry, and that the reference leaves the same. -/
module

public import proofs.«01_k».proof.Defs
public import proofs.«01_k».proof.Proof.Blocked
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read

@[expose] public section

set_option maxRecDepth 16384

noncomputable section

namespace Cert.AdamIdeal.Body

open Cert.AdamIdeal Cert.AdamIdeal.Gen Cert.Product Idealize.ShloMosaic Idealize.ShloMosaic.TcCoe Idealize.SL.Sem

/-- The first moment after the step, of a gradient and the moment before. -/
def first (g m : Ideal .f32) : Ideal .f32 :=
  FloatOps.addf (FloatOps.mulf (FloatOps.ofBits .f32 0x3F666666#32) m) (FloatOps.mulf (FloatOps.ofBits .f32 0x3DCCCCCD#32) g)

/-- The second moment after the step. -/
def second (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The step, of the weight, the gradient and the two moments. -/
def step (w g m v : Ideal .f32) : Ideal .f32 :=
  FloatOps.mulf (FloatOps.ofBits .f32 0xBA83126F#32)
    (FloatOps.addf
      (FloatOps.divf (FloatOps.divf (first g m) (FloatOps.ofBits .f32 0x3F26BD02#32))
        (FloatOps.addf (FloatOps.sqrt (FloatOps.divf (second g v) (FloatOps.ofBits .f32 0x3C231ACC#32))) (FloatOps.ofBits .f32 0x322BCC77#32)))
      (FloatOps.mulf (FloatOps.ofBits .f32 0x3C23D70A#32) w))

/-- A block has one layer. -/
theorem only (y : S1x128x1024.Idx) (j : S1x128x1024.Idx) (h1 : (j 1).val = (y 1).val) (h2 : (j 2).val = (y 2).val) : j = y := by
  have y0 : (y 0).val < 1 := (y 0).isLt
  have j0 : (j 0).val < 1 := (j 0).isLt
  exact funext fun a => Fin.ext (match a with
    | ⟨0, _⟩ => show (j 0).val = (y 0).val by omega
    | ⟨1, _⟩ => h1
    | ⟨2, _⟩ => h2)

section Grid

variable (m : (ℓ : Loc nD τ sig) → Buf (Elt Ideal) ℓ) (c : Dev nD)

/-- The weight, the gradient and the two moments as launched. -/
abbrev argW : S2x256x1024.Idx → Ideal .f32 := m ((c : Thread nD τ).loc main_arg0)
abbrev argG : S2x256x1024.Idx → Ideal .f32 := m ((c : Thread nD τ).loc main_arg1)
abbrev argM : S2x256x1024.Idx → Ideal .f32 := m ((c : Thread nD τ).loc main_arg2)
abbrev argV : S2x256x1024.Idx → Ideal .f32 := m ((c : Thread nD τ).loc main_arg3)

/-- Where a point's block index lies in the array: the same for all seven. -/
abbrev place (t : Fin cfg0.N) (y : S1x128x1024.Idx) : S2x256x1024.Idx := ((cfg0.win 4).blk t).view.emb y

theorem iblk0_at (t : Fin cfg0.N) (y : S1x128x1024.Idx) : (iblk m c 0 t : Vec Ideal S1x128x1024 .f32) y = argW m c (place t y) := by
  unfold iblk
  rw [View.read_apply]
  show V m c main_arg0 _ = _
  rw [V_main_arg0]
  rfl

theorem iblk1_at (t : Fin cfg0.N) (y : S1x128x1024.Idx) : (iblk m c 1 t : Vec Ideal S1x128x1024 .f32) y = argG m c (place t y) := by
  unfold iblk
  rw [View.read_apply]
  show V m c main_arg1 _ = _
  rw [V_main_arg1]
  rfl

theorem iblk2_at (t : Fin cfg0.N) (y : S1x128x1024.Idx) : (iblk m c 2 t : Vec Ideal S1x128x1024 .f32) y = argM m c (place t y) := by
  unfold iblk
  rw [View.read_apply]
  show V m c main_arg2 _ = _
  rw [V_main_arg2]
  rfl

theorem iblk3_at (t : Fin cfg0.N) (y : S1x128x1024.Idx) : (iblk m c 3 t : Vec Ideal S1x128x1024 .f32) y = argV m c (place t y) := by
  unfold iblk
  rw [View.read_apply]
  show V m c main_arg3 _ = _
  rw [V_main_arg3]
  rfl

/-- The step's block after a point. -/
theorem block4_at (t : Fin cfg0.N) (y : S1x128x1024.Idx) :
    out0_4 (iblk m c 0 t) (iblk m c 1 t) (iblk m c 2 t) (iblk m c 3 t) y
      = step (argW m c (place t y)) (argG m c (place t y)) (argM m c (place t y)) (argV m c (place t y)) := by
  unfold out0_4
  rw [View.ld_unit_zero corner3, View.ld_unit_zero corner3, View.ld_unit_zero corner3, View.ld_unit_zero corner3, Cert.AdamIdeal.Value.canon4_eq]
  dsimp only [Cert.AdamIdeal.Value.E4]
  rw [only y (Cert.AdamIdeal.Value.ix4_0 y) rfl rfl, only y (Cert.AdamIdeal.Value.ix4_1 y) rfl rfl, only y (Cert.AdamIdeal.Value.ix4_2 y) rfl rfl,
    only y (Cert.AdamIdeal.Value.ix4_3 y) rfl rfl, only y (Cert.AdamIdeal.Value.ix4_4 y) rfl rfl, only y (Cert.AdamIdeal.Value.ix4_5 y) rfl rfl,
    iblk0_at, iblk1_at, iblk2_at, iblk3_at]
  rfl

/-- The first moment's. -/
theorem block5_at (t : Fin cfg0.N) (y : S1x128x1024.Idx) :
    out0_5 (iblk m c 0 t) (iblk m c 1 t) (iblk m c 2 t) (iblk m c 3 t) y = first (argG m c (place t y)) (argM m c (place t y)) := by
  unfold out0_5
  rw [View.ld_unit_zero corner3, View.ld_unit_zero corner3, Cert.AdamIdeal.Value.canon5_eq]
  dsimp only [Cert.AdamIdeal.Value.E5]
  rw [only y (Cert.AdamIdeal.Value.ix5_0 y) rfl rfl, only y (Cert.AdamIdeal.Value.ix5_1 y) rfl rfl, iblk1_at, iblk2_at]
  rfl

/-- The second moment's. -/
theorem block6_at (t : Fin cfg0.N) (y : S1x128x1024.Idx) :
    out0_6 (iblk m c 0 t) (iblk m c 1 t) (iblk m c 2 t) (iblk m c 3 t) y = second (argG m c (place t y)) (argV m c (place t y)) := by
  unfold out0_6
  rw [View.ld_unit_zero corner3, View.ld_unit_zero corner3, Cert.AdamIdeal.Value.canon6_eq]
  dsimp only [Cert.AdamIdeal.Value.E6]
  rw [only y (Cert.AdamIdeal.Value.ix6_0 y) rfl rfl, only y (Cert.AdamIdeal.Value.ix6_1 y) rfl rfl, only y (Cert.AdamIdeal.Value.ix6_2 y) rfl rfl, iblk1_at, iblk3_at]
  rfl

/-- The three arrays. -/
def res4 : Vec Ideal S2x256x1024 .f32 := fun i => step (argW m c i) (argG m c i) (argM m c i) (argV m c i)
def res5 : Vec Ideal S2x256x1024 .f32 := fun i => first (argG m c i) (argM m c i)
def res6 : Vec Ideal S2x256x1024 .f32 := fun i => second (argG m c i) (argV m c i)

theorem flushed4_eq (t : Fin cfg0.N) (_ : (cfg0.win 4).flush t = true) :
    (dats m 0 c).flushed 4 t = ((cfg0.win 4).blk t).view.read (Elt Ideal) (res4 m c) := by
  rw [Cert.AdamIdeal.Value.flushed4]
  funext y
  rw [View.read_apply]
  exact block4_at m c t y

theorem flushed5_eq (t : Fin cfg0.N) (_ : (cfg0.win 5).flush t = true) :
    (dats m 0 c).flushed 5 t = ((cfg0.win 5).blk t).view.read (Elt Ideal) (res5 m c) := by
  rw [Cert.AdamIdeal.Value.flushed5]
  funext y
  rw [View.read_apply]
  exact block5_at m c t y

theorem flushed6_eq (t : Fin cfg0.N) (_ : (cfg0.win 6).flush t = true) :
    (dats m 0 c).flushed 6 t = ((cfg0.win 6).blk t).view.read (Elt Ideal) (res6 m c) := by
  rw [Cert.AdamIdeal.Value.flushed6]
  funext y
  rw [View.read_apply]
  exact block6_at m c t y

/-- The point whose blocks hold an index of the arrays. -/
def holder (i : S2x256x1024.Idx) : Fin cfg0.N := ⟨2 * (i 0).val + (i 1).val / 128, by
  have i0 : (i 0).val < 2 := (i 0).isLt
  have i1 : (i 1).val < 256 := (i 1).isLt
  have hN : cfg0.N = 4 := N_0
  omega⟩

theorem index4 : ∀ t : Fin cfg0.N, win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0)

/-- It lies in that block: the three outputs' blocks lie alike. -/
theorem inside (i : S2x256x1024.Idx) (a : Fin 3) :
    win0_4.index (holder i) a * S1x128x1024.size a ≤ (i a).val ∧ (i a).val < win0_4.index (holder i) a * S1x128x1024.size a + S1x128x1024.size a := by
  have i0 : (i 0).val < 2 := (i 0).isLt
  have i1 : (i 1).val < 256 := (i 1).isLt
  have i2 : (i 2).val < 1024 := (i 2).isLt
  have ht : (holder i).val = 2 * (i 0).val + (i 1).val / 128 := rfl
  have hi := index4 (holder i)
  match a with
  | ⟨0, _⟩ => show win0_4.index (holder i) 0 * 1 ≤ (i 0).val ∧ (i 0).val < win0_4.index (holder i) 0 * 1 + 1
              rw [hi.1]; omega
  | ⟨1, _⟩ => show win0_4.index (holder i) 1 * 128 ≤ (i 1).val ∧ (i 1).val < win0_4.index (holder i) 1 * 128 + 128
              rw [hi.2.1]; omega
  | ⟨2, _⟩ => show win0_4.index (holder i) 2 * 1024 ≤ (i 2).val ∧ (i 2).val < win0_4.index (holder i) 2 * 1024 + 1024
              rw [hi.2.2]; omega

/-- The outputs at the end. -/
theorem final4 : (dats m 0 c).arrAt 4 cfg0.N = res4 m c :=
  (dats m 0 c).arrAt_eq_of_cover 4 (res4 m c) (flushed4_eq m c) fun i => ⟨holder i, flush0_4 (holder i), by
    show i ∈ ((View.whole main_v0_0).slice (win0_4.rect (holder i))).set
    rw [View.set_slice_whole, Rect.mem_set_unit]
    exact inside i⟩

theorem final5 : (dats m 0 c).arrAt 5 cfg0.N = res5 m c :=
  (dats m 0 c).arrAt_eq_of_cover 5 (res5 m c) (flushed5_eq m c) fun i => ⟨holder i, flush0_5 (holder i), by
    show i ∈ ((View.whole main_v0_1).slice (win0_5.rect (holder i))).set
    rw [View.set_slice_whole, Rect.mem_set_unit]
    exact inside i⟩

theorem final6 : (dats m 0 c).arrAt 6 cfg0.N = res6 m c :=
  (dats m 0 c).arrAt_eq_of_cover 6 (res6 m c) (flushed6_eq m c) fun i => ⟨holder i, flush0_6 (holder i), by
    show i ∈ ((View.whole main_v0_2).slice (win0_6.rect (holder i))).set
    rw [View.set_slice_whole, Rect.mem_set_unit]
    exact inside i⟩

end Grid

open Cert.AdamRefIdeal.Read in
/-- The reference's first moment. -/
theorem refFirst (x1 x2 : (⟨Cert.AdamRefIdeal.S2x256x1024, .f32⟩ : BufTy).Contents (Elt Ideal)) (i : Cert.AdamRefIdeal.S2x256x1024.Idx) :
    val_main_v4 (F := Ideal) x1 x2 i = first (x1 i) (x2 i) := by
  rw [val_main_v4_apply, val_main_v3_apply, val_main_v2_apply, val_main_cst_0_apply, val_main_v1_apply, val_main_v0_apply, val_main_cst_apply]
  rfl

open Cert.AdamRefIdeal.Read in
/-- The reference's second moment. -/
theorem refSecond (x1 x3 : (⟨Cert.AdamRefIdeal.S2x256x1024, .f32⟩ : BufTy).Contents (Elt Ideal)) (i : Cert.AdamRefIdeal.S2x256x1024.Idx) :
    val_main_v10 (F := Ideal) x1 x3 i = second (x1 i) (x3 i) := by
  rw [val_main_v10_apply, val_main_v9_apply, val_main_v8_apply, val_main_cst_2_apply, val_main_v7_apply, val_main_v6_apply, val_main_v5_apply, val_main_cst_1_apply]
  rfl

open Cert.AdamRefIdeal.Read in
/-- The reference's step. -/
theorem refStep (x0 x1 x2 x3 : (⟨Cert.AdamRefIdeal.S2x256x1024, .f32⟩ : BufTy).Contents (Elt Ideal)) (i : Cert.AdamRefIdeal.S2x256x1024.Idx) :
    val_main_v23 (F := Ideal) x0 x1 x2 x3 i = step (x0 i) (x1 i) (x2 i) (x3 i) := by
  rw [val_main_v23_apply, val_main_v22_apply, val_main_cst_7_apply, val_main_v21_apply, val_main_v20_apply, val_main_v19_apply, val_main_cst_6_apply, val_main_v18_apply,
    val_main_v17_apply, val_main_v16_apply, val_main_cst_5_apply, val_main_v15_apply, val_main_v14_apply, val_main_v13_apply, val_main_cst_4_apply, val_main_v12_apply,
    val_main_v11_apply, val_main_cst_3_apply, refFirst, refSecond]
  rfl

open Cert.AdamRefIdeal.Read in
/-- From the same arguments the kernel and the reference end with the same step and the same moments. -/
theorem algebraic : Cert.algebraic_AdamIdeal_AdamRefIdeal (hAdamIdeal := Cert.AdamIdeal.Gen.facts) (hAdamRefIdeal := Cert.AdamRefIdeal.Gen.facts) := by
  intro m g m' g' _ e
  refine ⟨fun c => res4 m c, fun c => res5 m c, fun c => res6 m c, ?_, ?_⟩
  · exact (θ_run _ _ _).mono (fun r p c => ⟨(p c).1.trans (final4 m c), (p c).2.1.trans (final5 m c), (p c).2.2.1.trans (final6 m c), (p c).2.2.2⟩)
      (Cert.AdamIdeal.Value.run_blocks m g)
  · refine (θ_run _ _ _).mono (fun r p c => ⟨(p c).1.trans ?_, (p c).2.1.trans ?_, (p c).2.2.1.trans ?_, (p c).2.2.2⟩) (Cert.AdamRefIdeal.Value.run m' g')
    · refine (val_main_v23_eq _ _ _ _).trans (funext fun i => (refStep _ _ _ _ i).trans ?_)
      rw [(e c).1, (e c).2.1, (e c).2.2.1, (e c).2.2.2]
      rfl
    · refine (val_main_v4_eq _ _).trans (funext fun i => (refFirst _ _ i).trans ?_)
      rw [(e c).2.1, (e c).2.2.1]
      rfl
    · refine (val_main_v10_eq _ _).trans (funext fun i => (refSecond _ _ i).trans ?_)
      rw [(e c).2.1, (e c).2.2.2]
      rfl

/-- The reference runs, keeps its arguments, and ends with every semaphore at zero: it has none. -/
theorem frameReference [h : Cert.AdamRefIdeal.Facts] : Cert.quiescent_AdamRefIdeal :=
  fun m g _ => (θ_run _ _ _).mono (fun r h => ⟨fun c => (h c).2.2.2, sem_eq_zero_of_no_sems (by decide) r.2⟩)
    (Cert.AdamRefIdeal.Value.run m g)

end Cert.AdamIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendIdeal.Value
public import proofs.«01_k».proof.Proof.Gen.AttendRefIdeal
public import proofs.«01_k».proof.Proof.Gen.AttendRefIdeal.Run
public import proofs.«01_k».proof.Proof.Gen.AttendRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.ProjCDx
public import proofs.«01_k».proof.Proof.Gen.ProjCDx.Skeleton
public import proofs.«01_k».proof.Proof.Gen.ProjCDx.Launch
public import proofs.«01_k».proof.Proof.Gen.ProjCDx.Points
public import proofs.«01_k».proof.Proof.Gen.ProjCDx.Frame
public import proofs.«01_k».proof.Proof.Gen.ProjCDxIdeal
public import proofs.«01_k».proof.Proof.Gen.ProjCDxIdeal.Skeleton
public import proofs.«01_k».proof.Proof.Gen.ProjCDxIdeal.Launch
public import proofs.«01_k».proof.Proof.Gen.ProjCDxIdeal.Points
public import proofs.«01_k».proof.Proof.Gen.ProjCDxIdeal.Frame
public import proofs.«01_k».proof.Proof.Gen.ProjCDxIdeal.Value
public import proofs.«01_k».proof.Proof.Gen.ProjCDxRefIdeal
public import proofs.«01_k».proof.Proof.Gen.ProjCDxRefIdeal.Run
public import proofs.«01_k».proof.Proof.Gen.ProjCDxRefIdeal.Read
public import proofs.«01_k».proof.Proof.Gen.ProjCDw
public import proofs.«01_k».proof.Proof.Gen.ProjCDw.Skeleton
public import proofs.«01_k».proof.Proof.Gen.ProjCDw.Launch
public import proofs.«01_k».proof.Proof.Gen.ProjCDw.Points
public import proofs.«01_k».proof.Proof.Gen.ProjCDw.Frame
public import proofs.«01_k».proof.Proof.Gen.ProjCDwIdeal
public import proofs.«01_k».proof.Proof.Gen.ProjCDwIdeal.Skeleton
public import proofs.«01_k».proof.Proof.Gen.ProjCDwIdeal.Launch
public import proofs.«01_k».proof.Proof.Gen.ProjCDwIdeal.Points
public import proofs.«01_k».proof.Proof.Gen.ProjCDwIdeal.Frame
public import proofs.«01_k».proof.Proof.Gen.ProjCDwIdeal.Value
public import proofs.«01_k».proof.Proof.Gen.ProjCDwRefIdeal
public import proofs.«01_k».proof.Proof.Gen.ProjCDwRefIdeal.Run
public import proofs.«01_k».proof.Proof.Gen.ProjCDwRefIdeal.Read
public import proofs.«01_k».proof.Proof.Gen.QUpDx
public import proofs.«01_k».proof.Proof.Gen.QUpDx.Skeleton
public import proofs.«01_k».proof.Proof.Gen.QUpDx.Launch
public import proofs.«01_k».proof.Proof.Gen.QUpDx.Points
public import proofs.«01_k».proof.Proof.Gen.QUpDx.Frame
public import proofs.«01_k».proof.Proof.Gen.QUpDxIdeal
public import proofs.«01_k».proof.Proof.Gen.QUpDxIdeal.Skeleton
public import proofs.«01_k».proof.Proof.Gen.QUpDxIdeal.Launch
public import proofs.«01_k».proof.Proof.Gen.QUpDxIdeal.Points
public import proofs.«01_k».proof.Proof.Gen.QUpDxIdeal.Frame
public import proofs.«01_k».proof.Proof.Gen.QUpDxIdeal.Value
public import proofs.«01_k».proof.Proof.Gen.QUpDxRefIdeal
public import proofs.«01_k».proof.Proof.Gen.QUpDxRefIdeal.Run
public import proofs.«01_k».proof.Proof.Gen.QUpDxRefIdeal.Read
public import proofs.«01_k».proof.Proof.Gen.QUpDw
public import proofs.«01_k».proof.Proof.Gen.QUpDw.Skeleton
public import proofs.«01_k».proof.Proof.Gen.QUpDw.Launch
public import proofs.«01_k».proof.Proof.Gen.QUpDw.Points
public import proofs.«01_k».proof.Proof.Gen.QUpDw.Frame
public import proofs.«01_k».proof.Proof.Gen.QUpDwIdeal
public import proofs.«01_k».proof.Proof.Gen.QUpDwIdeal.Skeleton
public import proofs.«01_k».proof.Proof.Gen.QUpDwIdeal.Launch
public import proofs.«01_k».proof.Proof.Gen.QUpDwIdeal.Points
public import proofs.«01_k».proof.Proof.Gen.QUpDwIdeal.Frame
public import proofs.«01_k».proof.Proof.Gen.QUpDwIdeal.Value
public import proofs.«01_k».proof.Proof.Gen.QUpDwRefIdeal
public import proofs.«01_k».proof.Proof.Gen.QUpDwRefIdeal.Run
public import proofs.«01_k».proof.Proof.Gen.QUpDwRefIdeal.Read
public import proofs.«01_k».proof.Proof.Gen.KvUpDx
public import proofs.«01_k».proof.Proof.Gen.KvUpDx.Skeleton
public import proofs.«01_k».proof.Proof.Gen.KvUpDx.Launch
public import proofs.«01_k».proof.Proof.Gen.KvUpDx.Points
public import proofs.«01_k».proof.Proof.Gen.KvUpDx.Frame
public import proofs.«01_k».proof.Proof.Gen.KvUpDxIdeal
public import proofs.«01_k».proof.Proof.Gen.KvUpDxIdeal.Skeleton
public import proofs.«01_k».proof.Proof.Gen.KvUpDxIdeal.Launch
public import proofs.«01_k».proof.Proof.Gen.KvUpDxIdeal.Points
public import proofs.«01_k».proof.Proof.Gen.KvUpDxIdeal.Frame
public import proofs.«01_k».proof.Proof.Gen.KvUpDxIdeal.Value
public import proofs.«01_k».proof.Proof.Gen.KvUpDxRefIdeal
public import proofs.«01_k».proof.Proof.Gen.KvUpDxRefIdeal.Run
public import proofs.«01_k».proof.Proof.Gen.KvUpDxRefIdeal.Read
public import proofs.«01_k».proof.Proof.Gen.KvUpDw
public import proofs.«01_k».proof.Proof.Gen.KvUpDw.Skeleton
public import proofs.«01_k».proof.Proof.Gen.KvUpDw.Launch
public import proofs.«01_k».proof.Proof.Gen.KvUpDw.Points
public import proofs.«01_k».proof.Proof.Gen.KvUpDw.Frame
public import proofs.«01_k».proof.Proof.Gen.KvUpDwIdeal
public import proofs.«01_k».proof.Proof.Gen.KvUpDwIdeal.Skeleton
public import proofs.«01_k».proof.Proof.Gen.KvUpDwIdeal.Launch
public import proofs.«01_k».proof.Proof.Gen.KvUpDwIdeal.Points
public import proofs.«01_k».proof.Proof.Gen.KvUpDwIdeal.Frame
public import proofs.«01_k».proof.Proof.Gen.KvUpDwIdeal.Value
public import proofs.«01_k».proof.Proof.Gen.KvUpDwRefIdeal
public import proofs.«01_k».proof.Proof.Gen.KvUpDwRefIdeal.Run
public import proofs.«01_k».proof.Proof.Gen.KvUpDwRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.QUpFwd
public import proofs.«01_k».proof.Proof.Gen.QUpFwd.Skeleton
public import proofs.«01_k».proof.Proof.Gen.QUpFwd.Launch
public import proofs.«01_k».proof.Proof.Gen.QUpFwd.Points
public import proofs.«01_k».proof.Proof.Gen.QUpFwd.Frame
public import proofs.«01_k».proof.Proof.Gen.QUpFwdIdeal
public import proofs.«01_k».proof.Proof.Gen.QUpFwdIdeal.Skeleton
public import proofs.«01_k».proof.Proof.Gen.QUpFwdIdeal.Launch
public import proofs.«01_k».proof.Proof.Gen.QUpFwdIdeal.Points
public import proofs.«01_k».proof.Proof.Gen.QUpFwdIdeal.Frame
public import proofs.«01_k».proof.Proof.Gen.QUpFwdIdeal.Value
public import proofs.«01_k».proof.Proof.Gen.QUpFwdRefIdeal
public import proofs.«01_k».proof.Proof.Gen.QUpFwdRefIdeal.Run
public import proofs.«01_k».proof.Proof.Gen.QUpFwdRefIdeal.Read
public import proofs.«01_k».proof.Proof.Gen.KvUpFwd
public import proofs.«01_k».proof.Proof.Gen.KvUpFwd.Skeleton
public import proofs.«01_k».proof.Proof.Gen.KvUpFwd.Launch
public import proofs.«01_k».proof.Proof.Gen.KvUpFwd.Points
public import proofs.«01_k».proof.Proof.Gen.KvUpFwd.Frame
public import proofs.«01_k».proof.Proof.Gen.KvUpFwdIdeal
public import proofs.«01_k».proof.Proof.Gen.KvUpFwdIdeal.Skeleton
public import proofs.«01_k».proof.Proof.Gen.KvUpFwdIdeal.Launch
public import proofs.«01_k».proof.Proof.Gen.KvUpFwdIdeal.Points
public import proofs.«01_k».proof.Proof.Gen.KvUpFwdIdeal.Frame
public import proofs.«01_k».proof.Proof.Gen.KvUpFwdIdeal.Value
public import proofs.«01_k».proof.Proof.Gen.KvUpFwdRefIdeal
public import proofs.«01_k».proof.Proof.Gen.KvUpFwdRefIdeal.Run
public import proofs.«01_k».proof.Proof.Gen.KvUpFwdRefIdeal.Read
public import proofs.«01_k».proof.Proof.Gen.ProjAFwd
public import proofs.«01_k».proof.Proof.Gen.ProjAFwd.Skeleton
public import proofs.«01_k».proof.Proof.Gen.ProjAFwd.Launch
public import proofs.«01_k».proof.Proof.Gen.ProjAFwd.Points
public import proofs.«01_k».proof.Proof.Gen.ProjAFwd.Frame
public import proofs.«01_k».proof.Proof.Gen.ProjAFwdIdeal
public import proofs.«01_k».proof.Proof.Gen.ProjAFwdIdeal.Skeleton
public import proofs.«01_k».proof.Proof.Gen.ProjAFwdIdeal.Launch
public import proofs.«01_k».proof.Proof.Gen.ProjAFwdIdeal.Points
public import proofs.«01_k».proof.Proof.Gen.ProjAFwdIdeal.Frame
public import proofs.«01_k».proof.Proof.Gen.ProjAFwdIdeal.Value
public import proofs.«01_k».proof.Proof.Gen.ProjAFwdRefIdeal
public import proofs.«01_k».proof.Proof.Gen.ProjAFwdRefIdeal.Run
public import proofs.«01_k».proof.Proof.Gen.ProjAFwdRefIdeal.Read
public import proofs.«01_k».proof.Proof.Gen.ProjCFwd
public import proofs.«01_k».proof.Proof.Gen.ProjCFwd.Skeleton
public import proofs.«01_k».proof.Proof.Gen.ProjCFwd.Launch
public import proofs.«01_k».proof.Proof.Gen.ProjCFwd.Points
public import proofs.«01_k».proof.Proof.Gen.ProjCFwd.Frame
public import proofs.«01_k».proof.Proof.Gen.ProjCFwdIdeal
public import proofs.«01_k».proof.Proof.Gen.ProjCFwdIdeal.Skeleton
public import proofs.«01_k».proof.Proof.Gen.ProjCFwdIdeal.Launch
public import proofs.«01_k».proof.Proof.Gen.ProjCFwdIdeal.Points
public import proofs.«01_k».proof.Proof.Gen.ProjCFwdIdeal.Frame
public import proofs.«01_k».proof.Proof.Gen.ProjCFwdIdeal.Value
public import proofs.«01_k».proof.Proof.Gen.ProjCFwdRefIdeal
public import proofs.«01_k».proof.Proof.Gen.ProjCFwdRefIdeal.Run
public import proofs.«01_k».proof.Proof.Gen.ProjCFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Equal
public import proofs.«01_k».proof.Proof.InDx
public import proofs.«01_k».proof.Proof.InDw
public import proofs.«01_k».proof.Proof.OutDx
public import proofs.«01_k».proof.Proof.OutDw
public import proofs.«01_k».proof.Proof.ProjCDx
public import proofs.«01_k».proof.Proof.ProjCDw
public import proofs.«01_k».proof.Proof.QUpDx
public import proofs.«01_k».proof.Proof.QUpDw
public import proofs.«01_k».proof.Proof.KvUpDx
public import proofs.«01_k».proof.Proof.KvUpDw
public import proofs.«01_k».proof.Proof.InFwd
public import proofs.«01_k».proof.Proof.QUpFwd
public import proofs.«01_k».proof.Proof.KvUpFwd
public import proofs.«01_k».proof.Proof.ProjAFwd
public import proofs.«01_k».proof.Proof.ProjCFwd
public import proofs.«01_k».proof.Proof.OutFwd
public import proofs.«01_k».proof.Proof.AttendEqual
public import proofs.«01_k».proof.Proof.GateFwd
public import proofs.«01_k».proof.Proof.GateDx
public import proofs.«01_k».proof.Proof.GateDw
public import proofs.«01_k».proof.Proof.Merge
public import proofs.«01_k».proof.Proof.MulB
public import proofs.«01_k».proof.Proof.MulC
public import proofs.«01_k».proof.Proof.Post
public import proofs.«01_k».proof.Proof.Adam
public import Idealize.ShloMosaic.Adequacy
public import Idealize.ShloMosaic.Init
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.GateDx
public import proofs.«01_k».proof.Proof.Gen.GateDx.Skeleton
public import proofs.«01_k».proof.Proof.Gen.GateDx.Launch
public import proofs.«01_k».proof.Proof.Gen.GateDx.Points
public import proofs.«01_k».proof.Proof.Gen.GateDx.Frame
public import proofs.«01_k».proof.Proof.Gen.GateDxIdeal
public import proofs.«01_k».proof.Proof.Gen.GateDxIdeal.Skeleton
public import proofs.«01_k».proof.Proof.Gen.GateDxIdeal.Launch
public import proofs.«01_k».proof.Proof.Gen.GateDxIdeal.Points
public import proofs.«01_k».proof.Proof.Gen.GateDxIdeal.Frame
public import proofs.«01_k».proof.Proof.Gen.GateDxIdeal.Value
public import proofs.«01_k».proof.Proof.Gen.GateDxRefIdeal
public import proofs.«01_k».proof.Proof.Gen.GateDxRefIdeal.Run
public import proofs.«01_k».proof.Proof.Gen.GateDxRefIdeal.Read
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.GateDwRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MulB
public import proofs.«01_k».proof.Proof.Gen.MulB.Skeleton
public import proofs.«01_k».proof.Proof.Gen.MulB.Launch
public import proofs.«01_k».proof.Proof.Gen.MulB.Points
public import proofs.«01_k».proof.Proof.Gen.MulB.Frame
public import proofs.«01_k».proof.Proof.Gen.MulBIdeal
public import proofs.«01_k».proof.Proof.Gen.MulBIdeal.Skeleton
public import proofs.«01_k».proof.Proof.Gen.MulBIdeal.Launch
public import proofs.«01_k».proof.Proof.Gen.MulBIdeal.Points
public import proofs.«01_k».proof.Proof.Gen.MulBIdeal.Frame
public import proofs.«01_k».proof.Proof.Gen.MulBIdeal.Value
public import proofs.«01_k».proof.Proof.Gen.MulBRefIdeal
public import proofs.«01_k».proof.Proof.Gen.MulBRefIdeal.Run
public import proofs.«01_k».proof.Proof.Gen.MulBRefIdeal.Read
public import proofs.«01_k».proof.Proof.Gen.MulC
public import proofs.«01_k».proof.Proof.Gen.MulC.Skeleton
public import proofs.«01_k».proof.Proof.Gen.MulC.Launch
public import proofs.«01_k».proof.Proof.Gen.MulC.Points
public import proofs.«01_k».proof.Proof.Gen.MulC.Frame
public import proofs.«01_k».proof.Proof.Gen.MulCIdeal
public import proofs.«01_k».proof.Proof.Gen.MulCIdeal.Skeleton
public import proofs.«01_k».proof.Proof.Gen.MulCIdeal.Launch
public import proofs.«01_k».proof.Proof.Gen.MulCIdeal.Points
public import proofs.«01_k».proof.Proof.Gen.MulCIdeal.Frame
public import proofs.«01_k».proof.Proof.Gen.MulCIdeal.Value
public import proofs.«01_k».proof.Proof.Gen.MulCRefIdeal
public import proofs.«01_k».proof.Proof.Gen.MulCRefIdeal.Run
public import proofs.«01_k».proof.Proof.Gen.MulCRefIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read

@[expose] public section

noncomputable section

namespace Cert.Proof

open Idealize.ShloMosaic Idealize.SL.Sem

/-- The reference runs, keeps its arguments, and ends with every semaphore at zero: it has none. -/
theorem frameReference [h : Cert.ReferenceIdeal.Facts] : Cert.quiescent_ReferenceIdeal :=
  fun m g _ => (θ_run _ _ _).mono (fun r h => ⟨fun c => (h c).2.2.2, sem_eq_zero_of_no_sems (by decide) r.2⟩)
    (Cert.ReferenceIdeal.Value.run m g)

/-- The frames, the attention's value claims on the arguments their preconditions allow, and the products' value claims on any. -/
theorem claim : Cert.Claim := ⟨Cert.Kernel.Gen.facts, Cert.KernelIdeal.Gen.facts, Cert.ReferenceIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.ProjCDx.Gen.facts, Cert.ProjCDxIdeal.Gen.facts, Cert.ProjCDxRefIdeal.Gen.facts,
  Cert.ProjCDw.Gen.facts, Cert.ProjCDwIdeal.Gen.facts, Cert.ProjCDwRefIdeal.Gen.facts,
  Cert.QUpDx.Gen.facts, Cert.QUpDxIdeal.Gen.facts, Cert.QUpDxRefIdeal.Gen.facts,
  Cert.QUpDw.Gen.facts, Cert.QUpDwIdeal.Gen.facts, Cert.QUpDwRefIdeal.Gen.facts,
  Cert.KvUpDx.Gen.facts, Cert.KvUpDxIdeal.Gen.facts, Cert.KvUpDxRefIdeal.Gen.facts,
  Cert.KvUpDw.Gen.facts, Cert.KvUpDwIdeal.Gen.facts, Cert.KvUpDwRefIdeal.Gen.facts,
  Cert.InFwd.Gen.facts, Cert.InFwdIdeal.Gen.facts, Cert.InFwdRefIdeal.Gen.facts,
  Cert.QUpFwd.Gen.facts, Cert.QUpFwdIdeal.Gen.facts, Cert.QUpFwdRefIdeal.Gen.facts,
  Cert.KvUpFwd.Gen.facts, Cert.KvUpFwdIdeal.Gen.facts, Cert.KvUpFwdRefIdeal.Gen.facts,
  Cert.ProjAFwd.Gen.facts, Cert.ProjAFwdIdeal.Gen.facts, Cert.ProjAFwdRefIdeal.Gen.facts,
  Cert.ProjCFwd.Gen.facts, Cert.ProjCFwdIdeal.Gen.facts, Cert.ProjCFwdRefIdeal.Gen.facts,
  Cert.OutFwd.Gen.facts, Cert.OutFwdIdeal.Gen.facts, Cert.OutFwdRefIdeal.Gen.facts,
  Cert.Attend.Gen.facts, Cert.AttendIdeal.Gen.facts, Cert.AttendRefIdeal.Gen.facts,
  Cert.GateFwd.Gen.facts, Cert.GateFwdIdeal.Gen.facts, Cert.GateFwdRefIdeal.Gen.facts,
  Cert.GateDx.Gen.facts, Cert.GateDxIdeal.Gen.facts, Cert.GateDxRefIdeal.Gen.facts,
  Cert.GateDw.Gen.facts, Cert.GateDwIdeal.Gen.facts, Cert.GateDwRefIdeal.Gen.facts,
  Cert.Merge.Gen.facts, Cert.MergeIdeal.Gen.facts, Cert.MergeRefIdeal.Gen.facts,
  Cert.MulB.Gen.facts, Cert.MulBIdeal.Gen.facts, Cert.MulBRefIdeal.Gen.facts,
  Cert.MulC.Gen.facts, Cert.MulCIdeal.Gen.facts, Cert.MulCRefIdeal.Gen.facts,
  Cert.Post.Gen.facts, Cert.PostIdeal.Gen.facts, Cert.PostRefIdeal.Gen.facts,
  Cert.Adam.Gen.facts, Cert.AdamIdeal.Gen.facts, Cert.AdamRefIdeal.Gen.facts,
  Cert.Finite.facts, Cert.AttendEqual.facts_heads,
  fun m g _ => Cert.Kernel.Gen.frame m g, fun m g _ => Cert.KernelIdeal.Gen.frame m g, fun m g _ => Cert.KernelIdeal.Gen.frame m g,
  frameReference, fun m g _ => frameReference m g trivial,
  fun m g _ => Cert.InDx.Gen.frame m g, fun m g _ => Cert.InDxIdeal.Gen.frame m g, Cert.InDxIdeal.Body.frameReference,
  fun m g _ => Cert.InDw.Gen.frame m g, fun m g _ => Cert.InDwIdeal.Gen.frame m g, Cert.InDwIdeal.Body.frameReference,
  fun m g _ => Cert.OutDx.Gen.frame m g, fun m g _ => Cert.OutDxIdeal.Gen.frame m g, Cert.OutDxIdeal.Body.frameReference,
  fun m g _ => Cert.OutDw.Gen.frame m g, fun m g _ => Cert.OutDwIdeal.Gen.frame m g, Cert.OutDwIdeal.Body.frameReference,
  fun m g _ => Cert.ProjCDx.Gen.frame m g, fun m g _ => Cert.ProjCDxIdeal.Gen.frame m g, Cert.ProjCDxIdeal.Body.frameReference,
  fun m g _ => Cert.ProjCDw.Gen.frame m g, fun m g _ => Cert.ProjCDwIdeal.Gen.frame m g, Cert.ProjCDwIdeal.Body.frameReference,
  fun m g _ => Cert.QUpDx.Gen.frame m g, fun m g _ => Cert.QUpDxIdeal.Gen.frame m g, Cert.QUpDxIdeal.Body.frameReference,
  fun m g _ => Cert.QUpDw.Gen.frame m g, fun m g _ => Cert.QUpDwIdeal.Gen.frame m g, Cert.QUpDwIdeal.Body.frameReference,
  fun m g _ => Cert.KvUpDx.Gen.frame m g, fun m g _ => Cert.KvUpDxIdeal.Gen.frame m g, Cert.KvUpDxIdeal.Body.frameReference,
  fun m g _ => Cert.KvUpDw.Gen.frame m g, fun m g _ => Cert.KvUpDwIdeal.Gen.frame m g, Cert.KvUpDwIdeal.Body.frameReference,
  fun m g _ => Cert.InFwd.Gen.frame m g, fun m g _ => Cert.InFwdIdeal.Gen.frame m g, Cert.InFwdIdeal.Body.frameReference,
  fun m g _ => Cert.QUpFwd.Gen.frame m g, fun m g _ => Cert.QUpFwdIdeal.Gen.frame m g, Cert.QUpFwdIdeal.Body.frameReference,
  fun m g _ => Cert.KvUpFwd.Gen.frame m g, fun m g _ => Cert.KvUpFwdIdeal.Gen.frame m g, Cert.KvUpFwdIdeal.Body.frameReference,
  fun m g _ => Cert.ProjAFwd.Gen.frame m g, fun m g _ => Cert.ProjAFwdIdeal.Gen.frame m g, Cert.ProjAFwdIdeal.Body.frameReference,
  fun m g _ => Cert.ProjCFwd.Gen.frame m g, fun m g _ => Cert.ProjCFwdIdeal.Gen.frame m g, Cert.ProjCFwdIdeal.Body.frameReference,
  fun m g _ => Cert.OutFwd.Gen.frame m g, fun m g _ => Cert.OutFwdIdeal.Gen.frame m g, Cert.OutFwdIdeal.Body.frameReference,
  fun m g _ => Cert.Attend.Gen.frame m g, fun m g _ => Cert.AttendIdeal.Gen.frame m g, fun m g _ => Cert.AttendIdeal.Gen.frame m g,
  Cert.AttendEqual.frame_reference, fun m g _ => Cert.AttendEqual.frame_reference m g trivial,
  fun m g _ => Cert.GateFwd.Gen.frame m g, fun m g _ => Cert.GateFwdIdeal.Gen.frame m g, Cert.GateFwdIdeal.Body.frameReference,
  fun m g _ => Cert.GateDx.Gen.frame m g, fun m g _ => Cert.GateDxIdeal.Gen.frame m g, Cert.GateDxIdeal.Body.frameReference,
  fun m g _ => Cert.GateDw.Gen.frame m g, fun m g _ => Cert.GateDwIdeal.Gen.frame m g, Cert.GateDwIdeal.Body.frameReference,
  fun m g _ => Cert.Merge.Gen.frame m g, fun m g _ => Cert.MergeIdeal.Gen.frame m g, Cert.MergeIdeal.Body.frameReference,
  fun m g _ => Cert.MulB.Gen.frame m g, fun m g _ => Cert.MulBIdeal.Gen.frame m g, Cert.MulBIdeal.Body.frameReference,
  fun m g _ => Cert.MulC.Gen.frame m g, fun m g _ => Cert.MulCIdeal.Gen.frame m g, Cert.MulCIdeal.Body.frameReference,
  fun m g _ => Cert.Post.Gen.frame m g, fun m g _ => Cert.PostIdeal.Gen.frame m g, Cert.PostIdeal.Body.frameReference,
  fun m g _ => Cert.Adam.Gen.frame m g, fun m g _ => Cert.AdamIdeal.Gen.frame m g, Cert.AdamIdeal.Body.frameReference,
  trivial, @Cert.Equal.algebraic Cert.Finite.facts,
  trivial, Cert.InDxIdeal.Body.algebraic,
  trivial, Cert.InDwIdeal.Body.algebraic,
  trivial, Cert.OutDxIdeal.Body.algebraic,
  trivial, Cert.OutDwIdeal.Body.algebraic,
  trivial, Cert.ProjCDxIdeal.Body.algebraic,
  trivial, Cert.ProjCDwIdeal.Body.algebraic,
  trivial, Cert.QUpDxIdeal.Body.algebraic,
  trivial, Cert.QUpDwIdeal.Body.algebraic,
  trivial, Cert.KvUpDxIdeal.Body.algebraic,
  trivial, Cert.KvUpDwIdeal.Body.algebraic,
  trivial, Cert.InFwdIdeal.Body.algebraic,
  trivial, Cert.QUpFwdIdeal.Body.algebraic,
  trivial, Cert.KvUpFwdIdeal.Body.algebraic,
  trivial, Cert.ProjAFwdIdeal.Body.algebraic,
  trivial, Cert.ProjCFwdIdeal.Body.algebraic,
  trivial, Cert.OutFwdIdeal.Body.algebraic,
  Cert.AttendEqual.preserves, @Cert.AttendEqual.algebraic Cert.AttendEqual.facts_heads,
  trivial, Cert.GateFwdIdeal.Body.algebraic,
  trivial, Cert.GateDxIdeal.Body.algebraic,
  trivial, Cert.GateDwIdeal.Body.algebraic,
  trivial, Cert.MergeIdeal.Body.algebraic,
  trivial, Cert.MulBIdeal.Body.algebraic,
  trivial, Cert.MulCIdeal.Body.algebraic,
  trivial, Cert.PostIdeal.Body.algebraic,
  trivial, Cert.AdamIdeal.Body.algebraic⟩

end Cert.Proof

end
